-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v47) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1024x1024 : Shape := ⟨2, ![1024, 1024]⟩
abbrev S1024x4096 : Shape := ⟨2, ![1024, 4096]⟩
abbrev S_ : Shape := ⟨0, ![]⟩

class Facts : Prop where
  bitsLt_bf16_f32 : FTy.bits .bf16 < FTy.bits .f32
  bcast_S_S1024x1024 : S_.BroadcastsInDim S1024x1024 (![] : Fin 0 → Fin S1024x1024.rank)
  reducesTo_S1024x1024_S_d0_1 : S1024x1024.ReducesTo [0, 1] S_
  h_S_ : 0 < S_.numel

variable [Facts]

def fn {F : FTy → Type} [FloatOps F] (main_arg0 : FVec F S1024x1024 .bf16) (main_arg1 : FVec F S1024x1024 .bf16) (main_arg2 : IVec S1024x4096 8) (main_arg3 : IVec S1024x4096 8) (main_arg4 : FVec F S1024x1024 .bf16) : IVec S_ 1 :=
  let main_v0 : FVec F S1024x1024 .f32 := (extf .f32 · bitsLt_bf16_f32) main_arg0
  let main_v1 : FVec F S1024x1024 .f32 := Host.absf main_v0
  let main_cst : FVec F S_ .f32 := constant S_ .f32 0x7F800000#32
  let main_v2 : FVec F S1024x1024 .f32 := broadcastInDim S1024x1024 ![] bcast_S_S1024x1024 main_cst
  let main_v3 : IVec S1024x1024 1 := cmpf .olt main_v1 main_v2
  let main_c : IVec S_ 1 := constantI S_ 1 1#1
  let main_v4 : IVec S_ 1 := (fun x v => Host.reduce IntOp.andi x v reducesTo_S1024x1024_S_d0_1 h_S_) main_v3 main_c
  let main_v5 : FVec F S1024x1024 .f32 := (extf .f32 · bitsLt_bf16_f32) main_arg1
  let main_v6 : FVec F S1024x1024 .f32 := Host.absf main_v5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  let main_c_1 : IVec S_ 1 := constantI S_ 1 1#1
  let main_v9 : IVec S_ 1 := (fun x v => Host.reduce IntOp.andi x v reducesTo_S1024x1024_S_d0_1 h_S_) main_v8 main_c_1
  let main_v10 : IVec S_ 1 := andi main_v4 main_v9
  main_v10
-- ==== Pre_finite_ReferenceIdeal.lean ====
abbrev S1024x1024 : Shape := ⟨2, ![1024, 1024]⟩
abbrev S1024x4096 : Shape := ⟨2, ![1024, 4096]⟩
abbrev S4096x4096 : Shape := ⟨2, ![4096, 4096]⟩
abbrev S4096x1024 : Shape := ⟨2, ![4096, 1024]⟩
abbrev S_ : Shape := ⟨0, ![]⟩

class Facts : Prop where
  bitsLt_bf16_f32 : FTy.bits .bf16 < FTy.bits .f32
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_

variable [Facts]

def fn {F : FTy → Type} [FloatOps F] (main_arg0 : FVec F S1024x1024 .bf16) (main_arg1 : FVec F S1024x4096 .bf16) (main_arg2 : IVec S4096x4096 8) (main_arg3 : IVec S4096x4096 8) (main_arg4 : FVec F S4096x1024 .bf16) : IVec S_ 1 :=
  let main_v0 : FVec F S1024x1024 .f32 := (extf .f32 · bitsLt_bf16_f32) main_arg0
  let main_v1 : FVec F S1024x1024 .f32 := Host.absf main_v0
  let main_cst : FVec F S_ .f32 := constant S_ .f32 0x7F800000#32
  let main_v2 : FVec F S1024x1024 .f32 := broadcastInDim S1024x1024 ![] bcast_S_S1024x1024 main_cst
  let main_v3 : IVec S1024x1024 1 := cmpf .olt main_v1 main_v2
  let main_c : IVec S_ 1 := constantI S_ 1 1#1
  let main_v4 : IVec S_ 1 := (fun x v => Host.reduce IntOp.andi x v reducesTo_S1024x1024_S_d0_1 h_S_) main_v3 main_c
  let main_v5 : FVec F S1024x4096 .f32 := (extf .f32 · bitsLt_bf16_f32) main_arg1
  let main_v6 : FVec F S1024x4096 .f32 := Host.absf main_v5
  let main_cst_0 : FVec F S_ .f32 := constant S_ .f32 0x7F800000#32
  let main_v7 : FVec F S1024x4096 .f32 := broadcastInDim S1024x4096 ![] bcast_S_S1024x4096 main_cst_0
  let main_v8 : IVec S1024x4096 1 := cmpf .olt main_v6 main_v7
  let main_c_1 : IVec S_ 1 := constantI S_ 1 1#1
  let main_v9 : IVec S_ 1 := (fun x v => Host.reduce IntOp.andi x v reducesTo_S1024x4096_S_d0_1 h_S_) main_v8 main_c_1
  let main_v10 : IVec S_ 1 := andi main_v4 main_v9
  main_v10
-- ==== Kernel.lean ====
abbrev S1024x1024 : Shape := ⟨2, ![1024, 1024]⟩
abbrev S1024x4096 : Shape := ⟨2, ![1024, 4096]⟩
abbrev S1152x1024 : Shape := ⟨2, ![1152, 1024]⟩
abbrev S4x256x1024 : Shape := ⟨3, ![4, 256, 1024]⟩
abbrev S256x1024 : Shape := ⟨2, ![256, 1024]⟩
abbrev S3x256x1024 : Shape := ⟨3, ![3, 256, 1024]⟩
abbrev S2 : Shape := ⟨1, ![2]⟩
abbrev S4x2x3 : Shape := ⟨3, ![4, 2, 3]⟩
abbrev S4x2 : Shape := ⟨2, ![4, 2]⟩
abbrev S3x2 : Shape := ⟨2, ![3, 2]⟩
abbrev S4 : Shape := ⟨1, ![4]⟩
abbrev S3 : Shape := ⟨1, ![3]⟩
abbrev S_ : Shape := ⟨0, ![]⟩
abbrev S1 : Shape := ⟨1, ![1]⟩
abbrev S1x1x1 : Shape := ⟨3, ![1, 1, 1]⟩
abbrev S1x1 : Shape := ⟨2, ![1, 1]⟩
abbrev S128x4096 : Shape := ⟨2, ![128, 4096]⟩
abbrev S128x1024 : Shape := ⟨2, ![128, 1024]⟩
abbrev S256x512 : Shape := ⟨2, ![256, 512]⟩
abbrev S256x128 : Shape := ⟨2, ![256, 128]⟩
abbrev S512x128 : Shape := ⟨2, ![512, 128]⟩
abbrev S256 : Shape := ⟨1, ![256]⟩
abbrev S256x1 : Shape := ⟨2, ![256, 1]⟩
abbrev S1x256x1024 : Shape := ⟨3, ![1, 256, 1024]⟩

abbrev nBuf : Space → Nat
  | .hbm => 6
  | .vmem => 13
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x4096, .i8⟩
  | .hbm, ⟨3, _⟩ => ⟨S1024x4096, .i8⟩
  | .hbm, ⟨4, _⟩ => ⟨S1024x1024, .bf16⟩
  | .hbm, ⟨5, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1152x1024, .i8⟩
  | .local _ .vmem, ⟨5, _⟩ => ⟨S1152x1024, .i8⟩
  | .local _ .vmem, ⟨6, _⟩ => ⟨S1024x4096, .i8⟩
  | .local _ .vmem, ⟨7, _⟩ => ⟨S1024x4096, .i8⟩
  | .local _ .vmem, ⟨8, _⟩ => ⟨S1024x1024, .bf16⟩
  | .local _ .vmem, ⟨9, _⟩ => ⟨S1024x1024, .bf16⟩
  | .local _ .vmem, ⟨10, _⟩ => ⟨S4x256x1024, .bf16⟩
  | .local _ .vmem, ⟨11, _⟩ => ⟨S256x1024, .bf16⟩
  | .local _ .vmem, ⟨12, _⟩ => ⟨S3x256x1024, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  (ofTc nBuf bufTy 1 62 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_28 : BitVec 32 := 0#32
  let v43 : BitVec 1 := Scalar.cmpi .eq v2 c0_i32_28
  let v44 : BitVec 32 := Scalar.extui v43
  let c0_i32_29 : BitVec 32 := 0#32
  let v45 : BitVec 1 := Scalar.cmpi .ne v44 c0_i32_29
  v45

def k0_dev4 : Nat :=
  let c0_i32_616 : BitVec 32 := 0#32
  let c1_i32_614 : BitVec 32 := 1#32
  let c1_i32_615 : BitVec 32 := 1#32
  let v1140 : BitVec 32 := Scalar.muli c1_i32_614 c1_i32_615
  let v1141 : BitVec 32 := Scalar.addi c0_i32_616 v1140
  v1141.toNat
def k0_dev5 : Nat :=
  let c0_i32_627 : BitVec 32 := 0#32
  let c2_i32_625 : BitVec 32 := 2#32
  let c1_i32_626 : BitVec 32 := 1#32
  let v1148 : BitVec 32 := Scalar.muli c2_i32_625 c1_i32_626
  let v1149 : BitVec 32 := Scalar.addi c0_i32_627 v1148
  v1149.toNat
def k0_dev6 : Nat :=
  let c0_i32_638 : BitVec 32 := 0#32
  let c3_i32_636 : BitVec 32 := 3#32
  let c1_i32_637 : BitVec 32 := 1#32
  let v1156 : BitVec 32 := Scalar.muli c3_i32_636 c1_i32_637
  let v1157 : BitVec 32 := Scalar.addi c0_i32_638 v1156
  v1157.toNat
def k0_dev7 : Nat :=
  let c0_i32_649 : BitVec 32 := 0#32
  let c1_i32_647 : BitVec 32 := 1#32
  let c1_i32_648 : BitVec 32 := 1#32
  let v1164 : BitVec 32 := Scalar.muli c1_i32_647 c1_i32_648
  let v1165 : BitVec 32 := Scalar.addi c0_i32_649 v1164
  v1165.toNat
def k0_dev8 : Nat :=
  let c0_i32_661 : BitVec 32 := 0#32
  let c2_i32_659 : BitVec 32 := 2#32
  let c1_i32_660 : BitVec 32 := 1#32
  let v1172 : BitVec 32 := Scalar.muli c2_i32_659 c1_i32_660
  let v1173 : BitVec 32 := Scalar.addi c0_i32_661 v1172
  v1173.toNat
def k0_dev9 : Nat :=
  let c0_i32_673 : BitVec 32 := 0#32
  let c3_i32_671 : BitVec 32 := 3#32
  let c1_i32_672 : BitVec 32 := 1#32
  let v1180 : BitVec 32 := Scalar.muli c3_i32_671 c1_i32_672
  let v1181 : BitVec 32 := Scalar.addi c0_i32_673 v1180
  v1181.toNat
def k0_dev10 : Nat :=
  let c0_i32_685 : BitVec 32 := 0#32
  let c1_i32_683 : BitVec 32 := 1#32
  let c1_i32_684 : BitVec 32 := 1#32
  let v1188 : BitVec 32 := Scalar.muli c1_i32_683 c1_i32_684
  let v1189 : BitVec 32 := Scalar.addi c0_i32_685 v1188
  v1189.toNat
def k0_dev11 : Nat :=
  let c0_i32_696 : BitVec 32 := 0#32
  let c2_i32_694 : BitVec 32 := 2#32
  let c1_i32_695 : BitVec 32 := 1#32
  let v1196 : BitVec 32 := Scalar.muli c2_i32_694 c1_i32_695
  let v1197 : BitVec 32 := Scalar.addi c0_i32_696 v1196
  v1197.toNat
def k0_dev12 : Nat :=
  let c0_i32_708 : BitVec 32 := 0#32
  let c3_i32_706 : BitVec 32 := 3#32
  let c1_i32_707 : BitVec 32 := 1#32
  let v1204 : BitVec 32 := Scalar.muli c3_i32_706 c1_i32_707
  let v1205 : BitVec 32 := Scalar.addi c0_i32_708 v1204
  v1205.toNat
def k0_dev13 : Nat :=
  let c0_i32_720 : BitVec 32 := 0#32
  let c1_i32_718 : BitVec 32 := 1#32
  let c1_i32_719 : BitVec 32 := 1#32
  let v1212 : BitVec 32 := Scalar.muli c1_i32_718 c1_i32_719
  let v1213 : BitVec 32 := Scalar.addi c0_i32_720 v1212
  v1213.toNat
def k0_dev14 : Nat :=
  let c0_i32_731 : BitVec 32 := 0#32
  let c2_i32_729 : BitVec 32 := 2#32
  let c1_i32_730 : BitVec 32 := 1#32
  let v1220 : BitVec 32 := Scalar.muli c2_i32_729 c1_i32_730
  let v1221 : BitVec 32 := Scalar.addi c0_i32_731 v1220
  v1221.toNat
def k0_dev15 : Nat :=
  let c0_i32_743 : BitVec 32 := 0#32
  let c3_i32_741 : BitVec 32 := 3#32
  let c1_i32_742 : BitVec 32 := 1#32
  let v1228 : BitVec 32 := Scalar.muli c3_i32_741 c1_i32_742
  let v1229 : BitVec 32 := Scalar.addi c0_i32_743 v1228
  v1229.toNat
def k0_dev16 : Nat :=
  let c0_i32_765 : BitVec 32 := 0#32
  let c1_i32_763 : BitVec 32 := 1#32
  let c1_i32_764 : BitVec 32 := 1#32
  let v1244 : BitVec 32 := Scalar.muli c1_i32_763 c1_i32_764
  let v1245 : BitVec 32 := Scalar.addi c0_i32_765 v1244
  v1245.toNat
def k0_dev17 : Nat :=
  let c0_i32_777 : BitVec 32 := 0#32
  let c2_i32_775 : BitVec 32 := 2#32
  let c1_i32_776 : BitVec 32 := 1#32
  let v1252 : BitVec 32 := Scalar.muli c2_i32_775 c1_i32_776
  let v1253 : BitVec 32 := Scalar.addi c0_i32_777 v1252
  v1253.toNat
def k0_dev18 : Nat :=
  let c0_i32_789 : BitVec 32 := 0#32
  let c3_i32_787 : BitVec 32 := 3#32
  let c1_i32_788 : BitVec 32 := 1#32
  let v1260 : BitVec 32 := Scalar.muli c3_i32_787 c1_i32_788
  let v1261 : BitVec 32 := Scalar.addi c0_i32_789 v1260
  v1261.toNat
def k0_dev19 : Nat :=
  let c0_i32_801 : BitVec 32 := 0#32
  let c1_i32_799 : BitVec 32 := 1#32
  let c1_i32_800 : BitVec 32 := 1#32
  let v1268 : BitVec 32 := Scalar.muli c1_i32_799 c1_i32_800
  let v1269 : BitVec 32 := Scalar.addi c0_i32_801 v1268
  v1269.toNat
def k0_dev20 : Nat :=
  let c0_i32_813 : BitVec 32 := 0#32
  let c2_i32_811 : BitVec 32 := 2#32
  let c1_i32_812 : BitVec 32 := 1#32
  let v1276 : BitVec 32 := Scalar.muli c2_i32_811 c1_i32_812
  let v1277 : BitVec 32 := Scalar.addi c0_i32_813 v1276
  v1277.toNat
def k0_dev21 : Nat :=
  let c0_i32_825 : BitVec 32 := 0#32
  let c3_i32_823 : BitVec 32 := 3#32
  let c1_i32_824 : BitVec 32 := 1#32
  let v1284 : BitVec 32 := Scalar.muli c3_i32_823 c1_i32_824
  let v1285 : BitVec 32 := Scalar.addi c0_i32_825 v1284
  v1285.toNat
def k0_dev22 : Nat :=
  let c0_i32_837 : BitVec 32 := 0#32
  let c1_i32_835 : BitVec 32 := 1#32
  let c1_i32_836 : BitVec 32 := 1#32
  let v1292 : BitVec 32 := Scalar.muli c1_i32_835 c1_i32_836
  let v1293 : BitVec 32 := Scalar.addi c0_i32_837 v1292
  v1293.toNat
def k0_dev23 : Nat :=
  let c0_i32_849 : BitVec 32 := 0#32
  let c2_i32_847 : BitVec 32 := 2#32
  let c1_i32_848 : BitVec 32 := 1#32
  let v1300 : BitVec 32 := Scalar.muli c2_i32_847 c1_i32_848
  let v1301 : BitVec 32 := Scalar.addi c0_i32_849 v1300
  v1301.toNat
def k0_dev24 : Nat :=
  let c0_i32_861 : BitVec 32 := 0#32
  let c3_i32_859 : BitVec 32 := 3#32
  let c1_i32_860 : BitVec 32 := 1#32
  let v1308 : BitVec 32 := Scalar.muli c3_i32_859 c1_i32_860
  let v1309 : BitVec 32 := Scalar.addi c0_i32_861 v1308
  v1309.toNat
def k0_dev25 : Nat :=
  let c0_i32_873 : BitVec 32 := 0#32
  let c1_i32_871 : BitVec 32 := 1#32
  let c1_i32_872 : BitVec 32 := 1#32
  let v1316 : BitVec 32 := Scalar.muli c1_i32_871 c1_i32_872
  let v1317 : BitVec 32 := Scalar.addi c0_i32_873 v1316
  v1317.toNat
def k0_dev26 : Nat :=
  let c0_i32_885 : BitVec 32 := 0#32
  let c2_i32_883 : BitVec 32 := 2#32
  let c1_i32_884 : BitVec 32 := 1#32
  let v1324 : BitVec 32 := Scalar.muli c2_i32_883 c1_i32_884
  let v1325 : BitVec 32 := Scalar.addi c0_i32_885 v1324
  v1325.toNat
def k0_dev27 : Nat :=
  let c0_i32_897 : BitVec 32 := 0#32
  let c3_i32_895 : BitVec 32 := 3#32
  let c1_i32_896 : BitVec 32 := 1#32
  let v1332 : BitVec 32 := Scalar.muli c3_i32_895 c1_i32_896
  let v1333 : BitVec 32 := Scalar.addi c0_i32_897 v1332
  v1333.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_30 : BitVec 32 := 1#32
  let v46 : BitVec 1 := Scalar.cmpi .eq v2 c1_i32_30
  let v47 : BitVec 32 := Scalar.extui v46
  let c0_i32_31 : BitVec 32 := 0#32
  let v48 : BitVec 1 := Scalar.cmpi .ne v47 c0_i32_31
  v48

def k0_dev28 : Nat :=
  let c0_i32_614 : BitVec 32 := 0#32
  let c0_i32_612 : BitVec 32 := 0#32
  let c1_i32_613 : BitVec 32 := 1#32
  let v1140 : BitVec 32 := Scalar.muli c0_i32_612 c1_i32_613
  let v1141 : BitVec 32 := Scalar.addi c0_i32_614 v1140
  v1141.toNat
def k0_dev29 : Nat :=
  let c0_i32_623 : BitVec 32 := 0#32
  let c2_i32_621 : BitVec 32 := 2#32
  let c1_i32_622 : BitVec 32 := 1#32
  let v1148 : BitVec 32 := Scalar.muli c2_i32_621 c1_i32_622
  let v1149 : BitVec 32 := Scalar.addi c0_i32_623 v1148
  v1149.toNat
def k0_dev30 : Nat :=
  let c0_i32_632 : BitVec 32 := 0#32
  let c3_i32_630 : BitVec 32 := 3#32
  let c1_i32_631 : BitVec 32 := 1#32
  let v1156 : BitVec 32 := Scalar.muli c3_i32_630 c1_i32_631
  let v1157 : BitVec 32 := Scalar.addi c0_i32_632 v1156
  v1157.toNat
def k0_dev31 : Nat :=
  let c0_i32_651 : BitVec 32 := 0#32
  let c0_i32_649 : BitVec 32 := 0#32
  let c1_i32_650 : BitVec 32 := 1#32
  let v1172 : BitVec 32 := Scalar.muli c0_i32_649 c1_i32_650
  let v1173 : BitVec 32 := Scalar.addi c0_i32_651 v1172
  v1173.toNat
def k0_dev32 : Nat :=
  let c0_i32_661 : BitVec 32 := 0#32
  let c2_i32_659 : BitVec 32 := 2#32
  let c1_i32_660 : BitVec 32 := 1#32
  let v1180 : BitVec 32 := Scalar.muli c2_i32_659 c1_i32_660
  let v1181 : BitVec 32 := Scalar.addi c0_i32_661 v1180
  v1181.toNat
def k0_dev33 : Nat :=
  let c0_i32_671 : BitVec 32 := 0#32
  let c3_i32_669 : BitVec 32 := 3#32
  let c1_i32_670 : BitVec 32 := 1#32
  let v1188 : BitVec 32 := Scalar.muli c3_i32_669 c1_i32_670
  let v1189 : BitVec 32 := Scalar.addi c0_i32_671 v1188
  v1189.toNat
def k0_cond5 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_142 : BitVec 32 := 0#32
  let v297 : BitVec 1 := Scalar.cmpi .ne v2 c0_i32_142
  let v298 : BitVec 32 := Scalar.extui v297
  let c0_i32_143 : BitVec 32 := 0#32
  let v299 : BitVec 1 := Scalar.cmpi .ne v298 c0_i32_143
  v299

def k0_off1 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_598 : BitVec 32 := 0#32
  let c0_i32_599 : BitVec 32 := 0#32
  ![v2.toNat, 0, 0]
def k0_dev34 : Nat :=
  let c0_i32_597 : BitVec 32 := 0#32
  let c0_i32_595 : BitVec 32 := 0#32
  let c1_i32_596 : BitVec 32 := 1#32
  let v1128 : BitVec 32 := Scalar.muli c0_i32_595 c1_i32_596
  let v1129 : BitVec 32 := Scalar.addi c0_i32_597 v1128
  v1129.toNat
def k0_cond8 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_251 : BitVec 32 := 1#32
  let v522 : BitVec 1 := Scalar.cmpi .ne v2 c1_i32_251
  let v523 : BitVec 32 := Scalar.extui v522
  let c0_i32_252 : BitVec 32 := 0#32
  let v524 : BitVec 1 := Scalar.cmpi .ne v523 c0_i32_252
  v524

def k0_off3 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_598 : BitVec 32 := 0#32
  let c0_i32_599 : BitVec 32 := 0#32
  ![v2.toNat, 0, 0]
def k0_dev35 : Nat :=
  let c0_i32_597 : BitVec 32 := 0#32
  let c1_i32_595 : BitVec 32 := 1#32
  let c1_i32_596 : BitVec 32 := 1#32
  let v1128 : BitVec 32 := Scalar.muli c1_i32_595 c1_i32_596
  let v1129 : BitVec 32 := Scalar.addi c0_i32_597 v1128
  v1129.toNat
def k0_cond11 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_360 : BitVec 32 := 2#32
  let v747 : BitVec 1 := Scalar.cmpi .ne v2 c2_i32_360
  let v748 : BitVec 32 := Scalar.extui v747
  let c0_i32_361 : BitVec 32 := 0#32
  let v749 : BitVec 1 := Scalar.cmpi .ne v748 c0_i32_361
  v749

def k0_off5 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_598 : BitVec 32 := 0#32
  let c0_i32_599 : BitVec 32 := 0#32
  ![v2.toNat, 0, 0]
def k0_dev36 : Nat :=
  let c0_i32_597 : BitVec 32 := 0#32
  let c2_i32_595 : BitVec 32 := 2#32
  let c1_i32_596 : BitVec 32 := 1#32
  let v1128 : BitVec 32 := Scalar.muli c2_i32_595 c1_i32_596
  let v1129 : BitVec 32 := Scalar.addi c0_i32_597 v1128
  v1129.toNat
def k0_cond15 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_471 : BitVec 32 := 3#32
  let v975 : BitVec 1 := Scalar.cmpi .ne v2 c3_i32_471
  let v976 : BitVec 32 := Scalar.extui v975
  let c0_i32_472 : BitVec 32 := 0#32
  let v977 : BitVec 1 := Scalar.cmpi .ne v976 c0_i32_472
  v977

def k0_off7 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_598 : BitVec 32 := 0#32
  let c0_i32_599 : BitVec 32 := 0#32
  ![v2.toNat, 0, 0]
def k0_dev37 : Nat :=
  let c0_i32_597 : BitVec 32 := 0#32
  let c3_i32_595 : BitVec 32 := 3#32
  let c1_i32_596 : BitVec 32 := 1#32
  let v1128 : BitVec 32 := Scalar.muli c3_i32_595 c1_i32_596
  let v1129 : BitVec 32 := Scalar.addi c0_i32_597 v1128
  v1129.toNat
def k0_cond17 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_475 : BitVec 32 := 0#32
  let v981 : BitVec 1 := Scalar.cmpi .eq v2 c0_i32_475
  let v982 : BitVec 32 := Scalar.extui v981
  let c0_i32_476 : BitVec 32 := 0#32
  let v983 : BitVec 1 := Scalar.cmpi .ne v982 c0_i32_476
  v983

def k0_dev38 (d0 : Dev nD) : Nat :=
  let c0_i32_650 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_639 : BitVec 32 := 1#32
  let v1169 : BitVec 32 := Scalar.addi v2 c1_i32_639
  let c4_i32_640 : BitVec 32 := 4#32
  let c0_i32_641 : BitVec 32 := 0#32
  let v1170 : BitVec 1 := Scalar.cmpi .eq c4_i32_640 c0_i32_641
  let c1_i32_642 : BitVec 32 := 1#32
  let v1171 : BitVec 32 := Scalar.select v1170 c1_i32_642 c4_i32_640
  let v1172 : BitVec 32 := Scalar.remsi v1169 v1171
  let c0_i32_644 : BitVec 32 := 0#32
  let v1174 : BitVec 1 := Scalar.cmpi .slt v1172 c0_i32_644
  let c0_i32_645 : BitVec 32 := 0#32
  let v1175 : BitVec 1 := Scalar.cmpi .slt v1171 c0_i32_645
  let v1176 : BitVec 1 := Scalar.xori v1174 v1175
  let c0_i32_643 : BitVec 32 := 0#32
  let v1173 : BitVec 1 := Scalar.cmpi .ne v1172 c0_i32_643
  let v1177 : BitVec 1 := Scalar.andi v1176 v1173
  let v1178 : BitVec 32 := Scalar.addi v1172 v1171
  let v1179 : BitVec 32 := Scalar.select v1177 v1178 v1172
  let c1_i32_649 : BitVec 32 := 1#32
  let v1180 : BitVec 32 := Scalar.muli v1179 c1_i32_649
  let v1181 : BitVec 32 := Scalar.addi c0_i32_650 v1180
  v1181.toNat
def k0_dev39 (d0 : Dev nD) : Nat :=
  let c0_i32_664 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_653 : BitVec 32 := 2#32
  let v1188 : BitVec 32 := Scalar.addi v2 c2_i32_653
  let c4_i32_654 : BitVec 32 := 4#32
  let c0_i32_655 : BitVec 32 := 0#32
  let v1189 : BitVec 1 := Scalar.cmpi .eq c4_i32_654 c0_i32_655
  let c1_i32_656 : BitVec 32 := 1#32
  let v1190 : BitVec 32 := Scalar.select v1189 c1_i32_656 c4_i32_654
  let v1191 : BitVec 32 := Scalar.remsi v1188 v1190
  let c0_i32_658 : BitVec 32 := 0#32
  let v1193 : BitVec 1 := Scalar.cmpi .slt v1191 c0_i32_658
  let c0_i32_659 : BitVec 32 := 0#32
  let v1194 : BitVec 1 := Scalar.cmpi .slt v1190 c0_i32_659
  let v1195 : BitVec 1 := Scalar.xori v1193 v1194
  let c0_i32_657 : BitVec 32 := 0#32
  let v1192 : BitVec 1 := Scalar.cmpi .ne v1191 c0_i32_657
  let v1196 : BitVec 1 := Scalar.andi v1195 v1192
  let v1197 : BitVec 32 := Scalar.addi v1191 v1190
  let v1198 : BitVec 32 := Scalar.select v1196 v1197 v1191
  let c1_i32_663 : BitVec 32 := 1#32
  let v1199 : BitVec 32 := Scalar.muli v1198 c1_i32_663
  let v1200 : BitVec 32 := Scalar.addi c0_i32_664 v1199
  v1200.toNat
def k0_dev40 (d0 : Dev nD) : Nat :=
  let c0_i32_678 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_667 : BitVec 32 := 3#32
  let v1207 : BitVec 32 := Scalar.addi v2 c3_i32_667
  let c4_i32_668 : BitVec 32 := 4#32
  let c0_i32_669 : BitVec 32 := 0#32
  let v1208 : BitVec 1 := Scalar.cmpi .eq c4_i32_668 c0_i32_669
  let c1_i32_670 : BitVec 32 := 1#32
  let v1209 : BitVec 32 := Scalar.select v1208 c1_i32_670 c4_i32_668
  let v1210 : BitVec 32 := Scalar.remsi v1207 v1209
  let c0_i32_672 : BitVec 32 := 0#32
  let v1212 : BitVec 1 := Scalar.cmpi .slt v1210 c0_i32_672
  let c0_i32_673 : BitVec 32 := 0#32
  let v1213 : BitVec 1 := Scalar.cmpi .slt v1209 c0_i32_673
  let v1214 : BitVec 1 := Scalar.xori v1212 v1213
  let c0_i32_671 : BitVec 32 := 0#32
  let v1211 : BitVec 1 := Scalar.cmpi .ne v1210 c0_i32_671
  let v1215 : BitVec 1 := Scalar.andi v1214 v1211
  let v1216 : BitVec 32 := Scalar.addi v1210 v1209
  let v1217 : BitVec 32 := Scalar.select v1215 v1216 v1210
  let c1_i32_677 : BitVec 32 := 1#32
  let v1218 : BitVec 32 := Scalar.muli v1217 c1_i32_677
  let v1219 : BitVec 32 := Scalar.addi c0_i32_678 v1218
  v1219.toNat
def k0_cond18 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_477 : BitVec 32 := 1#32
  let v984 : BitVec 1 := Scalar.cmpi .eq v2 c1_i32_477
  let v985 : BitVec 32 := Scalar.extui v984
  let c0_i32_478 : BitVec 32 := 0#32
  let v986 : BitVec 1 := Scalar.cmpi .ne v985 c0_i32_478
  v986

def k0_dev41 (d0 : Dev nD) : Nat :=
  let c0_i32_650 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_639 : BitVec 32 := 1#32
  let v1169 : BitVec 32 := Scalar.addi v2 c1_i32_639
  let c4_i32_640 : BitVec 32 := 4#32
  let c0_i32_641 : BitVec 32 := 0#32
  let v1170 : BitVec 1 := Scalar.cmpi .eq c4_i32_640 c0_i32_641
  let c1_i32_642 : BitVec 32 := 1#32
  let v1171 : BitVec 32 := Scalar.select v1170 c1_i32_642 c4_i32_640
  let v1172 : BitVec 32 := Scalar.remsi v1169 v1171
  let c0_i32_644 : BitVec 32 := 0#32
  let v1174 : BitVec 1 := Scalar.cmpi .slt v1172 c0_i32_644
  let c0_i32_645 : BitVec 32 := 0#32
  let v1175 : BitVec 1 := Scalar.cmpi .slt v1171 c0_i32_645
  let v1176 : BitVec 1 := Scalar.xori v1174 v1175
  let c0_i32_643 : BitVec 32 := 0#32
  let v1173 : BitVec 1 := Scalar.cmpi .ne v1172 c0_i32_643
  let v1177 : BitVec 1 := Scalar.andi v1176 v1173
  let v1178 : BitVec 32 := Scalar.addi v1172 v1171
  let v1179 : BitVec 32 := Scalar.select v1177 v1178 v1172
  let c1_i32_649 : BitVec 32 := 1#32
  let v1180 : BitVec 32 := Scalar.muli v1179 c1_i32_649
  let v1181 : BitVec 32 := Scalar.addi c0_i32_650 v1180
  v1181.toNat
def k0_dev42 (d0 : Dev nD) : Nat :=
  let c0_i32_664 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_653 : BitVec 32 := 2#32
  let v1188 : BitVec 32 := Scalar.addi v2 c2_i32_653
  let c4_i32_654 : BitVec 32 := 4#32
  let c0_i32_655 : BitVec 32 := 0#32
  let v1189 : BitVec 1 := Scalar.cmpi .eq c4_i32_654 c0_i32_655
  let c1_i32_656 : BitVec 32 := 1#32
  let v1190 : BitVec 32 := Scalar.select v1189 c1_i32_656 c4_i32_654
  let v1191 : BitVec 32 := Scalar.remsi v1188 v1190
  let c0_i32_658 : BitVec 32 := 0#32
  let v1193 : BitVec 1 := Scalar.cmpi .slt v1191 c0_i32_658
  let c0_i32_659 : BitVec 32 := 0#32
  let v1194 : BitVec 1 := Scalar.cmpi .slt v1190 c0_i32_659
  let v1195 : BitVec 1 := Scalar.xori v1193 v1194
  let c0_i32_657 : BitVec 32 := 0#32
  let v1192 : BitVec 1 := Scalar.cmpi .ne v1191 c0_i32_657
  let v1196 : BitVec 1 := Scalar.andi v1195 v1192
  let v1197 : BitVec 32 := Scalar.addi v1191 v1190
  let v1198 : BitVec 32 := Scalar.select v1196 v1197 v1191
  let c1_i32_663 : BitVec 32 := 1#32
  let v1199 : BitVec 32 := Scalar.muli v1198 c1_i32_663
  let v1200 : BitVec 32 := Scalar.addi c0_i32_664 v1199
  v1200.toNat
def k0_dev43 (d0 : Dev nD) : Nat :=
  let c0_i32_678 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_667 : BitVec 32 := 3#32
  let v1207 : BitVec 32 := Scalar.addi v2 c3_i32_667
  let c4_i32_668 : BitVec 32 := 4#32
  let c0_i32_669 : BitVec 32 := 0#32
  let v1208 : BitVec 1 := Scalar.cmpi .eq c4_i32_668 c0_i32_669
  let c1_i32_670 : BitVec 32 := 1#32
  let v1209 : BitVec 32 := Scalar.select v1208 c1_i32_670 c4_i32_668
  let v1210 : BitVec 32 := Scalar.remsi v1207 v1209
  let c0_i32_672 : BitVec 32 := 0#32
  let v1212 : BitVec 1 := Scalar.cmpi .slt v1210 c0_i32_672
  let c0_i32_673 : BitVec 32 := 0#32
  let v1213 : BitVec 1 := Scalar.cmpi .slt v1209 c0_i32_673
  let v1214 : BitVec 1 := Scalar.xori v1212 v1213
  let c0_i32_671 : BitVec 32 := 0#32
  let v1211 : BitVec 1 := Scalar.cmpi .ne v1210 c0_i32_671
  let v1215 : BitVec 1 := Scalar.andi v1214 v1211
  let v1216 : BitVec 32 := Scalar.addi v1210 v1209
  let v1217 : BitVec 32 := Scalar.select v1215 v1216 v1210
  let c1_i32_677 : BitVec 32 := 1#32
  let v1218 : BitVec 32 := Scalar.muli v1217 c1_i32_677
  let v1219 : BitVec 32 := Scalar.addi c0_i32_678 v1218
  v1219.toNat
def k0_cond19 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_479 : BitVec 32 := 2#32
  let v987 : BitVec 1 := Scalar.cmpi .eq v2 c2_i32_479
  let v988 : BitVec 32 := Scalar.extui v987
  let c0_i32_480 : BitVec 32 := 0#32
  let v989 : BitVec 1 := Scalar.cmpi .ne v988 c0_i32_480
  v989

def k0_dev44 (d0 : Dev nD) : Nat :=
  let c0_i32_650 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_639 : BitVec 32 := 1#32
  let v1169 : BitVec 32 := Scalar.addi v2 c1_i32_639
  let c4_i32_640 : BitVec 32 := 4#32
  let c0_i32_641 : BitVec 32 := 0#32
  let v1170 : BitVec 1 := Scalar.cmpi .eq c4_i32_640 c0_i32_641
  let c1_i32_642 : BitVec 32 := 1#32
  let v1171 : BitVec 32 := Scalar.select v1170 c1_i32_642 c4_i32_640
  let v1172 : BitVec 32 := Scalar.remsi v1169 v1171
  let c0_i32_644 : BitVec 32 := 0#32
  let v1174 : BitVec 1 := Scalar.cmpi .slt v1172 c0_i32_644
  let c0_i32_645 : BitVec 32 := 0#32
  let v1175 : BitVec 1 := Scalar.cmpi .slt v1171 c0_i32_645
  let v1176 : BitVec 1 := Scalar.xori v1174 v1175
  let c0_i32_643 : BitVec 32 := 0#32
  let v1173 : BitVec 1 := Scalar.cmpi .ne v1172 c0_i32_643
  let v1177 : BitVec 1 := Scalar.andi v1176 v1173
  let v1178 : BitVec 32 := Scalar.addi v1172 v1171
  let v1179 : BitVec 32 := Scalar.select v1177 v1178 v1172
  let c1_i32_649 : BitVec 32 := 1#32
  let v1180 : BitVec 32 := Scalar.muli v1179 c1_i32_649
  let v1181 : BitVec 32 := Scalar.addi c0_i32_650 v1180
  v1181.toNat
def k0_dev45 (d0 : Dev nD) : Nat :=
  let c0_i32_664 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_653 : BitVec 32 := 2#32
  let v1188 : BitVec 32 := Scalar.addi v2 c2_i32_653
  let c4_i32_654 : BitVec 32 := 4#32
  let c0_i32_655 : BitVec 32 := 0#32
  let v1189 : BitVec 1 := Scalar.cmpi .eq c4_i32_654 c0_i32_655
  let c1_i32_656 : BitVec 32 := 1#32
  let v1190 : BitVec 32 := Scalar.select v1189 c1_i32_656 c4_i32_654
  let v1191 : BitVec 32 := Scalar.remsi v1188 v1190
  let c0_i32_658 : BitVec 32 := 0#32
  let v1193 : BitVec 1 := Scalar.cmpi .slt v1191 c0_i32_658
  let c0_i32_659 : BitVec 32 := 0#32
  let v1194 : BitVec 1 := Scalar.cmpi .slt v1190 c0_i32_659
  let v1195 : BitVec 1 := Scalar.xori v1193 v1194
  let c0_i32_657 : BitVec 32 := 0#32
  let v1192 : BitVec 1 := Scalar.cmpi .ne v1191 c0_i32_657
  let v1196 : BitVec 1 := Scalar.andi v1195 v1192
  let v1197 : BitVec 32 := Scalar.addi v1191 v1190
  let v1198 : BitVec 32 := Scalar.select v1196 v1197 v1191
  let c1_i32_663 : BitVec 32 := 1#32
  let v1199 : BitVec 32 := Scalar.muli v1198 c1_i32_663
  let v1200 : BitVec 32 := Scalar.addi c0_i32_664 v1199
  v1200.toNat
def k0_dev46 (d0 : Dev nD) : Nat :=
  let c0_i32_678 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_667 : BitVec 32 := 3#32
  let v1207 : BitVec 32 := Scalar.addi v2 c3_i32_667
  let c4_i32_668 : BitVec 32 := 4#32
  let c0_i32_669 : BitVec 32 := 0#32
  let v1208 : BitVec 1 := Scalar.cmpi .eq c4_i32_668 c0_i32_669
  let c1_i32_670 : BitVec 32 := 1#32
  let v1209 : BitVec 32 := Scalar.select v1208 c1_i32_670 c4_i32_668
  let v1210 : BitVec 32 := Scalar.remsi v1207 v1209
  let c0_i32_672 : BitVec 32 := 0#32
  let v1212 : BitVec 1 := Scalar.cmpi .slt v1210 c0_i32_672
  let c0_i32_673 : BitVec 32 := 0#32
  let v1213 : BitVec 1 := Scalar.cmpi .slt v1209 c0_i32_673
  let v1214 : BitVec 1 := Scalar.xori v1212 v1213
  let c0_i32_671 : BitVec 32 := 0#32
  let v1211 : BitVec 1 := Scalar.cmpi .ne v1210 c0_i32_671
  let v1215 : BitVec 1 := Scalar.andi v1214 v1211
  let v1216 : BitVec 32 := Scalar.addi v1210 v1209
  let v1217 : BitVec 32 := Scalar.select v1215 v1216 v1210
  let c1_i32_677 : BitVec 32 := 1#32
  let v1218 : BitVec 32 := Scalar.muli v1217 c1_i32_677
  let v1219 : BitVec 32 := Scalar.addi c0_i32_678 v1218
  v1219.toNat
def k0_cond20 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_481 : BitVec 32 := 3#32
  let v990 : BitVec 1 := Scalar.cmpi .eq v2 c3_i32_481
  let v991 : BitVec 32 := Scalar.extui v990
  let c0_i32_482 : BitVec 32 := 0#32
  let v992 : BitVec 1 := Scalar.cmpi .ne v991 c0_i32_482
  v992

def k0_dev47 (d0 : Dev nD) : Nat :=
  let c0_i32_650 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_639 : BitVec 32 := 1#32
  let v1169 : BitVec 32 := Scalar.addi v2 c1_i32_639
  let c4_i32_640 : BitVec 32 := 4#32
  let c0_i32_641 : BitVec 32 := 0#32
  let v1170 : BitVec 1 := Scalar.cmpi .eq c4_i32_640 c0_i32_641
  let c1_i32_642 : BitVec 32 := 1#32
  let v1171 : BitVec 32 := Scalar.select v1170 c1_i32_642 c4_i32_640
  let v1172 : BitVec 32 := Scalar.remsi v1169 v1171
  let c0_i32_644 : BitVec 32 := 0#32
  let v1174 : BitVec 1 := Scalar.cmpi .slt v1172 c0_i32_644
  let c0_i32_645 : BitVec 32 := 0#32
  let v1175 : BitVec 1 := Scalar.cmpi .slt v1171 c0_i32_645
  let v1176 : BitVec 1 := Scalar.xori v1174 v1175
  let c0_i32_643 : BitVec 32 := 0#32
  let v1173 : BitVec 1 := Scalar.cmpi .ne v1172 c0_i32_643
  let v1177 : BitVec 1 := Scalar.andi v1176 v1173
  let v1178 : BitVec 32 := Scalar.addi v1172 v1171
  let v1179 : BitVec 32 := Scalar.select v1177 v1178 v1172
  let c1_i32_649 : BitVec 32 := 1#32
  let v1180 : BitVec 32 := Scalar.muli v1179 c1_i32_649
  let v1181 : BitVec 32 := Scalar.addi c0_i32_650 v1180
  v1181.toNat
def k0_dev48 (d0 : Dev nD) : Nat :=
  let c0_i32_664 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_653 : BitVec 32 := 2#32
  let v1188 : BitVec 32 := Scalar.addi v2 c2_i32_653
  let c4_i32_654 : BitVec 32 := 4#32
  let c0_i32_655 : BitVec 32 := 0#32
  let v1189 : BitVec 1 := Scalar.cmpi .eq c4_i32_654 c0_i32_655
  let c1_i32_656 : BitVec 32 := 1#32
  let v1190 : BitVec 32 := Scalar.select v1189 c1_i32_656 c4_i32_654
  let v1191 : BitVec 32 := Scalar.remsi v1188 v1190
  let c0_i32_658 : BitVec 32 := 0#32
  let v1193 : BitVec 1 := Scalar.cmpi .slt v1191 c0_i32_658
  let c0_i32_659 : BitVec 32 := 0#32
  let v1194 : BitVec 1 := Scalar.cmpi .slt v1190 c0_i32_659
  let v1195 : BitVec 1 := Scalar.xori v1193 v1194
  let c0_i32_657 : BitVec 32 := 0#32
  let v1192 : BitVec 1 := Scalar.cmpi .ne v1191 c0_i32_657
  let v1196 : BitVec 1 := Scalar.andi v1195 v1192
  let v1197 : BitVec 32 := Scalar.addi v1191 v1190
  let v1198 : BitVec 32 := Scalar.select v1196 v1197 v1191
  let c1_i32_663 : BitVec 32 := 1#32
  let v1199 : BitVec 32 := Scalar.muli v1198 c1_i32_663
  let v1200 : BitVec 32 := Scalar.addi c0_i32_664 v1199
  v1200.toNat
def k0_dev49 (d0 : Dev nD) : Nat :=
  let c0_i32_678 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_667 : BitVec 32 := 3#32
  let v1207 : BitVec 32 := Scalar.addi v2 c3_i32_667
  let c4_i32_668 : BitVec 32 := 4#32
  let c0_i32_669 : BitVec 32 := 0#32
  let v1208 : BitVec 1 := Scalar.cmpi .eq c4_i32_668 c0_i32_669
  let c1_i32_670 : BitVec 32 := 1#32
  let v1209 : BitVec 32 := Scalar.select v1208 c1_i32_670 c4_i32_668
  let v1210 : BitVec 32 := Scalar.remsi v1207 v1209
  let c0_i32_672 : BitVec 32 := 0#32
  let v1212 : BitVec 1 := Scalar.cmpi .slt v1210 c0_i32_672
  let c0_i32_673 : BitVec 32 := 0#32
  let v1213 : BitVec 1 := Scalar.cmpi .slt v1209 c0_i32_673
  let v1214 : BitVec 1 := Scalar.xori v1212 v1213
  let c0_i32_671 : BitVec 32 := 0#32
  let v1211 : BitVec 1 := Scalar.cmpi .ne v1210 c0_i32_671
  let v1215 : BitVec 1 := Scalar.andi v1214 v1211
  let v1216 : BitVec 32 := Scalar.addi v1210 v1209
  let v1217 : BitVec 32 := Scalar.select v1215 v1216 v1210
  let c1_i32_677 : BitVec 32 := 1#32
  let v1218 : BitVec 32 := Scalar.muli v1217 c1_i32_677
  let v1219 : BitVec 32 := Scalar.addi c0_i32_678 v1218
  v1219.toNat
def k0_off9 (d0 : Dev nD) (c0_i32_491 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v999 : BitVec 32 := Scalar.addi v2 c0_i32_491
  let c1_i32_492 : BitVec 32 := 1#32
  let v1000 : BitVec 32 := Scalar.addi v999 c1_i32_492
  let c4_i32_493 : BitVec 32 := 4#32
  let c0_i32_494 : BitVec 32 := 0#32
  let v1001 : BitVec 1 := Scalar.cmpi .eq c4_i32_493 c0_i32_494
  let c1_i32_495 : BitVec 32 := 1#32
  let v1002 : BitVec 32 := Scalar.select v1001 c1_i32_495 c4_i32_493
  let v1003 : BitVec 32 := Scalar.remsi v1000 v1002
  let c0_i32_497 : BitVec 32 := 0#32
  let v1005 : BitVec 1 := Scalar.cmpi .slt v1003 c0_i32_497
  let c0_i32_498 : BitVec 32 := 0#32
  let v1006 : BitVec 1 := Scalar.cmpi .slt v1002 c0_i32_498
  let v1007 : BitVec 1 := Scalar.xori v1005 v1006
  let c0_i32_496 : BitVec 32 := 0#32
  let v1004 : BitVec 1 := Scalar.cmpi .ne v1003 c0_i32_496
  let v1008 : BitVec 1 := Scalar.andi v1007 v1004
  let v1009 : BitVec 32 := Scalar.addi v1003 v1002
  let v1010 : BitVec 32 := Scalar.select v1008 v1009 v1003
  let c256_i32 : BitVec 32 := 256#32
  let v1014 : BitVec 32 := Scalar.muli v1010 c256_i32
  let v1015 : Index := Scalar.indexCast v1014
  let c0_502 : Index := 0#32
  ![v1015.toNat, 0]
def k0_cond23 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_547 : BitVec 32 := 0#32
  let v1071 : BitVec 1 := Scalar.cmpi .ne v2 c0_i32_547
  let v1072 : BitVec 32 := Scalar.extui v1071
  let c0_i32_548 : BitVec 32 := 0#32
  let v1073 : BitVec 1 := Scalar.cmpi .ne v1072 c0_i32_548
  v1073

def k0_off10 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_599 : BitVec 32 := 0#32
  let c0_i32_600 : BitVec 32 := 0#32
  ![v2.toNat, 0, 0]
def k0_cond24 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_549 : BitVec 32 := 1#32
  let v1074 : BitVec 1 := Scalar.cmpi .ne v2 c1_i32_549
  let v1075 : BitVec 32 := Scalar.extui v1074
  let c0_i32_550 : BitVec 32 := 0#32
  let v1076 : BitVec 1 := Scalar.cmpi .ne v1075 c0_i32_550
  v1076

def k0_off11 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_599 : BitVec 32 := 0#32
  let c0_i32_600 : BitVec 32 := 0#32
  ![v2.toNat, 0, 0]
def k0_cond25 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_551 : BitVec 32 := 2#32
  let v1077 : BitVec 1 := Scalar.cmpi .ne v2 c2_i32_551
  let v1078 : BitVec 32 := Scalar.extui v1077
  let c0_i32_552 : BitVec 32 := 0#32
  let v1079 : BitVec 1 := Scalar.cmpi .ne v1078 c0_i32_552
  v1079

def k0_off12 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_598 : BitVec 32 := 0#32
  let c0_i32_599 : BitVec 32 := 0#32
  ![v2.toNat, 0, 0]
def k0_cond26 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_553 : BitVec 32 := 3#32
  let v1080 : BitVec 1 := Scalar.cmpi .ne v2 c3_i32_553
  let v1081 : BitVec 32 := Scalar.extui v1080
  let c0_i32_554 : BitVec 32 := 0#32
  let v1082 : BitVec 1 := Scalar.cmpi .ne v1081 c0_i32_554
  v1082

def k0_off13 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_598 : BitVec 32 := 0#32
  let c0_i32_599 : BitVec 32 := 0#32
  ![v2.toNat, 0, 0]
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1024x1024 : Shape := ⟨2, ![1024, 1024]⟩
abbrev S1024x4096 : Shape := ⟨2, ![1024, 4096]⟩
abbrev S4096x4096 : Shape := ⟨2, ![4096, 4096]⟩
abbrev S4096x1024 : Shape := ⟨2, ![4096, 1024]⟩
abbrev S_ : Shape := ⟨0, ![]⟩
abbrev S4096x32x128 : Shape := ⟨3, ![4096, 32, 128]⟩
abbrev S1024x32x128 : Shape := ⟨3, ![1024, 32, 128]⟩
abbrev S1024 : Shape := ⟨1, ![1024]⟩
abbrev S1024x1 : Shape := ⟨2, ![1024, 1]⟩
abbrev S4096 : Shape := ⟨1, ![4096]⟩
abbrev S1x4096 : Shape := ⟨2, ![1, 4096]⟩
abbrev S32x1024x4096 : Shape := ⟨3, ![32, 1024, 4096]⟩
abbrev S1x1024x4096 : Shape := ⟨3, ![1, 1024, 4096]⟩
abbrev S32x1024 : Shape := ⟨2, ![32, 1024]⟩
abbrev S32x1024x1 : Shape := ⟨3, ![32, 1024, 1]⟩
abbrev S1x1024x1 : Shape := ⟨3, ![1, 1024, 1]⟩
abbrev S32x128x1024 : Shape := ⟨3, ![32, 128, 1024]⟩

abbrev nBuf : Space → Nat
  | .hbm => 72
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x4096, .bf16⟩
  | .hbm, ⟨2, _⟩ => ⟨S4096x4096, .i8⟩
  | .hbm, ⟨3, _⟩ => ⟨S4096x4096, .i8⟩
  | .hbm, ⟨4, _⟩ => ⟨S4096x1024, .bf16⟩
  | .hbm, ⟨5, _⟩ => ⟨S4096x4096, .i32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x32x128, .f32⟩
  | .hbm, ⟨11, _⟩ => ⟨S4096x4096, .i32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x32x128, .f32⟩
  | .hbm, ⟨17, _⟩ => ⟨S1024x1024, .f32⟩
  | .hbm, ⟨18, _⟩ => ⟨S1024x4096, .f32⟩
  | .hbm, ⟨19, _⟩ => ⟨S1024x4096, .f32⟩
  | .hbm, ⟨20, _⟩ => ⟨S1024x32x128, .f32⟩
  | .hbm, ⟨21, _⟩ => ⟨S1024, .i32⟩
  | .hbm, ⟨22, _⟩ => ⟨S1024x1, .i32⟩
  | .hbm, ⟨23, _⟩ => ⟨S4096, .i32⟩
  | .hbm, ⟨24, _⟩ => ⟨S1x4096, .i32⟩
  | .hbm, ⟨25, _⟩ => ⟨S1024x4096, .i32⟩
  | .hbm, ⟨26, _⟩ => ⟨S1024x4096, .i32⟩
  | .hbm, ⟨27, _⟩ => ⟨S1024x4096, .i32⟩
  | .hbm, ⟨28, _⟩ => ⟨S1024x4096, .i32⟩
  | .hbm, ⟨29, _⟩ => ⟨S_, .i32⟩
  | .hbm, ⟨30, _⟩ => ⟨S1024x4096, .i32⟩
  | .hbm, ⟨31, _⟩ => ⟨S1024x4096, .i1⟩
  | .hbm, ⟨32, _⟩ => ⟨S32x1024x4096, .f32⟩
  | .hbm, ⟨33, _⟩ => ⟨S_, .f32⟩
  | .hbm, ⟨34, _⟩ => ⟨S32x1024x4096, .f32⟩
  | .hbm, ⟨35, _⟩ => ⟨S32x1024x4096, .f32⟩
  | .hbm, ⟨36, _⟩ => ⟨S1x1024x4096, .i1⟩
  | .hbm, ⟨37, _⟩ => ⟨S_, .f32⟩
  | .hbm, ⟨38, _⟩ => ⟨S_, .f32⟩
  | .hbm, ⟨39, _⟩ => ⟨S32x1024x4096, .i1⟩
  | .hbm, ⟨40, _⟩ => ⟨S32x1024x4096, .f32⟩
  | .hbm, ⟨41, _⟩ => ⟨S32x1024x4096, .f32⟩
  | .hbm, ⟨42, _⟩ => ⟨S_, .f32⟩
  | .hbm, ⟨43, _⟩ => ⟨S32x1024, .f32⟩
  | .hbm, ⟨44, _⟩ => ⟨S32x1024x1, .f32⟩
  | .hbm, ⟨45, _⟩ => ⟨S32x1024x4096, .f32⟩
  | .hbm, ⟨46, _⟩ => ⟨S32x1024x4096, .f32⟩
  | .hbm, ⟨47, _⟩ => ⟨S32x1024x4096, .f32⟩
  | .hbm, ⟨48, _⟩ => ⟨S_, .i1⟩
  | .hbm, ⟨49, _⟩ => ⟨S1024, .i1⟩
  | .hbm, ⟨50, _⟩ => ⟨S1x1024x1, .i1⟩
  | .hbm, ⟨51, _⟩ => ⟨S_, .f32⟩
  | .hbm, ⟨52, _⟩ => ⟨S32x1024, .f32⟩
  | .hbm, ⟨53, _⟩ => ⟨S32x1024x1, .f32⟩
  | .hbm, ⟨54, _⟩ => ⟨S_, .f32⟩
  | .hbm, ⟨55, _⟩ => ⟨S_, .f32⟩
  | .hbm, ⟨56, _⟩ => ⟨S32x1024x1, .i1⟩
  | .hbm, ⟨57, _⟩ => ⟨S32x1024x1, .f32⟩
  | .hbm, ⟨58, _⟩ => ⟨S32x1024x1, .f32⟩
  | .hbm, ⟨59, _⟩ => ⟨S32x1024x4096, .f32⟩
  | .hbm, ⟨60, _⟩ => ⟨S32x1024x4096, .f32⟩
  | .hbm, ⟨61, _⟩ => ⟨S1x1024x1, .i1⟩
  | .hbm, ⟨62, _⟩ => ⟨S_, .f32⟩
  | .hbm, ⟨63, _⟩ => ⟨S_, .f32⟩
  | .hbm, ⟨64, _⟩ => ⟨S32x1024x4096, .i1⟩
  | .hbm, ⟨65, _⟩ => ⟨S32x1024x4096, .f32⟩
  | .hbm, ⟨66, _⟩ => ⟨S32x1024x4096, .f32⟩
  | .hbm, ⟨67, _⟩ => ⟨S32x128x1024, .f32⟩
  | .hbm, ⟨68, _⟩ => ⟨S1024x32x128, .f32⟩
  | .hbm, ⟨69, _⟩ => ⟨S1024x4096, .f32⟩
  | .hbm, ⟨70, _⟩ => ⟨S4096x1024, .f32⟩
  | .hbm, ⟨71, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_1 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_4 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_7 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩

abbrev nD : Nat := 1
abbrev τ : Topo := Topo.v7x

variable {F : FTy → Type} [FloatOps F]
-- ==== Proof.Vals.lean ====
/- The contents that the kernel hands from buffer to buffer on each device, as functions of the launch memory:
   the cached codes each device attends over, every value the kernel computes from them, in program order, and
   the blocks that the reduce-scatter and the all-gather move. -/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.FrameBody
public import Idealize.ShloMosaic.Lib.Ring
public import Idealize.ShloMosaic.Lib.Ring.Trips
public import Idealize.ShloMosaic.Lib.Tactic
public import Idealize.ShloMosaic.Lib.WordCmp
public import Idealize.ShloMosaic.Lib.Pointwise.Index

@[expose] public section

set_option maxRecDepth 16384

noncomputable section

namespace Cert.KernelIdeal.Run

open Cert.KernelIdeal Cert.KernelIdeal.Gen
open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The index `(r, k)` of a matrix, each coordinate taken modulo its extent so that no bound is carried along. -/
def nx2 (a b : ℕ) [NeZero a] [NeZero b] (r k : ℕ) : (⟨2, ![a, b]⟩ : Shape).Idx :=
  ix2 (⟨r % a, Nat.mod_lt _ (NeZero.pos a)⟩ : Fin a) (⟨k % b, Nat.mod_lt _ (NeZero.pos b)⟩ : Fin b)

/-- The index `(s, r, k)` of a stack of matrices, each coordinate taken modulo its extent. -/
def nx3 (n a b : ℕ) [NeZero n] [NeZero a] [NeZero b] (s r k : ℕ) : (⟨3, ![n, a, b]⟩ : Shape).Idx :=
  ix3 (⟨s % n, Nat.mod_lt _ (NeZero.pos n)⟩ : Fin n) (⟨r % a, Nat.mod_lt _ (NeZero.pos a)⟩ : Fin a) (⟨k % b, Nat.mod_lt _ (NeZero.pos b)⟩ : Fin b)

/-- The device of a number, taken modulo four. -/
def dv (n : ℕ) : Dev nD := ⟨n % 4, Nat.mod_lt _ (by decide)⟩

/-! The kernel's buffers, as its parts name them: the staged input, projections and result, the gathered keys and values,
the staged keys and values, the context, the partial, received, summed and gathered blocks, and the arguments' codes. -/

abbrev xM : Memref sig .tc .vmem S1024x1024 .bf16 := Memref.whole cc0_stg0_0
abbrev wqM : Memref sig .tc .vmem S1024x1024 .bf16 := Memref.whole cc0_stg1_0
abbrev woM : Memref sig .tc .vmem S1024x1024 .bf16 := Memref.whole cc0_stg2_0
abbrev oM : Memref sig .tc .vmem S1024x1024 .f32 := Memref.whole cc0_stg3_0
abbrev kbM : Memref sig .tc .vmem S1152x1024 .i8 := Memref.whole cc0_scratch0
abbrev vbM : Memref sig .tc .vmem S1152x1024 .i8 := Memref.whole cc0_scratch1
abbrev kvM : Memref sig .tc .vmem S1024x4096 .i8 := Memref.whole cc0_scratch2
abbrev vvM : Memref sig .tc .vmem S1024x4096 .i8 := Memref.whole cc0_scratch3
abbrev cxM : Memref sig .tc .vmem S1024x1024 .bf16 := Memref.whole cc0_scratch4
abbrev pbM : Memref sig .tc .vmem S1024x1024 .bf16 := Memref.whole cc0_scratch5
abbrev rbM : Memref sig .tc .vmem S4x256x1024 .bf16 := Memref.whole cc0_scratch6
abbrev aoM : Memref sig .tc .vmem S256x1024 .bf16 := Memref.whole cc0_scratch7
abbrev gbM : Memref sig .tc .vmem S3x256x1024 .bf16 := Memref.whole cc0_scratch8
abbrev khM : Memref sig .tc .hbm S1024x4096 .i8 := Memref.whole main_arg2
abbrev vhM : Memref sig .tc .hbm S1024x4096 .i8 := Memref.whole main_arg3

/-- A launch memory. -/
abbrev Mem : Type := (ℓ : Loc nD τ sig) → Buf (Elt F) ℓ

variable (m : Mem (F := F)) (c : Dev nD)

/-- The query rows' input, the same on every device. -/
def X : S1024x1024.Idx → Elt F .bf16 := m ((c : Thread nD τ).loc main_arg0)
/-- Device `c`'s columns of the query projection. -/
def WQ : S1024x1024.Idx → Elt F .bf16 := m ((c : Thread nD τ).loc main_arg1)
/-- Device `c`'s rows of the key codes, all heads. -/
def KM : S1024x4096.Idx → Elt F .i8 := m ((c : Thread nD τ).loc main_arg2)
/-- Device `c`'s rows of the value codes, all heads. -/
def VM : S1024x4096.Idx → Elt F .i8 := m ((c : Thread nD τ).loc main_arg3)
/-- Device `c`'s rows of the output projection. -/
def WO : S1024x1024.Idx → Elt F .bf16 := m ((c : Thread nD τ).loc main_arg4)

/-- The first 1152 key rows restricted to device `c`'s heads: 1024 rows of device 0, then 128 of device 1. -/
def KB : S1152x1024.Idx → Elt F .i8 := fun i =>
  if (i 0).val < 1024 then KM m (dv 0) (nx2 1024 4096 (i 0).val (1024 * c.val + (i 1).val))
  else KM m (dv 1) (nx2 1024 4096 ((i 0).val - 1024) (1024 * c.val + (i 1).val))
/-- The first 1152 value rows restricted to device `c`'s heads. -/
def VB : S1152x1024.Idx → Elt F .i8 := fun i =>
  if (i 0).val < 1024 then VM m (dv 0) (nx2 1024 4096 (i 0).val (1024 * c.val + (i 1).val))
  else VM m (dv 1) (nx2 1024 4096 ((i 0).val - 1024) (1024 * c.val + (i 1).val))

/-! The values the parts of the kernel hand on, by their numbers there. -/

def w0 (m : Mem (F := F)) (c : Dev nD) : BitVec 32 := Dev.word c
def w1 (m : Mem (F := F)) (c : Dev nD) : BitVec 32 := Scalar.divsi (w0 m c) 1#32
def w2 (m : Mem (F := F)) (c : Dev nD) : BitVec 32 := Scalar.remsi (w1 m c) 4#32
def w30 (m : Mem (F := F)) (c : Dev nD) : BitVec 32 := Scalar.addi (w2 m c) 3#32
def w31 (m : Mem (F := F)) (c : Dev nD) : BitVec 1 := Scalar.cmpi .eq 4#32 0#32
def q_c4_i32_18 (m : Mem (F := F)) (c : Dev nD) : BitVec 32 := 4#32
def w49 (m : Mem (F := F)) (c : Dev nD) : Vec F S1024x1024 .bf16 := xM.view.readAt (Elt F) (Rect.unit (s := S1024x1024) ![0, 0] S1024x1024.size inb_S1024x1024_S1024x1024_0_0).toLoadRect (X m c)
def w51 (m : Mem (F := F)) (c : Dev nD) : Vec F S1024x1024 .bf16 := wqM.view.readAt (Elt F) (Rect.unit (s := S1024x1024) ![0, 0] S1024x1024.size inb_S1024x1024_S1024x1024_0_0).toLoadRect (WQ m c)
def w55 (m : Mem (F := F)) (c : Dev nD) : IVec S256x512 32 := iota .tc S256x512 32 [0] iota_S256x512_d0_w32
def w56 (m : Mem (F := F)) (c : Dev nD) : IVec S256x512 32 := iota .tc S256x512 32 [1] iota_S256x512_d1_w32
def w54 (m : Mem (F := F)) (c : Dev nD) : FVec F S1024x1024 .bf16 := k0_pay13 (w49 m c) (w51 m c)
def w65 (m : Mem (F := F)) (c : Dev nD) : FVec F S256x512 .f32 := k0_pay14 (F := F)
def w75 (m : Mem (F := F)) (c : Dev nD) : BitVec 1 := Scalar.cmpi .eq (w2 m c) 0#32
def w76 (m : Mem (F := F)) (c : Dev nD) : BitVec 32 := Scalar.extui (w75 m c)
def w77 (m : Mem (F := F)) (c : Dev nD) : BitVec 1 := Scalar.cmpi .ne (w76 m c) 0#32
def w78 (m : Mem (F := F)) (c : Dev nD) : BitVec 1 := Scalar.cmpi .ne (w2 m c) 0#32
def w79 (m : Mem (F := F)) (c : Dev nD) : BitVec 32 := Scalar.extui (w78 m c)
def w80 (m : Mem (F := F)) (c : Dev nD) : BitVec 1 := Scalar.cmpi .ne (w79 m c) 0#32
def w82 (m : Mem (F := F)) (c : Dev nD) : Vec F S512x128 .i8 := kbM.view.readAt (Elt F) (Rect.unit (s := S1152x1024) ![0, 0] S512x128.size inb_S1152x1024_S512x128_0_0).toLoadRect (KB m c)
def w98 (m : Mem (F := F)) (c : Dev nD) : Vec F S512x128 .i8 := vbM.view.readAt (Elt F) (Rect.unit (s := S1152x1024) ![0, 0] S512x128.size inb_S1152x1024_S512x128_0_0).toLoadRect (VB m c)
def w74 (m : Mem (F := F)) (c : Dev nD) : FVec F S256x512 .f32 := k0_pay15 (F := F) (w55 m c) (w56 m c)
def w103 (m : Mem (F := F)) (c : Dev nD) : FVec F S256x128 .bf16 := k0_pay16 (w54 m c) (w65 m c) (w82 m c) (w98 m c)
def w108 (m : Mem (F := F)) (c : Dev nD) : Vec F S512x128 .i8 := kbM.view.readAt (Elt F) (Rect.unit (s := S1152x1024) ![0, 128] S512x128.size inb_S1152x1024_S512x128_0_128).toLoadRect (KB m c)
def w124 (m : Mem (F := F)) (c : Dev nD) : Vec F S512x128 .i8 := vbM.view.readAt (Elt F) (Rect.unit (s := S1152x1024) ![0, 128] S512x128.size inb_S1152x1024_S512x128_0_128).toLoadRect (VB m c)
def w134 (m : Mem (F := F)) (c : Dev nD) : Vec F S512x128 .i8 := kbM.view.readAt (Elt F) (Rect.unit (s := S1152x1024) ![0, 256] S512x128.size inb_S1152x1024_S512x128_0_256).toLoadRect (KB m c)
def w144 (m : Mem (F := F)) (c : Dev nD) : FVec F S256x512 .f32 := (k0_pay19 (w54 m c) (w65 m c) (w134 m c))
def w150 (m : Mem (F := F)) (c : Dev nD) : Vec F S512x128 .i8 := vbM.view.readAt (Elt F) (Rect.unit (s := S1152x1024) ![0, 256] S512x128.size inb_S1152x1024_S512x128_0_256).toLoadRect (VB m c)
def w160 (m : Mem (F := F)) (c : Dev nD) : Vec F S512x128 .i8 := kbM.view.readAt (Elt F) (Rect.unit (s := S1152x1024) ![0, 384] S512x128.size inb_S1152x1024_S512x128_0_384).toLoadRect (KB m c)
def w176 (m : Mem (F := F)) (c : Dev nD) : Vec F S512x128 .i8 := vbM.view.readAt (Elt F) (Rect.unit (s := S1152x1024) ![0, 384] S512x128.size inb_S1152x1024_S512x128_0_384).toLoadRect (VB m c)
def w184 (m : Mem (F := F)) (c : Dev nD) : FVec F S256x128 .bf16 := (k0_pay21 (w54 m c) (w65 m c) (w160 m c) (w176 m c))
def w186 (m : Mem (F := F)) (c : Dev nD) : Vec F S512x128 .i8 := kbM.view.readAt (Elt F) (Rect.unit (s := S1152x1024) ![0, 512] S512x128.size inb_S1152x1024_S512x128_0_512).toLoadRect (KB m c)
def w202 (m : Mem (F := F)) (c : Dev nD) : Vec F S512x128 .i8 := vbM.view.readAt (Elt F) (Rect.unit (s := S1152x1024) ![0, 512] S512x128.size inb_S1152x1024_S512x128_0_512).toLoadRect (VB m c)
def w212 (m : Mem (F := F)) (c : Dev nD) : Vec F S512x128 .i8 := kbM.view.readAt (Elt F) (Rect.unit (s := S1152x1024) ![0, 640] S512x128.size inb_S1152x1024_S512x128_0_640).toLoadRect (KB m c)
def w222 (m : Mem (F := F)) (c : Dev nD) : FVec F S256x512 .f32 := k0_pay23 (w54 m c) (w65 m c) (w212 m c)
def w224 (m : Mem (F := F)) (c : Dev nD) : FVec F S256x1 .f32 := k0_pay24 (w54 m c) (w65 m c) (w212 m c)
def w228 (m : Mem (F := F)) (c : Dev nD) : Vec F S512x128 .i8 := vbM.view.readAt (Elt F) (Rect.unit (s := S1152x1024) ![0, 640] S512x128.size inb_S1152x1024_S512x128_0_640).toLoadRect (VB m c)
def w238 (m : Mem (F := F)) (c : Dev nD) : Vec F S512x128 .i8 := kbM.view.readAt (Elt F) (Rect.unit (s := S1152x1024) ![0, 768] S512x128.size inb_S1152x1024_S512x128_0_768).toLoadRect (KB m c)
def w254 (m : Mem (F := F)) (c : Dev nD) : Vec F S512x128 .i8 := vbM.view.readAt (Elt F) (Rect.unit (s := S1152x1024) ![0, 768] S512x128.size inb_S1152x1024_S512x128_0_768).toLoadRect (VB m c)
def w263 (m : Mem (F := F)) (c : Dev nD) : FVec F S256x128 .bf16 := (k0_pay27 (w54 m c))
def w264 (m : Mem (F := F)) (c : Dev nD) : Vec F S512x128 .i8 := kbM.view.readAt (Elt F) (Rect.unit (s := S1152x1024) ![0, 896] S512x128.size inb_S1152x1024_S512x128_0_896).toLoadRect (KB m c)
def w280 (m : Mem (F := F)) (c : Dev nD) : Vec F S512x128 .i8 := vbM.view.readAt (Elt F) (Rect.unit (s := S1152x1024) ![0, 896] S512x128.size inb_S1152x1024_S512x128_0_896).toLoadRect (VB m c)
def w290 (m : Mem (F := F)) (c : Dev nD) : Vec F S1024x1024 .bf16 := woM.view.readAt (Elt F) (Rect.unit (s := S1024x1024) ![0, 0] S1024x1024.size inb_S1024x1024_S1024x1024_0_0).toLoadRect (WO m c)
def q_c0_i32_144 (m : Mem (F := F)) (c : Dev nD) : BitVec 32 := 0#32
def w300 (m : Mem (F := F)) (c : Dev nD) : BitVec 1 := Scalar.cmpi .eq (w2 m c) (q_c0_i32_144 m c)
def w301 (m : Mem (F := F)) (c : Dev nD) : BitVec 32 := Scalar.extui (w300 m c)
def w302 (m : Mem (F := F)) (c : Dev nD) : BitVec 1 := Scalar.cmpi .ne (w301 m c) 0#32
def w303 (m : Mem (F := F)) (c : Dev nD) : BitVec 1 := Scalar.cmpi .ne (w2 m c) 0#32
def w304 (m : Mem (F := F)) (c : Dev nD) : BitVec 32 := Scalar.extui (w303 m c)
def w305 (m : Mem (F := F)) (c : Dev nD) : BitVec 1 := Scalar.cmpi .ne (w304 m c) 0#32
def w307 (m : Mem (F := F)) (c : Dev nD) : Vec F S512x128 .i8 := kbM.view.readAt (Elt F) (Rect.unit (s := S1152x1024) ![128, 0] S512x128.size inb_S1152x1024_S512x128_128_0).toLoadRect (KB m c)
def w323 (m : Mem (F := F)) (c : Dev nD) : Vec F S512x128 .i8 := vbM.view.readAt (Elt F) (Rect.unit (s := S1152x1024) ![128, 0] S512x128.size inb_S1152x1024_S512x128_128_0).toLoadRect (VB m c)
def w333 (m : Mem (F := F)) (c : Dev nD) : Vec F S512x128 .i8 := kbM.view.readAt (Elt F) (Rect.unit (s := S1152x1024) ![128, 128] S512x128.size inb_S1152x1024_S512x128_128_128).toLoadRect (KB m c)
def w337 (m : Mem (F := F)) (c : Dev nD) : FVec F S256x512 .f32 := (k0_pay33 (w54 m c) (w333 m c))
def w349 (m : Mem (F := F)) (c : Dev nD) : Vec F S512x128 .i8 := vbM.view.readAt (Elt F) (Rect.unit (s := S1152x1024) ![128, 128] S512x128.size inb_S1152x1024_S512x128_128_128).toLoadRect (VB m c)
def w359 (m : Mem (F := F)) (c : Dev nD) : Vec F S512x128 .i8 := kbM.view.readAt (Elt F) (Rect.unit (s := S1152x1024) ![128, 256] S512x128.size inb_S1152x1024_S512x128_128_256).toLoadRect (KB m c)
def w375 (m : Mem (F := F)) (c : Dev nD) : Vec F S512x128 .i8 := vbM.view.readAt (Elt F) (Rect.unit (s := S1152x1024) ![128, 256] S512x128.size inb_S1152x1024_S512x128_128_256).toLoadRect (VB m c)
def w377 (m : Mem (F := F)) (c : Dev nD) : FVec F S256x128 .f32 := k0_pay35 (w54 m c) (w74 m c) (w359 m c) (w375 m c)
def w378 (m : Mem (F := F)) (c : Dev nD) : FVec F S256x128 .f32 := k0_pay36 (F := F)
def w385 (m : Mem (F := F)) (c : Dev nD) : Vec F S512x128 .i8 := kbM.view.readAt (Elt F) (Rect.unit (s := S1152x1024) ![128, 384] S512x128.size inb_S1152x1024_S512x128_128_384).toLoadRect (KB m c)
def w401 (m : Mem (F := F)) (c : Dev nD) : Vec F S512x128 .i8 := vbM.view.readAt (Elt F) (Rect.unit (s := S1152x1024) ![128, 384] S512x128.size inb_S1152x1024_S512x128_128_384).toLoadRect (VB m c)
def w411 (m : Mem (F := F)) (c : Dev nD) : Vec F S512x128 .i8 := kbM.view.readAt (Elt F) (Rect.unit (s := S1152x1024) ![128, 512] S512x128.size inb_S1152x1024_S512x128_128_512).toLoadRect (KB m c)
def w416 (m : Mem (F := F)) (c : Dev nD) : FVec F S256x512 .f32 := k0_pay39 (w54 m c) (w74 m c) (w411 m c)
def w417 (m : Mem (F := F)) (c : Dev nD) : FVec F S256 .f32 := k0_pay40 (w54 m c) (w74 m c) (w411 m c)
def w427 (m : Mem (F := F)) (c : Dev nD) : Vec F S512x128 .i8 := vbM.view.readAt (Elt F) (Rect.unit (s := S1152x1024) ![128, 512] S512x128.size inb_S1152x1024_S512x128_128_512).toLoadRect (VB m c)
def w437 (m : Mem (F := F)) (c : Dev nD) : Vec F S512x128 .i8 := kbM.view.readAt (Elt F) (Rect.unit (s := S1152x1024) ![128, 640] S512x128.size inb_S1152x1024_S512x128_128_640).toLoadRect (KB m c)
def w453 (m : Mem (F := F)) (c : Dev nD) : Vec F S512x128 .i8 := vbM.view.readAt (Elt F) (Rect.unit (s := S1152x1024) ![128, 640] S512x128.size inb_S1152x1024_S512x128_128_640).toLoadRect (VB m c)
def w458 (m : Mem (F := F)) (c : Dev nD) : FVec F S256x128 .bf16 := (k0_pay42 (w54 m c) (w74 m c) (w437 m c) (w453 m c))
def w463 (m : Mem (F := F)) (c : Dev nD) : Vec F S512x128 .i8 := kbM.view.readAt (Elt F) (Rect.unit (s := S1152x1024) ![128, 768] S512x128.size inb_S1152x1024_S512x128_128_768).toLoadRect (KB m c)
def w479 (m : Mem (F := F)) (c : Dev nD) : Vec F S512x128 .i8 := vbM.view.readAt (Elt F) (Rect.unit (s := S1152x1024) ![128, 768] S512x128.size inb_S1152x1024_S512x128_128_768).toLoadRect (VB m c)
def w489 (m : Mem (F := F)) (c : Dev nD) : Vec F S512x128 .i8 := kbM.view.readAt (Elt F) (Rect.unit (s := S1152x1024) ![128, 896] S512x128.size inb_S1152x1024_S512x128_128_896).toLoadRect (KB m c)
def w498 (m : Mem (F := F)) (c : Dev nD) : FVec F S256x512 .f32 := (k0_pay45 (w54 m c) (w74 m c) (w489 m c))
def w505 (m : Mem (F := F)) (c : Dev nD) : Vec F S512x128 .i8 := vbM.view.readAt (Elt F) (Rect.unit (s := S1152x1024) ![128, 896] S512x128.size inb_S1152x1024_S512x128_128_896).toLoadRect (VB m c)
def w515 (m : Mem (F := F)) (c : Dev nD) : Vec F S1024x1024 .bf16 := woM.view.readAt (Elt F) (Rect.unit (s := S1024x1024) ![0, 0] S1024x1024.size inb_S1024x1024_S1024x1024_0_0).toLoadRect (WO m c)
def w525 (m : Mem (F := F)) (c : Dev nD) : BitVec 1 := Scalar.cmpi .eq (w2 m c) 1#32
def w526 (m : Mem (F := F)) (c : Dev nD) : BitVec 32 := Scalar.extui (w525 m c)
def w527 (m : Mem (F := F)) (c : Dev nD) : BitVec 1 := Scalar.cmpi .ne (w526 m c) 0#32
def w528 (m : Mem (F := F)) (c : Dev nD) : BitVec 1 := Scalar.cmpi .ne (w2 m c) 0#32
def w529 (m : Mem (F := F)) (c : Dev nD) : BitVec 32 := Scalar.extui (w528 m c)
def w530 (m : Mem (F := F)) (c : Dev nD) : BitVec 1 := Scalar.cmpi .ne (w529 m c) 0#32
def w531 (m : Mem (F := F)) (c : Dev nD) : FVec F S256x128 .bf16 := (k0_pay50 (w54 m c))
def w532 (m : Mem (F := F)) (c : Dev nD) : Vec F S512x128 .i8 := kbM.view.readAt (Elt F) (Rect.unit (s := S1152x1024) ![384, 0] S512x128.size inb_S1152x1024_S512x128_384_0).toLoadRect (KB m c)
def w548 (m : Mem (F := F)) (c : Dev nD) : Vec F S512x128 .i8 := vbM.view.readAt (Elt F) (Rect.unit (s := S1152x1024) ![384, 0] S512x128.size inb_S1152x1024_S512x128_384_0).toLoadRect (VB m c)
def w558 (m : Mem (F := F)) (c : Dev nD) : Vec F S512x128 .i8 := kbM.view.readAt (Elt F) (Rect.unit (s := S1152x1024) ![384, 128] S512x128.size inb_S1152x1024_S512x128_384_128).toLoadRect (KB m c)
def w573 (m : Mem (F := F)) (c : Dev nD) : FVec F S256x512 .bf16 := (k0_pay52 (w54 m c) (w74 m c) (w558 m c))
def w574 (m : Mem (F := F)) (c : Dev nD) : Vec F S512x128 .i8 := vbM.view.readAt (Elt F) (Rect.unit (s := S1152x1024) ![384, 128] S512x128.size inb_S1152x1024_S512x128_384_128).toLoadRect (VB m c)
def w584 (m : Mem (F := F)) (c : Dev nD) : Vec F S512x128 .i8 := kbM.view.readAt (Elt F) (Rect.unit (s := S1152x1024) ![384, 256] S512x128.size inb_S1152x1024_S512x128_384_256).toLoadRect (KB m c)
def w600 (m : Mem (F := F)) (c : Dev nD) : Vec F S512x128 .i8 := vbM.view.readAt (Elt F) (Rect.unit (s := S1152x1024) ![384, 256] S512x128.size inb_S1152x1024_S512x128_384_256).toLoadRect (VB m c)
def w610 (m : Mem (F := F)) (c : Dev nD) : Vec F S512x128 .i8 := kbM.view.readAt (Elt F) (Rect.unit (s := S1152x1024) ![384, 384] S512x128.size inb_S1152x1024_S512x128_384_384).toLoadRect (KB m c)
def cst_295 (m : Mem (F := F)) (c : Dev nD) : FVec F S256x512 .f32 := constant S256x512 .f32 0x00000000#32
def w609 (m : Mem (F := F)) (c : Dev nD) : FVec F S256x128 .bf16 := k0_pay55 (w54 m c)
def w611 (m : Mem (F := F)) (c : Dev nD) : FVec F S512x128 .bf16 := k0_pay56 (w610 m c)
def w626 (m : Mem (F := F)) (c : Dev nD) : Vec F S512x128 .i8 := vbM.view.readAt (Elt F) (Rect.unit (s := S1152x1024) ![384, 384] S512x128.size inb_S1152x1024_S512x128_384_384).toLoadRect (VB m c)
def w636 (m : Mem (F := F)) (c : Dev nD) : Vec F S512x128 .i8 := kbM.view.readAt (Elt F) (Rect.unit (s := S1152x1024) ![384, 512] S512x128.size inb_S1152x1024_S512x128_384_512).toLoadRect (KB m c)
def w652 (m : Mem (F := F)) (c : Dev nD) : Vec F S512x128 .i8 := vbM.view.readAt (Elt F) (Rect.unit (s := S1152x1024) ![384, 512] S512x128.size inb_S1152x1024_S512x128_384_512).toLoadRect (VB m c)
def w651 (m : Mem (F := F)) (c : Dev nD) : FVec F S256x512 .bf16 := k0_pay58 (w54 m c) (w74 m c) (w636 m c)
def w653 (m : Mem (F := F)) (c : Dev nD) : FVec F S512x128 .bf16 := k0_pay59 (w652 m c)
def w662 (m : Mem (F := F)) (c : Dev nD) : Vec F S512x128 .i8 := kbM.view.readAt (Elt F) (Rect.unit (s := S1152x1024) ![384, 640] S512x128.size inb_S1152x1024_S512x128_384_640).toLoadRect (KB m c)
def w678 (m : Mem (F := F)) (c : Dev nD) : Vec F S512x128 .i8 := vbM.view.readAt (Elt F) (Rect.unit (s := S1152x1024) ![384, 640] S512x128.size inb_S1152x1024_S512x128_384_640).toLoadRect (VB m c)
def w688 (m : Mem (F := F)) (c : Dev nD) : Vec F S512x128 .i8 := kbM.view.readAt (Elt F) (Rect.unit (s := S1152x1024) ![384, 768] S512x128.size inb_S1152x1024_S512x128_384_768).toLoadRect (KB m c)
def w690 (m : Mem (F := F)) (c : Dev nD) : FVec F S256x512 .f32 := k0_pay62 (w54 m c) (w688 m c)
def w691 (m : Mem (F := F)) (c : Dev nD) : FVec F S256x512 .f32 := k0_pay63 (F := F)
def w704 (m : Mem (F := F)) (c : Dev nD) : Vec F S512x128 .i8 := vbM.view.readAt (Elt F) (Rect.unit (s := S1152x1024) ![384, 768] S512x128.size inb_S1152x1024_S512x128_384_768).toLoadRect (VB m c)
def w714 (m : Mem (F := F)) (c : Dev nD) : Vec F S512x128 .i8 := kbM.view.readAt (Elt F) (Rect.unit (s := S1152x1024) ![384, 896] S512x128.size inb_S1152x1024_S512x128_384_896).toLoadRect (KB m c)
def w730 (m : Mem (F := F)) (c : Dev nD) : Vec F S512x128 .i8 := vbM.view.readAt (Elt F) (Rect.unit (s := S1152x1024) ![384, 896] S512x128.size inb_S1152x1024_S512x128_384_896).toLoadRect (VB m c)
def cst_350 (m : Mem (F := F)) (c : Dev nD) : F .f32 := Scalar.ofBits .f32 0x3D000000#32
def w732 (m : Mem (F := F)) (c : Dev nD) : FVec F S256x128 .f32 := k0_pay65 (w54 m c) (w74 m c) (w714 m c) (w730 m c)
def w740 (m : Mem (F := F)) (c : Dev nD) : Vec F S1024x1024 .bf16 := woM.view.readAt (Elt F) (Rect.unit (s := S1024x1024) ![0, 0] S1024x1024.size inb_S1024x1024_S1024x1024_0_0).toLoadRect (WO m c)
def w750 (m : Mem (F := F)) (c : Dev nD) : BitVec 1 := Scalar.cmpi .eq (w2 m c) 2#32
def w751 (m : Mem (F := F)) (c : Dev nD) : BitVec 32 := Scalar.extui (w750 m c)
def w752 (m : Mem (F := F)) (c : Dev nD) : BitVec 1 := Scalar.cmpi .ne (w751 m c) 0#32
def w753 (m : Mem (F := F)) (c : Dev nD) : BitVec 1 := Scalar.cmpi .eq (w2 m c) 1#32
def w754 (m : Mem (F := F)) (c : Dev nD) : BitVec 32 := Scalar.extui (w753 m c)
def w755 (m : Mem (F := F)) (c : Dev nD) : BitVec 1 := Scalar.cmpi .ne (w754 m c) 0#32
def w756 (m : Mem (F := F)) (c : Dev nD) : BitVec 1 := Scalar.cmpi .ne (w2 m c) 1#32
def w757 (m : Mem (F := F)) (c : Dev nD) : BitVec 32 := Scalar.extui (w756 m c)
def w758 (m : Mem (F := F)) (c : Dev nD) : BitVec 1 := Scalar.cmpi .ne (w757 m c) 0#32
def w760 (m : Mem (F := F)) (c : Dev nD) : Vec F S512x128 .i8 := kbM.view.readAt (Elt F) (Rect.unit (s := S1152x1024) ![640, 0] S512x128.size inb_S1152x1024_S512x128_640_0).toLoadRect (KB m c)
def w765 (m : Mem (F := F)) (c : Dev nD) : FVec F S256x512 .f32 := (k0_pay70 (w54 m c) (w74 m c) (w760 m c))
def w776 (m : Mem (F := F)) (c : Dev nD) : Vec F S512x128 .i8 := vbM.view.readAt (Elt F) (Rect.unit (s := S1152x1024) ![640, 0] S512x128.size inb_S1152x1024_S512x128_640_0).toLoadRect (VB m c)
def w786 (m : Mem (F := F)) (c : Dev nD) : Vec F S512x128 .i8 := kbM.view.readAt (Elt F) (Rect.unit (s := S1152x1024) ![640, 128] S512x128.size inb_S1152x1024_S512x128_640_128).toLoadRect (KB m c)
def w802 (m : Mem (F := F)) (c : Dev nD) : Vec F S512x128 .i8 := vbM.view.readAt (Elt F) (Rect.unit (s := S1152x1024) ![640, 128] S512x128.size inb_S1152x1024_S512x128_640_128).toLoadRect (VB m c)
def w806 (m : Mem (F := F)) (c : Dev nD) : FVec F S256x128 .f32 := (k0_pay72 (w54 m c) (w74 m c) (w786 m c) (w802 m c))
def w812 (m : Mem (F := F)) (c : Dev nD) : Vec F S512x128 .i8 := kbM.view.readAt (Elt F) (Rect.unit (s := S1152x1024) ![640, 256] S512x128.size inb_S1152x1024_S512x128_640_256).toLoadRect (KB m c)
def w828 (m : Mem (F := F)) (c : Dev nD) : Vec F S512x128 .i8 := vbM.view.readAt (Elt F) (Rect.unit (s := S1152x1024) ![640, 256] S512x128.size inb_S1152x1024_S512x128_640_256).toLoadRect (VB m c)
def w838 (m : Mem (F := F)) (c : Dev nD) : Vec F S512x128 .i8 := kbM.view.readAt (Elt F) (Rect.unit (s := S1152x1024) ![640, 384] S512x128.size inb_S1152x1024_S512x128_640_384).toLoadRect (KB m c)
def w843 (m : Mem (F := F)) (c : Dev nD) : FVec F S256x512 .f32 := k0_pay75 (w54 m c) (w74 m c) (w838 m c)
def w845 (m : Mem (F := F)) (c : Dev nD) : FVec F S256x1 .f32 := k0_pay76 (w54 m c) (w74 m c) (w838 m c)
def w854 (m : Mem (F := F)) (c : Dev nD) : Vec F S512x128 .i8 := vbM.view.readAt (Elt F) (Rect.unit (s := S1152x1024) ![640, 384] S512x128.size inb_S1152x1024_S512x128_640_384).toLoadRect (VB m c)
def w864 (m : Mem (F := F)) (c : Dev nD) : Vec F S512x128 .i8 := kbM.view.readAt (Elt F) (Rect.unit (s := S1152x1024) ![640, 512] S512x128.size inb_S1152x1024_S512x128_640_512).toLoadRect (KB m c)
def w880 (m : Mem (F := F)) (c : Dev nD) : Vec F S512x128 .i8 := vbM.view.readAt (Elt F) (Rect.unit (s := S1152x1024) ![640, 512] S512x128.size inb_S1152x1024_S512x128_640_512).toLoadRect (VB m c)
def w885 (m : Mem (F := F)) (c : Dev nD) : FVec F S256x128 .bf16 := (k0_pay78 (w54 m c) (w74 m c) (w864 m c) (w880 m c))
def w890 (m : Mem (F := F)) (c : Dev nD) : Vec F S512x128 .i8 := kbM.view.readAt (Elt F) (Rect.unit (s := S1152x1024) ![640, 640] S512x128.size inb_S1152x1024_S512x128_640_640).toLoadRect (KB m c)
def w906 (m : Mem (F := F)) (c : Dev nD) : Vec F S512x128 .i8 := vbM.view.readAt (Elt F) (Rect.unit (s := S1152x1024) ![640, 640] S512x128.size inb_S1152x1024_S512x128_640_640).toLoadRect (VB m c)
def w916 (m : Mem (F := F)) (c : Dev nD) : Vec F S512x128 .i8 := kbM.view.readAt (Elt F) (Rect.unit (s := S1152x1024) ![640, 768] S512x128.size inb_S1152x1024_S512x128_640_768).toLoadRect (KB m c)
def w926 (m : Mem (F := F)) (c : Dev nD) : FVec F S256x512 .f32 := (k0_pay81 (w54 m c) (w74 m c) (w916 m c))
def w932 (m : Mem (F := F)) (c : Dev nD) : Vec F S512x128 .i8 := vbM.view.readAt (Elt F) (Rect.unit (s := S1152x1024) ![640, 768] S512x128.size inb_S1152x1024_S512x128_640_768).toLoadRect (VB m c)
def w942 (m : Mem (F := F)) (c : Dev nD) : Vec F S512x128 .i8 := kbM.view.readAt (Elt F) (Rect.unit (s := S1152x1024) ![640, 896] S512x128.size inb_S1152x1024_S512x128_640_896).toLoadRect (KB m c)
def w958 (m : Mem (F := F)) (c : Dev nD) : Vec F S512x128 .i8 := vbM.view.readAt (Elt F) (Rect.unit (s := S1152x1024) ![640, 896] S512x128.size inb_S1152x1024_S512x128_640_896).toLoadRect (VB m c)
def w966 (m : Mem (F := F)) (c : Dev nD) : FVec F S256x128 .bf16 := (k0_pay83 (w54 m c) (w74 m c) (w942 m c) (w958 m c))
def w968 (m : Mem (F := F)) (c : Dev nD) : Vec F S1024x1024 .bf16 := woM.view.readAt (Elt F) (Rect.unit (s := S1024x1024) ![0, 0] S1024x1024.size inb_S1024x1024_S1024x1024_0_0).toLoadRect (WO m c)
def w978 (m : Mem (F := F)) (c : Dev nD) : BitVec 1 := Scalar.cmpi .eq (w2 m c) 3#32
def w979 (m : Mem (F := F)) (c : Dev nD) : BitVec 32 := Scalar.extui (w978 m c)
def w980 (m : Mem (F := F)) (c : Dev nD) : BitVec 1 := Scalar.cmpi .ne (w979 m c) 0#32
def w993 (m : Mem (F := F)) (c : Dev nD) : BitVec 32 := Scalar.muli 0#32 1#32
def q_c0_i32_488 (m : Mem (F := F)) (c : Dev nD) : BitVec 32 := 0#32

/-- What head `n % 8` of query block `n / 8` stores into the context buffer. -/
def hv (n : ℕ) : S256x128.Idx → Elt F .bf16 := match n with
  | 0 => (k0_pay17 (w103 m c))
  | 1 => (k0_pay18 (w54 m c) (w65 m c) (w108 m c) (w124 m c))
  | 2 => (k0_pay20 (w144 m c) (w150 m c))
  | 3 => (w184 m c)
  | 4 => (k0_pay22 (w54 m c) (w65 m c) (w186 m c) (w202 m c))
  | 5 => (k0_pay25 (w222 m c) (w224 m c) (w228 m c))
  | 6 => (k0_pay26 (w54 m c) (w65 m c) (w238 m c) (w254 m c))
  | 7 => (k0_pay28 (w65 m c) (w263 m c) (w264 m c) (w280 m c))
  | 8 => (k0_pay32 (w54 m c) (w74 m c) (w307 m c) (w323 m c))
  | 9 => (k0_pay34 (w74 m c) (w337 m c) (w349 m c))
  | 10 => (k0_pay37 (w377 m c) (w378 m c))
  | 11 => (k0_pay38 (w54 m c) (w74 m c) (w385 m c) (w401 m c))
  | 12 => (k0_pay41 (w416 m c) (w417 m c) (w427 m c))
  | 13 => (k0_pay43 (w458 m c))
  | 14 => (k0_pay44 (w54 m c) (w74 m c) (w463 m c) (w479 m c))
  | 15 => (k0_pay46 (w498 m c) (w505 m c))
  | 16 => (k0_pay51 (w74 m c) (w531 m c) (w532 m c) (w548 m c))
  | 17 => (k0_pay53 (w573 m c) (w574 m c))
  | 18 => (k0_pay54 (w54 m c) (w74 m c) (w584 m c) (w600 m c))
  | 19 => (k0_pay57 (w74 m c) (w609 m c) (w611 m c) (cst_295 m c) (w626 m c))
  | 20 => (k0_pay60 (w651 m c) (w653 m c))
  | 21 => (k0_pay61 (w54 m c) (w74 m c) (w662 m c) (w678 m c))
  | 22 => (k0_pay64 (w74 m c) (w690 m c) (w691 m c) (w704 m c))
  | 23 => (k0_pay66 (w732 m c) (cst_350 m c))
  | 24 => (k0_pay71 (w765 m c) (w776 m c))
  | 25 => (k0_pay73 (w806 m c))
  | 26 => (k0_pay74 (w54 m c) (w74 m c) (w812 m c) (w828 m c))
  | 27 => (k0_pay77 (w843 m c) (w845 m c) (w854 m c))
  | 28 => (k0_pay79 (w885 m c))
  | 29 => (k0_pay80 (w54 m c) (w74 m c) (w890 m c) (w906 m c))
  | 30 => (k0_pay82 (w926 m c) (w932 m c))
  | _ => (w966 m c)

/-- The attention context of device `c`'s heads, all query rows. -/
def CTX : S1024x1024.Idx → Elt F .bf16 := fun i =>
  hv m c (8 * ((i 0).val / 256) + (i 1).val / 128) (nx2 256 128 ((i 0).val % 256) ((i 1).val % 128))

def w289 (m : Mem (F := F)) (c : Dev nD) : Vec F S256x1024 .bf16 := cxM.view.readAt (Elt F) (Rect.unit (s := S1024x1024) ![0, 0] S256x1024.size inb_S1024x1024_S256x1024_0_0).toLoadRect (CTX m c)
def w292 (m : Mem (F := F)) (c : Dev nD) : FVec F S256x1024 .f32 := k0_pay29 (w289 m c) (w290 m c)
def w514 (m : Mem (F := F)) (c : Dev nD) : Vec F S256x1024 .bf16 := cxM.view.readAt (Elt F) (Rect.unit (s := S1024x1024) ![256, 0] S256x1024.size inb_S1024x1024_S256x1024_256_0).toLoadRect (CTX m c)
def w739 (m : Mem (F := F)) (c : Dev nD) : Vec F S256x1024 .bf16 := cxM.view.readAt (Elt F) (Rect.unit (s := S1024x1024) ![512, 0] S256x1024.size inb_S1024x1024_S256x1024_512_0).toLoadRect (CTX m c)
def w967 (m : Mem (F := F)) (c : Dev nD) : Vec F S256x1024 .bf16 := cxM.view.readAt (Elt F) (Rect.unit (s := S1024x1024) ![768, 0] S256x1024.size inb_S1024x1024_S256x1024_768_0).toLoadRect (CTX m c)

/-- The partial output block `b` of device `c`, rounded for the reduce-scatter. -/
def pblk (b : ℕ) : S256x1024.Idx → Elt F .bf16 := match b with
  | 0 => (k0_pay30 (w289 m c) (w290 m c))
  | 1 => (k0_pay48 (w514 m c) (w515 m c))
  | 2 => (k0_pay68 (w739 m c) (w740 m c))
  | _ => (k0_pay85 (w967 m c) (w968 m c))

/-- The partial output block `b` of device `c` that stays on the device. -/
def ownv (b : ℕ) : S1x256x1024.Idx → Elt F .bf16 := match b with
  | 0 => (k0_pay31 (w292 m c))
  | 1 => (k0_pay49 (w514 m c) (w515 m c))
  | 2 => (k0_pay69 (w739 m c) (w740 m c))
  | _ => (k0_pay86 (w967 m c) (w968 m c))

/-- Device `c`'s partial output, block by block. -/
def PB : S1024x1024.Idx → Elt F .bf16 := fun i => pblk m c ((i 0).val / 256) (nx2 256 1024 ((i 0).val % 256) (i 1).val)
/-- The four partial blocks that device `c` sums: its own, and block `c` of every other device. -/
def RSB : S4x256x1024.Idx → Elt F .bf16 := fun i =>
  if (i 0).val = c.val then ownv m c c.val (nx3 1 256 1024 0 (i 1).val (i 2).val)
  else PB m (dv (i 0).val) (nx2 1024 1024 (256 * c.val + (i 1).val) (i 2).val)

def o0_w1149 (m : Mem (F := F)) (c : Dev nD) : Vec F S1x256x1024 .bf16 := rbM.view.readAt (Elt F) (Rect.unit (s := S4x256x1024) ![0, 0, 0] S1x256x1024.size inb_S4x256x1024_S1x256x1024_0_0_0).toLoadRect (RSB m c)
def o0_w1151 (m : Mem (F := F)) (c : Dev nD) : FVec F S256x1024 .f32 := (k0_pay1 (o0_w1149 m c))
def o0_w1152 (m : Mem (F := F)) (c : Dev nD) : Vec F S1x256x1024 .bf16 := rbM.view.readAt (Elt F) (Rect.unit (s := S4x256x1024) ![1, 0, 0] S1x256x1024.size inb_S4x256x1024_S1x256x1024_1_0_0).toLoadRect (RSB m c)
def o0_w1156 (m : Mem (F := F)) (c : Dev nD) : Vec F S1x256x1024 .bf16 := rbM.view.readAt (Elt F) (Rect.unit (s := S4x256x1024) ![2, 0, 0] S1x256x1024.size inb_S4x256x1024_S1x256x1024_2_0_0).toLoadRect (RSB m c)
def o0_w1160 (m : Mem (F := F)) (c : Dev nD) : Vec F S1x256x1024 .bf16 := rbM.view.readAt (Elt F) (Rect.unit (s := S4x256x1024) ![3, 0, 0] S1x256x1024.size inb_S4x256x1024_S1x256x1024_3_0_0).toLoadRect (RSB m c)
def o1_w1149 (m : Mem (F := F)) (c : Dev nD) : Vec F S1x256x1024 .bf16 := rbM.view.readAt (Elt F) (Rect.unit (s := S4x256x1024) ![0, 0, 0] S1x256x1024.size inb_S4x256x1024_S1x256x1024_0_0_0).toLoadRect (RSB m c)
def o1_w1151 (m : Mem (F := F)) (c : Dev nD) : FVec F S256x1024 .f32 := (k0_pay4 (o1_w1149 m c))
def o1_w1152 (m : Mem (F := F)) (c : Dev nD) : Vec F S1x256x1024 .bf16 := rbM.view.readAt (Elt F) (Rect.unit (s := S4x256x1024) ![1, 0, 0] S1x256x1024.size inb_S4x256x1024_S1x256x1024_1_0_0).toLoadRect (RSB m c)
def o1_w1156 (m : Mem (F := F)) (c : Dev nD) : Vec F S1x256x1024 .bf16 := rbM.view.readAt (Elt F) (Rect.unit (s := S4x256x1024) ![2, 0, 0] S1x256x1024.size inb_S4x256x1024_S1x256x1024_2_0_0).toLoadRect (RSB m c)
def o1_w1160 (m : Mem (F := F)) (c : Dev nD) : Vec F S1x256x1024 .bf16 := rbM.view.readAt (Elt F) (Rect.unit (s := S4x256x1024) ![3, 0, 0] S1x256x1024.size inb_S4x256x1024_S1x256x1024_3_0_0).toLoadRect (RSB m c)
def o2_w1149 (m : Mem (F := F)) (c : Dev nD) : Vec F S1x256x1024 .bf16 := rbM.view.readAt (Elt F) (Rect.unit (s := S4x256x1024) ![0, 0, 0] S1x256x1024.size inb_S4x256x1024_S1x256x1024_0_0_0).toLoadRect (RSB m c)
def o2_w1151 (m : Mem (F := F)) (c : Dev nD) : FVec F S256x1024 .f32 := (k0_pay7 (o2_w1149 m c))
def o2_w1152 (m : Mem (F := F)) (c : Dev nD) : Vec F S1x256x1024 .bf16 := rbM.view.readAt (Elt F) (Rect.unit (s := S4x256x1024) ![1, 0, 0] S1x256x1024.size inb_S4x256x1024_S1x256x1024_1_0_0).toLoadRect (RSB m c)
def o2_w1156 (m : Mem (F := F)) (c : Dev nD) : Vec F S1x256x1024 .bf16 := rbM.view.readAt (Elt F) (Rect.unit (s := S4x256x1024) ![2, 0, 0] S1x256x1024.size inb_S4x256x1024_S1x256x1024_2_0_0).toLoadRect (RSB m c)
def o2_w1160 (m : Mem (F := F)) (c : Dev nD) : Vec F S1x256x1024 .bf16 := rbM.view.readAt (Elt F) (Rect.unit (s := S4x256x1024) ![3, 0, 0] S1x256x1024.size inb_S4x256x1024_S1x256x1024_3_0_0).toLoadRect (RSB m c)
def o3_w1149 (m : Mem (F := F)) (c : Dev nD) : Vec F S1x256x1024 .bf16 := rbM.view.readAt (Elt F) (Rect.unit (s := S4x256x1024) ![0, 0, 0] S1x256x1024.size inb_S4x256x1024_S1x256x1024_0_0_0).toLoadRect (RSB m c)
def o3_w1151 (m : Mem (F := F)) (c : Dev nD) : FVec F S256x1024 .f32 := (k0_pay10 (o3_w1149 m c))
def o3_w1152 (m : Mem (F := F)) (c : Dev nD) : Vec F S1x256x1024 .bf16 := rbM.view.readAt (Elt F) (Rect.unit (s := S4x256x1024) ![1, 0, 0] S1x256x1024.size inb_S4x256x1024_S1x256x1024_1_0_0).toLoadRect (RSB m c)
def o3_w1156 (m : Mem (F := F)) (c : Dev nD) : Vec F S1x256x1024 .bf16 := rbM.view.readAt (Elt F) (Rect.unit (s := S4x256x1024) ![2, 0, 0] S1x256x1024.size inb_S4x256x1024_S1x256x1024_2_0_0).toLoadRect (RSB m c)
def o3_w1160 (m : Mem (F := F)) (c : Dev nD) : Vec F S1x256x1024 .bf16 := rbM.view.readAt (Elt F) (Rect.unit (s := S4x256x1024) ![3, 0, 0] S1x256x1024.size inb_S4x256x1024_S1x256x1024_3_0_0).toLoadRect (RSB m c)

/-- The summed block of the device that owns block `b`, before rounding. -/
def ACC (b : ℕ) : S256x1024.Idx → Elt F .f32 := match b with
  | 0 => (k0_pay2 (o0_w1151 m c) (o0_w1152 m c) (o0_w1156 m c) (o0_w1160 m c))
  | 1 => (k0_pay5 (o1_w1151 m c) (o1_w1152 m c) (o1_w1156 m c) (o1_w1160 m c))
  | 2 => (k0_pay8 (o2_w1151 m c) (o2_w1152 m c) (o2_w1156 m c) (o2_w1160 m c))
  | _ => (k0_pay11 (o3_w1151 m c) (o3_w1152 m c) (o3_w1156 m c) (o3_w1160 m c))

/-- The summed block of the device that owns block `b`, rounded. -/
def AOb (b : ℕ) : S256x1024.Idx → Elt F .bf16 := match b with
  | 0 => (k0_pay3 (o0_w1151 m c) (o0_w1152 m c) (o0_w1156 m c) (o0_w1160 m c))
  | 1 => (k0_pay6 (o1_w1151 m c) (o1_w1152 m c) (o1_w1156 m c) (o1_w1160 m c))
  | 2 => (k0_pay9 (o2_w1151 m c) (o2_w1152 m c) (o2_w1156 m c) (o2_w1160 m c))
  | _ => (k0_pay12 (o3_w1151 m c) (o3_w1152 m c) (o3_w1156 m c) (o3_w1160 m c))

/-- The reduced block that device `c` sends to the others. -/
def AO : S256x1024.Idx → Elt F .bf16 := AOb m c c.val
/-- The three reduced blocks that device `c` receives: slot `s` from device `c + s + 1`. -/
def AGB : S3x256x1024.Idx → Elt F .bf16 := fun i => AO m (dv (c.val + (i 0).val + 1)) (nx2 256 1024 (i 1).val (i 2).val)

def w1011 : Vec F S1x256x1024 .bf16 := gbM.view.readAt (Elt F) (Rect.unit (s := S3x256x1024) ![0, 0, 0] S1x256x1024.size inb_S3x256x1024_S1x256x1024_0_0_0).toLoadRect (AGB m c)
def w1035 : Vec F S1x256x1024 .bf16 := gbM.view.readAt (Elt F) (Rect.unit (s := S3x256x1024) ![1, 0, 0] S1x256x1024.size inb_S3x256x1024_S1x256x1024_1_0_0).toLoadRect (AGB m c)
def w1059 : Vec F S1x256x1024 .bf16 := gbM.view.readAt (Elt F) (Rect.unit (s := S3x256x1024) ![2, 0, 0] S1x256x1024.size inb_S3x256x1024_S1x256x1024_2_0_0).toLoadRect (AGB m c)

/-- What the device stores of the block received in slot `s`. -/
def GV (s : ℕ) : S256x1024.Idx → Elt F .f32 := match s with
  | 0 => (k0_pay87 (w1011 m c))
  | 1 => (k0_pay88 (w1035 m c))
  | _ => (k0_pay89 (w1059 m c))

/-- The kernel's result on device `c`: its own summed block, and the other three as received. -/
def OUT : S1024x1024.Idx → Elt F .f32 := fun i =>
  if (i 0).val / 256 = c.val then ACC m c c.val (nx2 256 1024 ((i 0).val % 256) (i 1).val)
  else GV m c (((i 0).val / 256 + 3 - c.val) % 4) (nx2 256 1024 ((i 0).val % 256) (i 1).val)

end Cert.KernelIdeal.Run
-- ==== Proof.Proto.lean ====
/- The protocol of the kernel between the four devices: which semaphore cells there are, what each hands over when
   it is waited for, how much it counts, and the order in which each device touches them. The order is a list of
   events; `Run c l` is what device `c` holds of the protocol while the events `l` are still to come. -/
module

public import proofs.«01_k».proof.Proof.Vals

@[expose] public section

set_option maxRecDepth 16384

noncomputable section

namespace Cert.KernelIdeal.Run

open Cert.KernelIdeal Cert.KernelIdeal.Gen
open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The bookkeeping of the rounds on every semaphore. -/
abbrev UB : Type := URounds (GSem nD τ sig) (Fin 4)
/-- Next to that of the staging of the arguments and the result. -/
abbrev UU : Type := UR sig nD τ × UB

local notation "𝕄" => MT nD τ sig Unit (Elt F) ℕ UU ℕ

/-- Where the staging's bookkeeping lies in the whole. -/
abbrev EP : Emb (UR sig nD τ) (MT nD τ sig Unit (Elt F) ℕ UU ℕ) := embL
/-- Where the rounds' bookkeeping lies in the whole. -/
abbrev ER : Emb UB (MT nD τ sig Unit (Elt F) ℕ UU ℕ) := embR
/-- No loop of the kernel needs a variant. -/
abbrev 𝒱₀ : Variants := Variants.none

/-! ## The cells -/

/-- The semaphores of one device: staging copies, broadcast sends and landings from device 0 and from device 1, local
    copies, reduce-scatter sends and landings, all-gather sends and landings. -/
inductive CK where
  | stg (kv : Fin 2) | snd0 (t : Fin 4) (kv : Fin 2) (j : Fin 3) | rcv0 (t : Fin 4) (kv : Fin 2)
  | snd1 (j : Fin 3) (kv : Fin 2) | rcv1 (kv : Fin 2) | loc (kv : Fin 2)
  | rss (b : Fin 4) | rsr (s : Fin 4) | ags (k : Fin 3) | agr (s : Fin 3)
  deriving DecidableEq, Fintype

/-- The number of a cell's semaphore. -/
def semNum : CK → ℕ
  | .stg kv => 4 + kv.val
  | .snd0 t kv j => 6 + 6 * t.val + 3 * kv.val + j.val
  | .rcv0 t kv => 30 + 2 * t.val + kv.val
  | .snd1 j kv => 38 + 2 * j.val + kv.val
  | .rcv1 kv => 44 + kv.val
  | .loc kv => 46 + kv.val
  | .rss b => 48 + b.val
  | .rsr s => 52 + s.val
  | .ags k => 56 + k.val
  | .agr s => 59 + s.val

/-- Every cell's number is one of the 62 semaphores. -/
theorem semNum_lt (k : CK) : semNum k < 62 := by
  cases k <;> simp only [semNum] <;> omega

/-- The semaphore of a cell. -/
def semOf (k : CK) : DmaSem sig := (⟨semNum k, semNum_lt k⟩ : Fin 62)

/-- The cell of a semaphore number, if it is one of the kernel's own. -/
def ofNum (n : ℕ) : Option CK :=
  if n < 4 then none
  else if n < 6 then some (.stg (Fin.ofNat 2 (n - 4)))
  else if n < 30 then some (.snd0 (Fin.ofNat 4 ((n - 6) / 6)) (Fin.ofNat 2 ((n - 6) % 6 / 3)) (Fin.ofNat 3 ((n - 6) % 3)))
  else if n < 38 then some (.rcv0 (Fin.ofNat 4 ((n - 30) / 2)) (Fin.ofNat 2 (n - 30)))
  else if n < 44 then some (.snd1 (Fin.ofNat 3 ((n - 38) / 2)) (Fin.ofNat 2 (n - 38)))
  else if n < 46 then some (.rcv1 (Fin.ofNat 2 (n - 44)))
  else if n < 48 then some (.loc (Fin.ofNat 2 (n - 46)))
  else if n < 52 then some (.rss (Fin.ofNat 4 (n - 48)))
  else if n < 56 then some (.rsr (Fin.ofNat 4 (n - 52)))
  else if n < 59 then some (.ags (Fin.ofNat 3 (n - 56)))
  else some (.agr (Fin.ofNat 3 (n - 59)))

/-- A cell is found again from its number. -/
theorem ofNum_semNum : ∀ k : CK, ofNum (semNum k) = some k := by decide

/-- The cell of a semaphore, if it is one of the kernel's own. -/
def ofSem (s : DmaSem sig) : Option CK := ofNum (s : Fin 62).val

/-- A cell is found again from its semaphore. -/
theorem ofSem_semOf (k : CK) : ofSem (semOf k) = some k := ofNum_semNum k

/-- The runtime's barrier semaphore. -/
abbrev barS : Sem sig := (SemArray.scalar (sig.barrier 0 rfl) : Sems sig S_).sem

/-- The barrier of device `c`. -/
abbrev bcell (c : Dev nD) : GSem nD τ sig := ((c : Thread nD τ), .reg barS)
/-- The cell `k` of device `c`. -/
abbrev cell (c : Dev nD) (k : CK) : GSem nD τ sig := ((c : Thread nD τ), .dma (semOf k))

/-- The cells that device `c` uses. -/
def used (c : Dev nD) : CK → Bool
  | .stg _ => c.val = 0 ∨ c.val = 1
  | .snd0 _ _ _ => c.val = 0
  | .rcv0 _ _ => c.val ≠ 0
  | .snd1 _ _ => c.val = 1
  | .rcv1 _ => c.val ≠ 1
  | .loc _ => c.val = 0 ∨ c.val = 1
  | .rss b => b.val ≠ c.val
  | .rsr s => s.val ≠ c.val
  | .ags _ => true
  | .agr _ => true

/-- How much the transfer of a cell counts: the size of the block it moves. -/
def amt (c : Dev nD) : CK → ℕ
  | .stg _ => if c.val = 0 then RefSig.tileCredit S1024x4096 .i8 else RefSig.tileCredit S128x4096 .i8
  | .snd0 _ _ _ => RefSig.tileCredit S256x1024 .i8
  | .rcv0 _ _ => RefSig.tileCredit S256x1024 .i8
  | .snd1 _ _ => RefSig.tileCredit S128x1024 .i8
  | .rcv1 _ => RefSig.tileCredit S128x1024 .i8
  | .loc _ => if c.val = 0 then RefSig.tileCredit S1024x1024 .i8 else RefSig.tileCredit S128x1024 .i8
  | .rss _ => RefSig.tileCredit S256x1024 .bf16
  | .rsr _ => RefSig.tileCredit S256x1024 .bf16
  | .ags _ => RefSig.tileCredit S256x1024 .bf16
  | .agr _ => RefSig.tileCredit S256x1024 .bf16

/-- Every transfer counts something. -/
theorem amt_pos (c : Dev nD) (k : CK) : 0 < amt c k := by
  cases k <;> simp only [amt] <;> (repeat' split) <;> exact RefSig.tileCredit_pos _ _ (by decide)

/-- The order of the waits: a device only waits for a cell below everything it still owes. -/
def lvK : CK → ℕ
  | .rcv0 _ _ => 2
  | .rcv1 _ => 2
  | .rsr _ => 3
  | .agr _ => 4
  | _ => 0

/-! ## What is handed over -/

/-- The indices of a box: every coordinate from its offset on, as many as its size. -/
@[irreducible] def bx {s : Shape} (off size : Fin s.rank → ℕ) : Finset s.Idx :=
  Finset.univ.filter fun i => ∀ a, off a ≤ (i a).val ∧ (i a).val < off a + size a

/-- What it is to lie in a box. -/
theorem mem_bx {s : Shape} {off size : Fin s.rank → ℕ} {i : s.Idx} :
    i ∈ bx off size ↔ ∀ a, off a ≤ (i a).val ∧ (i a).val < off a + size a := by
  unfold bx; rw [Finset.mem_filter]; exact ⟨fun h => h.2, fun h => ⟨Finset.mem_univ _, h⟩⟩

/-- The same, of two axes. -/
theorem mem_bx2 {a b o0 o1 z0 z1 : ℕ} {i : (⟨2, ![a, b]⟩ : Shape).Idx} :
    i ∈ bx (s := ⟨2, ![a, b]⟩) ![o0, o1] ![z0, z1] ↔ (o0 ≤ (i 0).val ∧ (i 0).val < o0 + z0) ∧ (o1 ≤ (i 1).val ∧ (i 1).val < o1 + z1) := by
  rw [mem_bx]; exact Fin.forall_fin_two

/-- The same, of three axes. -/
theorem mem_bx3 {n a b o0 o1 o2 z0 z1 z2 : ℕ} {i : (⟨3, ![n, a, b]⟩ : Shape).Idx} :
    i ∈ bx (s := ⟨3, ![n, a, b]⟩) ![o0, o1, o2] ![z0, z1, z2]
      ↔ (o0 ≤ (i 0).val ∧ (i 0).val < o0 + z0) ∧ (o1 ≤ (i 1).val ∧ (i 1).val < o1 + z1) ∧ (o2 ≤ (i 2).val ∧ (i 2).val < o2 + z2) := by
  rw [mem_bx]
  exact ⟨fun h => ⟨h 0, h 1, h 2⟩, fun h a => by fin_cases a; exacts [h.1, h.2.1, h.2.2]⟩

/-- Some contents on the elements `S` of buffer `b` of device `c`. -/
def own (b : Ref sig .tc) (c : Dev nD) (S : Finset (Idx ((c : Thread nD τ).loc b))) : sProp 𝕄 :=
  iprop(∃ f, (c : Thread nD τ).loc b ↦[S]{fullShare} f)

variable (m : Mem (F := F))

/-- Rows and columns `[o0, o0 + z0) × [o1, o1 + z1)` of a key or value buffer. -/
abbrev kbx (o0 o1 z0 z1 : ℕ) : Finset S1152x1024.Idx := bx (s := S1152x1024) ![o0, o1] ![z0, z1]
/-- The same of a staging buffer. -/
abbrev kvx (o0 o1 z0 z1 : ℕ) : Finset S1024x4096.Idx := bx (s := S1024x4096) ![o0, o1] ![z0, z1]
/-- The same of a square buffer. -/
abbrev sqx (o0 o1 z0 z1 : ℕ) : Finset S1024x1024.Idx := bx (s := S1024x1024) ![o0, o1] ![z0, z1]
/-- Slot `s` of the received partial blocks. -/
abbrev rbx (s : ℕ) : Finset S4x256x1024.Idx := bx (s := S4x256x1024) ![s, 0, 0] ![1, 256, 1024]
/-- Slot `s` of the gathered summed blocks. -/
abbrev gbx (s : ℕ) : Finset S3x256x1024.Idx := bx (s := S3x256x1024) ![s, 0, 0] ![1, 256, 1024]

/-- The elements `S` of the staged keys (`kv = 0`) or values of device `c`. -/
def kvPt (kv : Fin 2) (c : Dev nD) (S : Finset S1024x4096.Idx) : sProp 𝕄 :=
  if kv = 0 then iprop((c : Thread nD τ).loc cc0_scratch2 ↦[S]{fullShare} KM m c)
  else iprop((c : Thread nD τ).loc cc0_scratch3 ↦[S]{fullShare} VM m c)
/-- The elements `S` of its argument's keys or values. -/
def hbPt (kv : Fin 2) (c : Dev nD) (S : Finset S1024x4096.Idx) : sProp 𝕄 :=
  if kv = 0 then iprop((c : Thread nD τ).loc main_arg2 ↦[S]{fullShare} KM m c)
  else iprop((c : Thread nD τ).loc main_arg3 ↦[S]{fullShare} VM m c)
/-- The elements `S` of its gathered keys or values. -/
def bfPt (kv : Fin 2) (c : Dev nD) (S : Finset S1152x1024.Idx) : sProp 𝕄 :=
  if kv = 0 then iprop((c : Thread nD τ).loc cc0_scratch0 ↦[S]{fullShare} KB m c)
  else iprop((c : Thread nD τ).loc cc0_scratch1 ↦[S]{fullShare} VB m c)

/-- The device that device 1's `j`-th broadcast goes to. -/
def dst1 (j : Fin 3) : ℕ := if j.val = 0 then 0 else j.val + 1

/-- What the wait for a cell of device `c` hands over. -/
def pay (c : Dev nD) : CK → sProp 𝕄
  | .stg kv => if c.val = 0 then iprop(kvPt m kv c (kvx 0 0 1024 4096) ∗ hbPt m kv c (kvx 0 0 1024 4096))
      else iprop(kvPt m kv c (kvx 0 0 128 4096) ∗ hbPt m kv c (kvx 0 0 128 4096))
  | .snd0 t kv j => kvPt m kv c (kvx (256 * t.val) (1024 * (j.val + 1)) 256 1024)
  | .rcv0 t kv => bfPt m kv c (kbx (256 * t.val) 0 256 1024)
  | .snd1 j kv => kvPt m kv c (kvx 0 (1024 * dst1 j) 128 1024)
  | .rcv1 kv => bfPt m kv c (kbx 1024 0 128 1024)
  | .loc kv => if c.val = 0 then iprop(bfPt m kv c (kbx 0 0 1024 1024) ∗ kvPt m kv c (kvx 0 0 1024 1024))
      else iprop(bfPt m kv c (kbx 1024 0 128 1024) ∗ kvPt m kv c (kvx 0 1024 128 1024))
  | .rss b => iprop((c : Thread nD τ).loc cc0_scratch5 ↦[sqx (256 * b.val) 0 256 1024]{fullShare} PB m c)
  | .rsr s => iprop((c : Thread nD τ).loc cc0_scratch6 ↦[rbx s.val]{fullShare} RSB m c)
  | .ags k => iprop((c : Thread nD τ).loc cc0_scratch7 ↦[Finset.univ]{Ring.shares3 fullShare k} AO m c)
  | .agr s => iprop((c : Thread nD τ).loc cc0_scratch8 ↦[gbx s.val]{fullShare} AGB m c)

/-- What the signal of the device `d` places before `c` hands device `c`: the room on that device that `c` will write. -/
def barPay (c : Dev nD) (d : Fin 4) : sProp 𝕄 :=
  iprop((if c.val = 0 then iprop(own cc0_scratch0 (dv (c.val + 4 - d.val)) (kbx 0 0 1024 1024) ∗ own cc0_scratch1 (dv (c.val + 4 - d.val)) (kbx 0 0 1024 1024))
      else if c.val = 1 then iprop(own cc0_scratch0 (dv (c.val + 4 - d.val)) (kbx 1024 0 128 1024) ∗ own cc0_scratch1 (dv (c.val + 4 - d.val)) (kbx 1024 0 128 1024))
      else iprop(emp))
    ∗ own cc0_scratch6 (dv (c.val + 4 - d.val)) (rbx c.val) ∗ own cc0_scratch8 (dv (c.val + 4 - d.val)) (gbx (d.val - 1)))

/-- Room can be handed over at a semaphore. -/
instance own_storable (b : Ref sig .tc) (c : Dev nD) (S) : BI.Storable (upEmb : UEmb _ 𝕄) (own (F := F) b c S) := by unfold own; infer_instance
/-- So can staged codes. -/
instance kvPt_storable (kv : Fin 2) (c : Dev nD) (S) : BI.Storable (upEmb : UEmb _ 𝕄) (kvPt m kv c S) := by unfold kvPt; split <;> infer_instance
/-- So can the argument's codes. -/
instance hbPt_storable (kv : Fin 2) (c : Dev nD) (S) : BI.Storable (upEmb : UEmb _ 𝕄) (hbPt m kv c S) := by unfold hbPt; split <;> infer_instance
/-- So can gathered codes. -/
instance bfPt_storable (kv : Fin 2) (c : Dev nD) (S) : BI.Storable (upEmb : UEmb _ 𝕄) (bfPt m kv c S) := by unfold bfPt; split <;> infer_instance
/-- So can all that a transfer hands over. -/
instance pay_storable (c : Dev nD) (k : CK) : BI.Storable (upEmb : UEmb _ 𝕄) (pay m c k) := by
  cases k <;> simp only [pay] <;> (repeat' split) <;> infer_instance
/-- So can all that a barrier signal lends. -/
instance barPay_storable (c : Dev nD) (d : Fin 4) : BI.Storable (upEmb : UEmb _ 𝕄) (barPay (F := F) c d) := by
  unfold barPay; (repeat' split) <;> infer_instance

/-! ## The schedule -/

/-- The duties of a semaphore of device `c`: three signals on the barrier, one transfer on each used cell. -/
def dutS (c : Dev nD) : SemLoc sig → Finset (Fin 4)
  | .reg s => if s = barS then {1, 2, 3} else ∅
  | .dma s => match ofSem s with
    | some k => if used c k then {0} else ∅
    | none => ∅
/-- How much one contribution to a semaphore of device `c` counts. -/
def amtS (c : Dev nD) : SemLoc sig → ℕ
  | .reg _ => 1
  | .dma s => match ofSem s with
    | some k => amt c k
    | none => 1
/-- What a contribution to a semaphore of device `c` hands over. -/
def payS (c : Dev nD) : SemLoc sig → Fin 4 → sProp 𝕄
  | .reg _, d => barPay c d
  | .dma s, _ => match ofSem s with
    | some k => pay m c k
    | none => iprop(emp)

/-- Every contribution to a semaphore counts something. -/
theorem amtS_pos (c : Dev nD) (s : SemLoc sig) : 0 < amtS c s := by
  cases s with
  | reg s => exact Nat.one_pos
  | dma s => simp only [amtS]; split; exacts [amt_pos _ _, Nat.one_pos]

/-- One round, round 0, on every cell. -/
def rd : Rounds.Schedule (GSem nD τ sig) (Fin 4) 𝕄 where
  duties g r := if r = 0 ∧ g.1.2 = .tc then dutS g.1.1 g.2 else ∅
  unitless _ := False
  amount g _ _ := amtS g.1.1 g.2
  payload g _ d := payS m g.1.1 g.2 d
  amount_pos g _ _ _ := amtS_pos g.1.1 g.2

/-- All of it can be handed over. -/
instance payS_storable (c : Dev nD) (s : SemLoc sig) (d : Fin 4) : BI.Storable (upEmb : UEmb _ 𝕄) (payS m c s d) := by
  cases s with
  | reg s => exact barPay_storable c d
  | dma s => simp only [payS]; split <;> infer_instance
/-- So can all that the schedule names. -/
instance rd_payload_storable (g : GSem nD τ sig) (r : ℕ) (d : Fin 4) :
    BI.Storable (upEmb : UEmb _ 𝕄) ((rd m).payload g r d) := payS_storable m g.1.1 g.2 d

/-- A barrier cell has three contributions. -/
theorem duties_bar (c : Dev nD) : (rd m).duties (bcell c) 0 = {1, 2, 3} := by
  show (if (0 : ℕ) = 0 ∧ (c : Thread nD τ).2 = .tc then dutS c (.reg barS) else ∅) = _
  rw [if_pos ⟨rfl, rfl⟩]; simp only [dutS, if_true]
/-- A cell has one contribution, if it is used. -/
theorem duties_cell (c : Dev nD) (k : CK) : (rd m).duties (cell c k) 0 = if used c k then {0} else ∅ := by
  show (if (0 : ℕ) = 0 ∧ (c : Thread nD τ).2 = .tc then dutS c (.dma (semOf k)) else ∅) = _
  rw [if_pos ⟨rfl, rfl⟩]; simp only [dutS, ofSem_semOf]
/-- A used cell has one contribution. -/
theorem duties_used {c : Dev nD} {k : CK} (h : used c k = true) : (rd m).duties (cell c k) 0 = {0} := by
  rw [duties_cell, if_pos h]
/-- There is only the one round. -/
theorem duties_later (g : GSem nD τ sig) : ∀ r, 0 + 1 ≤ r → (rd m).duties g r = ∅ :=
  fun r hr => if_neg fun h => by omega
/-- An unused cell has none. -/
theorem duties_unused {c : Dev nD} {k : CK} (h : used c k = false) : ∀ r, 0 ≤ r → (rd m).duties (cell c k) r = ∅ := fun r _ => by
  rcases Nat.eq_zero_or_pos r with rfl | hr
  · rw [duties_cell, h]; rfl
  · exact duties_later m _ r hr
/-- A signal at a barrier counts one. -/
theorem amount_bar (c : Dev nD) (d : Fin 4) : (rd m).amount (bcell c) 0 d = 1 := rfl
/-- A transfer counts its size. -/
theorem amount_cell (c : Dev nD) (k : CK) (d : Fin 4) : (rd m).amount (cell c k) 0 d = amt c k := by
  show amtS c (.dma (semOf k)) = _; simp only [amtS, ofSem_semOf]
/-- What a signal at a barrier hands over. -/
theorem payload_bar (c : Dev nD) (d : Fin 4) : (rd m).payload (bcell c) 0 d = barPay c d := rfl
/-- What a transfer hands over. -/
theorem payload_cell (c : Dev nD) (k : CK) (d : Fin 4) : (rd m).payload (cell c k) 0 d = pay m c k := by
  show payS m c (.dma (semOf k)) d = _; simp only [payS, ofSem_semOf]
/-- A wait at a barrier expects three. -/
theorem expect_bar (c : Dev nD) : (rd m).expect (bcell c) 0 = 3 := by
  unfold Schedule.expect Schedule.amountOf
  rw [duties_bar, Finset.sum_congr rfl fun d _ => amount_bar m c d]; rfl
/-- A wait for a transfer expects its size. -/
theorem expect_used {c : Dev nD} {k : CK} (h : used c k = true) : (rd m).expect (cell c k) 0 = amt c k := by
  unfold Schedule.expect Schedule.amountOf
  rw [duties_used m h, Finset.sum_singleton, amount_cell]
/-- What a wait at a barrier hands over in all. -/
theorem rest_bar (c : Dev nD) : bigSep ((rd m).duties (bcell c) 0 \ ∅) (fun d => (rd m).payload (bcell c) 0 d)
    = iprop(barPay c 1 ∗ barPay c 2 ∗ barPay c 3) := by
  rw [Finset.sdiff_empty, duties_bar, bigSep_eq_bigSepL_of_eq [1, 2, 3] (by decide) (by decide), bigSepL_cons_cons, bigSepL_cons_cons, bigSepL_singleton]
  rfl
/-- What a wait for a transfer hands over in all. -/
theorem rest_used {c : Dev nD} {k : CK} (h : used c k = true) :
    bigSep ((rd m).duties (cell c k) 0 \ ∅) (fun d => (rd m).payload (cell c k) 0 d) = pay m c k := by
  rw [Finset.sdiff_empty, duties_used m h, bigSep_singleton, payload_cell]

/-! ## Levels -/

/-- The levels that a semaphore has: one, on the devices' main threads. -/
def L (g : GSem nD τ sig) : Finset Unit := if g.1.2 = .tc then {()} else ∅
/-- The level of a semaphore: the barrier's is 1, the cells' are in the order of the waits. -/
def lv (g : GSem nD τ sig) (_ : Unit) : ℕ := match g.2 with
  | .reg s => if s = barS then 1 else 0
  | .dma s => match ofSem s with
    | some k => lvK k
    | none => 0
/-- Only the devices' main threads have levels. -/
theorem L_of_ne (g : GSem nD τ sig) (h : g.1.2 ≠ .tc) : L g = ∅ := if_neg h
/-- Every semaphore of a main thread has one. -/
theorem L_tc (c : Dev nD) (sm : SemLoc sig) : L ((c : Thread nD τ), sm) = {()} := if_pos rfl
/-- Barriers are at level 1. -/
theorem lv_bar (c : Dev nD) : lv (bcell c) () = 1 := rfl
/-- The level of a cell. -/
theorem lv_cell (c : Dev nD) (k : CK) : lv (cell c k) () = lvK k := by simp only [lv, ofSem_semOf]

/-! ## The events -/

/-- One step of the protocol: signal the barrier of the device `d` places on; wait at the own barrier; start a copy on
    the device that lands on cell `k`; send to device `n`, landing on its cell `kR`, leaving on the own cell `kS`; wait
    for cell `k`. -/
inductive Ev where
  | bar (d : Fin 4) | wbar | copy (k : CK) | send (n : Fin 4) (kR kS : CK) | wait (k : CK)
  deriving DecidableEq

/-- The cells a device still waits for. -/
def wts : List Ev → List CK
  | [] => []
  | .wait k :: l => k :: wts l
  | _ :: l => wts l
/-- The own cells that transfers are still to be started on. -/
def iss : List Ev → List CK
  | [] => []
  | .copy k :: l => k :: iss l
  | .send _ _ k :: l => k :: iss l
  | _ :: l => iss l
/-- Whether the wait at the barrier is still to come. -/
def hasBar : List Ev → Bool
  | [] => false
  | .wbar :: _ => true
  | _ :: l => hasBar l
/-- What device `c` still owes others. -/
def tal (c : Dev nD) : List Ev → CellTallies nD τ sig Unit
  | [] => 0
  | .bar d :: l => tal c l + tallyAt (bcell (dv (c.val + d.val))) () 1
  | .send n kR _ :: l => tal c l + tallyAt (cell n kR) () (amt n kR)
  | _ :: l => tal c l
/-- The levels of what is still owed all lie above `n`. -/
def above (n : ℕ) : List Ev → Bool
  | [] => true
  | .bar _ :: l => decide (n < 1) && above n l
  | .send _ kR _ :: l => decide (n < lvK kR) && above n l
  | _ :: l => above n l
/-- That a list of events can be run: each own cell is started once and waited for once, in this order, and each wait
    lies below what is still owed. -/
def good (c : Dev nD) : List Ev → Bool
  | [] => true
  | .bar d :: l => good c l && decide (d ∈ ({1, 2, 3} : Finset (Fin 4)))
  | .wbar :: l => good c l && !hasBar l && above 1 l
  | .copy k :: l => good c l && used c k && decide (k ∈ wts l) && decide (k ∉ iss l)
  | .send n kR kS :: l => good c l && used c kS && used n kR && decide (kS ∈ wts l) && decide (kS ∉ iss l)
  | .wait k :: l => good c l && used c k && decide (k ∉ wts l) && decide (k ∉ iss l) && above (lvK k) l

/-- The right to make one step's contributions. -/
def tok (c : Dev nD) : Ev → sProp 𝕄
  | .bar d => dutyTok ER (bcell (dv (c.val + d.val))) 0 d
  | .copy k => dutyTok ER (cell c k) 0 0
  | .send n kR kS => iprop(dutyTok ER (cell c kS) 0 0 ∗ dutyTok ER (cell n kR) 0 0)
  | _ => iprop(emp)
/-- The rights of all the steps of a list. -/
def toks (c : Dev nD) : List Ev → sProp 𝕄
  | [] => iprop(emp)
  | e :: l => iprop(tok c e ∗ toks c l)

/-- Device `c`'s side of its cell `k`: its position until the wait, with the credit once the transfer is started (or, for a
    landing from another device, from the beginning); afterwards the counter, at zero. -/
def cellSt (c : Dev nD) (l : List Ev) (k : CK) : sProp 𝕄 :=
  if k ∈ wts l then iprop(atPos ER (cell c k) 0 ∅ 0 ∗ (if k ∈ iss l then iprop(emp) else cred (tallyAt (cell c k) () (amt c k))))
  else semVal (cell c k) 0
/-- Device `c`'s side of its barrier: its position and the credit of three signals until the wait, the counter at zero afterwards. -/
def barSt (c : Dev nD) (l : List Ev) : sProp 𝕄 :=
  if hasBar l then iprop(atPos ER (bcell c) 0 ∅ 0 ∗ cred (tallyAt (bcell c) () 3)) else semVal (bcell c) 0

/-- What device `c` holds of the protocol while the events `l` are to come. -/
def Run (c : Dev nD) (l : List Ev) : sProp 𝕄 :=
  iprop(⌜good c l = true⌝ ∗ (∃ W, owes (c : Thread nD τ) (tal c l) W) ∗ toks c l ∗ barSt c l ∗ bigSep Finset.univ (fun k : CK => cellSt c l k))

/-- The barrier of a device, or one of its cells. -/
abbrev kcell (ck : Dev nD × Option CK) : GSem nD τ sig := match ck.2 with
  | none => bcell ck.1
  | some k => cell ck.1 k

/-- The invariants of all cells, that round 0 is reached everywhere, and the levels: shared knowledge. -/
def Rec (K : Dev nD × Option CK → ℕ) : sProp 𝕄 :=
  iprop((bigSep Finset.univ fun ck => iprop(cellInv ER (rd m) (K ck) (kcell ck) ∗ reached ER (kcell ck) 0)) ∗ levAts L lv)

/-- This knowledge can be used any number of times. -/
instance Rec_persistent (K : Dev nD × Option CK → ℕ) : BI.Persistent (Rec m K) := by unfold Rec; infer_instance

variable (K : Dev nD × Option CK → ℕ)

/-- The shared knowledge about one cell. -/
theorem Rec_at (ck : Dev nD × Option CK) : Rec m K ⊢ iprop(cellInv ER (rd m) (K ck) (kcell ck) ∗ reached ER (kcell ck) 0) :=
  sep_elim_left.trans (BI.bigSep_elim (Finset.mem_univ ck))
/-- The shared knowledge about the levels. -/
theorem Rec_lev : Rec m K ⊢ levAts L lv := sep_elim_right

end Cert.KernelIdeal.Run
-- ==== Proof.Steps.lean ====
/- The rules that take device `c` through one event of the protocol. -/
module

public import proofs.«01_k».proof.Proof.Proto

@[expose] public section

set_option maxRecDepth 16384

noncomputable section

namespace Cert.KernelIdeal.Run

open Cert.KernelIdeal Cert.KernelIdeal.Gen
open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : Mem (F := F)) (K : Dev nD × Option CK → ℕ) (c : Dev nD)

/-- Device `c` runs `p` and then `Q` holds of its result. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Whatever is owed, it is owed to a cell of a core at a level above the stated one. -/
theorem tal_pos {l : List Ev} {n : ℕ} (ha : above n l = true) : ∀ {g : GSem nD τ sig} {u : Unit}, 0 < tal c l g u → g.1.2 = .tc ∧ n < lv g u := by
  induction l with
  | nil => intro g u h; exact absurd h (Nat.lt_irrefl 0)
  | cons e l ih =>
    intro g u h
    cases e with
    | bar d =>
      simp only [above, Bool.and_eq_true, decide_eq_true_eq] at ha
      simp only [tal, Pi.add_apply, Finsupp.add_apply, tallyAt_apply] at h
      by_cases hg : g = bcell (dv (c.val + d.val))
      · rw [hg]; exact ⟨rfl, ha.1⟩
      · rw [if_neg (fun h' => hg h'.1)] at h; exact ih ha.2 h
    | send n' kR kS =>
      simp only [above, Bool.and_eq_true, decide_eq_true_eq] at ha
      simp only [tal, Pi.add_apply, Finsupp.add_apply, tallyAt_apply] at h
      by_cases hg : g = cell n' kR
      · rw [hg]; exact ⟨rfl, by rw [lv_cell]; exact ha.1⟩
      · rw [if_neg (fun h' => hg h'.1)] at h; exact ih ha.2 h
    | wbar => exact ih ha h
    | copy k => exact ih ha h
    | wait k => exact ih ha h

/-- A wait is allowed below everything that is still owed. -/
theorem mayWait {l : List Ev} {n : ℕ} (ha : above n l = true) (sm : SemLoc sig) (hn : lv ((c : Thread nD τ), sm) () ≤ n) :
    (levAts L lv : sProp 𝕄) ⊢ MayWait (c : Thread nD τ) sm () (tal c l) :=
  MayOwe.of_cut (L := L) (lev := lv) n
    (fun p hp => by rw [Finset.mem_singleton.mp hp, L_tc]; exact Finset.mem_singleton_self _)
    (fun g u hg => by
      have h := (tal_pos c ha hg).1
      rw [L, if_pos h]; exact Finset.mem_singleton_self _)
    (fun p hp => by rw [Finset.mem_singleton.mp hp]; exact hn)
    (fun g u hg => (tal_pos c ha hg).2)

/-- The cells other than the one a step is about are as before. -/
theorem cells_eq {e : Ev} {l : List Ev} (k : CK) (h : ∀ k', k' ≠ k → cellSt (F := F) c (e :: l) k' = cellSt c l k') :
    bigSep Finset.univ (fun k' : CK => cellSt (F := F) c (e :: l) k')
      = iprop(cellSt c (e :: l) k ∗ bigSep (Finset.univ.erase k) (fun k' : CK => cellSt (F := F) c l k')) := by
  rw [bigSep_erase (Finset.mem_univ k)]
  congr 1
  exact bigSep_congr fun k' hk' => h k' (Finset.ne_of_mem_erase hk')

/-- The state of one cell and that of the others. -/
theorem cells_join {l : List Ev} (k : CK) :
    iprop(cellSt (F := F) c l k ∗ bigSep (Finset.univ.erase k) (fun k' : CK => cellSt (F := F) c l k')) ⊢ bigSep Finset.univ (fun k' : CK => cellSt (F := F) c l k') :=
  Entails.of_eq (bigSep_erase (Finset.mem_univ k)).symm

/-- A cell whose transfer is still to be started: only its position. -/
theorem cellSt_open {l : List Ev} {k : CK} (hw : k ∈ wts l) (hi : k ∈ iss l) :
    cellSt (F := F) c l k = iprop(atPos ER (cell c k) 0 ∅ 0 ∗ emp) := by unfold cellSt; rw [if_pos hw, if_pos hi]
/-- A cell whose transfer is on its way: its position and its credit. -/
theorem cellSt_lent {l : List Ev} {k : CK} (hw : k ∈ wts l) (hi : k ∉ iss l) :
    cellSt (F := F) c l k = iprop(atPos ER (cell c k) 0 ∅ 0 ∗ cred (tallyAt (cell c k) () (amt c k))) := by unfold cellSt; rw [if_pos hw, if_neg hi]
/-- A cell that has been waited for: its counter at zero. -/
theorem cellSt_done {l : List Ev} {k : CK} (hw : k ∉ wts l) : cellSt (F := F) c l k = semVal (cell c k) 0 := if_neg hw

/-- A copy changes no other cell. -/
theorem cellSt_copy {l : List Ev} {k : CK} (k' : CK) (h : k' ≠ k) : cellSt (F := F) c (.copy k :: l) k' = cellSt c l k' := by
  unfold cellSt; simp only [wts, iss, List.mem_cons, h, false_or]
/-- A send changes no other cell. -/
theorem cellSt_send {l : List Ev} {n : Fin 4} {kR k : CK} (k' : CK) (h : k' ≠ k) : cellSt (F := F) c (.send n kR k :: l) k' = cellSt c l k' := by
  unfold cellSt; simp only [wts, iss, List.mem_cons, h, false_or]
/-- A wait changes no other cell. -/
theorem cellSt_wait {l : List Ev} {k : CK} (k' : CK) (h : k' ≠ k) : cellSt (F := F) c (.wait k :: l) k' = cellSt c l k' :=
  if_congr (by simp only [wts, List.mem_cons, h, false_or]) rfl rfl

/-- A signal to the barrier of the device `d` places on. -/
theorem run_signal {l : List Ev} (d : Fin 4) {n : Dev nD} (hn : n = dv (c.val + d.val)) {s : Sem sig} (hs : s = barS) {k' : ℕ} (hk' : 1 = k')
    {α : Type} {Q : α → sProp 𝕄} {k : PUnit → Prog (TpuEff nD τ sig (Elt F) Λ₀ .tc) α} :
    iprop(Rec m K ∗ Run c (.bar d :: l) ∗ barPay (dv (c.val + d.val)) d)
      ⊢ iprop((Run c l -∗ wpc c (k ⟨⟩) Q) -∗ wpc c (.op (.semSignal (n : Thread nD τ) s k') k) Q) := by
  subst hn hs hk'
  unfold Run
  iintro ⟨#HR, ⟨%hg, ⟨%W, HO⟩, Ht, Hb, Hc⟩, Hp⟩ Hk
  simp only [good, Bool.and_eq_true, decide_eq_true_eq] at hg
  ihave HI := (Rec_at m K (dv (c.val + d.val), none)) $$ HR
  icases HI with ⟨#HI, #Hr⟩
  simp only [toks, tok]
  icases Ht with ⟨Ht, Hts⟩
  iapply (Rounds.wp_signal 𝒱₀ ER (rd m) (c : Thread nD τ) none (dst := (dv (c.val + d.val) : Thread nD τ)) (κ := K (dv (c.val + d.val), none))
      (d := d) (by rw [duties_bar]; exact hg.2) (amount_bar m _ d) () (tal c l) rfl) $$ [HO Ht Hp]
  · isplitr; · iexact HI
    isplitl [HO]; · iexact HO
    isplitl [Ht]; · iexact Ht
    isplitl [Hp]; · rw [payload_bar]; iexact Hp
    iexact Hr
  iintro HO
  iapply Hk
  isplitr; · ipureintro; exact hg.1
  isplitl [HO]; · iexists W; iexact HO
  isplitl [Hts]; · iexact Hts
  isplitl [Hb]; · iexact Hb
  iexact Hc

/-- The wait for the three signals at the own barrier. -/
theorem run_wbar {l : List Ev} {s : Sem sig} (hs : s = barS) {k' : ℕ} (hk' : 3 = k')
    {α : Type} {Q : α → sProp 𝕄} {k : PUnit → Prog (TpuEff nD τ sig (Elt F) Λ₀ .tc) α} :
    iprop(Rec m K ∗ Run c (.wbar :: l))
      ⊢ iprop(((Run c l ∗ barPay c 1 ∗ barPay c 2 ∗ barPay c 3) -∗ wpc c (k ⟨⟩) Q) -∗ wpc c (.op (.semWait s k') k) Q) := by
  subst hs hk'
  unfold Run
  iintro ⟨#HR, ⟨%hg, ⟨%W, HO⟩, Ht, Hb, Hc⟩⟩ Hk
  simp only [good, Bool.and_eq_true, Bool.not_eq_true'] at hg
  ihave HI := (Rec_at m K (c, none)) $$ HR
  icases HI with ⟨#HI, #Hr⟩
  ihave #HL := (Rec_lev m K) $$ HR
  simp only [toks, tok]
  icases Ht with ⟨-, Hts⟩
  simp only [barSt, hasBar, if_true]
  icases Hb with ⟨Hat, Hcr⟩
  iapply (Rounds.wp_wait_rest_token 𝒱₀ ER (rd m) (c : Thread nD τ) none (κ := K (c, none))
      (wpE_semWait_eq 𝒱₀ (c : Thread nD τ) none Set.univ) (Set.mem_univ _) () (O := tal c l) (W := W) (R := 0) (m := 0) (T := ∅)
      (by rw [expect_bar])) $$ [Hcr HO Hat]
  · isplitr; · iexact HI
    isplitl [Hcr]; · iexact Hcr
    isplitl [HO]; · iexact HO
    isplitr; · iapply (mayWait c hg.2 (.reg barS) (le_of_eq (lv_bar c))); iexact HL
    iexact Hat
  iintro ⟨HO, Hat, -, Hpay⟩
  ihave Hp := (Entails.of_eq (rest_bar m c)) $$ Hpay
  imod (Rounds.cell_close ER (rd m) (Set.mem_univ (K (c, none))) (fun h => h) (R := 0 + 1) (duties_later m (bcell c))) $$ [Hat] with Hz
  · isplitr; · iexact HI
    iexact Hat
  iapply Hk
  isplitr [Hp]
  · isplitr; · ipureintro; exact hg.1.1
    isplitl [HO]; · iexists _; iexact HO
    isplitl [Hts]; · iexact Hts
    isplitl [Hz]
    · rw [hg.1.2, if_neg Bool.false_ne_true]; iexact Hz
    iexact Hc
  iexact Hp

/-- A copy on the device itself. -/
theorem run_copy {l : List Ev} (ck : CK) {sp sp' : Space} {s : Shape} {e : EltTy} {src : Memref sig (c : Thread nD τ).2.kind sp s e} {dst : Memref sig (c : Thread nD τ).2.kind sp' s e} {sem : SemLoc sig}
    (hs : sem = .dma (semOf ck))
    {hsrc : src.view.WordExact} {hdst : dst.view.WordExact} {hsem : DmaTarget.Typed (nD := nD) sp sem (.here dst)}
    {fs : Buf (Elt F) (src.view.loc (c : Thread nD τ))} {fd : Buf (Elt F) (dst.view.loc (c : Thread nD τ))}
    (hN : dst.view.amount sem = amt c ck)
    (hpay : iprop((dst.view.loc (c : Thread nD τ) ↦[dst.view.set]{fullShare} (dst.view.write (Elt F) fd (src.view.read (Elt F) fs) Finset.univ))
              ∗ (src.view.loc (c : Thread nD τ) ↦[src.view.set]{fullShare} fs)) ⊢ pay m c ck)
    {α : Type} {Q : α → sProp 𝕄} {k : PUnit → Prog (TpuEff nD τ sig (Elt F) Λ₀ .tc) α} :
    iprop(Rec m K ∗ Run c (.copy ck :: l) ∗ (src.view.loc (c : Thread nD τ) ↦[src.view.set]{fullShare} fs) ∗ (dst.view.loc (c : Thread nD τ) ↦[dst.view.set]{fullShare} fd))
      ⊢ iprop((Run c l -∗ wpc c (k ⟨⟩) Q) -∗ wpc c (.op (.enqueueDma src (.here dst) sem hsrc hdst hsem) k) Q) := by
  subst hs
  unfold Run
  iintro ⟨#HR, ⟨%hg, ⟨%W, HO⟩, Ht, Hb, Hc⟩, Hs, Hd⟩ Hk
  simp only [good, Bool.and_eq_true, decide_eq_true_eq] at hg
  obtain ⟨⟨⟨hg, hu⟩, hw⟩, hi⟩ := hg
  ihave HI := (Rec_at m K (c, some ck)) $$ HR
  icases HI with ⟨#HI, #Hr⟩
  simp only [toks, tok]
  icases Ht with ⟨Ht, Hts⟩
  ihave Hc := (Entails.of_eq (cells_eq c ck (fun k' h => cellSt_copy c k' h))) $$ Hc
  icases Hc with ⟨Hck, Hc⟩
  ihave Hck := (Entails.of_eq (cellSt_open c (l := .copy ck :: l) hw (List.mem_cons_self))) $$ Hck
  icases Hck with ⟨Hat, -⟩
  iapply (Rounds.wp_copy_pointsTo 𝒱₀ ER (rd m) (c : Thread nD τ) none (κ := K (c, some ck)) (r := 0) (d := 0)
      (by rw [duties_used m hu]; exact Finset.mem_singleton_self _) () (amt c ck) hN (amount_cell m c ck 0)
      (by rw [payload_cell]; exact hpay)) $$ [Hs Hd Ht]
  · isplitr; · iexact HI
    isplitl [Hs]; · iexact Hs
    isplitl [Hd]; · iexact Hd
    isplitl [Ht]; · iexact Ht
    iexact Hr
  iintro Hcr
  iapply Hk
  isplitr; · ipureintro; exact hg
  isplitl [HO]; · iexists W; iexact HO
  isplitl [Hts]; · iexact Hts
  isplitl [Hb]; · iexact Hb
  iapply (cells_join c ck)
  isplitl [Hat Hcr]
  · iapply (Entails.of_eq (cellSt_lent c hw hi).symm)
    isplitl [Hat]; · iexact Hat
    iexact Hcr
  iexact Hc

/-- A transfer to another device. -/
theorem run_send {l : List Ev} (n : Fin 4) (kR ck : CK) {q : PosShare TreeShare} {c' : Thread nD τ} (hc' : c' = ((n : Dev nD) : Thread nD τ)) {sp sp' : Space} {s : Shape} {e : EltTy}
    {src : Memref sig .tc sp s e} {dst : Memref sig c'.2.kind sp' s e} {hsc : dst.view.ref.isScScratch = false} {sS sem : SemLoc sig}
    (hsS : sS = .dma (semOf ck)) (hsem' : sem = .dma (semOf kR))
    {hsrc : src.view.WordExact} {hdst : dst.view.WordExact} {hsem : DmaTarget.Typed sp sem (.remote c' dst sS hsc)}
    {fs : Buf (Elt F) (src.view.loc (c : Thread nD τ))} {fd : Buf (Elt F) (dst.view.loc c')}
    (hN : dst.view.amount sem = amt c ck) (hN' : amt n kR = amt c ck)
    (hpay₁ : (src.view.loc (c : Thread nD τ) ↦[src.view.set]{q} fs) ⊢ pay m c ck)
    (hpay₂ : (dst.view.loc c' ↦[dst.view.set]{fullShare} (dst.view.write (Elt F) fd (src.view.read (Elt F) fs) Finset.univ)) ⊢ pay m n kR)
    {α : Type} {Q : α → sProp 𝕄} {k : PUnit → Prog (TpuEff nD τ sig (Elt F) Λ₀ .tc) α} :
    iprop(Rec m K ∗ Run c (.send n kR ck :: l) ∗ (src.view.loc (c : Thread nD τ) ↦[src.view.set]{q} fs) ∗ (dst.view.loc c' ↦[dst.view.set]{fullShare} fd))
      ⊢ iprop((Run c l -∗ wpc c (k ⟨⟩) Q) -∗ wpc c (.op (.enqueueDma src (.remote c' dst sS hsc) sem hsrc hdst hsem) k) Q) := by
  subst hc' hsS hsem'
  unfold Run
  iintro ⟨#HR, ⟨%hg, ⟨%W, HO⟩, Ht, Hb, Hc⟩, Hs, Hd⟩ Hk
  simp only [good, Bool.and_eq_true, decide_eq_true_eq] at hg
  obtain ⟨⟨⟨⟨hg, hu⟩, hu'⟩, hw⟩, hi⟩ := hg
  ihave HI := (Rec_at m K (c, some ck)) $$ HR
  icases HI with ⟨#HI, #Hr⟩
  ihave HI' := (Rec_at m K (n, some kR)) $$ HR
  icases HI' with ⟨#HI', #Hr'⟩
  simp only [toks, tok]
  icases Ht with ⟨⟨Ht, Ht'⟩, Hts⟩
  ihave Hc := (Entails.of_eq (cells_eq c ck (fun k' h => cellSt_send c k' h))) $$ Hc
  icases Hc with ⟨Hck, Hc⟩
  ihave Hck := (Entails.of_eq (cellSt_open c (l := .send n kR ck :: l) hw (List.mem_cons_self))) $$ Hck
  icases Hck with ⟨Hat, -⟩
  iapply (Rounds.wp_send_pointsTo 𝒱₀ ER (rd m) (c : Thread nD τ) none (κ₁ := K (c, some ck)) (κ₂ := K (n, some kR)) (r₁ := 0) (r₂ := 0) (d₁ := 0) (d₂ := 0)
      (by rw [duties_used m hu]; exact Finset.mem_singleton_self _) (by rw [duties_used m hu']; exact Finset.mem_singleton_self _) () () (amt c ck) hN
      (amount_cell m c ck 0) ((amount_cell m n kR 0).trans hN') (tal c l) (congrArg (fun a => tal c l + tallyAt (cell n kR) () a) hN') (W := W)
      (by rw [payload_cell]; exact hpay₁) (by rw [payload_cell]; exact hpay₂)) $$ [Hs Hd HO Ht Ht']
  · isplitr; · iexact HI
    isplitr; · iexact HI'
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hcr, HO⟩
  iapply Hk
  isplitr; · ipureintro; exact hg
  isplitl [HO]; · iexists W; iexact HO
  isplitl [Hts]; · iexact Hts
  isplitl [Hb]; · iexact Hb
  iapply (cells_join c ck)
  isplitl [Hat Hcr]
  · iapply (Entails.of_eq (cellSt_lent c hw hi).symm)
    isplitl [Hat]; · iexact Hat
    iexact Hcr
  iexact Hc

/-- The wait for a cell: what its transfer hands over comes with it, and the cell is closed. -/
theorem run_wait {l : List Ev} (ck : CK) {sp sp' : Space} {s s' : Shape} {e e' : EltTy} {sem : DmaSem sig} (hs : sem = semOf ck)
    {src : Memref sig .tc sp' s' e'} {dst : Memref sig .tc sp s e} {hsrc : src.view.WordExact} {hdst : dst.view.WordExact}
    (hN : dst.view.dmaCredit = amt c ck)
    {α : Type} {Q : α → sProp 𝕄} {k : PUnit → Prog (TpuEff nD τ sig (Elt F) Λ₀ .tc) α} :
    iprop(Rec m K ∗ Run c (.wait ck :: l))
      ⊢ iprop(((Run c l ∗ pay m c ck) -∗ wpc c (k ⟨⟩) Q) -∗ wpc c (.op (.waitDma2 sem src dst hsrc hdst) k) Q) := by
  subst hs
  unfold Run
  iintro ⟨#HR, ⟨%hg, ⟨%W, HO⟩, Ht, Hb, Hc⟩⟩ Hk
  simp only [good, Bool.and_eq_true, decide_eq_true_eq] at hg
  obtain ⟨⟨⟨⟨hg, hu⟩, hw⟩, hi⟩, ha⟩ := hg
  ihave HI := (Rec_at m K (c, some ck)) $$ HR
  icases HI with ⟨#HI, #Hr⟩
  ihave #HL := (Rec_lev m K) $$ HR
  simp only [toks, tok]
  icases Ht with ⟨-, Hts⟩
  ihave Hc := (Entails.of_eq (cells_eq c ck (fun k' h => cellSt_wait c k' h))) $$ Hc
  icases Hc with ⟨Hck, Hc⟩
  ihave Hck := (Entails.of_eq (cellSt_lent c (l := .wait ck :: l) (List.mem_cons_self) hi)) $$ Hck
  icases Hck with ⟨Hat, Hcr⟩
  iapply (Rounds.wp_wait_rest_token 𝒱₀ ER (rd m) (c : Thread nD τ) none (κ := K (c, some ck))
      (wpE_waitDma2_eq 𝒱₀ (c : Thread nD τ) none Set.univ) (Set.mem_univ _) () (O := tal c l) (W := W) (R := 0) (m := 0) (T := ∅)
      (by rw [Nat.zero_add, expect_used m hu, hN])) $$ [Hcr HO Hat]
  · isplitr; · iexact HI
    isplitl [Hcr]; · rw [hN]; iexact Hcr
    isplitl [HO]; · iexact HO
    isplitr; · iapply (mayWait c ha (.dma (semOf ck)) (le_of_eq (lv_cell c ck))); iexact HL
    iexact Hat
  iintro ⟨HO, Hat, -, Hpay⟩
  ihave Hp := (Entails.of_eq (rest_used m hu)) $$ Hpay
  imod (Rounds.cell_close ER (rd m) (Set.mem_univ (K (c, some ck))) (fun h => h) (R := 0 + 1) (duties_later m (cell c ck))) $$ [Hat] with Hz
  · isplitr; · iexact HI
    iexact Hat
  iapply Hk
  isplitr [Hp]
  · isplitr; · ipureintro; exact hg
    isplitl [HO]; · iexists _; iexact HO
    isplitl [Hts]; · iexact Hts
    isplitl [Hb]; · iexact Hb
    iapply (cells_join c ck)
    isplitl [Hz]
    · iapply (Entails.of_eq (cellSt_done c hw).symm); iexact Hz
    iexact Hc
  iexact Hp

end Cert.KernelIdeal.Run
-- ==== Proof.Copies.lean ====
/- The transfers of the kernel, each as one rule: the view it reads and the view it writes as sets of indices, the
   contents that arrive, and the step of the protocol it is. -/
module

public import proofs.«01_k».proof.Proof.Steps
public import Idealize.ShloMosaic.Lib.Pointwise
public import Idealize.ShloMosaic.Lib.Pipeline.ValueKit.Geometry

@[expose] public section

set_option maxRecDepth 16384

noncomputable section

namespace Cert.KernelIdeal.Run

open Cert.KernelIdeal Cert.KernelIdeal.Gen
open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! ## Views as sets of indices -/

/-- A rectangle of a whole buffer, as a set of indices. -/
theorem set_sl {κ : Kind} (b : Ref sig κ) (off size : Fin b.ty.shape.rank → ℕ) (inb) :
    ((View.whole b).slice (Rect.unit off size inb)).set = bx off size := by
  rw [View.set_slice_whole]
  ext i
  rw [mem_bx, Rect.mem_set_unit]

/-- Where an index of a rectangle of a whole buffer lies in the buffer. -/
theorem emb_sl {κ : Kind} (b : Ref sig κ) (off size : Fin b.ty.shape.rank → ℕ) (inb) (j) (a : Fin b.ty.shape.rank) :
    ((((View.whole b).slice (Rect.unit off size inb)).emb j a : Fin _) : ℕ) = off a + j a :=
  ValueKit.view_emb_slice_whole_unit_val b off size inb j a

/-- What a copy leaves on its destination: the stated contents, if they read there as the source reads. -/
theorem land {κ κ' : Kind} {sp sp' : Space} {s : Shape} {e : EltTy} (vs : View sig κ sp s e) (vd : View sig κ' sp' s e)
    (fs : vs.ty.Contents (Elt F)) (fd g : vd.ty.Contents (Elt F)) (h : ∀ x, vd.read (Elt F) g x = vs.read (Elt F) fs x) :
    ∀ i ∈ vd.set, vd.write (Elt F) fd (vs.read (Elt F) fs) Finset.univ i = g i := by
  intro i hi
  obtain ⟨x, -, rfl⟩ := Finset.mem_map.mp hi
  rw [View.write_emb_of_mem _ _ (Finset.mem_univ x), ← h x, View.read_apply]
  simp

/-- What a copy leaves on its destination, as held elements. -/
theorem pt_land {κ : Kind} {sp sp' : Space} {s : Shape} {e : EltTy} (t : Thread nD τ) (vs : View sig κ sp s e) (vd : View sig t.2.kind sp' s e)
    (fs : vs.ty.Contents (Elt F)) (fd g : Buf (Elt F) (vd.loc t)) (h : ∀ x, vd.read (Elt F) g x = vs.read (Elt F) fs x) :
    (vd.loc t ↦[vd.set]{fullShare} (vd.write (Elt F) fd (vs.read (Elt F) fs) Finset.univ) : sProp 𝕄) = vd.loc t ↦[vd.set]{fullShare} g :=
  pointsTo_congr (land vs vd fs fd g h)

variable (m : Mem (F := F)) (K : Dev nD × Option CK → ℕ) (c : Dev nD)

/-! ## The rectangles the kernel copies -/

/-- Holding a rectangle of a buffer, as a kernel names it, is holding its elements. -/
theorem pt_sl (b : Ref sig .tc) (off size : Fin b.ty.shape.rank → ℕ) (inb) (h) {q : PosShare TreeShare} (f : Buf (Elt F) ((c : Thread nD τ).loc b)) :
    ((((Memref.whole b).slice (Rect.unit off size inb) h).view.loc (c : Thread nD τ)) ↦[((Memref.whole b).slice (Rect.unit off size inb) h).view.set]{q} f : sProp 𝕄)
      = ((c : Thread nD τ).loc b ↦[bx off size]{q} f) :=
  congrArg (fun S : Finset b.ty.shape.Idx => iprop((c : Thread nD τ).loc b ↦[S]{q} f)) (set_sl b off size inb)
/-- The same for a rectangle seen under another shape. -/
theorem pt_sq (b : Ref sig .tc) (off size : Fin b.ty.shape.rank → ℕ) (inb) (h) {s' : Shape} (hq) {q : PosShare TreeShare} (f : Buf (Elt F) ((c : Thread nD τ).loc b)) :
    (((((Memref.whole b).slice (Rect.unit off size inb) h).squeeze s' hq).view.loc (c : Thread nD τ)) ↦[(((Memref.whole b).slice (Rect.unit off size inb) h).squeeze s' hq).view.set]{q} f : sProp 𝕄)
      = ((c : Thread nD τ).loc b ↦[bx off size]{q} f) :=
  congrArg (fun S : Finset b.ty.shape.Idx => iprop((c : Thread nD τ).loc b ↦[S]{q} f))
    ((View.set_reshape ((Memref.whole b).slice (Rect.unit off size inb) h).view hq.numel_eq).trans (set_sl b off size inb))

/-! ## Splitting off a set of elements -/

/-- Room for a set of elements splits into room for a part of it and room for the rest. -/
theorem own_split (b : Ref sig .tc) {S I : Finset (Idx ((c : Thread nD τ).loc b))} (h : I ⊆ S) :
    own (F := F) b c S ⊢ iprop(own b c I ∗ own b c (S \ I)) := by
  unfold own
  iintro ⟨%f, H⟩
  ihave H := (pointsTo_split_subset h).1 $$ H
  icases H with ⟨H1, H2⟩
  isplitl [H1]
  · iexists f; iexact H1
  iexists f; iexact H2

/-- And comes back together, whatever the two parts hold. -/
theorem own_join (b : Ref sig .tc) {S I : Finset (Idx ((c : Thread nD τ).loc b))} (h : I ⊆ S) :
    iprop(own (F := F) b c I ∗ own b c (S \ I)) ⊢ own b c S := by
  unfold own
  iintro ⟨⟨%f, H1⟩, ⟨%g, H2⟩⟩
  ihave H := (pointsTo_join_subset h) $$ [H1 H2]
  · isplitl [H1]; · iexact H1
    iexact H2
  iexists _; iexact H

/-- Room for a set is room for any part of it. -/
theorem own_mono (b : Ref sig .tc) {S I : Finset (Idx ((c : Thread nD τ).loc b))} (h : I ⊆ S) :
    own (F := F) b c S ⊢ own b c I := by
  refine (own_split c b h).trans ?_
  iintro ⟨H, -⟩; iexact H

/-- Elements with known contents are room. -/
theorem own_of (b : Ref sig .tc) {S : Finset (Idx ((c : Thread nD τ).loc b))} (f) :
    ((c : Thread nD τ).loc b ↦[S]{fullShare} f : sProp 𝕄) ⊢ own b c S := by
  unfold own; iintro H; iexists f; iexact H

/-- An index of a matrix, from its row and column. -/
theorem nx2_eq {a b : ℕ} [NeZero a] [NeZero b] {r k : ℕ} {j : (⟨2, ![a, b]⟩ : Shape).Idx} (h0 : r = (j 0).val) (h1 : k = (j 1).val) : nx2 a b r k = j := by
  have l0 : (j 0).val < a := (j 0).isLt
  have l1 : (j 1).val < b := (j 1).isLt
  funext t
  apply Fin.ext
  fin_cases t
  · show r % a = _; rw [h0, Nat.mod_eq_of_lt l0]; rfl
  · show k % b = _; rw [h1, Nat.mod_eq_of_lt l1]; rfl

/-- An index of a stack of matrices, from its layer, row and column. -/
theorem nx3_eq {n a b : ℕ} [NeZero n] [NeZero a] [NeZero b] {s r k : ℕ} {j : (⟨3, ![n, a, b]⟩ : Shape).Idx} (h : s = (j 0).val) (h0 : r = (j 1).val) (h1 : k = (j 2).val) :
    nx3 n a b s r k = j := by
  have l : (j 0).val < n := (j 0).isLt
  have l0 : (j 1).val < a := (j 1).isLt
  have l1 : (j 2).val < b := (j 2).isLt
  funext t
  apply Fin.ext
  fin_cases t
  · show s % n = _; rw [h, Nat.mod_eq_of_lt l]; rfl
  · show r % a = _; rw [h0, Nat.mod_eq_of_lt l0]; rfl
  · show k % b = _; rw [h1, Nat.mod_eq_of_lt l1]; rfl

/-- The `i`-th block that device 0 sends away: block `i / 3` of rows for device `i % 3 + 1`, and last the columns that
    stay. -/
def blk0 (i : ℕ) : Finset S1024x4096.Idx := if i = 12 then kvx 0 0 1024 1024 else kvx (256 * (i / 3)) (1024 * (i % 3 + 1)) 256 1024
/-- The `i`-th block that device 1 sends away, and last the columns that stay. -/
def blk1 (i : ℕ) : Finset S1024x4096.Idx := if i = 3 then kvx 0 1024 128 1024 else kvx 0 (1024 * (if i = 0 then 0 else i + 1)) 128 1024
/-- What device 0 still has of its staged rows after sending `n` blocks. -/
def rem0 : ℕ → Finset S1024x4096.Idx
  | 0 => kvx 0 0 1024 4096
  | n + 1 => rem0 n \ blk0 n
/-- What device 1 still has of its staged rows after sending `n` blocks. -/
def rem1 : ℕ → Finset S1024x4096.Idx
  | 0 => kvx 0 0 128 4096
  | n + 1 => rem1 n \ blk1 n

/-- What device 0 still has after `n` blocks: its rows but for the first `n` blocks. -/
theorem mem_rem0 {n : ℕ} {i : S1024x4096.Idx} : i ∈ rem0 n ↔ i ∈ kvx 0 0 1024 4096 ∧ ∀ k, k < n → i ∉ blk0 k := by
  induction n with
  | zero => exact ⟨fun h => ⟨h, fun k hk => absurd hk (Nat.not_lt_zero _)⟩, fun h => h.1⟩
  | succ n ih =>
    simp only [rem0, Finset.mem_sdiff, ih]
    exact ⟨fun h => ⟨h.1.1, fun k hk => (Nat.lt_succ_iff_lt_or_eq.mp hk).elim (h.1.2 k) (fun e => e ▸ h.2)⟩,
      fun h => ⟨⟨h.1, fun k hk => h.2 k (Nat.lt_succ_of_lt hk)⟩, h.2 n (Nat.lt_succ_self n)⟩⟩
/-- The same for device 1. -/
theorem mem_rem1 {n : ℕ} {i : S1024x4096.Idx} : i ∈ rem1 n ↔ i ∈ kvx 0 0 128 4096 ∧ ∀ k, k < n → i ∉ blk1 k := by
  induction n with
  | zero => exact ⟨fun h => ⟨h, fun k hk => absurd hk (Nat.not_lt_zero _)⟩, fun h => h.1⟩
  | succ n ih =>
    simp only [rem1, Finset.mem_sdiff, ih]
    exact ⟨fun h => ⟨h.1.1, fun k hk => (Nat.lt_succ_iff_lt_or_eq.mp hk).elim (h.1.2 k) (fun e => e ▸ h.2)⟩,
      fun h => ⟨⟨h.1, fun k hk => h.2 k (Nat.lt_succ_of_lt hk)⟩, h.2 n (Nat.lt_succ_self n)⟩⟩

/-- Device 0 still has its next block. -/
theorem blk0_sub (n : ℕ) (hn : n < 13) : blk0 n ⊆ rem0 n := by
  intro i hi
  have l0 : (i 0).val < 1024 := (i 0).isLt
  have l1 : (i 1).val < 4096 := (i 1).isLt
  refine mem_rem0.mpr ⟨mem_bx2.mpr (by omega), fun k hk hik => ?_⟩
  unfold blk0 at hi hik
  rw [if_neg (by omega)] at hik
  have h2 := mem_bx2.mp hik
  split at hi <;> have h1 := mem_bx2.mp hi <;> omega
/-- Device 1 still has its next block. -/
theorem blk1_sub (n : ℕ) (hn : n < 4) : blk1 n ⊆ rem1 n := by
  intro i hi
  have l1 : (i 1).val < 4096 := (i 1).isLt
  unfold blk1 at hi
  refine mem_rem1.mpr ⟨mem_bx2.mpr ?_, fun k hk hik => ?_⟩
  · split at hi <;> have h1 := mem_bx2.mp hi <;> omega
  · unfold blk1 at hik
    rw [if_neg (by omega)] at hik
    have h2 := mem_bx2.mp hik
    split at hi <;> have h1 := mem_bx2.mp hi <;> split at h2 <;> (try split at h1) <;> omega

/-- The rows of block `t` are among those from block `t` on. -/
theorem kbx_sub (t : ℕ) (ht : t < 4) : kbx (256 * t) 0 256 1024 ⊆ kbx (256 * t) 0 (1024 - 256 * t) 1024 := fun i hi => by
  have h := mem_bx2.mp hi; exact mem_bx2.mpr (by omega)
/-- The rows from block `t + 1` on are among those left without block `t`. -/
theorem kbx_rest (t : ℕ) (ht : t < 4) : kbx (256 * (t + 1)) 0 (1024 - 256 * (t + 1)) 1024 ⊆ kbx (256 * t) 0 (1024 - 256 * t) 1024 \ kbx (256 * t) 0 256 1024 := fun i hi => by
  have h := mem_bx2.mp hi
  exact Finset.mem_sdiff.mpr ⟨mem_bx2.mpr (by omega), fun h' => by have h' := mem_bx2.mp h'; omega⟩

/-! ## Keys and values alike -/

/-- Held elements of the argument's keys are those of its third array. -/
theorem hbPt_K (S) : hbPt m 0 c S = iprop((c : Thread nD τ).loc main_arg2 ↦[S]{fullShare} KM m c) := if_pos rfl
/-- Those of the argument's values are of its fourth array. -/
theorem hbPt_V (S) : hbPt m 1 c S = iprop((c : Thread nD τ).loc main_arg3 ↦[S]{fullShare} VM m c) := if_neg (by decide)
/-- Staged keys are held in the third buffer. -/
theorem kvPt_K (S) : kvPt m 0 c S = iprop((c : Thread nD τ).loc cc0_scratch2 ↦[S]{fullShare} KM m c) := if_pos rfl
/-- Staged values are held in the fourth buffer. -/
theorem kvPt_V (S) : kvPt m 1 c S = iprop((c : Thread nD τ).loc cc0_scratch3 ↦[S]{fullShare} VM m c) := if_neg (by decide)
/-- Gathered keys are held in the first buffer. -/
theorem bfPt_K (S) : bfPt m 0 c S = iprop((c : Thread nD τ).loc cc0_scratch0 ↦[S]{fullShare} KB m c) := if_pos rfl
/-- Gathered values are held in the second buffer. -/
theorem bfPt_V (S) : bfPt m 1 c S = iprop((c : Thread nD τ).loc cc0_scratch1 ↦[S]{fullShare} VB m c) := if_neg (by decide)

/-- Room in the staging buffer of the keys (`kv = 0`) or of the values, with any contents. -/
def stOwn (kv : Fin 2) (c : Dev nD) (S : Finset S1024x4096.Idx) : sProp 𝕄 :=
  if kv = 0 then own cc0_scratch2 c S else own cc0_scratch3 c S
/-- Room in the buffer of the gathered keys or values. -/
def bfOwn (kv : Fin 2) (c : Dev nD) (S : Finset S1152x1024.Idx) : sProp 𝕄 :=
  if kv = 0 then own cc0_scratch0 c S else own cc0_scratch1 c S
/-- The staging room of the keys. -/
theorem stOwn_K (S) : stOwn (F := F) 0 c S = own cc0_scratch2 c S := if_pos rfl
/-- That of the values. -/
theorem stOwn_V (S) : stOwn (F := F) 1 c S = own cc0_scratch3 c S := if_neg (by decide)
/-- The room for gathered keys. -/
theorem bfOwn_K (S) : bfOwn (F := F) 0 c S = own cc0_scratch0 c S := if_pos rfl
/-- That for gathered values. -/
theorem bfOwn_V (S) : bfOwn (F := F) 1 c S = own cc0_scratch1 c S := if_neg (by decide)
/-- Staged rows are room once their contents do not matter. -/
theorem kvPt_room (kv : Fin 2) (S) : kvPt m kv c S ⊢ stOwn kv c S := by
  unfold kvPt stOwn; split
  · exact own_of c cc0_scratch2 _
  · exact own_of c cc0_scratch3 _
/-- A part of the staging room comes back to the rest. -/
theorem stOwn_join (kv : Fin 2) {S I : Finset S1024x4096.Idx} (h : I ⊆ S) : iprop(stOwn (F := F) kv c I ∗ stOwn kv c (S \ I)) ⊢ stOwn kv c S := by
  unfold stOwn; split
  · exact own_join c cc0_scratch2 h
  · exact own_join c cc0_scratch3 h
/-- A part of the staged rows, taken apart. -/
theorem kvPt_split (kv : Fin 2) {S I : Finset S1024x4096.Idx} (h : I ⊆ S) : kvPt m kv c S ⊢ iprop(kvPt m kv c I ∗ kvPt m kv c (S \ I)) := by
  unfold kvPt; split <;> exact (pointsTo_split_subset h).1
/-- The room for a row block, taken apart from the room for the later ones. -/
theorem bfOwn_row (kv : Fin 2) (t : Fin 4) : bfOwn (F := F) kv c (kbx (256 * t.val) 0 (1024 - 256 * t.val) 1024)
    ⊢ iprop(bfOwn kv c (kbx (256 * t.val) 0 256 1024) ∗ bfOwn kv c (kbx (256 * (t.val + 1)) 0 (1024 - 256 * (t.val + 1)) 1024)) := by
  unfold bfOwn; split
  · exact (own_split c cc0_scratch0 (kbx_sub t.val t.isLt)).trans (BI.sep_mono (Entails.refl _) (own_mono c cc0_scratch0 (kbx_rest t.val t.isLt)))
  · exact (own_split c cc0_scratch1 (kbx_sub t.val t.isLt)).trans (BI.sep_mono (Entails.refl _) (own_mono c cc0_scratch1 (kbx_rest t.val t.isLt)))

/-- The argument's codes: the keys' (`kv = 0`) or the values'. -/
def CM (kv : Fin 2) (c : Dev nD) : S1024x4096.Idx → Elt F .i8 := if kv = 0 then KM m c else VM m c
/-- The gathered codes of the device's heads. -/
def CB (kv : Fin 2) (c : Dev nD) : S1152x1024.Idx → Elt F .i8 := if kv = 0 then KB m c else VB m c
/-- The first 1024 gathered rows are device 0's. -/
theorem CB_top (kv : Fin 2) {r k : ℕ} (hr : r < 1024) (hk : k < 1024) : CB m kv c (nx2 1152 1024 r k) = CM m kv 0 (nx2 1024 4096 r (1024 * c.val + k)) := by
  have e0 : ((nx2 1152 1024 r k) 0).val = r := Nat.mod_eq_of_lt (by omega)
  have e1 : ((nx2 1152 1024 r k) 1).val = k := Nat.mod_eq_of_lt hk
  unfold CB CM; split
  · unfold KB; rw [e0, e1, if_pos hr]; rfl
  · unfold VB; rw [e0, e1, if_pos hr]; rfl
/-- The last 128 are device 1's. -/
theorem CB_bot (kv : Fin 2) {r k : ℕ} (hr : r < 128) (hk : k < 1024) : CB m kv c (nx2 1152 1024 (1024 + r) k) = CM m kv 1 (nx2 1024 4096 r (1024 * c.val + k)) := by
  have e0 : ((nx2 1152 1024 (1024 + r) k) 0).val = 1024 + r := Nat.mod_eq_of_lt (by omega)
  have e1 : ((nx2 1152 1024 (1024 + r) k) 1).val = k := Nat.mod_eq_of_lt hk
  unfold CB CM; split
  · unfold KB; rw [e0, e1, if_neg (by omega), Nat.add_sub_cancel_left]; rfl
  · unfold VB; rw [e0, e1, if_neg (by omega), Nat.add_sub_cancel_left]; rfl

/-- The buffers that the keys' rows (`kv = 0`) or the values' go through: the argument, the staging buffer, the gathered rows. -/
abbrev Side (kv : Fin 2) (H : Memref sig .tc .hbm S1024x4096 .i8) (S : Memref sig .tc .vmem S1024x4096 .i8) (B : Memref sig .tc .vmem S1152x1024 .i8) : Prop :=
  (kv = 0 ∧ H = khM ∧ S = kvM ∧ B = kbM) ∨ (kv = 1 ∧ H = vhM ∧ S = vvM ∧ B = vbM)
/-- Those of the keys. -/
theorem side_K : Side 0 khM kvM kbM := .inl ⟨rfl, rfl, rfl, rfl⟩
/-- Those of the values. -/
theorem side_V : Side 1 vhM vvM vbM := .inr ⟨rfl, rfl, rfl, rfl⟩

/-- A rectangle of the argument, held and read. -/
theorem side_hb {kv H S B} (hkv : Side kv H S B) (o0 o1 z0 z1 : ℕ) (inb) (h) :
    ∃ f : Buf (Elt F) ((H.slice (Rect.unit (s := S1024x4096) ![o0, o1] ![z0, z1] inb) h).view.loc (c : Thread nD τ)),
      iprop((H.slice (Rect.unit (s := S1024x4096) ![o0, o1] ![z0, z1] inb) h).view.loc (c : Thread nD τ) ↦[(H.slice (Rect.unit (s := S1024x4096) ![o0, o1] ![z0, z1] inb) h).view.set]{fullShare} f) = hbPt m kv c (kvx o0 o1 z0 z1)
      ∧ ∀ x, (H.slice (Rect.unit (s := S1024x4096) ![o0, o1] ![z0, z1] inb) h).view.read (Elt F) f x = CM m kv c (nx2 1024 4096 (o0 + (x (0 : Fin 2)).val) (o1 + (x (1 : Fin 2)).val)) := by
  rcases hkv with ⟨rfl, rfl, rfl, rfl⟩ | ⟨rfl, rfl, rfl, rfl⟩
  · exact ⟨KM m c, (pt_sl (F := F) c main_arg2 ![o0, o1] ![z0, z1] inb h _).trans (hbPt_K m c _).symm, fun x => congrArg (KM m c) (nx2_eq (emb_sl main_arg2 ![o0, o1] ![z0, z1] inb x (0 : Fin 2)).symm (emb_sl main_arg2 ![o0, o1] ![z0, z1] inb x (1 : Fin 2)).symm).symm⟩
  · exact ⟨VM m c, (pt_sl (F := F) c main_arg3 ![o0, o1] ![z0, z1] inb h _).trans (hbPt_V m c _).symm, fun x => congrArg (VM m c) (nx2_eq (emb_sl main_arg3 ![o0, o1] ![z0, z1] inb x (0 : Fin 2)).symm (emb_sl main_arg3 ![o0, o1] ![z0, z1] inb x (1 : Fin 2)).symm).symm⟩
/-- A rectangle of the staged codes, held and read. -/
theorem side_kv {kv H S B} (hkv : Side kv H S B) (o0 o1 z0 z1 : ℕ) (inb) (h) :
    ∃ f : Buf (Elt F) ((S.slice (Rect.unit (s := S1024x4096) ![o0, o1] ![z0, z1] inb) h).view.loc (c : Thread nD τ)),
      iprop((S.slice (Rect.unit (s := S1024x4096) ![o0, o1] ![z0, z1] inb) h).view.loc (c : Thread nD τ) ↦[(S.slice (Rect.unit (s := S1024x4096) ![o0, o1] ![z0, z1] inb) h).view.set]{fullShare} f) = kvPt m kv c (kvx o0 o1 z0 z1)
      ∧ ∀ x, (S.slice (Rect.unit (s := S1024x4096) ![o0, o1] ![z0, z1] inb) h).view.read (Elt F) f x = CM m kv c (nx2 1024 4096 (o0 + (x (0 : Fin 2)).val) (o1 + (x (1 : Fin 2)).val)) := by
  rcases hkv with ⟨rfl, rfl, rfl, rfl⟩ | ⟨rfl, rfl, rfl, rfl⟩
  · exact ⟨KM m c, (pt_sl (F := F) c cc0_scratch2 ![o0, o1] ![z0, z1] inb h _).trans (kvPt_K m c _).symm, fun x => congrArg (KM m c) (nx2_eq (emb_sl cc0_scratch2 ![o0, o1] ![z0, z1] inb x (0 : Fin 2)).symm (emb_sl cc0_scratch2 ![o0, o1] ![z0, z1] inb x (1 : Fin 2)).symm).symm⟩
  · exact ⟨VM m c, (pt_sl (F := F) c cc0_scratch3 ![o0, o1] ![z0, z1] inb h _).trans (kvPt_V m c _).symm, fun x => congrArg (VM m c) (nx2_eq (emb_sl cc0_scratch3 ![o0, o1] ![z0, z1] inb x (0 : Fin 2)).symm (emb_sl cc0_scratch3 ![o0, o1] ![z0, z1] inb x (1 : Fin 2)).symm).symm⟩
/-- A rectangle of the gathered codes, held and read. -/
theorem side_bf {kv H S B} (hkv : Side kv H S B) (o0 o1 z0 z1 : ℕ) (inb) (h) :
    ∃ f : Buf (Elt F) ((B.slice (Rect.unit (s := S1152x1024) ![o0, o1] ![z0, z1] inb) h).view.loc (c : Thread nD τ)),
      iprop((B.slice (Rect.unit (s := S1152x1024) ![o0, o1] ![z0, z1] inb) h).view.loc (c : Thread nD τ) ↦[(B.slice (Rect.unit (s := S1152x1024) ![o0, o1] ![z0, z1] inb) h).view.set]{fullShare} f) = bfPt m kv c (kbx o0 o1 z0 z1)
      ∧ ∀ x, (B.slice (Rect.unit (s := S1152x1024) ![o0, o1] ![z0, z1] inb) h).view.read (Elt F) f x = CB m kv c (nx2 1152 1024 (o0 + (x (0 : Fin 2)).val) (o1 + (x (1 : Fin 2)).val)) := by
  rcases hkv with ⟨rfl, rfl, rfl, rfl⟩ | ⟨rfl, rfl, rfl, rfl⟩
  · exact ⟨KB m c, (pt_sl (F := F) c cc0_scratch0 ![o0, o1] ![z0, z1] inb h _).trans (bfPt_K m c _).symm, fun x => congrArg (KB m c) (nx2_eq (emb_sl cc0_scratch0 ![o0, o1] ![z0, z1] inb x (0 : Fin 2)).symm (emb_sl cc0_scratch0 ![o0, o1] ![z0, z1] inb x (1 : Fin 2)).symm).symm⟩
  · exact ⟨VB m c, (pt_sl (F := F) c cc0_scratch1 ![o0, o1] ![z0, z1] inb h _).trans (bfPt_V m c _).symm, fun x => congrArg (VB m c) (nx2_eq (emb_sl cc0_scratch1 ![o0, o1] ![z0, z1] inb x (0 : Fin 2)).symm (emb_sl cc0_scratch1 ![o0, o1] ![z0, z1] inb x (1 : Fin 2)).symm).symm⟩
/-- Room for a rectangle of staged codes. -/
theorem side_st {kv H S B} (hkv : Side kv H S B) (o0 o1 z0 z1 : ℕ) (inb) (h) :
    stOwn (F := F) kv c (kvx o0 o1 z0 z1) ⊢ iprop(∃ f, (S.slice (Rect.unit (s := S1024x4096) ![o0, o1] ![z0, z1] inb) h).view.loc (c : Thread nD τ) ↦[(S.slice (Rect.unit (s := S1024x4096) ![o0, o1] ![z0, z1] inb) h).view.set]{fullShare} f) := by
  rcases hkv with ⟨rfl, rfl, rfl, rfl⟩ | ⟨rfl, rfl, rfl, rfl⟩
  · rw [stOwn_K]; unfold own; iintro ⟨%f, H⟩; iexists f; iapply (Entails.of_eq (pt_sl c cc0_scratch2 ![o0, o1] ![z0, z1] inb h f).symm); iexact H
  · rw [stOwn_V]; unfold own; iintro ⟨%f, H⟩; iexists f; iapply (Entails.of_eq (pt_sl c cc0_scratch3 ![o0, o1] ![z0, z1] inb h f).symm); iexact H
/-- Room for a rectangle of gathered codes. -/
theorem side_room {kv H S B} (hkv : Side kv H S B) (o0 o1 z0 z1 : ℕ) (inb) (h) :
    bfOwn (F := F) kv c (kbx o0 o1 z0 z1) ⊢ iprop(∃ f, (B.slice (Rect.unit (s := S1152x1024) ![o0, o1] ![z0, z1] inb) h).view.loc (c : Thread nD τ) ↦[(B.slice (Rect.unit (s := S1152x1024) ![o0, o1] ![z0, z1] inb) h).view.set]{fullShare} f) := by
  rcases hkv with ⟨rfl, rfl, rfl, rfl⟩ | ⟨rfl, rfl, rfl, rfl⟩
  · rw [bfOwn_K]; unfold own; iintro ⟨%f, H⟩; iexists f; iapply (Entails.of_eq (pt_sl c cc0_scratch0 ![o0, o1] ![z0, z1] inb h f).symm); iexact H
  · rw [bfOwn_V]; unfold own; iintro ⟨%f, H⟩; iexists f; iapply (Entails.of_eq (pt_sl c cc0_scratch1 ![o0, o1] ![z0, z1] inb h f).symm); iexact H

/-- Staging the first `R` rows of the codes out of the argument. -/
theorem wp_stage {kv H S B} (hkv : Side kv H S B) {l : List Ev} (R : ℕ) (hR : R = if c.val = 0 then 1024 else 128)
    {inb₁ inb₂ h₁ h₂ sem hsrc hdst hsem} (hs : sem = SemLoc.dma (semOf (.stg kv)))
    (hN : (S.slice (Rect.unit (s := S1024x4096) ![0, 0] ![R, 4096] inb₂) h₂).view.amount sem = amt c (.stg kv))
    {α : Type} {Q : α → sProp 𝕄} {k : PUnit → Prog (TpuEff nD τ sig (Elt F) Λ₀ .tc) α} :
    iprop(Rec m K ∗ Run c (.copy (.stg kv) :: l) ∗ hbPt m kv c (kvx 0 0 R 4096) ∗ stOwn kv c (kvx 0 0 R 4096))
      ⊢ iprop((Run c l -∗ wpc c (k ⟨⟩) Q) -∗ wpc c (.op (.enqueueDma (H.slice (Rect.unit (s := S1024x4096) ![0, 0] ![R, 4096] inb₁) h₁)
          (.here (S.slice (Rect.unit (s := S1024x4096) ![0, 0] ![R, 4096] inb₂) h₂)) sem hsrc hdst hsem) k) Q) := by
  obtain ⟨fs, es, rs⟩ := side_hb m c hkv 0 0 R 4096 inb₁ h₁
  obtain ⟨g, eg, rg⟩ := side_kv m c hkv 0 0 R 4096 inb₂ h₂
  have hp : iprop(kvPt m kv c (kvx 0 0 R 4096) ∗ hbPt m kv c (kvx 0 0 R 4096)) ⊢ pay m c (.stg kv) := by
    subst hR
    by_cases h : c.val = 0 <;> simp only [pay, h, if_true, if_false] <;> exact .rfl
  have hl := fun fd => (pt_land (c : Thread nD τ) (H.slice (Rect.unit (s := S1024x4096) ![0, 0] ![R, 4096] inb₁) h₁).view (S.slice (Rect.unit (s := S1024x4096) ![0, 0] ![R, 4096] inb₂) h₂).view fs fd g (fun x => (rg x).trans (rs x).symm)).trans eg
  have step := fun fd => run_copy m K c (.stg kv) (l := l) (src := (H.slice (Rect.unit (s := S1024x4096) ![0, 0] ![R, 4096] inb₁) h₁)) (dst := (S.slice (Rect.unit (s := S1024x4096) ![0, 0] ![R, 4096] inb₂) h₂)) (hsrc := hsrc) (hdst := hdst) (hsem := hsem) (fs := fs) (fd := fd) hs hN
    ((BI.sep_mono (Entails.of_eq (hl fd)) (Entails.of_eq es)).trans hp) (Q := Q) (k := k)
  iintro ⟨#HR, Hrun, Hs, Hd⟩ Hk
  ihave Hs := (Entails.of_eq es.symm) $$ Hs
  ihave Hd := (side_st c hkv 0 0 R 4096 inb₂ h₂) $$ Hd
  icases Hd with ⟨%fd, Hd⟩
  iapply (step fd) $$ [Hrun Hs Hd]
  · isplitr; · iexact HR
    isplitl [Hrun]; · iexact Hrun
    isplitl [Hs]; · iexact Hs
    iexact Hd
  iexact Hk

/-- The copy of the device's own columns on the device: `R` rows, to row `od` of its buffer. -/
theorem wp_local {kv H S B} (hkv : Side kv H S B) {l : List Ev} (R od : ℕ) (hc : c.val = 0 ∨ c.val = 1) (hR : R = if c.val = 0 then 1024 else 128) (hod : od = 1024 * c.val)
    {inb₁ inb₂ h₁ h₂ sem hsrc hdst hsem} (hs : sem = SemLoc.dma (semOf (.loc kv)))
    (hN : (B.slice (Rect.unit (s := S1152x1024) ![od, 0] ![R, 1024] inb₂) h₂).view.amount sem = amt c (.loc kv))
    {α : Type} {Q : α → sProp 𝕄} {k : PUnit → Prog (TpuEff nD τ sig (Elt F) Λ₀ .tc) α} :
    iprop(Rec m K ∗ Run c (.copy (.loc kv) :: l) ∗ kvPt m kv c (kvx 0 od R 1024) ∗ bfOwn kv c (kbx od 0 R 1024))
      ⊢ iprop((Run c l -∗ wpc c (k ⟨⟩) Q) -∗ wpc c (.op (.enqueueDma (S.slice (Rect.unit (s := S1024x4096) ![0, od] ![R, 1024] inb₁) h₁)
          (.here (B.slice (Rect.unit (s := S1152x1024) ![od, 0] ![R, 1024] inb₂) h₂)) sem hsrc hdst hsem) k) Q) := by
  obtain ⟨fs, es, rs⟩ := side_kv m c hkv 0 od R 1024 inb₁ h₁
  obtain ⟨g, eg, rg⟩ := side_bf m c hkv od 0 R 1024 inb₂ h₂
  have hp : iprop(bfPt m kv c (kbx od 0 R 1024) ∗ kvPt m kv c (kvx 0 od R 1024)) ⊢ pay m c (.loc kv) := by
    subst hR hod
    rcases hc with h | h <;> simp only [pay, h] <;> exact .rfl
  have hv : ∀ x, (B.slice (Rect.unit (s := S1152x1024) ![od, 0] ![R, 1024] inb₂) h₂).view.read (Elt F) g x = (S.slice (Rect.unit (s := S1024x4096) ![0, od] ![R, 1024] inb₁) h₁).view.read (Elt F) fs x := by
    intro x
    rw [rg, rs]
    have l0 : (x (0 : Fin 2)).val < R := (x (0 : Fin 2)).isLt
    have l1 : (x (1 : Fin 2)).val < 1024 := (x (1 : Fin 2)).isLt
    rcases hc with h | h
    · obtain rfl : c = 0 := Fin.ext h
      subst hR hod
      exact (congrArg (CB m kv 0) (congrArg₂ (nx2 1152 1024) (Nat.zero_add _) (Nat.zero_add _))).trans ((CB_top m 0 kv l0 l1).trans (congrArg (CM m kv 0) (congrArg₂ (nx2 1024 4096) (Nat.zero_add _).symm rfl)))
    · obtain rfl : c = 1 := Fin.ext h
      subst hR hod
      exact (congrArg (CB m kv 1) (congrArg₂ (nx2 1152 1024) rfl (Nat.zero_add _))).trans ((CB_bot m 1 kv l0 l1).trans (congrArg (CM m kv 1) (congrArg₂ (nx2 1024 4096) (Nat.zero_add _).symm rfl)))
  have hl := fun fd => (pt_land (c : Thread nD τ) (S.slice (Rect.unit (s := S1024x4096) ![0, od] ![R, 1024] inb₁) h₁).view (B.slice (Rect.unit (s := S1152x1024) ![od, 0] ![R, 1024] inb₂) h₂).view fs fd g hv).trans eg
  have step := fun fd => run_copy m K c (.loc kv) (l := l) (src := (S.slice (Rect.unit (s := S1024x4096) ![0, od] ![R, 1024] inb₁) h₁)) (dst := (B.slice (Rect.unit (s := S1152x1024) ![od, 0] ![R, 1024] inb₂) h₂)) (hsrc := hsrc) (hdst := hdst) (hsem := hsem) (fs := fs) (fd := fd) hs hN
    ((BI.sep_mono (Entails.of_eq (hl fd)) (Entails.of_eq es)).trans hp) (Q := Q) (k := k)
  iintro ⟨#HR, Hrun, Hs, Hd⟩ Hk
  ihave Hs := (Entails.of_eq es.symm) $$ Hs
  ihave Hd := (side_room c hkv od 0 R 1024 inb₂ h₂) $$ Hd
  icases Hd with ⟨%fd, Hd⟩
  iapply (step fd) $$ [Hrun Hs Hd]
  · isplitr; · iexact HR
    isplitl [Hrun]; · iexact Hrun
    isplitl [Hs]; · iexact Hs
    iexact Hd
  iexact Hk

/-- Device 0's transfer of block `t` of its rows to device `j + 1`. -/
theorem wp_send0 {kv H S B} (hkv : Side kv H S B) {l : List Ev} (t : Fin 4) (j : Fin 3) (n : Dev nD) (hn : n.val = j.val + 1) {n' : Dev nD} (hn' : n' = n) {ot oc : ℕ} (hot : ot = 256 * t.val) (hoc : oc = 1024 * (j.val + 1))
    {inb₁ inb₂ h₁ h₂ sS sem hsc hsrc hdst hsem} (hsS : sS = SemLoc.dma (semOf (.snd0 t kv j))) (hs : sem = SemLoc.dma (semOf (.rcv0 t kv)))
    (hN : (B.slice (Rect.unit (s := S1152x1024) ![ot, 0] ![256, 1024] inb₂) h₂).view.amount sem = amt 0 (.snd0 t kv j))
    {α : Type} {Q : α → sProp 𝕄} {k : PUnit → Prog (TpuEff nD τ sig (Elt F) Λ₀ .tc) α} :
    iprop(Rec m K ∗ Run 0 (.send n (.rcv0 t kv) (.snd0 t kv j) :: l) ∗ kvPt m kv 0 (rem0 (3 * t.val + j.val)) ∗ bfOwn kv n (kbx (256 * t.val) 0 (1024 - 256 * t.val) 1024))
      ⊢ iprop(((Run 0 l ∗ kvPt m kv 0 (rem0 (3 * t.val + j.val + 1)) ∗ bfOwn kv n (kbx (256 * (t.val + 1)) 0 (1024 - 256 * (t.val + 1)) 1024)) -∗ wpc 0 (k ⟨⟩) Q)
        -∗ wpc 0 (.op (.enqueueDma (S.slice (Rect.unit (s := S1024x4096) ![ot, oc] ![256, 1024] inb₁) h₁)
          (.remote (n' : Thread nD τ) (B.slice (Rect.unit (s := S1152x1024) ![ot, 0] ![256, 1024] inb₂) h₂) sS hsc) sem hsrc hdst hsem) k) Q) := by
  subst hn' hot hoc
  obtain ⟨fs, es, rs⟩ := side_kv m 0 hkv (256 * t.val) (1024 * (j.val + 1)) 256 1024 inb₁ h₁
  obtain ⟨g, eg, rg⟩ := side_bf m n' hkv (256 * t.val) 0 256 1024 inb₂ h₂
  have hb : blk0 (3 * t.val + j.val) = kvx (256 * t.val) (1024 * (j.val + 1)) 256 1024 := by
    unfold blk0; rw [if_neg (by omega), show (3 * t.val + j.val) / 3 = t.val by omega, show (3 * t.val + j.val) % 3 = j.val by omega]
  have hv : ∀ x, (B.slice (Rect.unit (s := S1152x1024) ![256 * t.val, 0] ![256, 1024] inb₂) h₂).view.read (Elt F) g x = (S.slice (Rect.unit (s := S1024x4096) ![256 * t.val, 1024 * (j.val + 1)] ![256, 1024] inb₁) h₁).view.read (Elt F) fs x := by
    intro x
    rw [rg, rs]
    have l0 : (x (0 : Fin 2)).val < 256 := (x (0 : Fin 2)).isLt
    have l1 : (x (1 : Fin 2)).val < 1024 := (x (1 : Fin 2)).isLt
    refine (congrArg (CB m kv n') (congrArg₂ (nx2 1152 1024) rfl (Nat.zero_add _))).trans ((CB_top m n' kv (by omega) l1).trans ?_)
    rw [hn]
  have hl := fun fd => (pt_land (n' : Thread nD τ) (S.slice (Rect.unit (s := S1024x4096) ![256 * t.val, 1024 * (j.val + 1)] ![256, 1024] inb₁) h₁).view (B.slice (Rect.unit (s := S1152x1024) ![256 * t.val, 0] ![256, 1024] inb₂) h₂).view fs fd g hv).trans eg
  have step := fun fd => run_send m K 0 n' (.rcv0 t kv) (.snd0 t kv j) (l := l) (q := fullShare) rfl (src := (S.slice (Rect.unit (s := S1024x4096) ![256 * t.val, 1024 * (j.val + 1)] ![256, 1024] inb₁) h₁)) (dst := (B.slice (Rect.unit (s := S1152x1024) ![256 * t.val, 0] ![256, 1024] inb₂) h₂)) (hsc := hsc) hsS hs (hsrc := hsrc) (hdst := hdst) (hsem := hsem) (fs := fs) (fd := fd) hN rfl
    (Entails.of_eq es) (Entails.of_eq (hl fd)) (Q := Q) (k := k)
  iintro ⟨#HR, Hrun, Hs, Hd⟩ Hk
  ihave Hs := (kvPt_split m 0 kv (blk0_sub (3 * t.val + j.val) (by omega))) $$ Hs
  icases Hs with ⟨Hs, Hs'⟩
  ihave Hs := (Entails.of_eq ((congrArg (kvPt m kv 0) hb).trans es.symm)) $$ Hs
  ihave Hd := (bfOwn_row n' kv t) $$ Hd
  icases Hd with ⟨Hd, Hd'⟩
  ihave Hd := (side_room n' hkv (256 * t.val) 0 256 1024 inb₂ h₂) $$ Hd
  icases Hd with ⟨%fd, Hd⟩
  iapply (step fd) $$ [Hrun Hs Hd]
  · isplitr; · iexact HR
    isplitl [Hrun]; · iexact Hrun
    isplitl [Hs]; · iexact Hs
    iexact Hd
  iintro Hrun
  iapply Hk
  isplitl [Hrun]; · iexact Hrun
  isplitl [Hs']; · iexact Hs'
  iexact Hd'

/-- Device 1's `j`-th transfer of its first 128 rows. -/
theorem wp_send1 {kv H S B} (hkv : Side kv H S B) {l : List Ev} (j : Fin 3) (n : Dev nD) (hn : n.val = dst1 j) {n' : Dev nD} (hn' : n' = n) {oc : ℕ} (hoc : oc = 1024 * dst1 j)
    {inb₁ inb₂ h₁ h₂ sS sem hsc hsrc hdst hsem} (hsS : sS = SemLoc.dma (semOf (.snd1 j kv))) (hs : sem = SemLoc.dma (semOf (.rcv1 kv)))
    (hN : (B.slice (Rect.unit (s := S1152x1024) ![1024, 0] ![128, 1024] inb₂) h₂).view.amount sem = amt 1 (.snd1 j kv))
    {α : Type} {Q : α → sProp 𝕄} {k : PUnit → Prog (TpuEff nD τ sig (Elt F) Λ₀ .tc) α} :
    iprop(Rec m K ∗ Run 1 (.send n (.rcv1 kv) (.snd1 j kv) :: l) ∗ kvPt m kv 1 (rem1 j.val) ∗ bfOwn kv n (kbx 1024 0 128 1024))
      ⊢ iprop(((Run 1 l ∗ kvPt m kv 1 (rem1 (j.val + 1))) -∗ wpc 1 (k ⟨⟩) Q)
        -∗ wpc 1 (.op (.enqueueDma (S.slice (Rect.unit (s := S1024x4096) ![0, oc] ![128, 1024] inb₁) h₁)
          (.remote (n' : Thread nD τ) (B.slice (Rect.unit (s := S1152x1024) ![1024, 0] ![128, 1024] inb₂) h₂) sS hsc) sem hsrc hdst hsem) k) Q) := by
  subst hn' hoc
  obtain ⟨fs, es, rs⟩ := side_kv m 1 hkv 0 (1024 * dst1 j) 128 1024 inb₁ h₁
  obtain ⟨g, eg, rg⟩ := side_bf m n' hkv 1024 0 128 1024 inb₂ h₂
  have hb : blk1 j.val = kvx 0 (1024 * dst1 j) 128 1024 := by
    unfold blk1; rw [if_neg (by omega)]; rfl
  have hv : ∀ x, (B.slice (Rect.unit (s := S1152x1024) ![1024, 0] ![128, 1024] inb₂) h₂).view.read (Elt F) g x = (S.slice (Rect.unit (s := S1024x4096) ![0, 1024 * dst1 j] ![128, 1024] inb₁) h₁).view.read (Elt F) fs x := by
    intro x
    rw [rg, rs]
    have l0 : (x (0 : Fin 2)).val < 128 := (x (0 : Fin 2)).isLt
    have l1 : (x (1 : Fin 2)).val < 1024 := (x (1 : Fin 2)).isLt
    refine (congrArg (CB m kv n') (congrArg₂ (nx2 1152 1024) rfl (Nat.zero_add _))).trans ((CB_bot m n' kv l0 l1).trans ?_)
    rw [hn]; exact congrArg (CM m kv 1) (congrArg₂ (nx2 1024 4096) (Nat.zero_add _).symm rfl)
  have hl := fun fd => (pt_land (n' : Thread nD τ) (S.slice (Rect.unit (s := S1024x4096) ![0, 1024 * dst1 j] ![128, 1024] inb₁) h₁).view (B.slice (Rect.unit (s := S1152x1024) ![1024, 0] ![128, 1024] inb₂) h₂).view fs fd g hv).trans eg
  have step := fun fd => run_send m K 1 n' (.rcv1 kv) (.snd1 j kv) (l := l) (q := fullShare) rfl (src := (S.slice (Rect.unit (s := S1024x4096) ![0, 1024 * dst1 j] ![128, 1024] inb₁) h₁)) (dst := (B.slice (Rect.unit (s := S1152x1024) ![1024, 0] ![128, 1024] inb₂) h₂)) (hsc := hsc) hsS hs (hsrc := hsrc) (hdst := hdst) (hsem := hsem) (fs := fs) (fd := fd) hN rfl
    (Entails.of_eq es) (Entails.of_eq (hl fd)) (Q := Q) (k := k)
  iintro ⟨#HR, Hrun, Hs, Hd⟩ Hk
  ihave Hs := (kvPt_split m 1 kv (blk1_sub j.val (by omega))) $$ Hs
  icases Hs with ⟨Hs, Hs'⟩
  ihave Hs := (Entails.of_eq ((congrArg (kvPt m kv 1) hb).trans es.symm)) $$ Hs
  ihave Hd := (side_room n' hkv 1024 0 128 1024 inb₂ h₂) $$ Hd
  icases Hd with ⟨%fd, Hd⟩
  iapply (step fd) $$ [Hrun Hs Hd]
  · isplitr; · iexact HR
    isplitl [Hrun]; · iexact Hrun
    isplitl [Hs]; · iexact Hs
    iexact Hd
  iintro Hrun
  iapply Hk
  isplitl [Hrun]; · iexact Hrun
  iexact Hs'

/-! ## Partial and summed blocks -/

/-- A block of 256 rows, seen as a single layer, keeps its rows and columns. -/
theorem reshape_row (h : S256x1024.numel = S1x256x1024.numel) (x : S256x1024.Idx) :
    Shape.reshapeEquiv h x = (ix3 (0 : Fin 1) (x 0) (x 1) : S1x256x1024.Idx) := by
  simp only [pointwise]

/-- A device by its own number is itself. -/
theorem dv_val (n : Dev nD) : dv n.val = n := Fin.ext (Nat.mod_eq_of_lt n.isLt)

/-- Slot `c` of what device `n` receives is the partial block of device `c` for device `n`. -/
theorem RSB_other {n : Dev nD} {i : S4x256x1024.Idx} {j : S1024x1024.Idx} (hc : (i 0).val = c.val) (hn : n.val ≠ c.val) (h0 : 256 * n.val + (i 1).val = (j 0).val) (h1 : (i 2).val = (j 1).val) :
    RSB m n i = PB m c j := by
  unfold RSB
  rw [if_neg (by omega), nx2_eq h0 h1, hc, dv_val]

/-- Slot `i` of what device `n` gathers is the summed block of the device `i + 1` places on. -/
theorem AGB_of {n : Dev nD} {i : S3x256x1024.Idx} {j : S256x1024.Idx} (hc : (n.val + (i 0).val + 1) % 4 = c.val) (h0 : (i 1).val = (j 0).val) (h1 : (i 2).val = (j 1).val) :
    AGB m n i = AO m c j := by
  unfold AGB
  rw [nx2_eq h0 h1, show dv (n.val + (i 0).val + 1) = c from Fin.ext hc]

/-- The transfer of the partial output block `b` to device `b`. -/
theorem wp_rss {l : List Ev} (b : Fin 4) (hb : b.val ≠ c.val) {n' : Dev nD} (hn' : n' = b) {ob : ℕ} (hob : ob = 256 * b.val) {o3 : Fin 3 → ℕ} (ho3 : o3 = ![c.val, 0, 0])
    {inb₁ inb₂ h₁ h₂ hq sS sem hsc hsrc hdst hsem} (hsS : sS = SemLoc.dma (semOf (.rss b))) (hs : sem = SemLoc.dma (semOf (.rsr c)))
    (hN : ((rbM.slice (Rect.unit (s := S4x256x1024) o3 ![1, 256, 1024] inb₂) h₂).squeeze S256x1024 hq).view.amount sem = amt c (.rss b))
    {α : Type} {Q : α → sProp 𝕄} {k : PUnit → Prog (TpuEff nD τ sig (Elt F) Λ₀ .tc) α} :
    iprop(Rec m K ∗ Run c (.send b (.rsr c) (.rss b) :: l) ∗ ((c : Thread nD τ).loc cc0_scratch5 ↦[sqx (256 * b.val) 0 256 1024]{fullShare} PB m c) ∗ own cc0_scratch6 b (rbx c.val))
      ⊢ iprop((Run c l -∗ wpc c (k ⟨⟩) Q)
        -∗ wpc c (.op (.enqueueDma (pbM.slice (Rect.unit (s := S1024x1024) ![ob, 0] ![256, 1024] inb₁) h₁)
          (.remote (n' : Thread nD τ) ((rbM.slice (Rect.unit (s := S4x256x1024) o3 ![1, 256, 1024] inb₂) h₂).squeeze S256x1024 hq) sS hsc) sem hsrc hdst hsem) k) Q) := by
  subst hn' hob ho3
  have p₁ := fun f => pt_sl (F := F) c cc0_scratch5 ![256 * n'.val, 0] ![256, 1024] inb₁ h₁ (q := fullShare) f
  have p₂ := fun f => pt_sq (F := F) n' cc0_scratch6 ![c.val, 0, 0] ![1, 256, 1024] inb₂ h₂ hq (q := fullShare) f
  have hv : ∀ x, ((rbM.slice (Rect.unit (s := S4x256x1024) ![c.val, 0, 0] ![1, 256, 1024] inb₂) h₂).squeeze S256x1024 hq).view.read (Elt F) (RSB m n') x
      = (pbM.slice (Rect.unit (s := S1024x1024) ![256 * n'.val, 0] ![256, 1024] inb₁) h₁).view.read (Elt F) (PB m c) x := by
    intro x
    have s0 := emb_sl cc0_scratch5 ![256 * n'.val, 0] ![256, 1024] inb₁ x (0 : Fin 2)
    have s1 := emb_sl cc0_scratch5 ![256 * n'.val, 0] ![256, 1024] inb₁ x (1 : Fin 2)
    have d0 := emb_sl cc0_scratch6 ![c.val, 0, 0] ![1, 256, 1024] inb₂ (Shape.reshapeEquiv hq.numel_eq x) (0 : Fin 3)
    have d1 := emb_sl cc0_scratch6 ![c.val, 0, 0] ![1, 256, 1024] inb₂ (Shape.reshapeEquiv hq.numel_eq x) (1 : Fin 3)
    have d2 := emb_sl cc0_scratch6 ![c.val, 0, 0] ![1, 256, 1024] inb₂ (Shape.reshapeEquiv hq.numel_eq x) (2 : Fin 3)
    have e0 := congrArg (fun j : S1x256x1024.Idx => (j 0).val) (reshape_row hq.numel_eq x)
    have e1 := congrArg (fun j : S1x256x1024.Idx => (j 1).val) (reshape_row hq.numel_eq x)
    have e2 := congrArg (fun j : S1x256x1024.Idx => (j 2).val) (reshape_row hq.numel_eq x)
    refine RSB_other m c (n := n') ?_ hb ?_ ?_
    · refine d0.trans (Eq.trans (congrArg (c.val + ·) e0) (Nat.add_zero _))
    · refine Eq.trans (congrArg (256 * n'.val + ·) (d1.trans (congrArg (0 + ·) e1))) (Eq.trans ?_ s0.symm)
      exact congrArg (256 * n'.val + ·) (Nat.zero_add _)
    · exact (d2.trans (congrArg (0 + ·) e2)).trans s1.symm
  have q1 := fun fd => pt_land (n' : Thread nD τ) (pbM.slice (Rect.unit (s := S1024x1024) ![256 * n'.val, 0] ![256, 1024] inb₁) h₁).view ((rbM.slice (Rect.unit (s := S4x256x1024) ![c.val, 0, 0] ![1, 256, 1024] inb₂) h₂).squeeze S256x1024 hq).view (PB m c) fd (RSB m n') hv
  have q2 := fun fd => (q1 fd).trans (p₂ _)
  have q3 := fun fd => (Entails.of_eq (q2 fd))
  have q4 := (Entails.of_eq (p₁ (PB m c)))
  have step := fun fd => run_send m K c n' (.rsr c) (.rss n') (l := l) (q := fullShare) rfl (src := (pbM.slice (Rect.unit (s := S1024x1024) ![256 * n'.val, 0] ![256, 1024] inb₁) h₁)) (dst := ((rbM.slice (Rect.unit (s := S4x256x1024) ![c.val, 0, 0] ![1, 256, 1024] inb₂) h₂).squeeze S256x1024 hq)) (hsc := hsc) hsS hs (hsrc := hsrc) (hdst := hdst) (hsem := hsem) (fs := PB m c) (fd := fd) hN rfl q4 (q3 fd) (Q := Q) (k := k)
  unfold own
  iintro ⟨#HR, Hrun, Hs, ⟨%fd, Hd⟩⟩ Hk
  iapply (step fd) $$ [Hrun Hs Hd]
  · isplitr; · iexact HR
    isplitl [Hrun]; · iexact Hrun
    isplitl [Hs]
    · iapply (Entails.of_eq (p₁ (PB m c)).symm); iexact Hs
    iapply (Entails.of_eq (p₂ fd).symm); iexact Hd
  iexact Hk

/-- The transfer of the summed block to the device `k + 1` places on, out of a third of it. -/
theorem wp_ags {l : List Ev} (k s : Fin 3) (n : Dev nD) (hn : n.val = (c.val + k.val + 1) % 4) {n' : Dev nD} (hn' : n' = n) {os : ℕ} (hos : os = s.val) (hsk : s.val + k.val = 2)
    {inb₂ h₂ hq sS sem hsc hsrc hdst hsem} (hsS : sS = SemLoc.dma (semOf (.ags k))) (hs : sem = SemLoc.dma (semOf (.agr s)))
    (hN : ((gbM.slice (Rect.unit (s := S3x256x1024) ![os, 0, 0] ![1, 256, 1024] inb₂) h₂).squeeze S256x1024 hq).view.amount sem = amt c (.ags k))
    {α : Type} {Q : α → sProp 𝕄} {kk : PUnit → Prog (TpuEff nD τ sig (Elt F) Λ₀ .tc) α} :
    iprop(Rec m K ∗ Run c (.send n (.agr s) (.ags k) :: l) ∗ ((c : Thread nD τ).loc cc0_scratch7 ↦[Finset.univ]{Ring.shares3 fullShare k} AO m c) ∗ own cc0_scratch8 n (gbx s.val))
      ⊢ iprop((Run c l -∗ wpc c (kk ⟨⟩) Q)
        -∗ wpc c (.op (.enqueueDma aoM
          (.remote (n' : Thread nD τ) ((gbM.slice (Rect.unit (s := S3x256x1024) ![os, 0, 0] ![1, 256, 1024] inb₂) h₂).squeeze S256x1024 hq) sS hsc) sem hsrc hdst hsem) kk) Q) := by
  subst hn' hos
  have p₁ : ∀ f : Buf (Elt F) ((c : Thread nD τ).loc cc0_scratch7), (aoM.view.loc (c : Thread nD τ) ↦[aoM.view.set]{Ring.shares3 fullShare k} f : sProp 𝕄) = ((c : Thread nD τ).loc cc0_scratch7 ↦[Finset.univ]{Ring.shares3 fullShare k} f) := fun f =>
    congrArg (fun S : Finset S256x1024.Idx => iprop((c : Thread nD τ).loc cc0_scratch7 ↦[S]{Ring.shares3 fullShare k} f)) (View.set_whole cc0_scratch7)
  have p₂ := fun f => pt_sq (F := F) n' cc0_scratch8 ![s.val, 0, 0] ![1, 256, 1024] inb₂ h₂ hq (q := fullShare) f
  have hv : ∀ x, ((gbM.slice (Rect.unit (s := S3x256x1024) ![s.val, 0, 0] ![1, 256, 1024] inb₂) h₂).squeeze S256x1024 hq).view.read (Elt F) (AGB m n') x
      = aoM.view.read (Elt F) (AO m c) x := by
    intro x
    have d0 := emb_sl cc0_scratch8 ![s.val, 0, 0] ![1, 256, 1024] inb₂ (Shape.reshapeEquiv hq.numel_eq x) (0 : Fin 3)
    have d1 := emb_sl cc0_scratch8 ![s.val, 0, 0] ![1, 256, 1024] inb₂ (Shape.reshapeEquiv hq.numel_eq x) (1 : Fin 3)
    have d2 := emb_sl cc0_scratch8 ![s.val, 0, 0] ![1, 256, 1024] inb₂ (Shape.reshapeEquiv hq.numel_eq x) (2 : Fin 3)
    have e0 := congrArg (fun j : S1x256x1024.Idx => (j 0).val) (reshape_row hq.numel_eq x)
    have e1 := congrArg (fun j : S1x256x1024.Idx => (j 1).val) (reshape_row hq.numel_eq x)
    have e2 := congrArg (fun j : S1x256x1024.Idx => (j 2).val) (reshape_row hq.numel_eq x)
    refine AGB_of m c (n := n') (j := x) ?_ ?_ ?_
    · refine Eq.trans (congrArg (fun z => (n'.val + z + 1) % 4) (d0.trans (Eq.trans (congrArg (s.val + ·) e0) (Nat.add_zero _)))) ?_
      have := c.isLt
      have h4 : c.val < 4 := this
      omega
    · exact (d1.trans (congrArg (0 + ·) e1)).trans (Nat.zero_add _)
    · exact (d2.trans (congrArg (0 + ·) e2)).trans (Nat.zero_add _)
  have q1 := fun fd => pt_land (n' : Thread nD τ) aoM.view ((gbM.slice (Rect.unit (s := S3x256x1024) ![s.val, 0, 0] ![1, 256, 1024] inb₂) h₂).squeeze S256x1024 hq).view (AO m c) fd (AGB m n') hv
  have q2 := fun fd => (q1 fd).trans (p₂ _)
  have q3 := fun fd => (Entails.of_eq (q2 fd))
  have q4 := (Entails.of_eq (p₁ (AO m c)))
  have step := fun fd => run_send m K c n' (.agr s) (.ags k) (l := l) (q := Ring.shares3 fullShare k) rfl (src := aoM) (dst := ((gbM.slice (Rect.unit (s := S3x256x1024) ![s.val, 0, 0] ![1, 256, 1024] inb₂) h₂).squeeze S256x1024 hq)) (hsc := hsc) hsS hs (hsrc := hsrc) (hdst := hdst) (hsem := hsem) (fs := AO m c) (fd := fd) hN rfl q4 (q3 fd) (Q := Q) (k := kk)
  unfold own
  iintro ⟨#HR, Hrun, Hs, ⟨%fd, Hd⟩⟩ Hk
  iapply (step fd) $$ [Hrun Hs Hd]
  · isplitr; · iexact HR
    isplitl [Hrun]; · iexact Hrun
    isplitl [Hs]
    · iapply (Entails.of_eq (p₁ (AO m c)).symm); iexact Hs
    iapply (Entails.of_eq (p₂ fd).symm); iexact Hd
  iexact Hk

end Cert.KernelIdeal.Run
-- ==== Proof.Ops.lean ====
/- The loads and stores of the kernel: each rule for one buffer, saying what is read and what is left. -/
module

public import proofs.«01_k».proof.Proof.Copies

@[expose] public section

set_option maxRecDepth 16384

noncomputable section

namespace Cert.KernelIdeal.Run

open Cert.KernelIdeal Cert.KernelIdeal.Gen
open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : Mem (F := F)) (c : Dev nD)

/-- The context buffer after `n` heads are stored: those heads are there, the rest is whatever it was. -/
def CtxI (n : ℕ) : sProp 𝕄 :=
  iprop(∃ f, ⌜∀ i : S1024x1024.Idx, 8 * ((i 0).val / 256) + (i 1).val / 128 < n → f i = CTX m c i⌝ ∗ ((c : Thread nD τ).loc cc0_scratch4 ↦[Finset.univ]{fullShare} f))

/-- Reading any rectangle of a buffer of which the elements `S` are held. -/
theorem sub_univ {κ : Kind} {b : Ref sig κ} {S : Finset b.ty.shape.Idx} : S ⊆ (Finset.univ : Finset b.ty.shape.Idx) := fun _ _ => Finset.mem_univ _

/-- A head's window of the key buffer is read, all its rows having arrived. -/
theorem wp_ldk {n o0 o1 : ℕ} {inb hl} (hn : o0 + 512 ≤ n) {α : Type} {Q : α → sProp 𝕄} {k : (S512x128.Idx → Elt F .i8) → Prog (TpuEff nD τ sig (Elt F) Λ₀ .tc) α} :
    bfPt m 0 c (kbx 0 0 n 1024)
      ⊢ iprop((bfPt m 0 c (kbx 0 0 n 1024) -∗ wpc c (k (kbM.view.readAt (Elt F) (Rect.unit (s := S1152x1024) ![o0, o1] S512x128.size inb).toLoadRect (KB m c))) Q)
        -∗ wpc c (.op (.load kbM (Rect.unit (s := S1152x1024) ![o0, o1] S512x128.size inb).toLoadRect hl) k) Q) := by
  have hs : ((kbM.access (Rect.unit (s := S1152x1024) ![o0, o1] S512x128.size inb)).set : Finset S1152x1024.Idx) = kbx o0 o1 512 128 := set_sl cc0_scratch0 ![o0, o1] ![512, 128] inb
  have h1 : o1 + 128 ≤ 1024 := inb 1
  have hS : ((kbM.access (Rect.unit (s := S1152x1024) ![o0, o1] S512x128.size inb)).set : Finset S1152x1024.Idx) ⊆ kbx 0 0 n 1024 := by
    rw [hs]; intro i hi; have := mem_bx2.mp hi; exact mem_bx2.mpr (by omega)
  rw [bfPt_K]
  iintro H Hk
  iapply (wp_load_rect 𝒱₀ (c : Thread nD τ) none Set.univ (m := kbM) hS) $$ H
  iexact Hk

/-- A head's window of the value buffer is read, all its rows having arrived. -/
theorem wp_ldv {n o0 o1 : ℕ} {inb hl} (hn : o0 + 512 ≤ n) {α : Type} {Q : α → sProp 𝕄} {k : (S512x128.Idx → Elt F .i8) → Prog (TpuEff nD τ sig (Elt F) Λ₀ .tc) α} :
    bfPt m 1 c (kbx 0 0 n 1024)
      ⊢ iprop((bfPt m 1 c (kbx 0 0 n 1024) -∗ wpc c (k (vbM.view.readAt (Elt F) (Rect.unit (s := S1152x1024) ![o0, o1] S512x128.size inb).toLoadRect (VB m c))) Q)
        -∗ wpc c (.op (.load vbM (Rect.unit (s := S1152x1024) ![o0, o1] S512x128.size inb).toLoadRect hl) k) Q) := by
  have hs : ((vbM.access (Rect.unit (s := S1152x1024) ![o0, o1] S512x128.size inb)).set : Finset S1152x1024.Idx) = kbx o0 o1 512 128 := set_sl cc0_scratch1 ![o0, o1] ![512, 128] inb
  have h1 : o1 + 128 ≤ 1024 := inb 1
  have hS : ((vbM.access (Rect.unit (s := S1152x1024) ![o0, o1] S512x128.size inb)).set : Finset S1152x1024.Idx) ⊆ kbx 0 0 n 1024 := by
    rw [hs]; intro i hi; have := mem_bx2.mp hi; exact mem_bx2.mpr (by omega)
  rw [bfPt_V]
  iintro H Hk
  iapply (wp_load_rect 𝒱₀ (c : Thread nD τ) none Set.univ (m := vbM) hS) $$ H
  iexact Hk

/-- The staged input is read whole. -/
theorem wp_ldx {r : Rect S1024x1024} {hl} {α : Type} {Q : α → sProp 𝕄} {k : (r.toLoadRect.shape.Idx → Elt F .bf16) → Prog (TpuEff nD τ sig (Elt F) Λ₀ .tc) α} :
    ((c : Thread nD τ).loc cc0_stg0_0 ↦[Finset.univ]{fullShare} X m c : sProp 𝕄)
      ⊢ iprop((((c : Thread nD τ).loc cc0_stg0_0 ↦[Finset.univ]{fullShare} X m c) -∗ wpc c (k (xM.view.readAt (Elt F) r.toLoadRect (X m c))) Q)
        -∗ wpc c (.op (.load xM r.toLoadRect hl) k) Q) :=
  wp_load 𝒱₀ (c : Thread nD τ) none Set.univ (m := xM) (fun _ _ => Finset.mem_univ _)

/-- The staged query projection is read whole. -/
theorem wp_ldwq {r : Rect S1024x1024} {hl} {α : Type} {Q : α → sProp 𝕄} {k : (r.toLoadRect.shape.Idx → Elt F .bf16) → Prog (TpuEff nD τ sig (Elt F) Λ₀ .tc) α} :
    ((c : Thread nD τ).loc cc0_stg1_0 ↦[Finset.univ]{fullShare} WQ m c : sProp 𝕄)
      ⊢ iprop((((c : Thread nD τ).loc cc0_stg1_0 ↦[Finset.univ]{fullShare} WQ m c) -∗ wpc c (k (wqM.view.readAt (Elt F) r.toLoadRect (WQ m c))) Q)
        -∗ wpc c (.op (.load wqM r.toLoadRect hl) k) Q) :=
  wp_load 𝒱₀ (c : Thread nD τ) none Set.univ (m := wqM) (fun _ _ => Finset.mem_univ _)

/-- The staged output projection is read whole. -/
theorem wp_ldwo {r : Rect S1024x1024} {hl} {α : Type} {Q : α → sProp 𝕄} {k : (r.toLoadRect.shape.Idx → Elt F .bf16) → Prog (TpuEff nD τ sig (Elt F) Λ₀ .tc) α} :
    ((c : Thread nD τ).loc cc0_stg2_0 ↦[Finset.univ]{fullShare} WO m c : sProp 𝕄)
      ⊢ iprop((((c : Thread nD τ).loc cc0_stg2_0 ↦[Finset.univ]{fullShare} WO m c) -∗ wpc c (k (woM.view.readAt (Elt F) r.toLoadRect (WO m c))) Q)
        -∗ wpc c (.op (.load woM r.toLoadRect hl) k) Q) :=
  wp_load 𝒱₀ (c : Thread nD τ) none Set.univ (m := woM) (fun _ _ => Finset.mem_univ _)

/-- A head's block of the context buffer is read before it is stored; what is read is not used. -/
theorem wp_ldc {n : ℕ} {r : LoadRect S1024x1024} {hl} {α : Type} {Q : α → sProp 𝕄} {k : (r.shape.Idx → Elt F .bf16) → Prog (TpuEff nD τ sig (Elt F) Λ₀ .tc) α} :
    CtxI m c n ⊢ iprop((∀ v, CtxI m c n -∗ wpc c (k v) Q) -∗ wpc c (.op (.load cxM r hl) k) Q) := by
  unfold CtxI
  iintro ⟨%f, %hf, H⟩ Hk
  iapply (wp_load 𝒱₀ (c : Thread nD τ) none Set.univ (m := cxM) (fun _ _ => Finset.mem_univ _)) $$ H
  iintro H
  iapply Hk
  iexists f
  isplitr; · ipureintro; exact hf
  iexact H

/-- A block of 256 context rows is read, all its heads being stored. -/
theorem wp_ldcr {n b o0 : ℕ} {inb hl} (ho : o0 = 256 * b) (hn : 8 * b + 8 = n) {α : Type} {Q : α → sProp 𝕄} {k : (S256x1024.Idx → Elt F .bf16) → Prog (TpuEff nD τ sig (Elt F) Λ₀ .tc) α} :
    CtxI m c n ⊢ iprop((CtxI m c n -∗ wpc c (k (cxM.view.readAt (Elt F) (Rect.unit (s := S1024x1024) ![o0, 0] S256x1024.size inb).toLoadRect (CTX m c))) Q)
      -∗ wpc c (.op (.load cxM (Rect.unit (s := S1024x1024) ![o0, 0] S256x1024.size inb).toLoadRect hl) k) Q) := by
  subst ho
  unfold CtxI
  iintro ⟨%f, %hf, H⟩ Hk
  have e : cxM.view.readAt (Elt F) (Rect.unit (s := S1024x1024) ![256 * b, 0] S256x1024.size inb).toLoadRect f = cxM.view.readAt (Elt F) (Rect.unit (s := S1024x1024) ![256 * b, 0] S256x1024.size inb).toLoadRect (CTX m c) := by
    funext j
    have l0 : (j 0).val < 256 := (j 0).isLt
    have l1 : (j 1).val < 1024 := (j 1).isLt
    have e0 := emb_sl cc0_scratch4 ![256 * b, 0] ![256, 1024] inb j (0 : Fin 2)
    have e1 := emb_sl cc0_scratch4 ![256 * b, 0] ![256, 1024] inb j (1 : Fin 2)
    refine hf _ ?_
    have e0' : ((((View.whole cc0_scratch4).slice (Rect.unit (s := S1024x1024) ![256 * b, 0] ![256, 1024] inb)).emb j 0 : Fin _) : ℕ) = 256 * b + (j 0).val := e0
    have e1' : ((((View.whole cc0_scratch4).slice (Rect.unit (s := S1024x1024) ![256 * b, 0] ![256, 1024] inb)).emb j 1 : Fin _) : ℕ) = 0 + (j 1).val := e1
    have q0 : (256 * b + (j 0).val) / 256 = b := by omega
    have q1 : (0 + (j 1).val) / 128 < 8 := by omega
    have e2 := congrArg₂ (fun a b : ℕ => 8 * (a / 256) + b / 128) e0' e1'
    refine lt_of_eq_of_lt e2 ?_
    show 8 * ((256 * b + (j 0).val) / 256) + (0 + (j 1).val) / 128 < n
    omega
  iapply (wp_load 𝒱₀ (c : Thread nD τ) none Set.univ (m := cxM) (fun _ _ => Finset.mem_univ _)) $$ H
  iintro H
  rw [e]
  iapply Hk
  iexists f
  isplitr; · ipureintro; exact hf
  iexact H

/-- A head's block is stored into the context buffer. -/
theorem wp_stc {n q h o0 o1 : ℕ} {inb hx hm} {w : S256x128.Idx → Elt F .bf16} (hn : n = 8 * q + h) (hh : h < 8) (ho0 : o0 = 256 * q) (ho1 : o1 = 128 * h) (hw : w = hv m c n)
    {α : Type} {Q : α → sProp 𝕄} {k : PUnit → Prog (TpuEff nD τ sig (Elt F) Λ₀ .tc) α} :
    CtxI m c n ⊢ iprop((CtxI m c (n + 1) -∗ wpc c (k ⟨⟩) Q)
      -∗ wpc c (.op (.store cxM (Rect.unit (s := S1024x1024) ![o0, o1] S256x128.size inb) w Finset.univ hx hm) k) Q) := by
  subst ho0 ho1 hw
  unfold CtxI
  iintro ⟨%f, %hf, H⟩ Hk
  iapply (wp_store 𝒱₀ (c : Thread nD τ) none Set.univ (m := cxM) (r := Rect.unit (s := S1024x1024) ![256 * q, 128 * h] S256x128.size inb) (Mk := Finset.univ) (fun _ _ => Finset.mem_univ _)) $$ H
  iintro H
  iapply Hk
  iexists _
  isplitr
  rotate_left
  · iexact H
  ipureintro
  intro i hi
  by_cases hm : i ∈ bx (s := S1024x1024) ![256 * q, 128 * h] ![256, 128]
  · have hs : (((View.whole cc0_scratch4).slice (Rect.unit (s := S1024x1024) ![256 * q, 128 * h] ![256, 128] inb)).set : Finset S1024x1024.Idx) = bx ![256 * q, 128 * h] ![256, 128] := set_sl cc0_scratch4 ![256 * q, 128 * h] ![256, 128] inb
    rw [← hs] at hm
    obtain ⟨j, -, rfl⟩ := Finset.mem_map.mp hm
    have l0 : (j 0).val < 256 := (j 0).isLt
    have l1 : (j 1).val < 128 := (j 1).isLt
    have e0 : ((((View.whole cc0_scratch4).slice (Rect.unit (s := S1024x1024) ![256 * q, 128 * h] ![256, 128] inb)).emb j 0 : Fin _) : ℕ) = 256 * q + (j 0).val := emb_sl cc0_scratch4 ![256 * q, 128 * h] ![256, 128] inb j (0 : Fin 2)
    have e1 : ((((View.whole cc0_scratch4).slice (Rect.unit (s := S1024x1024) ![256 * q, 128 * h] ![256, 128] inb)).emb j 1 : Fin _) : ℕ) = 128 * h + (j 1).val := emb_sl cc0_scratch4 ![256 * q, 128 * h] ![256, 128] inb j (1 : Fin 2)
    refine (View.write_emb_of_mem _ _ (Finset.mem_univ j)).trans ?_
    have hc : CTX m c (((View.whole cc0_scratch4).slice (Rect.unit (s := S1024x1024) ![256 * q, 128 * h] ![256, 128] inb)).emb j) = hv m c n j := by
      unfold CTX
      rw [e0, e1]
      congr 1
      · omega
      · exact nx2_eq (by omega) (by omega)
    exact hc.symm
  · refine (View.write_of_not_mem _ _ _ ?_).trans (hf i ?_)
    · intro hmem
      have h2 : i ∈ ((View.whole cc0_scratch4).slice (Rect.unit (s := S1024x1024) ![256 * q, 128 * h] ![256, 128] inb)).set := hmem
      rw [set_sl cc0_scratch4 ![256 * q, 128 * h] ![256, 128] inb] at h2
      exact hm h2
    · rw [mem_bx2] at hm
      have l0 : (i 0).val < 1024 := (i 0).isLt
      have l1 : (i 1).val < 1024 := (i 1).isLt
      omega

/-- A block is read before it is stored; what is read is not used. -/
theorem wp_ldo_pb {o0 : ℕ} {off : Fin _ → ℕ} (hoff : off = ![o0, 0]) {inb hl} {α : Type} {Q : α → sProp 𝕄} {k : (S256x1024.Idx → Elt F .bf16) → Prog (TpuEff nD τ sig (Elt F) Λ₀ .tc) α} :
    own cc0_scratch5 c (bx (s := S1024x1024) ![o0, 0] ![256, 1024])
      ⊢ iprop((∀ v, own cc0_scratch5 c (bx (s := S1024x1024) ![o0, 0] ![256, 1024]) -∗ wpc c (k v) Q)
        -∗ wpc c (.op (.load pbM (Rect.unit (s := S1024x1024) off S256x1024.size inb).toLoadRect hl) k) Q) := by
  subst hoff
  have hs : ((pbM.access (Rect.unit (s := S1024x1024) ![o0, 0] S256x1024.size inb)).set : Finset S1024x1024.Idx) ⊆ bx (s := S1024x1024) ![o0, 0] ![256, 1024] := by
    intro i hi; rw [← set_sl cc0_scratch5 ![o0, 0] ![256, 1024] inb]; exact hi
  unfold own
  iintro ⟨%f, H⟩ Hk
  iapply (wp_load_rect 𝒱₀ (c : Thread nD τ) none Set.univ (m := pbM) hs) $$ H
  iintro H
  iapply Hk
  iexists f; iexact H

/-- A whole block is stored. -/
theorem wp_sto_pb {o0 : ℕ} {off : Fin _ → ℕ} (hoff : off = ![o0, 0]) {inb hx hm} {w : S256x1024.Idx → Elt F .bf16} (g : S1024x1024.Idx → Elt F .bf16) (hg : ∀ (i : S1024x1024.Idx) (j : S256x1024.Idx), (∀ a, (i a).val = ![o0, 0] a + (j a).val) → g i = w j)
    {α : Type} {Q : α → sProp 𝕄} {k : PUnit → Prog (TpuEff nD τ sig (Elt F) Λ₀ .tc) α} :
    own cc0_scratch5 c (bx (s := S1024x1024) ![o0, 0] ![256, 1024])
      ⊢ iprop((((c : Thread nD τ).loc cc0_scratch5 ↦[bx (s := S1024x1024) ![o0, 0] ![256, 1024]]{fullShare} g) -∗ wpc c (k ⟨⟩) Q)
        -∗ wpc c (.op (.store pbM (Rect.unit (s := S1024x1024) off S256x1024.size inb) w Finset.univ hx hm) k) Q) := by
  subst hoff
  have hs : ((pbM.access (Rect.unit (s := S1024x1024) ![o0, 0] S256x1024.size inb)).set : Finset S1024x1024.Idx) ⊆ bx (s := S1024x1024) ![o0, 0] ![256, 1024] := by
    intro i hi; rw [← set_sl cc0_scratch5 ![o0, 0] ![256, 1024] inb]; exact hi
  have hl : ∀ f, ∀ i ∈ bx (s := S1024x1024) ![o0, 0] ![256, 1024], (pbM.access (Rect.unit (s := S1024x1024) ![o0, 0] S256x1024.size inb)).write (Elt F) f w Finset.univ i = g i := by
    intro f i hi
    rw [← set_sl cc0_scratch5 ![o0, 0] ![256, 1024] inb] at hi
    obtain ⟨j, -, rfl⟩ := Finset.mem_map.mp hi
    refine (View.write_emb_of_mem _ _ (Finset.mem_univ j)).trans ?_
    exact (hg _ j (fun a => emb_sl cc0_scratch5 ![o0, 0] ![256, 1024] inb j a)).symm
  have pc : ∀ f, ((c : Thread nD τ).loc cc0_scratch5 ↦[bx (s := S1024x1024) ![o0, 0] ![256, 1024]]{fullShare} ((pbM.access (Rect.unit (s := S1024x1024) ![o0, 0] S256x1024.size inb)).write (Elt F) f w Finset.univ) : sProp 𝕄) = ((c : Thread nD τ).loc cc0_scratch5 ↦[bx (s := S1024x1024) ![o0, 0] ![256, 1024]]{fullShare} g) := fun f => pointsTo_congr (hl f)
  unfold own
  iintro ⟨%f, H⟩ Hk
  iapply (wp_store 𝒱₀ (c : Thread nD τ) none Set.univ (m := pbM) hs) $$ H
  iintro H
  iapply Hk
  iapply (Entails.of_eq (pc f)); iexact H

/-- A block is read before it is stored; what is read is not used. -/
theorem wp_ldo_ob {o0 : ℕ} {off : Fin _ → ℕ} (hoff : off = ![o0, 0]) {inb hl} {α : Type} {Q : α → sProp 𝕄} {k : (S256x1024.Idx → Elt F .f32) → Prog (TpuEff nD τ sig (Elt F) Λ₀ .tc) α} :
    own cc0_stg3_0 c (bx (s := S1024x1024) ![o0, 0] ![256, 1024])
      ⊢ iprop((∀ v, own cc0_stg3_0 c (bx (s := S1024x1024) ![o0, 0] ![256, 1024]) -∗ wpc c (k v) Q)
        -∗ wpc c (.op (.load oM (Rect.unit (s := S1024x1024) off S256x1024.size inb).toLoadRect hl) k) Q) := by
  subst hoff
  have hs : ((oM.access (Rect.unit (s := S1024x1024) ![o0, 0] S256x1024.size inb)).set : Finset S1024x1024.Idx) ⊆ bx (s := S1024x1024) ![o0, 0] ![256, 1024] := by
    intro i hi; rw [← set_sl cc0_stg3_0 ![o0, 0] ![256, 1024] inb]; exact hi
  unfold own
  iintro ⟨%f, H⟩ Hk
  iapply (wp_load_rect 𝒱₀ (c : Thread nD τ) none Set.univ (m := oM) hs) $$ H
  iintro H
  iapply Hk
  iexists f; iexact H

/-- A whole block is stored. -/
theorem wp_sto_ob {o0 : ℕ} {off : Fin _ → ℕ} (hoff : off = ![o0, 0]) {inb hx hm} {w : S256x1024.Idx → Elt F .f32} (g : S1024x1024.Idx → Elt F .f32) (hg : ∀ (i : S1024x1024.Idx) (j : S256x1024.Idx), (∀ a, (i a).val = ![o0, 0] a + (j a).val) → g i = w j)
    {α : Type} {Q : α → sProp 𝕄} {k : PUnit → Prog (TpuEff nD τ sig (Elt F) Λ₀ .tc) α} :
    own cc0_stg3_0 c (bx (s := S1024x1024) ![o0, 0] ![256, 1024])
      ⊢ iprop((((c : Thread nD τ).loc cc0_stg3_0 ↦[bx (s := S1024x1024) ![o0, 0] ![256, 1024]]{fullShare} g) -∗ wpc c (k ⟨⟩) Q)
        -∗ wpc c (.op (.store oM (Rect.unit (s := S1024x1024) off S256x1024.size inb) w Finset.univ hx hm) k) Q) := by
  subst hoff
  have hs : ((oM.access (Rect.unit (s := S1024x1024) ![o0, 0] S256x1024.size inb)).set : Finset S1024x1024.Idx) ⊆ bx (s := S1024x1024) ![o0, 0] ![256, 1024] := by
    intro i hi; rw [← set_sl cc0_stg3_0 ![o0, 0] ![256, 1024] inb]; exact hi
  have hl : ∀ f, ∀ i ∈ bx (s := S1024x1024) ![o0, 0] ![256, 1024], (oM.access (Rect.unit (s := S1024x1024) ![o0, 0] S256x1024.size inb)).write (Elt F) f w Finset.univ i = g i := by
    intro f i hi
    rw [← set_sl cc0_stg3_0 ![o0, 0] ![256, 1024] inb] at hi
    obtain ⟨j, -, rfl⟩ := Finset.mem_map.mp hi
    refine (View.write_emb_of_mem _ _ (Finset.mem_univ j)).trans ?_
    exact (hg _ j (fun a => emb_sl cc0_stg3_0 ![o0, 0] ![256, 1024] inb j a)).symm
  have pc : ∀ f, ((c : Thread nD τ).loc cc0_stg3_0 ↦[bx (s := S1024x1024) ![o0, 0] ![256, 1024]]{fullShare} ((oM.access (Rect.unit (s := S1024x1024) ![o0, 0] S256x1024.size inb)).write (Elt F) f w Finset.univ) : sProp 𝕄) = ((c : Thread nD τ).loc cc0_stg3_0 ↦[bx (s := S1024x1024) ![o0, 0] ![256, 1024]]{fullShare} g) := fun f => pointsTo_congr (hl f)
  unfold own
  iintro ⟨%f, H⟩ Hk
  iapply (wp_store 𝒱₀ (c : Thread nD τ) none Set.univ (m := oM) hs) $$ H
  iintro H
  iapply Hk
  iapply (Entails.of_eq (pc f)); iexact H

/-- A block is read before it is stored; what is read is not used. -/
theorem wp_ldo_rb {o0 : ℕ} {off : Fin _ → ℕ} (hoff : off = ![o0, 0, 0]) {inb hl} {α : Type} {Q : α → sProp 𝕄} {k : (S1x256x1024.Idx → Elt F .bf16) → Prog (TpuEff nD τ sig (Elt F) Λ₀ .tc) α} :
    own cc0_scratch6 c (bx (s := S4x256x1024) ![o0, 0, 0] ![1, 256, 1024])
      ⊢ iprop((∀ v, own cc0_scratch6 c (bx (s := S4x256x1024) ![o0, 0, 0] ![1, 256, 1024]) -∗ wpc c (k v) Q)
        -∗ wpc c (.op (.load rbM (Rect.unit (s := S4x256x1024) off S1x256x1024.size inb).toLoadRect hl) k) Q) := by
  subst hoff
  have hs : ((rbM.access (Rect.unit (s := S4x256x1024) ![o0, 0, 0] S1x256x1024.size inb)).set : Finset S4x256x1024.Idx) ⊆ bx (s := S4x256x1024) ![o0, 0, 0] ![1, 256, 1024] := by
    intro i hi; rw [← set_sl cc0_scratch6 ![o0, 0, 0] ![1, 256, 1024] inb]; exact hi
  unfold own
  iintro ⟨%f, H⟩ Hk
  iapply (wp_load_rect 𝒱₀ (c : Thread nD τ) none Set.univ (m := rbM) hs) $$ H
  iintro H
  iapply Hk
  iexists f; iexact H

/-- A whole block is stored. -/
theorem wp_sto_rb {o0 : ℕ} {off : Fin _ → ℕ} (hoff : off = ![o0, 0, 0]) {inb hx hm} {w : S1x256x1024.Idx → Elt F .bf16} (g : S4x256x1024.Idx → Elt F .bf16) (hg : ∀ (i : S4x256x1024.Idx) (j : S1x256x1024.Idx), (∀ a, (i a).val = ![o0, 0, 0] a + (j a).val) → g i = w j)
    {α : Type} {Q : α → sProp 𝕄} {k : PUnit → Prog (TpuEff nD τ sig (Elt F) Λ₀ .tc) α} :
    own cc0_scratch6 c (bx (s := S4x256x1024) ![o0, 0, 0] ![1, 256, 1024])
      ⊢ iprop((((c : Thread nD τ).loc cc0_scratch6 ↦[bx (s := S4x256x1024) ![o0, 0, 0] ![1, 256, 1024]]{fullShare} g) -∗ wpc c (k ⟨⟩) Q)
        -∗ wpc c (.op (.store rbM (Rect.unit (s := S4x256x1024) off S1x256x1024.size inb) w Finset.univ hx hm) k) Q) := by
  subst hoff
  have hs : ((rbM.access (Rect.unit (s := S4x256x1024) ![o0, 0, 0] S1x256x1024.size inb)).set : Finset S4x256x1024.Idx) ⊆ bx (s := S4x256x1024) ![o0, 0, 0] ![1, 256, 1024] := by
    intro i hi; rw [← set_sl cc0_scratch6 ![o0, 0, 0] ![1, 256, 1024] inb]; exact hi
  have hl : ∀ f, ∀ i ∈ bx (s := S4x256x1024) ![o0, 0, 0] ![1, 256, 1024], (rbM.access (Rect.unit (s := S4x256x1024) ![o0, 0, 0] S1x256x1024.size inb)).write (Elt F) f w Finset.univ i = g i := by
    intro f i hi
    rw [← set_sl cc0_scratch6 ![o0, 0, 0] ![1, 256, 1024] inb] at hi
    obtain ⟨j, -, rfl⟩ := Finset.mem_map.mp hi
    refine (View.write_emb_of_mem _ _ (Finset.mem_univ j)).trans ?_
    exact (hg _ j (fun a => emb_sl cc0_scratch6 ![o0, 0, 0] ![1, 256, 1024] inb j a)).symm
  have pc : ∀ f, ((c : Thread nD τ).loc cc0_scratch6 ↦[bx (s := S4x256x1024) ![o0, 0, 0] ![1, 256, 1024]]{fullShare} ((rbM.access (Rect.unit (s := S4x256x1024) ![o0, 0, 0] S1x256x1024.size inb)).write (Elt F) f w Finset.univ) : sProp 𝕄) = ((c : Thread nD τ).loc cc0_scratch6 ↦[bx (s := S4x256x1024) ![o0, 0, 0] ![1, 256, 1024]]{fullShare} g) := fun f => pointsTo_congr (hl f)
  unfold own
  iintro ⟨%f, H⟩ Hk
  iapply (wp_store 𝒱₀ (c : Thread nD τ) none Set.univ (m := rbM) hs) $$ H
  iintro H
  iapply Hk
  iapply (Entails.of_eq (pc f)); iexact H

/-- A block is read before it is stored; what is read is not used. -/
theorem wp_ldo_ao {o0 : ℕ} {off : Fin _ → ℕ} (hoff : off = ![o0, 0]) {inb hl} {α : Type} {Q : α → sProp 𝕄} {k : (S256x1024.Idx → Elt F .bf16) → Prog (TpuEff nD τ sig (Elt F) Λ₀ .tc) α} :
    own cc0_scratch7 c (bx (s := S256x1024) ![o0, 0] ![256, 1024])
      ⊢ iprop((∀ v, own cc0_scratch7 c (bx (s := S256x1024) ![o0, 0] ![256, 1024]) -∗ wpc c (k v) Q)
        -∗ wpc c (.op (.load aoM (Rect.unit (s := S256x1024) off S256x1024.size inb).toLoadRect hl) k) Q) := by
  subst hoff
  have hs : ((aoM.access (Rect.unit (s := S256x1024) ![o0, 0] S256x1024.size inb)).set : Finset S256x1024.Idx) ⊆ bx (s := S256x1024) ![o0, 0] ![256, 1024] := by
    intro i hi; rw [← set_sl cc0_scratch7 ![o0, 0] ![256, 1024] inb]; exact hi
  unfold own
  iintro ⟨%f, H⟩ Hk
  iapply (wp_load_rect 𝒱₀ (c : Thread nD τ) none Set.univ (m := aoM) hs) $$ H
  iintro H
  iapply Hk
  iexists f; iexact H

/-- A whole block is stored. -/
theorem wp_sto_ao {o0 : ℕ} {off : Fin _ → ℕ} (hoff : off = ![o0, 0]) {inb hx hm} {w : S256x1024.Idx → Elt F .bf16} (g : S256x1024.Idx → Elt F .bf16) (hg : ∀ (i : S256x1024.Idx) (j : S256x1024.Idx), (∀ a, (i a).val = ![o0, 0] a + (j a).val) → g i = w j)
    {α : Type} {Q : α → sProp 𝕄} {k : PUnit → Prog (TpuEff nD τ sig (Elt F) Λ₀ .tc) α} :
    own cc0_scratch7 c (bx (s := S256x1024) ![o0, 0] ![256, 1024])
      ⊢ iprop((((c : Thread nD τ).loc cc0_scratch7 ↦[bx (s := S256x1024) ![o0, 0] ![256, 1024]]{fullShare} g) -∗ wpc c (k ⟨⟩) Q)
        -∗ wpc c (.op (.store aoM (Rect.unit (s := S256x1024) off S256x1024.size inb) w Finset.univ hx hm) k) Q) := by
  subst hoff
  have hs : ((aoM.access (Rect.unit (s := S256x1024) ![o0, 0] S256x1024.size inb)).set : Finset S256x1024.Idx) ⊆ bx (s := S256x1024) ![o0, 0] ![256, 1024] := by
    intro i hi; rw [← set_sl cc0_scratch7 ![o0, 0] ![256, 1024] inb]; exact hi
  have hl : ∀ f, ∀ i ∈ bx (s := S256x1024) ![o0, 0] ![256, 1024], (aoM.access (Rect.unit (s := S256x1024) ![o0, 0] S256x1024.size inb)).write (Elt F) f w Finset.univ i = g i := by
    intro f i hi
    rw [← set_sl cc0_scratch7 ![o0, 0] ![256, 1024] inb] at hi
    obtain ⟨j, -, rfl⟩ := Finset.mem_map.mp hi
    refine (View.write_emb_of_mem _ _ (Finset.mem_univ j)).trans ?_
    exact (hg _ j (fun a => emb_sl cc0_scratch7 ![o0, 0] ![256, 1024] inb j a)).symm
  have pc : ∀ f, ((c : Thread nD τ).loc cc0_scratch7 ↦[bx (s := S256x1024) ![o0, 0] ![256, 1024]]{fullShare} ((aoM.access (Rect.unit (s := S256x1024) ![o0, 0] S256x1024.size inb)).write (Elt F) f w Finset.univ) : sProp 𝕄) = ((c : Thread nD τ).loc cc0_scratch7 ↦[bx (s := S256x1024) ![o0, 0] ![256, 1024]]{fullShare} g) := fun f => pointsTo_congr (hl f)
  unfold own
  iintro ⟨%f, H⟩ Hk
  iapply (wp_store 𝒱₀ (c : Thread nD τ) none Set.univ (m := aoM) hs) $$ H
  iintro H
  iapply Hk
  iapply (Entails.of_eq (pc f)); iexact H

/-- A received block is read. -/
theorem wp_ldv_rb {s : ℕ} {inb hl} {α : Type} {Q : α → sProp 𝕄} {k : (S1x256x1024.Idx → Elt F .bf16) → Prog (TpuEff nD τ sig (Elt F) Λ₀ .tc) α} :
    ((c : Thread nD τ).loc cc0_scratch6 ↦[rbx s]{fullShare} RSB m c : sProp 𝕄)
      ⊢ iprop((((c : Thread nD τ).loc cc0_scratch6 ↦[rbx s]{fullShare} RSB m c) -∗ wpc c (k (rbM.view.readAt (Elt F) (Rect.unit (s := S4x256x1024) ![s, 0, 0] S1x256x1024.size inb).toLoadRect (RSB m c))) Q)
        -∗ wpc c (.op (.load rbM (Rect.unit (s := S4x256x1024) ![s, 0, 0] S1x256x1024.size inb).toLoadRect hl) k) Q) := by
  have hs : ((rbM.access (Rect.unit (s := S4x256x1024) ![s, 0, 0] S1x256x1024.size inb)).set : Finset S4x256x1024.Idx) ⊆ rbx s := by
    intro i hi; unfold rbx; rw [← set_sl cc0_scratch6 ![s, 0, 0] ![1, 256, 1024] inb]; exact hi
  iintro H Hk
  iapply (wp_load_rect 𝒱₀ (c : Thread nD τ) none Set.univ (m := rbM) hs) $$ H
  iexact Hk

/-- A received block is read. -/
theorem wp_ldv_gb {s : ℕ} {inb hl} {α : Type} {Q : α → sProp 𝕄} {k : (S1x256x1024.Idx → Elt F .bf16) → Prog (TpuEff nD τ sig (Elt F) Λ₀ .tc) α} :
    ((c : Thread nD τ).loc cc0_scratch8 ↦[gbx s]{fullShare} AGB m c : sProp 𝕄)
      ⊢ iprop((((c : Thread nD τ).loc cc0_scratch8 ↦[gbx s]{fullShare} AGB m c) -∗ wpc c (k (gbM.view.readAt (Elt F) (Rect.unit (s := S3x256x1024) ![s, 0, 0] S1x256x1024.size inb).toLoadRect (AGB m c))) Q)
        -∗ wpc c (.op (.load gbM (Rect.unit (s := S3x256x1024) ![s, 0, 0] S1x256x1024.size inb).toLoadRect hl) k) Q) := by
  have hs : ((gbM.access (Rect.unit (s := S3x256x1024) ![s, 0, 0] S1x256x1024.size inb)).set : Finset S3x256x1024.Idx) ⊆ gbx s := by
    intro i hi; unfold gbx; rw [← set_sl cc0_scratch8 ![s, 0, 0] ![1, 256, 1024] inb]; exact hi
  iintro H Hk
  iapply (wp_load_rect 𝒱₀ (c : Thread nD τ) none Set.univ (m := gbM) hs) $$ H
  iexact Hk

end Cert.KernelIdeal.Run
-- ==== Proof.Heads.lean ====
/- The parts of the kernel that only compute heads: each reads windows of the key and value buffers and stores
   blocks of the context buffer. -/
module

public import proofs.«01_k».proof.Proof.Ops

@[expose] public section

set_option maxRecDepth 16384

noncomputable section

namespace Cert.KernelIdeal.Run

open Cert.KernelIdeal Cert.KernelIdeal.Gen
open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : Mem (F := F)) (c : Dev nD)

/-- What the heads work on: the first `n` rows of the key and value buffers, and the context buffer with `h` heads stored. -/
def HS (n h : ℕ) : sProp 𝕄 := iprop(bfPt m 0 c (kbx 0 0 n 1024) ∗ bfPt m 1 c (kbx 0 0 n 1024) ∗ CtxI m c h)

/-- Part 35 of the kernel stores heads 0 to 1. -/
theorem part35 {n : ℕ} (hn : 512 ≤ n) {Q} :
    HS m c n 0 ⊢ iprop((HS m c n 2 -∗ Q ((w144 m c))) -∗ wpc c (k0_part35 xM (Memref.isWhole_whole _) wqM (Memref.isWhole_whole _) khM (Memref.isWhole_whole _) vhM (Memref.isWhole_whole _) woM (Memref.isWhole_whole _) oM (Memref.isWhole_whole _) kbM (Memref.isWhole_whole _) vbM (Memref.isWhole_whole _) kvM (Memref.isWhole_whole _) vvM (Memref.isWhole_whole _) cxM (Memref.isWhole_whole _) pbM (Memref.isWhole_whole _) rbM (Memref.isWhole_whole _) aoM (Memref.isWhole_whole _) gbM (Memref.isWhole_whole _) cc0_scratch9 cc0_scratch10 cc0_scratch11 cc0_scratch12 cc0_scratch13 cc0_scratch14 cc0_scratch15 cc0_scratch16 cc0_scratch17 cc0_scratch18 (w54 m c) (w65 m c) (w103 m c)) Q) := by
  rw [k0_part35_eq_skeleton]; unfold k0_part35_skel HS
  simp only [Prog.lift, Prog.bind_op, Prog.bind_ret, Prog.pure_eq_ret, w144, w108, w124, w134]
  iintro ⟨Hk, Hv, Hx⟩ HQ
  iapply (wp_ldc m c) $$ Hx; iintro %_ Hx
  iapply (wp_stc m c (q := 0) (h := 0) rfl (by decide) rfl rfl rfl) $$ Hx; iintro Hx
  iapply (wp_ldk m c (by omega)) $$ Hk; iintro Hk
  iapply (wp_ldv m c (by omega)) $$ Hv; iintro Hv
  iapply (wp_ldc m c) $$ Hx; iintro %_ Hx
  iapply (wp_stc m c (q := 0) (h := 1) rfl (by decide) rfl rfl rfl) $$ Hx; iintro Hx
  iapply (wp_ldk m c (by omega)) $$ Hk; iintro Hk
  iapply (le_wp_ret _ _)
  iapply HQ
  isplitl [Hk]; · iexact Hk
  isplitl [Hv]; · iexact Hv
  iexact Hx

/-- Part 36 of the kernel stores heads 2 to 2. -/
theorem part36 {n : ℕ} (hn : 512 ≤ n) {Q} :
    HS m c n 2 ⊢ iprop((HS m c n 3 -∗ Q ((w184 m c))) -∗ wpc c (k0_part36 xM (Memref.isWhole_whole _) wqM (Memref.isWhole_whole _) khM (Memref.isWhole_whole _) vhM (Memref.isWhole_whole _) woM (Memref.isWhole_whole _) oM (Memref.isWhole_whole _) kbM (Memref.isWhole_whole _) vbM (Memref.isWhole_whole _) kvM (Memref.isWhole_whole _) vvM (Memref.isWhole_whole _) cxM (Memref.isWhole_whole _) pbM (Memref.isWhole_whole _) rbM (Memref.isWhole_whole _) aoM (Memref.isWhole_whole _) gbM (Memref.isWhole_whole _) cc0_scratch9 cc0_scratch10 cc0_scratch11 cc0_scratch12 cc0_scratch13 cc0_scratch14 cc0_scratch15 cc0_scratch16 cc0_scratch17 cc0_scratch18 (w54 m c) (w65 m c) (w144 m c)) Q) := by
  rw [k0_part36_eq_skeleton]; unfold k0_part36_skel HS
  simp only [Prog.lift, Prog.bind_op, Prog.bind_ret, Prog.pure_eq_ret, w184, w150, w160, w176]
  iintro ⟨Hk, Hv, Hx⟩ HQ
  iapply (wp_ldv m c (by omega)) $$ Hv; iintro Hv
  iapply (wp_ldc m c) $$ Hx; iintro %_ Hx
  iapply (wp_stc m c (q := 0) (h := 2) rfl (by decide) rfl rfl rfl) $$ Hx; iintro Hx
  iapply (wp_ldk m c (by omega)) $$ Hk; iintro Hk
  iapply (wp_ldv m c (by omega)) $$ Hv; iintro Hv
  iapply (wp_ldc m c) $$ Hx; iintro %_ Hx
  iapply (le_wp_ret _ _)
  iapply HQ
  isplitl [Hk]; · iexact Hk
  isplitl [Hv]; · iexact Hv
  iexact Hx

/-- Part 37 of the kernel stores heads 3 to 4. -/
theorem part37 {n : ℕ} (hn : 512 ≤ n) {Q} :
    HS m c n 3 ⊢ iprop((HS m c n 5 -∗ Q (⟨(w222 m c), (w224 m c)⟩)) -∗ wpc c (k0_part37 xM (Memref.isWhole_whole _) wqM (Memref.isWhole_whole _) khM (Memref.isWhole_whole _) vhM (Memref.isWhole_whole _) woM (Memref.isWhole_whole _) oM (Memref.isWhole_whole _) kbM (Memref.isWhole_whole _) vbM (Memref.isWhole_whole _) kvM (Memref.isWhole_whole _) vvM (Memref.isWhole_whole _) cxM (Memref.isWhole_whole _) pbM (Memref.isWhole_whole _) rbM (Memref.isWhole_whole _) aoM (Memref.isWhole_whole _) gbM (Memref.isWhole_whole _) cc0_scratch9 cc0_scratch10 cc0_scratch11 cc0_scratch12 cc0_scratch13 cc0_scratch14 cc0_scratch15 cc0_scratch16 cc0_scratch17 cc0_scratch18 (w54 m c) (w65 m c) (w184 m c)) Q) := by
  rw [k0_part37_eq_skeleton]; unfold k0_part37_skel HS
  simp only [Prog.lift, Prog.bind_op, Prog.bind_ret, Prog.pure_eq_ret, w222, w224, w186, w202, w212]
  iintro ⟨Hk, Hv, Hx⟩ HQ
  iapply (wp_stc m c (q := 0) (h := 3) rfl (by decide) rfl rfl rfl) $$ Hx; iintro Hx
  iapply (wp_ldk m c (by omega)) $$ Hk; iintro Hk
  iapply (wp_ldv m c (by omega)) $$ Hv; iintro Hv
  iapply (wp_ldc m c) $$ Hx; iintro %_ Hx
  iapply (wp_stc m c (q := 0) (h := 4) rfl (by decide) rfl rfl rfl) $$ Hx; iintro Hx
  iapply (wp_ldk m c (by omega)) $$ Hk; iintro Hk
  iapply (le_wp_ret _ _)
  iapply HQ
  isplitl [Hk]; · iexact Hk
  isplitl [Hv]; · iexact Hv
  iexact Hx

/-- Part 38 of the kernel stores heads 5 to 6. -/
theorem part38 {n : ℕ} (hn : 512 ≤ n) {Q} :
    HS m c n 5 ⊢ iprop((HS m c n 7 -∗ Q ((w263 m c))) -∗ wpc c (k0_part38 xM (Memref.isWhole_whole _) wqM (Memref.isWhole_whole _) khM (Memref.isWhole_whole _) vhM (Memref.isWhole_whole _) woM (Memref.isWhole_whole _) oM (Memref.isWhole_whole _) kbM (Memref.isWhole_whole _) vbM (Memref.isWhole_whole _) kvM (Memref.isWhole_whole _) vvM (Memref.isWhole_whole _) cxM (Memref.isWhole_whole _) pbM (Memref.isWhole_whole _) rbM (Memref.isWhole_whole _) aoM (Memref.isWhole_whole _) gbM (Memref.isWhole_whole _) cc0_scratch9 cc0_scratch10 cc0_scratch11 cc0_scratch12 cc0_scratch13 cc0_scratch14 cc0_scratch15 cc0_scratch16 cc0_scratch17 cc0_scratch18 (w54 m c) (w65 m c) (w222 m c) (w224 m c)) Q) := by
  rw [k0_part38_eq_skeleton]; unfold k0_part38_skel HS
  simp only [Prog.lift, Prog.bind_op, Prog.bind_ret, Prog.pure_eq_ret, w263, w228, w238, w254]
  iintro ⟨Hk, Hv, Hx⟩ HQ
  iapply (wp_ldv m c (by omega)) $$ Hv; iintro Hv
  iapply (wp_ldc m c) $$ Hx; iintro %_ Hx
  iapply (wp_stc m c (q := 0) (h := 5) rfl (by decide) rfl rfl rfl) $$ Hx; iintro Hx
  iapply (wp_ldk m c (by omega)) $$ Hk; iintro Hk
  iapply (wp_ldv m c (by omega)) $$ Hv; iintro Hv
  iapply (wp_ldc m c) $$ Hx; iintro %_ Hx
  iapply (wp_stc m c (q := 0) (h := 6) rfl (by decide) rfl rfl rfl) $$ Hx; iintro Hx
  iapply (le_wp_ret _ _)
  iapply HQ
  isplitl [Hk]; · iexact Hk
  isplitl [Hv]; · iexact Hv
  iexact Hx

/-- Part 41 of the kernel stores heads 9 to 9. -/
theorem part41 {n : ℕ} (hn : 640 ≤ n) {Q} :
    HS m c n 9 ⊢ iprop((HS m c n 10 -∗ Q (⟨(w377 m c), (w378 m c)⟩)) -∗ wpc c (k0_part41 xM (Memref.isWhole_whole _) wqM (Memref.isWhole_whole _) khM (Memref.isWhole_whole _) vhM (Memref.isWhole_whole _) woM (Memref.isWhole_whole _) oM (Memref.isWhole_whole _) kbM (Memref.isWhole_whole _) vbM (Memref.isWhole_whole _) kvM (Memref.isWhole_whole _) vvM (Memref.isWhole_whole _) cxM (Memref.isWhole_whole _) pbM (Memref.isWhole_whole _) rbM (Memref.isWhole_whole _) aoM (Memref.isWhole_whole _) gbM (Memref.isWhole_whole _) cc0_scratch9 cc0_scratch10 cc0_scratch11 cc0_scratch12 cc0_scratch13 cc0_scratch14 cc0_scratch15 cc0_scratch16 cc0_scratch17 cc0_scratch18 (w54 m c) (w74 m c) (w337 m c)) Q) := by
  rw [k0_part41_eq_skeleton]; unfold k0_part41_skel HS
  simp only [Prog.lift, Prog.bind_op, Prog.bind_ret, Prog.pure_eq_ret, w377, w378, w349, w359, w375]
  iintro ⟨Hk, Hv, Hx⟩ HQ
  iapply (wp_ldv m c (by omega)) $$ Hv; iintro Hv
  iapply (wp_ldc m c) $$ Hx; iintro %_ Hx
  iapply (wp_stc m c (q := 1) (h := 1) rfl (by decide) rfl rfl rfl) $$ Hx; iintro Hx
  iapply (wp_ldk m c (by omega)) $$ Hk; iintro Hk
  iapply (wp_ldv m c (by omega)) $$ Hv; iintro Hv
  iapply (le_wp_ret _ _)
  iapply HQ
  isplitl [Hk]; · iexact Hk
  isplitl [Hv]; · iexact Hv
  iexact Hx

/-- Part 42 of the kernel stores heads 10 to 11. -/
theorem part42 {n : ℕ} (hn : 640 ≤ n) {Q} :
    HS m c n 10 ⊢ iprop((HS m c n 12 -∗ Q (⟨(w416 m c), (w417 m c)⟩)) -∗ wpc c (k0_part42 xM (Memref.isWhole_whole _) wqM (Memref.isWhole_whole _) khM (Memref.isWhole_whole _) vhM (Memref.isWhole_whole _) woM (Memref.isWhole_whole _) oM (Memref.isWhole_whole _) kbM (Memref.isWhole_whole _) vbM (Memref.isWhole_whole _) kvM (Memref.isWhole_whole _) vvM (Memref.isWhole_whole _) cxM (Memref.isWhole_whole _) pbM (Memref.isWhole_whole _) rbM (Memref.isWhole_whole _) aoM (Memref.isWhole_whole _) gbM (Memref.isWhole_whole _) cc0_scratch9 cc0_scratch10 cc0_scratch11 cc0_scratch12 cc0_scratch13 cc0_scratch14 cc0_scratch15 cc0_scratch16 cc0_scratch17 cc0_scratch18 (w54 m c) (w74 m c) (w377 m c) (w378 m c)) Q) := by
  rw [k0_part42_eq_skeleton]; unfold k0_part42_skel HS
  simp only [Prog.lift, Prog.bind_op, Prog.bind_ret, Prog.pure_eq_ret, w416, w417, w385, w401, w411]
  iintro ⟨Hk, Hv, Hx⟩ HQ
  iapply (wp_ldc m c) $$ Hx; iintro %_ Hx
  iapply (wp_stc m c (q := 1) (h := 2) rfl (by decide) rfl rfl rfl) $$ Hx; iintro Hx
  iapply (wp_ldk m c (by omega)) $$ Hk; iintro Hk
  iapply (wp_ldv m c (by omega)) $$ Hv; iintro Hv
  iapply (wp_ldc m c) $$ Hx; iintro %_ Hx
  iapply (wp_stc m c (q := 1) (h := 3) rfl (by decide) rfl rfl rfl) $$ Hx; iintro Hx
  iapply (wp_ldk m c (by omega)) $$ Hk; iintro Hk
  iapply (le_wp_ret _ _)
  iapply HQ
  isplitl [Hk]; · iexact Hk
  isplitl [Hv]; · iexact Hv
  iexact Hx

/-- Part 43 of the kernel stores heads 12 to 12. -/
theorem part43 {n : ℕ} (hn : 640 ≤ n) {Q} :
    HS m c n 12 ⊢ iprop((HS m c n 13 -∗ Q ((w458 m c))) -∗ wpc c (k0_part43 xM (Memref.isWhole_whole _) wqM (Memref.isWhole_whole _) khM (Memref.isWhole_whole _) vhM (Memref.isWhole_whole _) woM (Memref.isWhole_whole _) oM (Memref.isWhole_whole _) kbM (Memref.isWhole_whole _) vbM (Memref.isWhole_whole _) kvM (Memref.isWhole_whole _) vvM (Memref.isWhole_whole _) cxM (Memref.isWhole_whole _) pbM (Memref.isWhole_whole _) rbM (Memref.isWhole_whole _) aoM (Memref.isWhole_whole _) gbM (Memref.isWhole_whole _) cc0_scratch9 cc0_scratch10 cc0_scratch11 cc0_scratch12 cc0_scratch13 cc0_scratch14 cc0_scratch15 cc0_scratch16 cc0_scratch17 cc0_scratch18 (w54 m c) (w74 m c) (w416 m c) (w417 m c)) Q) := by
  rw [k0_part43_eq_skeleton]; unfold k0_part43_skel HS
  simp only [Prog.lift, Prog.bind_op, Prog.bind_ret, Prog.pure_eq_ret, w458, w427, w437, w453]
  iintro ⟨Hk, Hv, Hx⟩ HQ
  iapply (wp_ldv m c (by omega)) $$ Hv; iintro Hv
  iapply (wp_ldc m c) $$ Hx; iintro %_ Hx
  iapply (wp_stc m c (q := 1) (h := 4) rfl (by decide) rfl rfl rfl) $$ Hx; iintro Hx
  iapply (wp_ldk m c (by omega)) $$ Hk; iintro Hk
  iapply (wp_ldv m c (by omega)) $$ Hv; iintro Hv
  iapply (le_wp_ret _ _)
  iapply HQ
  isplitl [Hk]; · iexact Hk
  isplitl [Hv]; · iexact Hv
  iexact Hx

/-- Part 44 of the kernel stores heads 13 to 14. -/
theorem part44 {n : ℕ} (hn : 640 ≤ n) {Q} :
    HS m c n 13 ⊢ iprop((HS m c n 15 -∗ Q ((w498 m c))) -∗ wpc c (k0_part44 xM (Memref.isWhole_whole _) wqM (Memref.isWhole_whole _) khM (Memref.isWhole_whole _) vhM (Memref.isWhole_whole _) woM (Memref.isWhole_whole _) oM (Memref.isWhole_whole _) kbM (Memref.isWhole_whole _) vbM (Memref.isWhole_whole _) kvM (Memref.isWhole_whole _) vvM (Memref.isWhole_whole _) cxM (Memref.isWhole_whole _) pbM (Memref.isWhole_whole _) rbM (Memref.isWhole_whole _) aoM (Memref.isWhole_whole _) gbM (Memref.isWhole_whole _) cc0_scratch9 cc0_scratch10 cc0_scratch11 cc0_scratch12 cc0_scratch13 cc0_scratch14 cc0_scratch15 cc0_scratch16 cc0_scratch17 cc0_scratch18 (w54 m c) (w74 m c) (w458 m c)) Q) := by
  rw [k0_part44_eq_skeleton]; unfold k0_part44_skel HS
  simp only [Prog.lift, Prog.bind_op, Prog.bind_ret, Prog.pure_eq_ret, w498, w463, w479, w489]
  iintro ⟨Hk, Hv, Hx⟩ HQ
  iapply (wp_ldc m c) $$ Hx; iintro %_ Hx
  iapply (wp_stc m c (q := 1) (h := 5) rfl (by decide) rfl rfl rfl) $$ Hx; iintro Hx
  iapply (wp_ldk m c (by omega)) $$ Hk; iintro Hk
  iapply (wp_ldv m c (by omega)) $$ Hv; iintro Hv
  iapply (wp_ldc m c) $$ Hx; iintro %_ Hx
  iapply (wp_stc m c (q := 1) (h := 6) rfl (by decide) rfl rfl rfl) $$ Hx; iintro Hx
  iapply (wp_ldk m c (by omega)) $$ Hk; iintro Hk
  iapply (le_wp_ret _ _)
  iapply HQ
  isplitl [Hk]; · iexact Hk
  isplitl [Hv]; · iexact Hv
  iexact Hx

/-- Part 46 of the kernel stores heads 16 to 16. -/
theorem part46 {n : ℕ} (hn : 896 ≤ n) {Q} :
    HS m c n 16 ⊢ iprop((HS m c n 17 -∗ Q ((w573 m c))) -∗ wpc c (k0_part46 xM (Memref.isWhole_whole _) wqM (Memref.isWhole_whole _) khM (Memref.isWhole_whole _) vhM (Memref.isWhole_whole _) woM (Memref.isWhole_whole _) oM (Memref.isWhole_whole _) kbM (Memref.isWhole_whole _) vbM (Memref.isWhole_whole _) kvM (Memref.isWhole_whole _) vvM (Memref.isWhole_whole _) cxM (Memref.isWhole_whole _) pbM (Memref.isWhole_whole _) rbM (Memref.isWhole_whole _) aoM (Memref.isWhole_whole _) gbM (Memref.isWhole_whole _) cc0_scratch9 cc0_scratch10 cc0_scratch11 cc0_scratch12 cc0_scratch13 cc0_scratch14 cc0_scratch15 cc0_scratch16 cc0_scratch17 cc0_scratch18 (w54 m c) (w74 m c) (w531 m c)) Q) := by
  rw [k0_part46_eq_skeleton]; unfold k0_part46_skel HS
  simp only [Prog.lift, Prog.bind_op, Prog.bind_ret, Prog.pure_eq_ret, w573, w532, w548, w558]
  iintro ⟨Hk, Hv, Hx⟩ HQ
  iapply (wp_ldk m c (by omega)) $$ Hk; iintro Hk
  iapply (wp_ldv m c (by omega)) $$ Hv; iintro Hv
  iapply (wp_ldc m c) $$ Hx; iintro %_ Hx
  iapply (wp_stc m c (q := 2) (h := 0) rfl (by decide) rfl rfl rfl) $$ Hx; iintro Hx
  iapply (wp_ldk m c (by omega)) $$ Hk; iintro Hk
  iapply (le_wp_ret _ _)
  iapply HQ
  isplitl [Hk]; · iexact Hk
  isplitl [Hv]; · iexact Hv
  iexact Hx

/-- Part 47 of the kernel stores heads 17 to 18. -/
theorem part47 {n : ℕ} (hn : 896 ≤ n) {Q} :
    HS m c n 17 ⊢ iprop((HS m c n 19 -∗ Q (⟨(w609 m c), (w611 m c), (cst_295 m c)⟩)) -∗ wpc c (k0_part47 xM (Memref.isWhole_whole _) wqM (Memref.isWhole_whole _) khM (Memref.isWhole_whole _) vhM (Memref.isWhole_whole _) woM (Memref.isWhole_whole _) oM (Memref.isWhole_whole _) kbM (Memref.isWhole_whole _) vbM (Memref.isWhole_whole _) kvM (Memref.isWhole_whole _) vvM (Memref.isWhole_whole _) cxM (Memref.isWhole_whole _) pbM (Memref.isWhole_whole _) rbM (Memref.isWhole_whole _) aoM (Memref.isWhole_whole _) gbM (Memref.isWhole_whole _) cc0_scratch9 cc0_scratch10 cc0_scratch11 cc0_scratch12 cc0_scratch13 cc0_scratch14 cc0_scratch15 cc0_scratch16 cc0_scratch17 cc0_scratch18 (w54 m c) (w74 m c) (w573 m c)) Q) := by
  rw [k0_part47_eq_skeleton]; unfold k0_part47_skel HS
  simp only [Prog.lift, Prog.bind_op, Prog.bind_ret, Prog.pure_eq_ret, w609, w611, cst_295, w574, w584, w600, w610]
  iintro ⟨Hk, Hv, Hx⟩ HQ
  iapply (wp_ldv m c (by omega)) $$ Hv; iintro Hv
  iapply (wp_ldc m c) $$ Hx; iintro %_ Hx
  iapply (wp_stc m c (q := 2) (h := 1) rfl (by decide) rfl rfl rfl) $$ Hx; iintro Hx
  iapply (wp_ldk m c (by omega)) $$ Hk; iintro Hk
  iapply (wp_ldv m c (by omega)) $$ Hv; iintro Hv
  iapply (wp_ldc m c) $$ Hx; iintro %_ Hx
  iapply (wp_stc m c (q := 2) (h := 2) rfl (by decide) rfl rfl rfl) $$ Hx; iintro Hx
  iapply (wp_ldk m c (by omega)) $$ Hk; iintro Hk
  iapply (le_wp_ret _ _)
  iapply HQ
  isplitl [Hk]; · iexact Hk
  isplitl [Hv]; · iexact Hv
  iexact Hx

/-- Part 48 of the kernel stores heads 19 to 19. -/
theorem part48 {n : ℕ} (hn : 896 ≤ n) {Q} :
    HS m c n 19 ⊢ iprop((HS m c n 20 -∗ Q (⟨(w651 m c), (w653 m c)⟩)) -∗ wpc c (k0_part48 xM (Memref.isWhole_whole _) wqM (Memref.isWhole_whole _) khM (Memref.isWhole_whole _) vhM (Memref.isWhole_whole _) woM (Memref.isWhole_whole _) oM (Memref.isWhole_whole _) kbM (Memref.isWhole_whole _) vbM (Memref.isWhole_whole _) kvM (Memref.isWhole_whole _) vvM (Memref.isWhole_whole _) cxM (Memref.isWhole_whole _) pbM (Memref.isWhole_whole _) rbM (Memref.isWhole_whole _) aoM (Memref.isWhole_whole _) gbM (Memref.isWhole_whole _) cc0_scratch9 cc0_scratch10 cc0_scratch11 cc0_scratch12 cc0_scratch13 cc0_scratch14 cc0_scratch15 cc0_scratch16 cc0_scratch17 cc0_scratch18 (w54 m c) (w74 m c) (w609 m c) (w611 m c) (cst_295 m c)) Q) := by
  rw [k0_part48_eq_skeleton]; unfold k0_part48_skel HS
  simp only [Prog.lift, Prog.bind_op, Prog.bind_ret, Prog.pure_eq_ret, w651, w653, w626, w636, w652]
  iintro ⟨Hk, Hv, Hx⟩ HQ
  iapply (wp_ldv m c (by omega)) $$ Hv; iintro Hv
  iapply (wp_ldc m c) $$ Hx; iintro %_ Hx
  iapply (wp_stc m c (q := 2) (h := 3) rfl (by decide) rfl rfl rfl) $$ Hx; iintro Hx
  iapply (wp_ldk m c (by omega)) $$ Hk; iintro Hk
  iapply (wp_ldv m c (by omega)) $$ Hv; iintro Hv
  iapply (le_wp_ret _ _)
  iapply HQ
  isplitl [Hk]; · iexact Hk
  isplitl [Hv]; · iexact Hv
  iexact Hx

/-- Part 49 of the kernel stores heads 20 to 21. -/
theorem part49 {n : ℕ} (hn : 896 ≤ n) {Q} :
    HS m c n 20 ⊢ iprop((HS m c n 22 -∗ Q (⟨(w690 m c), (w691 m c)⟩)) -∗ wpc c (k0_part49 xM (Memref.isWhole_whole _) wqM (Memref.isWhole_whole _) khM (Memref.isWhole_whole _) vhM (Memref.isWhole_whole _) woM (Memref.isWhole_whole _) oM (Memref.isWhole_whole _) kbM (Memref.isWhole_whole _) vbM (Memref.isWhole_whole _) kvM (Memref.isWhole_whole _) vvM (Memref.isWhole_whole _) cxM (Memref.isWhole_whole _) pbM (Memref.isWhole_whole _) rbM (Memref.isWhole_whole _) aoM (Memref.isWhole_whole _) gbM (Memref.isWhole_whole _) cc0_scratch9 cc0_scratch10 cc0_scratch11 cc0_scratch12 cc0_scratch13 cc0_scratch14 cc0_scratch15 cc0_scratch16 cc0_scratch17 cc0_scratch18 (w54 m c) (w74 m c) (w651 m c) (w653 m c)) Q) := by
  rw [k0_part49_eq_skeleton]; unfold k0_part49_skel HS
  simp only [Prog.lift, Prog.bind_op, Prog.bind_ret, Prog.pure_eq_ret, w690, w691, w662, w678, w688]
  iintro ⟨Hk, Hv, Hx⟩ HQ
  iapply (wp_ldc m c) $$ Hx; iintro %_ Hx
  iapply (wp_stc m c (q := 2) (h := 4) rfl (by decide) rfl rfl rfl) $$ Hx; iintro Hx
  iapply (wp_ldk m c (by omega)) $$ Hk; iintro Hk
  iapply (wp_ldv m c (by omega)) $$ Hv; iintro Hv
  iapply (wp_ldc m c) $$ Hx; iintro %_ Hx
  iapply (wp_stc m c (q := 2) (h := 5) rfl (by decide) rfl rfl rfl) $$ Hx; iintro Hx
  iapply (wp_ldk m c (by omega)) $$ Hk; iintro Hk
  iapply (le_wp_ret _ _)
  iapply HQ
  isplitl [Hk]; · iexact Hk
  isplitl [Hv]; · iexact Hv
  iexact Hx

/-- Part 50 of the kernel stores heads 22 to 22. -/
theorem part50 {n : ℕ} (hn : 896 ≤ n) {Q} :
    HS m c n 22 ⊢ iprop((HS m c n 23 -∗ Q (⟨(w732 m c), (cst_350 m c)⟩)) -∗ wpc c (k0_part50 xM (Memref.isWhole_whole _) wqM (Memref.isWhole_whole _) khM (Memref.isWhole_whole _) vhM (Memref.isWhole_whole _) woM (Memref.isWhole_whole _) oM (Memref.isWhole_whole _) kbM (Memref.isWhole_whole _) vbM (Memref.isWhole_whole _) kvM (Memref.isWhole_whole _) vvM (Memref.isWhole_whole _) cxM (Memref.isWhole_whole _) pbM (Memref.isWhole_whole _) rbM (Memref.isWhole_whole _) aoM (Memref.isWhole_whole _) gbM (Memref.isWhole_whole _) cc0_scratch9 cc0_scratch10 cc0_scratch11 cc0_scratch12 cc0_scratch13 cc0_scratch14 cc0_scratch15 cc0_scratch16 cc0_scratch17 cc0_scratch18 (w54 m c) (w74 m c) (w690 m c) (w691 m c)) Q) := by
  rw [k0_part50_eq_skeleton]; unfold k0_part50_skel HS
  simp only [Prog.lift, Prog.bind_op, Prog.bind_ret, Prog.pure_eq_ret, w732, cst_350, w704, w714, w730]
  iintro ⟨Hk, Hv, Hx⟩ HQ
  iapply (wp_ldv m c (by omega)) $$ Hv; iintro Hv
  iapply (wp_ldc m c) $$ Hx; iintro %_ Hx
  iapply (wp_stc m c (q := 2) (h := 6) rfl (by decide) rfl rfl rfl) $$ Hx; iintro Hx
  iapply (wp_ldk m c (by omega)) $$ Hk; iintro Hk
  iapply (wp_ldv m c (by omega)) $$ Hv; iintro Hv
  iapply (le_wp_ret _ _)
  iapply HQ
  isplitl [Hk]; · iexact Hk
  isplitl [Hv]; · iexact Hv
  iexact Hx

/-- Part 52 of the kernel stores heads 24 to 24. -/
theorem part52 {n : ℕ} (hn : 1152 ≤ n) {Q} :
    HS m c n 24 ⊢ iprop((HS m c n 25 -∗ Q ((w806 m c))) -∗ wpc c (k0_part52 xM (Memref.isWhole_whole _) wqM (Memref.isWhole_whole _) khM (Memref.isWhole_whole _) vhM (Memref.isWhole_whole _) woM (Memref.isWhole_whole _) oM (Memref.isWhole_whole _) kbM (Memref.isWhole_whole _) vbM (Memref.isWhole_whole _) kvM (Memref.isWhole_whole _) vvM (Memref.isWhole_whole _) cxM (Memref.isWhole_whole _) pbM (Memref.isWhole_whole _) rbM (Memref.isWhole_whole _) aoM (Memref.isWhole_whole _) gbM (Memref.isWhole_whole _) cc0_scratch9 cc0_scratch10 cc0_scratch11 cc0_scratch12 cc0_scratch13 cc0_scratch14 cc0_scratch15 cc0_scratch16 cc0_scratch17 cc0_scratch18 (w54 m c) (w74 m c) (w765 m c)) Q) := by
  rw [k0_part52_eq_skeleton]; unfold k0_part52_skel HS
  simp only [Prog.lift, Prog.bind_op, Prog.bind_ret, Prog.pure_eq_ret, w806, w776, w786, w802]
  iintro ⟨Hk, Hv, Hx⟩ HQ
  iapply (wp_ldv m c (by omega)) $$ Hv; iintro Hv
  iapply (wp_ldc m c) $$ Hx; iintro %_ Hx
  iapply (wp_stc m c (q := 3) (h := 0) rfl (by decide) rfl rfl rfl) $$ Hx; iintro Hx
  iapply (wp_ldk m c (by omega)) $$ Hk; iintro Hk
  iapply (wp_ldv m c (by omega)) $$ Hv; iintro Hv
  iapply (le_wp_ret _ _)
  iapply HQ
  isplitl [Hk]; · iexact Hk
  isplitl [Hv]; · iexact Hv
  iexact Hx

/-- Part 53 of the kernel stores heads 25 to 26. -/
theorem part53 {n : ℕ} (hn : 1152 ≤ n) {Q} :
    HS m c n 25 ⊢ iprop((HS m c n 27 -∗ Q (⟨(w843 m c), (w845 m c)⟩)) -∗ wpc c (k0_part53 xM (Memref.isWhole_whole _) wqM (Memref.isWhole_whole _) khM (Memref.isWhole_whole _) vhM (Memref.isWhole_whole _) woM (Memref.isWhole_whole _) oM (Memref.isWhole_whole _) kbM (Memref.isWhole_whole _) vbM (Memref.isWhole_whole _) kvM (Memref.isWhole_whole _) vvM (Memref.isWhole_whole _) cxM (Memref.isWhole_whole _) pbM (Memref.isWhole_whole _) rbM (Memref.isWhole_whole _) aoM (Memref.isWhole_whole _) gbM (Memref.isWhole_whole _) cc0_scratch9 cc0_scratch10 cc0_scratch11 cc0_scratch12 cc0_scratch13 cc0_scratch14 cc0_scratch15 cc0_scratch16 cc0_scratch17 cc0_scratch18 (w54 m c) (w74 m c) (w806 m c)) Q) := by
  rw [k0_part53_eq_skeleton]; unfold k0_part53_skel HS
  simp only [Prog.lift, Prog.bind_op, Prog.bind_ret, Prog.pure_eq_ret, w843, w845, w812, w828, w838]
  iintro ⟨Hk, Hv, Hx⟩ HQ
  iapply (wp_ldc m c) $$ Hx; iintro %_ Hx
  iapply (wp_stc m c (q := 3) (h := 1) rfl (by decide) rfl rfl rfl) $$ Hx; iintro Hx
  iapply (wp_ldk m c (by omega)) $$ Hk; iintro Hk
  iapply (wp_ldv m c (by omega)) $$ Hv; iintro Hv
  iapply (wp_ldc m c) $$ Hx; iintro %_ Hx
  iapply (wp_stc m c (q := 3) (h := 2) rfl (by decide) rfl rfl rfl) $$ Hx; iintro Hx
  iapply (wp_ldk m c (by omega)) $$ Hk; iintro Hk
  iapply (le_wp_ret _ _)
  iapply HQ
  isplitl [Hk]; · iexact Hk
  isplitl [Hv]; · iexact Hv
  iexact Hx

/-- Part 54 of the kernel stores heads 27 to 27. -/
theorem part54 {n : ℕ} (hn : 1152 ≤ n) {Q} :
    HS m c n 27 ⊢ iprop((HS m c n 28 -∗ Q ((w885 m c))) -∗ wpc c (k0_part54 xM (Memref.isWhole_whole _) wqM (Memref.isWhole_whole _) khM (Memref.isWhole_whole _) vhM (Memref.isWhole_whole _) woM (Memref.isWhole_whole _) oM (Memref.isWhole_whole _) kbM (Memref.isWhole_whole _) vbM (Memref.isWhole_whole _) kvM (Memref.isWhole_whole _) vvM (Memref.isWhole_whole _) cxM (Memref.isWhole_whole _) pbM (Memref.isWhole_whole _) rbM (Memref.isWhole_whole _) aoM (Memref.isWhole_whole _) gbM (Memref.isWhole_whole _) cc0_scratch9 cc0_scratch10 cc0_scratch11 cc0_scratch12 cc0_scratch13 cc0_scratch14 cc0_scratch15 cc0_scratch16 cc0_scratch17 cc0_scratch18 (w54 m c) (w74 m c) (w843 m c) (w845 m c)) Q) := by
  rw [k0_part54_eq_skeleton]; unfold k0_part54_skel HS
  simp only [Prog.lift, Prog.bind_op, Prog.bind_ret, Prog.pure_eq_ret, w885, w854, w864, w880]
  iintro ⟨Hk, Hv, Hx⟩ HQ
  iapply (wp_ldv m c (by omega)) $$ Hv; iintro Hv
  iapply (wp_ldc m c) $$ Hx; iintro %_ Hx
  iapply (wp_stc m c (q := 3) (h := 3) rfl (by decide) rfl rfl rfl) $$ Hx; iintro Hx
  iapply (wp_ldk m c (by omega)) $$ Hk; iintro Hk
  iapply (wp_ldv m c (by omega)) $$ Hv; iintro Hv
  iapply (le_wp_ret _ _)
  iapply HQ
  isplitl [Hk]; · iexact Hk
  isplitl [Hv]; · iexact Hv
  iexact Hx

/-- Part 55 of the kernel stores heads 28 to 29. -/
theorem part55 {n : ℕ} (hn : 1152 ≤ n) {Q} :
    HS m c n 28 ⊢ iprop((HS m c n 30 -∗ Q ((w926 m c))) -∗ wpc c (k0_part55 xM (Memref.isWhole_whole _) wqM (Memref.isWhole_whole _) khM (Memref.isWhole_whole _) vhM (Memref.isWhole_whole _) woM (Memref.isWhole_whole _) oM (Memref.isWhole_whole _) kbM (Memref.isWhole_whole _) vbM (Memref.isWhole_whole _) kvM (Memref.isWhole_whole _) vvM (Memref.isWhole_whole _) cxM (Memref.isWhole_whole _) pbM (Memref.isWhole_whole _) rbM (Memref.isWhole_whole _) aoM (Memref.isWhole_whole _) gbM (Memref.isWhole_whole _) cc0_scratch9 cc0_scratch10 cc0_scratch11 cc0_scratch12 cc0_scratch13 cc0_scratch14 cc0_scratch15 cc0_scratch16 cc0_scratch17 cc0_scratch18 (w54 m c) (w74 m c) (w885 m c)) Q) := by
  rw [k0_part55_eq_skeleton]; unfold k0_part55_skel HS
  simp only [Prog.lift, Prog.bind_op, Prog.bind_ret, Prog.pure_eq_ret, w926, w890, w906, w916]
  iintro ⟨Hk, Hv, Hx⟩ HQ
  iapply (wp_ldc m c) $$ Hx; iintro %_ Hx
  iapply (wp_stc m c (q := 3) (h := 4) rfl (by decide) rfl rfl rfl) $$ Hx; iintro Hx
  iapply (wp_ldk m c (by omega)) $$ Hk; iintro Hk
  iapply (wp_ldv m c (by omega)) $$ Hv; iintro Hv
  iapply (wp_ldc m c) $$ Hx; iintro %_ Hx
  iapply (wp_stc m c (q := 3) (h := 5) rfl (by decide) rfl rfl rfl) $$ Hx; iintro Hx
  iapply (wp_ldk m c (by omega)) $$ Hk; iintro Hk
  iapply (le_wp_ret _ _)
  iapply HQ
  isplitl [Hk]; · iexact Hk
  isplitl [Hv]; · iexact Hv
  iexact Hx

/-- Part 56 of the kernel stores heads 30 to 30. -/
theorem part56 {n : ℕ} (hn : 1152 ≤ n) {Q} :
    HS m c n 30 ⊢ iprop((HS m c n 31 -∗ Q ((w966 m c))) -∗ wpc c (k0_part56 xM (Memref.isWhole_whole _) wqM (Memref.isWhole_whole _) khM (Memref.isWhole_whole _) vhM (Memref.isWhole_whole _) woM (Memref.isWhole_whole _) oM (Memref.isWhole_whole _) kbM (Memref.isWhole_whole _) vbM (Memref.isWhole_whole _) kvM (Memref.isWhole_whole _) vvM (Memref.isWhole_whole _) cxM (Memref.isWhole_whole _) pbM (Memref.isWhole_whole _) rbM (Memref.isWhole_whole _) aoM (Memref.isWhole_whole _) gbM (Memref.isWhole_whole _) cc0_scratch9 cc0_scratch10 cc0_scratch11 cc0_scratch12 cc0_scratch13 cc0_scratch14 cc0_scratch15 cc0_scratch16 cc0_scratch17 cc0_scratch18 (w54 m c) (w74 m c) (w926 m c)) Q) := by
  rw [k0_part56_eq_skeleton]; unfold k0_part56_skel HS
  simp only [Prog.lift, Prog.bind_op, Prog.bind_ret, Prog.pure_eq_ret, w966, w932, w942, w958]
  iintro ⟨Hk, Hv, Hx⟩ HQ
  iapply (wp_ldv m c (by omega)) $$ Hv; iintro Hv
  iapply (wp_ldc m c) $$ Hx; iintro %_ Hx
  iapply (wp_stc m c (q := 3) (h := 6) rfl (by decide) rfl rfl rfl) $$ Hx; iintro Hx
  iapply (wp_ldk m c (by omega)) $$ Hk; iintro Hk
  iapply (wp_ldv m c (by omega)) $$ Hv; iintro Hv
  iapply (wp_ldc m c) $$ Hx; iintro %_ Hx
  iapply (le_wp_ret _ _)
  iapply HQ
  isplitl [Hk]; · iexact Hk
  isplitl [Hv]; · iexact Hv
  iexact Hx

end Cert.KernelIdeal.Run
-- ==== Proof.Evs.lean ====
/- The order in which each device goes through the steps of the protocol, part by part of the kernel. -/
module

public import proofs.«01_k».proof.Proof.Ops

@[expose] public section

set_option maxRecDepth 16384
set_option maxHeartbeats 1000000

noncomputable section

namespace Cert.KernelIdeal.Run

open Cert.KernelIdeal Cert.KernelIdeal.Gen
open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : Mem (F := F)) (K : Dev nD × Option CK → ℕ) (c : Dev nD)

/-- The steps of part 32. -/
def seg32 : Dev nD → List Ev := fun _ => [.bar 1, .bar 2]
/-- The steps of part 33. -/
def seg33 : Dev nD → List Ev := fun c => match c with
  | 0 => [.bar 3, .wbar, .copy (.stg 0), .copy (.stg 1), .wait (.stg 0), .send 1 (.rcv0 0 0) (.snd0 0 0 0), .send 2 (.rcv0 0 0) (.snd0 0 0 1), .send 3 (.rcv0 0 0) (.snd0 0 0 2), .send 1 (.rcv0 1 0) (.snd0 1 0 0), .send 2 (.rcv0 1 0) (.snd0 1 0 1), .send 3 (.rcv0 1 0) (.snd0 1 0 2), .send 1 (.rcv0 2 0) (.snd0 2 0 0), .send 2 (.rcv0 2 0) (.snd0 2 0 1), .send 3 (.rcv0 2 0) (.snd0 2 0 2), .send 1 (.rcv0 3 0) (.snd0 3 0 0), .send 2 (.rcv0 3 0) (.snd0 3 0 1), .send 3 (.rcv0 3 0) (.snd0 3 0 2), .copy (.loc 0), .wait (.stg 1), .send 1 (.rcv0 0 1) (.snd0 0 1 0), .send 2 (.rcv0 0 1) (.snd0 0 1 1), .send 3 (.rcv0 0 1) (.snd0 0 1 2), .send 1 (.rcv0 1 1) (.snd0 1 1 0), .send 2 (.rcv0 1 1) (.snd0 1 1 1), .send 3 (.rcv0 1 1) (.snd0 1 1 2), .send 1 (.rcv0 2 1) (.snd0 2 1 0), .send 2 (.rcv0 2 1) (.snd0 2 1 1), .send 3 (.rcv0 2 1) (.snd0 2 1 2), .send 1 (.rcv0 3 1) (.snd0 3 1 0), .send 2 (.rcv0 3 1) (.snd0 3 1 1), .send 3 (.rcv0 3 1) (.snd0 3 1 2), .copy (.loc 1)]
  | 1 => [.bar 3, .wbar, .copy (.stg 0), .copy (.stg 1), .wait (.stg 0), .send 0 (.rcv1 0) (.snd1 0 0), .send 2 (.rcv1 0) (.snd1 1 0), .send 3 (.rcv1 0) (.snd1 2 0), .copy (.loc 0), .wait (.stg 1), .send 0 (.rcv1 1) (.snd1 0 1), .send 2 (.rcv1 1) (.snd1 1 1), .send 3 (.rcv1 1) (.snd1 2 1), .copy (.loc 1)]
  | 2 => [.bar 3, .wbar]
  | 3 => [.bar 3, .wbar]
/-- The send of a device's partial block `q` to its owner; the owner keeps its own. -/
def away (c : Dev nD) (q : Fin 4) : List Ev := if c = q then [] else [.send q (.rsr c) (.rss q)]
/-- The wait for the end of that send. -/
def back (c : Dev nD) (q : Fin 4) : List Ev := if c = q then [] else [.wait (.rss q)]
/-- The waits for the keys and values of row block `t`; device 0 has them already. -/
def rows (c : Dev nD) (t : Fin 4) : List Ev := if c = 0 then [] else [.wait (.rcv0 t 0), .wait (.rcv0 t 1)]
/-- The `j`-th of the devices other than `c`. -/
def oth (c : Dev nD) (j : Fin 3) : Fin 4 := if j.val < c.val then j.castSucc else j.succ

/-- The steps of part 34. -/
def seg34 (c : Dev nD) : List Ev :=
  if c = 0 then [.wait (.loc 0), .wait (.loc 1)] else [.wait (.rcv0 0 0), .wait (.rcv0 0 1), .wait (.rcv0 1 0), .wait (.rcv0 1 1)]
/-- The steps of part 39. -/
def seg39 (c : Dev nD) : List Ev := away c 0
/-- The steps of part 40. -/
def seg40 (c : Dev nD) : List Ev := rows c 2
/-- The steps of part 45. -/
def seg45 (c : Dev nD) : List Ev := away c 1 ++ rows c 3
/-- The waits for the last 128 rows of keys and values, which device 1 copied for itself. -/
def rows1 (c : Dev nD) : List Ev := if c = 1 then [.wait (.loc 0), .wait (.loc 1)] else [.wait (.rcv1 0), .wait (.rcv1 1)]
/-- The steps of part 51. -/
def seg51 (c : Dev nD) : List Ev := away c 2 ++ rows1 c
/-- The waits for the others' partial blocks, and the sends of the summed block. -/
def sums (c : Dev nD) : List Ev :=
  [.wait (.rsr (oth c 0)), .wait (.rsr (oth c 1)), .wait (.rsr (oth c 2)),
    .send (dv (c.val + 1)) (.agr 2) (.ags 0), .send (dv (c.val + 2)) (.agr 1) (.ags 1), .send (dv (c.val + 3)) (.agr 0) (.ags 2)]
/-- The steps of part 57. -/
def seg57 (c : Dev nD) : List Ev := away c 3 ++ sums c
/-- The steps of part 58. -/
def seg58 : Dev nD → List Ev := fun _ => [.wait (.agr 0), .wait (.agr 1)]
/-- The steps of part 59. -/
def seg59 : Dev nD → List Ev := fun _ => [.wait (.agr 2)]
/-- The waits for the ends of the sends of row block `t`. -/
def ends0 (t : Fin 4) : List Ev :=
  [.wait (.snd0 t 0 0), .wait (.snd0 t 0 1), .wait (.snd0 t 0 2), .wait (.snd0 t 1 0), .wait (.snd0 t 1 1), .wait (.snd0 t 1 2)]
/-- The waits for the ends of all sends of device 0's rows. -/
def done0 (c : Dev nD) : List Ev := if c = 0 then ends0 0 ++ (ends0 1 ++ (ends0 2 ++ ends0 3)) else []
/-- The waits for the ends of all sends of device 1's rows. -/
def done1 (c : Dev nD) : List Ev :=
  if c = 1 then [.wait (.snd1 0 0), .wait (.snd1 1 0), .wait (.snd1 2 0), .wait (.snd1 0 1), .wait (.snd1 1 1), .wait (.snd1 2 1)] else []
/-- The steps of part 60. -/
def seg60 (c : Dev nD) : List Ev := done0 c ++ (done1 c ++ (back c 0 ++ (back c 1 ++ (back c 2 ++ back c 3))))
/-- The steps of part 61. -/
def seg61 : Dev nD → List Ev := fun _ => [.wait (.ags 0), .wait (.ags 1)]
/-- The steps of part 62. -/
def seg62 : Dev nD → List Ev := fun _ => [.wait (.ags 2)]

/-- All steps of a device, in order. -/
def evs (c : Dev nD) : List Ev :=
  seg32 c ++ (seg33 c ++ (seg34 c ++ (seg39 c ++ (seg40 c ++ (seg45 c ++ (seg51 c ++ (seg57 c ++ (seg58 c ++ (seg59 c ++ (seg60 c ++ (seg61 c ++ (seg62 c ++ []))))))))))))

/-- The steps can be run in this order. -/
theorem good_evs : ∀ c : Dev nD, good c (evs c) = true := by decide +kernel

/-- The staged rows of a device that broadcasts. -/
def ST : Dev nD → Finset S1024x4096.Idx := fun c => match c with
  | 0 => kvx 0 0 1024 4096
  | 1 => kvx 0 0 128 4096
  | _ => ∅
/-- What such a device still holds of them once all blocks are on their way. -/
def SR : Dev nD → Finset S1024x4096.Idx := fun c => match c with
  | 0 => rem0 13
  | 1 => rem1 4
  | _ => ∅
/-- Where its own columns go. -/
def LB : Dev nD → Finset S1152x1024.Idx := fun c => match c with
  | 0 => kbx 0 0 1024 1024
  | 1 => kbx 1024 0 128 1024
  | _ => ∅
/-- What a broadcasting device starts from: its rows of codes, and room to stage them. -/
def PreS : sProp 𝕄 := iprop(hbPt m 0 c (ST c) ∗ hbPt m 1 c (ST c) ∗ stOwn 0 c (ST c) ∗ stOwn 1 c (ST c) ∗ bfOwn 0 c (LB c) ∗ bfOwn 1 c (LB c))
/-- What is left with it while the transfers run. -/
def PostS : sProp 𝕄 := iprop(hbPt m 0 c (ST c) ∗ hbPt m 1 c (ST c) ∗ stOwn 0 c (SR c) ∗ stOwn 1 c (SR c))
/-- The room on the device `4 - d` places on for this device's partial block and for its summed block. -/
def tgt (d : Fin 4) : sProp 𝕄 := iprop(own cc0_scratch6 (dv (c.val + 4 - d.val)) (rbx c.val) ∗ own cc0_scratch8 (dv (c.val + 4 - d.val)) (gbx (d.val - 1)))
/-- The staged input and query projection. -/
def XW : sProp 𝕄 := iprop(((c : Thread nD τ).loc cc0_stg0_0 ↦[Finset.univ]{fullShare} X m c) ∗ ((c : Thread nD τ).loc cc0_stg1_0 ↦[Finset.univ]{fullShare} WQ m c))

/-- What a signal to device 0 lends it: room for its rows of keys and values, for a partial block and for a summed block. -/
theorem barPay_0 (d : Fin 4) : barPay (F := F) 0 d = iprop((bfOwn 0 (dv (0 + 4 - d.val)) (kbx 0 0 1024 1024) ∗ bfOwn 1 (dv (0 + 4 - d.val)) (kbx 0 0 1024 1024)) ∗ tgt 0 d) := rfl
/-- What a signal to device 1 lends it: the same, for its 128 rows. -/
theorem barPay_1 (d : Fin 4) : barPay (F := F) 1 d = iprop((bfOwn 0 (dv (1 + 4 - d.val)) (kbx 1024 0 128 1024) ∗ bfOwn 1 (dv (1 + 4 - d.val)) (kbx 1024 0 128 1024)) ∗ tgt 1 d) := rfl
/-- What a signal to any other device lends it: room for a partial block and for a summed block. -/
theorem barPay_n (h0 : c.val ≠ 0) (h1 : c.val ≠ 1) (d : Fin 4) : barPay (F := F) c d = iprop(emp ∗ tgt c d) := by
  unfold barPay tgt; rw [if_neg h0, if_neg h1]

/-- The end of device 0's staging hands back the staged rows and the argument's. -/
theorem pay_stg0 (kv : Fin 2) : pay m 0 (.stg kv) = iprop(kvPt m kv 0 (kvx 0 0 1024 4096) ∗ hbPt m kv 0 (kvx 0 0 1024 4096)) := rfl
/-- The end of device 1's staging hands back the staged rows and the argument's. -/
theorem pay_stg1 (kv : Fin 2) : pay m 1 (.stg kv) = iprop(kvPt m kv 1 (kvx 0 0 128 4096) ∗ hbPt m kv 1 (kvx 0 0 128 4096)) := rfl

/-- The barrier semaphore, as the parts of the kernel pass it on. -/
abbrev BS : Sems sig S_ := SemArray.scalar (sig.barrier 0 rfl)

/-- The signals to the next two devices. -/
theorem part32 {l : List Ev} {Q} :
    iprop(Rec m K ∗ Run c (seg32 c ++ l) ∗ barPay (dv (c.val + 1)) 1 ∗ barPay (dv (c.val + 2)) 2)
      ⊢ iprop((Run c l -∗ Q ⟨c, w2 m c, BS, w30 m c, 4#32, w31 m c⟩) -∗ wpc c (k0_part32 xM (Memref.isWhole_whole _) wqM (Memref.isWhole_whole _) khM (Memref.isWhole_whole _) vhM (Memref.isWhole_whole _) woM (Memref.isWhole_whole _) oM (Memref.isWhole_whole _) kbM (Memref.isWhole_whole _) vbM (Memref.isWhole_whole _) kvM (Memref.isWhole_whole _) vvM (Memref.isWhole_whole _) cxM (Memref.isWhole_whole _) pbM (Memref.isWhole_whole _) rbM (Memref.isWhole_whole _) aoM (Memref.isWhole_whole _) gbM (Memref.isWhole_whole _) cc0_scratch9 cc0_scratch10 cc0_scratch11 cc0_scratch12 cc0_scratch13 cc0_scratch14 cc0_scratch15 cc0_scratch16 cc0_scratch17 cc0_scratch18) Q) := by
  rw [k0_part32_eq_skeleton, show seg32 c ++ l = .bar 1 :: .bar 2 :: l from rfl]; unfold k0_part32_skel
  simp only [semSignalWord, semWaitWord, Prog.lift, Prog.bind_op, Prog.bind_ret, Prog.pure_eq_ret, wp_deviceId, w2, w1, w0, w30, w31]
  iintro ⟨#HR, Hr, B1, B2⟩ HQ

  iapply (run_signal m K c 1 (by revert c; decide) rfl rfl) $$ [Hr B1]
  · isplitr; · iexact HR
    isplitl [Hr]; · iexact Hr
    iexact B1
  iintro Hr
  iapply (run_signal m K c 2 (by revert c; decide) rfl rfl) $$ [Hr B2]
  · isplitr; · iexact HR
    isplitl [Hr]; · iexact Hr
    iexact B2
  iintro Hr
  iapply (le_wp_ret _ _)
  iapply HQ
  iexact Hr

end Cert.KernelIdeal.Run
-- ==== Proof.Joins.lean ====
/- Putting the pieces of the buffers together again. -/
module

public import proofs.«01_k».proof.Proof.Heads
public import proofs.«01_k».proof.Proof.Evs

@[expose] public section

set_option maxRecDepth 16384
set_option maxHeartbeats 1000000

noncomputable section

namespace Cert.KernelIdeal.Run

open Cert.KernelIdeal Cert.KernelIdeal.Gen
open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : Mem (F := F)) (K : Dev nD × Option CK → ℕ) (c : Dev nD)

/-- Elements held in two parts. -/
theorem pt_two {ℓ : Loc nD τ sig} {q : PosShare TreeShare} {I J S : Finset (Idx ℓ)} {f : Buf (Elt F) ℓ} (hd : ∀ i, i ∈ I → i ∉ J) (hu : ∀ i, i ∈ S ↔ i ∈ I ∨ i ∈ J) :
    (ℓ ↦[S]{q} f : sProp 𝕄) ⊣⊢ iprop((ℓ ↦[I]{q} f) ∗ ℓ ↦[J]{q} f) := by
  have e : S = I ∪ J := by ext i; rw [hu i, Finset.mem_union]
  rw [e]
  exact pointsTo_union (Finset.disjoint_left.mpr hd)

/-- Elements owned in two parts. -/
theorem own_two (b : Ref sig .tc) {I J S : Finset (Idx ((c : Thread nD τ).loc b))} (hd : ∀ i, i ∈ I → i ∉ J) (hu : ∀ i, i ∈ S ↔ i ∈ I ∨ i ∈ J) :
    iprop(own (F := F) b c I ∗ own b c J) ⊢ own b c S := by
  have e : S = I ∪ J := by ext i; rw [hu i, Finset.mem_union]
  rw [e]
  unfold own
  iintro ⟨⟨%f, H⟩, ⟨%g, G⟩⟩
  iexists _
  iapply (pointsTo_join (f := f) (g := g) (Finset.disjoint_left.mpr hd))
  isplitl [H]; · iexact H
  iexact G
/-- Room falls into two parts that are disjoint and cover it. -/
theorem own_cut (b : Ref sig .tc) {I J S : Finset (Idx ((c : Thread nD τ).loc b))} (hd : ∀ i, i ∈ I → i ∉ J) (hu : ∀ i, i ∈ S ↔ i ∈ I ∨ i ∈ J) :
    own (F := F) b c S ⊢ iprop(own b c I ∗ own b c J) := by
  unfold own
  iintro ⟨%f, H⟩
  ihave H := (pt_two (f := f) hd hu).1 $$ H
  icases H with ⟨H, G⟩
  isplitl [H]
  · iexists f; iexact H
  iexists f; iexact G

/-- More rows of a key or value buffer have arrived. -/
theorem bf_rows (kv : Fin 2) (n z : ℕ) : iprop(bfPt m kv c (kbx 0 0 n 1024) ∗ bfPt m kv c (kbx n 0 z 1024)) ⊢ bfPt m kv c (kbx 0 0 (n + z) 1024) := by
  have hd : ∀ i : S1152x1024.Idx, i ∈ kbx 0 0 n 1024 → i ∉ kbx n 0 z 1024 := fun i h h' => by
    have := mem_bx2.mp h; have := mem_bx2.mp h'; omega
  have hu : ∀ i : S1152x1024.Idx, i ∈ kbx 0 0 (n + z) 1024 ↔ i ∈ kbx 0 0 n 1024 ∨ i ∈ kbx n 0 z 1024 := fun i => by
    rw [mem_bx2, mem_bx2, mem_bx2]; omega
  unfold bfPt
  split
  · exact (pt_two (ℓ := (c : Thread nD τ).loc cc0_scratch0) hd hu).2
  · exact (pt_two (ℓ := (c : Thread nD τ).loc cc0_scratch1) hd hu).2

/-- The stored block `b` of the partial output. -/
theorem PB_blk (b : ℕ) {i : S1024x1024.Idx} {j : S256x1024.Idx} (h : ∀ a, (i a).val = (![256 * b, 0] : Fin 2 → ℕ) a + (j a).val) : PB m c i = pblk m c b j := by
  have h0 : (i 0).val = 256 * b + (j 0).val := h 0
  have h1 : (i 1).val = 0 + (j 1).val := h 1
  have l : (j 0).val < 256 := (j 0).isLt
  unfold PB
  rw [show (i 0).val / 256 = b by omega, nx2_eq (j := j) (by omega) (by omega)]
/-- A device's own slot holds its own partial block. -/
theorem RSB_own {q : Fin 4} (e : c = q) {i : S4x256x1024.Idx} {j : S1x256x1024.Idx} (h : ∀ a, (i a).val = (![q.val, 0, 0] : Fin 3 → ℕ) a + (j a).val) : RSB m c i = ownv m c q.val j := by
  subst e
  have h0 : (i 0).val = c.val + (j 0).val := h 0
  have h1 : (i 1).val = 0 + (j 1).val := h 1
  have h2 : (i 2).val = 0 + (j 2).val := h 2
  have l : (j 0).val < 1 := (j 0).isLt
  unfold RSB
  rw [if_pos (by omega), nx3_eq (j := j) (by omega) (by omega) (by omega)]
/-- The block to be gathered is the rounded sum. -/
theorem AO_all {i j : S256x1024.Idx} (h : ∀ a, (i a).val = (![0, 0] : Fin 2 → ℕ) a + (j a).val) : AO m c i = AOb m c c.val j := by
  have h0 : (i 0).val = 0 + (j 0).val := h 0
  have h1 : (i 1).val = 0 + (j 1).val := h 1
  obtain rfl : i = j := by
    rw [← nx2_eq (j := j) (r := (i 0).val) (k := (i 1).val) (by omega) (by omega), nx2_eq (j := i) rfl rfl]
  rfl
/-- The owner's rows of the result are the sum. -/
theorem OUT_own {i : S1024x1024.Idx} {j : S256x1024.Idx} (h : ∀ a, (i a).val = (![256 * c.val, 0] : Fin 2 → ℕ) a + (j a).val) : OUT m c i = ACC m c c.val j := by
  have h0 : (i 0).val = 256 * c.val + (j 0).val := h 0
  have h1 : (i 1).val = 0 + (j 1).val := h 1
  have l : (j 0).val < 256 := (j 0).isLt
  unfold OUT
  rw [if_pos (by omega), nx2_eq (j := j) (by omega) (by omega)]
/-- The rows of the result that come from another device are what it sent. -/
theorem OUT_gv (s : ℕ) (hs : s < 3) {i : S1024x1024.Idx} {j : S256x1024.Idx} (h : ∀ a, (i a).val = (![256 * ((c.val + s + 1) % 4), 0] : Fin 2 → ℕ) a + (j a).val) : OUT m c i = GV m c s j := by
  have h0 : (i 0).val = 256 * ((c.val + s + 1) % 4) + (j 0).val := h 0
  have h1 : (i 1).val = 0 + (j 1).val := h 1
  have l : (j 0).val < 256 := (j 0).isLt
  have lc : c.val < 4 := c.isLt
  unfold OUT
  rw [if_neg (by omega), show ((i 0).val / 256 + 3 - c.val) % 4 = s by omega, nx2_eq (j := j) (by omega) (by omega)]

/-- Boxes that are everything. -/
theorem sq_univ : (sqx 0 0 1024 1024 : Finset S1024x1024.Idx) = Finset.univ := by
  ext i
  have h0 : (i 0).val < 1024 := (i 0).isLt
  have h1 : (i 1).val < 1024 := (i 1).isLt
  exact ⟨fun _ => Finset.mem_univ _, fun _ => mem_bx2.mpr (by omega)⟩
/-- The whole of the buffer of the summed block. -/
theorem ao_univ : (bx (s := S256x1024) ![0, 0] ![256, 1024]) = Finset.univ := by
  ext i
  have h0 : (i 0).val < 256 := (i 0).isLt
  have h1 : (i 1).val < 1024 := (i 1).isLt
  exact ⟨fun _ => Finset.mem_univ _, fun _ => mem_bx2.mpr (by omega)⟩
/-- The whole of a key or value buffer. -/
theorem kb_univ : (kbx 0 0 1152 1024 : Finset S1152x1024.Idx) = Finset.univ := by
  ext i
  have h0 : (i 0).val < 1152 := (i 0).isLt
  have h1 : (i 1).val < 1024 := (i 1).isLt
  exact ⟨fun _ => Finset.mem_univ _, fun _ => mem_bx2.mpr (by omega)⟩
/-- The whole of the buffer of the partial blocks. -/
theorem rb_univ : (bx (s := S4x256x1024) ![0, 0, 0] ![4, 256, 1024]) = Finset.univ := by
  ext i
  have h0 : (i 0).val < 4 := (i 0).isLt
  have h1 : (i 1).val < 256 := (i 1).isLt
  have h2 : (i 2).val < 1024 := (i 2).isLt
  exact ⟨fun _ => Finset.mem_univ _, fun _ => mem_bx3.mpr (by omega)⟩
/-- The whole of the buffer of the gathered blocks. -/
theorem gb_univ : (bx (s := S3x256x1024) ![0, 0, 0] ![3, 256, 1024]) = Finset.univ := by
  ext i
  have h0 : (i 0).val < 3 := (i 0).isLt
  have h1 : (i 1).val < 256 := (i 1).isLt
  have h2 : (i 2).val < 1024 := (i 2).isLt
  exact ⟨fun _ => Finset.mem_univ _, fun _ => mem_bx3.mpr (by omega)⟩

/-- A box of rows is its first rows and its last. -/
theorem sq_hd (n z : ℕ) (i : S1024x1024.Idx) (h : i ∈ sqx 0 0 n 1024) : i ∉ sqx n 0 z 1024 := fun h' => by
  have := mem_bx2.mp h; have := mem_bx2.mp h'; omega
/-- Row ranges of a square buffer, put together. -/
theorem sq_hu (n z : ℕ) (i : S1024x1024.Idx) : i ∈ sqx 0 0 (n + z) 1024 ↔ i ∈ sqx 0 0 n 1024 ∨ i ∈ sqx n 0 z 1024 := by
  rw [mem_bx2, mem_bx2, mem_bx2]; omega
/-- Row ranges of a key or value buffer that follow each other are disjoint. -/
theorem kb_hd (n z : ℕ) (i : S1152x1024.Idx) (h : i ∈ kbx 0 0 n 1024) : i ∉ kbx n 0 z 1024 := fun h' => by
  have := mem_bx2.mp h; have := mem_bx2.mp h'; omega
/-- Row ranges of a key or value buffer, put together. -/
theorem kb_hu (n z : ℕ) (i : S1152x1024.Idx) : i ∈ kbx 0 0 (n + z) 1024 ↔ i ∈ kbx 0 0 n 1024 ∨ i ∈ kbx n 0 z 1024 := by
  rw [mem_bx2, mem_bx2, mem_bx2]; omega
/-- Slot ranges of the partial blocks that follow each other are disjoint. -/
theorem rb_hd (n : ℕ) (i : S4x256x1024.Idx) (h : i ∈ bx (s := S4x256x1024) ![0, 0, 0] ![n, 256, 1024]) : i ∉ rbx n := fun h' => by
  have := mem_bx3.mp h; have := mem_bx3.mp h'; omega
/-- Slot ranges of the partial blocks, put together. -/
theorem rb_hu (n : ℕ) (i : S4x256x1024.Idx) : i ∈ bx (s := S4x256x1024) ![0, 0, 0] ![n + 1, 256, 1024] ↔ i ∈ bx (s := S4x256x1024) ![0, 0, 0] ![n, 256, 1024] ∨ i ∈ rbx n := by
  rw [mem_bx3, mem_bx3, mem_bx3]; omega
/-- Slot ranges of the gathered blocks that follow each other are disjoint. -/
theorem gb_hd (n : ℕ) (i : S3x256x1024.Idx) (h : i ∈ bx (s := S3x256x1024) ![0, 0, 0] ![n, 256, 1024]) : i ∉ gbx n := fun h' => by
  have := mem_bx3.mp h; have := mem_bx3.mp h'; omega
/-- Slot ranges of the gathered blocks, put together. -/
theorem gb_hu (n : ℕ) (i : S3x256x1024.Idx) : i ∈ bx (s := S3x256x1024) ![0, 0, 0] ![n + 1, 256, 1024] ↔ i ∈ bx (s := S3x256x1024) ![0, 0, 0] ![n, 256, 1024] ∨ i ∈ gbx n := by
  rw [mem_bx3, mem_bx3, mem_bx3]; omega

/-- The four blocks of the partial output. -/
theorem pb_join : iprop(own (F := F) cc0_scratch5 c (sqx 0 0 256 1024) ∗ own (F := F) cc0_scratch5 c (sqx 256 0 256 1024) ∗ own (F := F) cc0_scratch5 c (sqx 512 0 256 1024) ∗ own (F := F) cc0_scratch5 c (sqx 768 0 256 1024)) ⊢ own cc0_scratch5 c Finset.univ := by
  iintro ⟨H0, H1, H2, H3⟩
  ihave H0 := (own_two c cc0_scratch5 (sq_hd 256 256) (sq_hu 256 256)) $$ [H0 H1]
  · isplitl [H0]; · iexact H0
    iexact H1
  ihave H0 := (own_two c cc0_scratch5 (sq_hd 512 256) (sq_hu 512 256)) $$ [H0 H2]
  · isplitl [H0]; · iexact H0
    iexact H2
  ihave H0 := (own_two c cc0_scratch5 (sq_hd 768 256) (sq_hu 768 256)) $$ [H0 H3]
  · isplitl [H0]; · iexact H0
    iexact H3
  iapply (Entails.of_eq (congrArg (own (F := F) cc0_scratch5 c) sq_univ)); iexact H0
/-- The buffer of the partial output in its four row blocks. -/
theorem pb_cut : own (F := F) cc0_scratch5 c Finset.univ ⊢ iprop(own (F := F) cc0_scratch5 c (sqx 0 0 256 1024) ∗ own (F := F) cc0_scratch5 c (sqx 256 0 256 1024) ∗ own (F := F) cc0_scratch5 c (sqx 512 0 256 1024) ∗ own (F := F) cc0_scratch5 c (sqx 768 0 256 1024)) := by
  iintro H
  ihave H := (Entails.of_eq (congrArg (own (F := F) cc0_scratch5 c) sq_univ.symm)) $$ H
  ihave H := (own_cut c cc0_scratch5 (sq_hd 768 256) (sq_hu 768 256)) $$ H
  icases H with ⟨H, H3⟩
  ihave H := (own_cut c cc0_scratch5 (sq_hd 512 256) (sq_hu 512 256)) $$ H
  icases H with ⟨H, H2⟩
  ihave H := (own_cut c cc0_scratch5 (sq_hd 256 256) (sq_hu 256 256)) $$ H
  icases H with ⟨H, H1⟩
  isplitl [H]; · iexact H
  isplitl [H1]; · iexact H1
  isplitl [H2]; · iexact H2
  iexact H3
/-- The four blocks of the result. -/
theorem ob_join : iprop(own (F := F) cc0_stg3_0 c (sqx 0 0 256 1024) ∗ own (F := F) cc0_stg3_0 c (sqx 256 0 256 1024) ∗ own (F := F) cc0_stg3_0 c (sqx 512 0 256 1024) ∗ own (F := F) cc0_stg3_0 c (sqx 768 0 256 1024)) ⊢ own cc0_stg3_0 c Finset.univ := by
  iintro ⟨H0, H1, H2, H3⟩
  ihave H0 := (own_two c cc0_stg3_0 (sq_hd 256 256) (sq_hu 256 256)) $$ [H0 H1]
  · isplitl [H0]; · iexact H0
    iexact H1
  ihave H0 := (own_two c cc0_stg3_0 (sq_hd 512 256) (sq_hu 512 256)) $$ [H0 H2]
  · isplitl [H0]; · iexact H0
    iexact H2
  ihave H0 := (own_two c cc0_stg3_0 (sq_hd 768 256) (sq_hu 768 256)) $$ [H0 H3]
  · isplitl [H0]; · iexact H0
    iexact H3
  iapply (Entails.of_eq (congrArg (own (F := F) cc0_stg3_0 c) sq_univ)); iexact H0
/-- The buffer of the result in its four row blocks. -/
theorem ob_cut : own (F := F) cc0_stg3_0 c Finset.univ ⊢ iprop(own (F := F) cc0_stg3_0 c (sqx 0 0 256 1024) ∗ own (F := F) cc0_stg3_0 c (sqx 256 0 256 1024) ∗ own (F := F) cc0_stg3_0 c (sqx 512 0 256 1024) ∗ own (F := F) cc0_stg3_0 c (sqx 768 0 256 1024)) := by
  iintro H
  ihave H := (Entails.of_eq (congrArg (own (F := F) cc0_stg3_0 c) sq_univ.symm)) $$ H
  ihave H := (own_cut c cc0_stg3_0 (sq_hd 768 256) (sq_hu 768 256)) $$ H
  icases H with ⟨H, H3⟩
  ihave H := (own_cut c cc0_stg3_0 (sq_hd 512 256) (sq_hu 512 256)) $$ H
  icases H with ⟨H, H2⟩
  ihave H := (own_cut c cc0_stg3_0 (sq_hd 256 256) (sq_hu 256 256)) $$ H
  icases H with ⟨H, H1⟩
  isplitl [H]; · iexact H
  isplitl [H1]; · iexact H1
  isplitl [H2]; · iexact H2
  iexact H3
/-- The four slots of the reduce-scatter. -/
theorem rb_join : iprop(own (F := F) cc0_scratch6 c (rbx 0) ∗ own (F := F) cc0_scratch6 c (rbx 1) ∗ own (F := F) cc0_scratch6 c (rbx 2) ∗ own (F := F) cc0_scratch6 c (rbx 3)) ⊢ own cc0_scratch6 c Finset.univ := by
  iintro ⟨H0, H1, H2, H3⟩
  ihave H0 := (own_two c cc0_scratch6 (rb_hd 1) (rb_hu 1)) $$ [H0 H1]
  · isplitl [H0]; · iexact H0
    iexact H1
  ihave H0 := (own_two c cc0_scratch6 (rb_hd 2) (rb_hu 2)) $$ [H0 H2]
  · isplitl [H0]; · iexact H0
    iexact H2
  ihave H0 := (own_two c cc0_scratch6 (rb_hd 3) (rb_hu 3)) $$ [H0 H3]
  · isplitl [H0]; · iexact H0
    iexact H3
  iapply (Entails.of_eq (congrArg (own (F := F) cc0_scratch6 c) rb_univ)); iexact H0
/-- The buffer of the partial blocks in its four slots. -/
theorem rb_cut : own (F := F) cc0_scratch6 c Finset.univ ⊢ iprop(own (F := F) cc0_scratch6 c (rbx 0) ∗ own (F := F) cc0_scratch6 c (rbx 1) ∗ own (F := F) cc0_scratch6 c (rbx 2) ∗ own (F := F) cc0_scratch6 c (rbx 3)) := by
  iintro H
  ihave H := (Entails.of_eq (congrArg (own (F := F) cc0_scratch6 c) rb_univ.symm)) $$ H
  ihave H := (own_cut c cc0_scratch6 (rb_hd 3) (rb_hu 3)) $$ H
  icases H with ⟨H, H3⟩
  ihave H := (own_cut c cc0_scratch6 (rb_hd 2) (rb_hu 2)) $$ H
  icases H with ⟨H, H2⟩
  ihave H := (own_cut c cc0_scratch6 (rb_hd 1) (rb_hu 1)) $$ H
  icases H with ⟨H, H1⟩
  isplitl [H]; · iexact H
  isplitl [H1]; · iexact H1
  isplitl [H2]; · iexact H2
  iexact H3
/-- The three slots of the all-gather. -/
theorem gb_join : iprop(own (F := F) cc0_scratch8 c (gbx 0) ∗ own (F := F) cc0_scratch8 c (gbx 1) ∗ own (F := F) cc0_scratch8 c (gbx 2)) ⊢ own cc0_scratch8 c Finset.univ := by
  iintro ⟨H0, H1, H2⟩
  ihave H0 := (own_two c cc0_scratch8 (gb_hd 1) (gb_hu 1)) $$ [H0 H1]
  · isplitl [H0]; · iexact H0
    iexact H1
  ihave H0 := (own_two c cc0_scratch8 (gb_hd 2) (gb_hu 2)) $$ [H0 H2]
  · isplitl [H0]; · iexact H0
    iexact H2
  iapply (Entails.of_eq (congrArg (own (F := F) cc0_scratch8 c) gb_univ)); iexact H0
/-- The buffer of the gathered blocks in its three slots. -/
theorem gb_cut : own (F := F) cc0_scratch8 c Finset.univ ⊢ iprop(own (F := F) cc0_scratch8 c (gbx 0) ∗ own (F := F) cc0_scratch8 c (gbx 1) ∗ own (F := F) cc0_scratch8 c (gbx 2)) := by
  iintro H
  ihave H := (Entails.of_eq (congrArg (own (F := F) cc0_scratch8 c) gb_univ.symm)) $$ H
  ihave H := (own_cut c cc0_scratch8 (gb_hd 2) (gb_hu 2)) $$ H
  icases H with ⟨H, H2⟩
  ihave H := (own_cut c cc0_scratch8 (gb_hd 1) (gb_hu 1)) $$ H
  icases H with ⟨H, H1⟩
  isplitl [H]; · iexact H
  isplitl [H1]; · iexact H1
  iexact H2
/-- The rows that device 0 and device 1 broadcast. -/
theorem kbK_join : iprop(own (F := F) cc0_scratch0 c (kbx 0 0 1024 1024) ∗ own (F := F) cc0_scratch0 c (kbx 1024 0 128 1024)) ⊢ own cc0_scratch0 c Finset.univ := by
  iintro ⟨H0, H1⟩
  ihave H0 := (own_two c cc0_scratch0 (kb_hd 1024 128) (kb_hu 1024 128)) $$ [H0 H1]
  · isplitl [H0]; · iexact H0
    iexact H1
  iapply (Entails.of_eq (congrArg (own (F := F) cc0_scratch0 c) kb_univ)); iexact H0
/-- The key buffer in the rows that come from device 0 and those from device 1. -/
theorem kbK_cut : own (F := F) cc0_scratch0 c Finset.univ ⊢ iprop(own (F := F) cc0_scratch0 c (kbx 0 0 1024 1024) ∗ own (F := F) cc0_scratch0 c (kbx 1024 0 128 1024)) := by
  iintro H
  ihave H := (Entails.of_eq (congrArg (own (F := F) cc0_scratch0 c) kb_univ.symm)) $$ H
  ihave H := (own_cut c cc0_scratch0 (kb_hd 1024 128) (kb_hu 1024 128)) $$ H
  icases H with ⟨H, H1⟩
  isplitl [H]; · iexact H
  iexact H1
/-- The rows that device 0 and device 1 broadcast. -/
theorem kbV_join : iprop(own (F := F) cc0_scratch1 c (kbx 0 0 1024 1024) ∗ own (F := F) cc0_scratch1 c (kbx 1024 0 128 1024)) ⊢ own cc0_scratch1 c Finset.univ := by
  iintro ⟨H0, H1⟩
  ihave H0 := (own_two c cc0_scratch1 (kb_hd 1024 128) (kb_hu 1024 128)) $$ [H0 H1]
  · isplitl [H0]; · iexact H0
    iexact H1
  iapply (Entails.of_eq (congrArg (own (F := F) cc0_scratch1 c) kb_univ)); iexact H0
/-- The value buffer in the rows that come from device 0 and those from device 1. -/
theorem kbV_cut : own (F := F) cc0_scratch1 c Finset.univ ⊢ iprop(own (F := F) cc0_scratch1 c (kbx 0 0 1024 1024) ∗ own (F := F) cc0_scratch1 c (kbx 1024 0 128 1024)) := by
  iintro H
  ihave H := (Entails.of_eq (congrArg (own (F := F) cc0_scratch1 c) kb_univ.symm)) $$ H
  ihave H := (own_cut c cc0_scratch1 (kb_hd 1024 128) (kb_hu 1024 128)) $$ H
  icases H with ⟨H, H1⟩
  isplitl [H]; · iexact H
  iexact H1
/-- The four blocks of the result, each holding its part of the value. -/
theorem out_join : iprop(((c : Thread nD τ).loc cc0_stg3_0 ↦[sqx 0 0 256 1024]{fullShare} OUT m c) ∗ ((c : Thread nD τ).loc cc0_stg3_0 ↦[sqx 256 0 256 1024]{fullShare} OUT m c)
      ∗ ((c : Thread nD τ).loc cc0_stg3_0 ↦[sqx 512 0 256 1024]{fullShare} OUT m c) ∗ ((c : Thread nD τ).loc cc0_stg3_0 ↦[sqx 768 0 256 1024]{fullShare} OUT m c))
    ⊢ ((c : Thread nD τ).loc cc0_stg3_0 ↦[Finset.univ]{fullShare} OUT m c : sProp 𝕄) := by
  have e1 := pt_two (F := F) (ℓ := (c : Thread nD τ).loc cc0_stg3_0) (q := fullShare) (f := OUT m c) (sq_hd 256 256) (sq_hu 256 256)
  have e2 := pt_two (F := F) (ℓ := (c : Thread nD τ).loc cc0_stg3_0) (q := fullShare) (f := OUT m c) (sq_hd 512 256) (sq_hu 512 256)
  have e3 := pt_two (F := F) (ℓ := (c : Thread nD τ).loc cc0_stg3_0) (q := fullShare) (f := OUT m c) (sq_hd 768 256) (sq_hu 768 256)
  rw [← sq_univ]
  iintro ⟨H0, H1, H2, H3⟩
  iapply e3.2
  isplitr [H3]
  · iapply e2.2
    isplitr [H2]
    · iapply e1.2
      isplitl [H0]; · iexact H0
      iexact H1
    iexact H2
  iexact H3

/-- The block that device 0 sends for row block `t` and receiver `j`, by its place in the order. -/
theorem blk0_eq (t : Fin 4) (j : Fin 3) : kvx (256 * t.val) (1024 * (j.val + 1)) 256 1024 = blk0 (3 * t.val + j.val) := by
  have ht := t.isLt; have hj := j.isLt
  unfold blk0
  rw [if_neg (by omega), show (3 * t.val + j.val) / 3 = t.val by omega, show (3 * t.val + j.val) % 3 = j.val by omega]
/-- The block that device 1 sends for receiver `j`, by its place in the order. -/
theorem blk1_eq (j : Fin 3) : kvx 0 (1024 * dst1 j) 128 1024 = blk1 j.val := by
  have hj := j.isLt
  unfold blk1; rw [if_neg (by omega)]; rfl
/-- A block that device 0 sent comes back to the rest of its staged rows. -/
theorem rejoin0 (kv : Fin 2) (t : Fin 4) (j : Fin 3) {n : ℕ} (hn : n = 3 * t.val + j.val) :
    iprop(pay m 0 (.snd0 t kv j) ∗ stOwn kv 0 (rem0 (n + 1))) ⊢ stOwn kv 0 (rem0 n) := by
  have hlt : n < 13 := by have := t.isLt; have := j.isLt; omega
  have e : pay m 0 (.snd0 t kv j) ⊢ stOwn kv 0 (blk0 n) :=
    (Entails.of_eq (congrArg (kvPt m kv 0) ((blk0_eq t j).trans (congrArg blk0 hn.symm)))).trans (kvPt_room m 0 kv _)
  exact (BI.sep_mono e (Entails.refl _)).trans (stOwn_join 0 kv (blk0_sub n hlt))
/-- A block that device 1 sent comes back to the rest of its staged rows. -/
theorem rejoin1 (kv : Fin 2) (j : Fin 3) {n : ℕ} (hn : n = j.val) :
    iprop(pay m 1 (.snd1 j kv) ∗ stOwn kv 1 (rem1 (n + 1))) ⊢ stOwn kv 1 (rem1 n) := by
  have hlt : n < 4 := by have := j.isLt; omega
  have e : pay m 1 (.snd1 j kv) ⊢ stOwn kv 1 (blk1 n) :=
    (Entails.of_eq (congrArg (kvPt m kv 1) ((blk1_eq j).trans (congrArg blk1 hn.symm)))).trans (kvPt_room m 1 kv _)
  exact (BI.sep_mono e (Entails.refl _)).trans (stOwn_join 1 kv (blk1_sub n hlt))
/-- The three blocks of a row block of device 0 come back. -/
theorem rejoin0_three (kv : Fin 2) (t : Fin 4) {n : ℕ} (hn : n = 3 * t.val) :
    iprop((pay m 0 (.snd0 t kv 0) ∗ pay m 0 (.snd0 t kv 1) ∗ pay m 0 (.snd0 t kv 2)) ∗ stOwn kv 0 (rem0 (n + 3))) ⊢ stOwn kv 0 (rem0 n) := by
  iintro ⟨⟨A, B, C⟩, R⟩
  iapply (rejoin0 m kv t 0 (n := n) (by simpa using hn))
  isplitl [A]; · iexact A
  iapply (rejoin0 m kv t 1 (n := n + 1) (by simp; omega))
  isplitl [B]; · iexact B
  iapply (rejoin0 m kv t 2 (n := n + 2) (by simp; omega))
  isplitl [C]; · iexact C
  iexact R
/-- All three blocks of device 1 come back. -/
theorem rejoin1_three (kv : Fin 2) :
    iprop((pay m 1 (.snd1 0 kv) ∗ pay m 1 (.snd1 1 kv) ∗ pay m 1 (.snd1 2 kv)) ∗ stOwn kv 1 (rem1 3)) ⊢ stOwn kv 1 (rem1 0) := by
  iintro ⟨⟨A, B, C⟩, R⟩
  iapply (rejoin1 m kv 0 (n := 0) rfl)
  isplitl [A]; · iexact A
  iapply (rejoin1 m kv 1 (n := 1) rfl)
  isplitl [B]; · iexact B
  iapply (rejoin1 m kv 2 (n := 2) rfl)
  isplitl [C]; · iexact C
  iexact R

/-- What the waits of the local copies and of the reduce-scatter hand over. -/
theorem pay_loc0 (kv : Fin 2) : pay m 0 (.loc kv) = iprop(bfPt m kv 0 (kbx 0 0 1024 1024) ∗ kvPt m kv 0 (kvx 0 0 1024 1024)) := rfl
/-- The end of device 1's local copy hands back its columns and their staged source. -/
theorem pay_loc1 (kv : Fin 2) : pay m 1 (.loc kv) = iprop(bfPt m kv 1 (kbx 1024 0 128 1024) ∗ kvPt m kv 1 (kvx 0 1024 128 1024)) := rfl
/-- A landing from device 0 hands over a block of rows. -/
theorem pay_rcv0 (t : Fin 4) (kv : Fin 2) : pay m c (.rcv0 t kv) = bfPt m kv c (kbx (256 * t.val) 0 256 1024) := rfl
/-- A landing from device 1 hands over the last 128 rows. -/
theorem pay_rcv1 (kv : Fin 2) : pay m c (.rcv1 kv) = bfPt m kv c (kbx 1024 0 128 1024) := rfl
/-- A landing of a partial block hands over a slot. -/
theorem pay_rsr (s : Fin 4) : pay m c (.rsr s) = ((c : Thread nD τ).loc cc0_scratch6 ↦[rbx s.val]{fullShare} RSB m c) := rfl
/-- The end of a partial block's send hands the block back. -/
theorem pay_rss (b : Fin 4) : pay m c (.rss b) = ((c : Thread nD τ).loc cc0_scratch5 ↦[sqx (256 * b.val) 0 256 1024]{fullShare} PB m c) := rfl
/-- A landing of a summed block hands over a slot. -/
theorem pay_agr (s : Fin 3) : pay m c (.agr s) = ((c : Thread nD τ).loc cc0_scratch8 ↦[gbx s.val]{fullShare} AGB m c) := rfl
/-- The end of a summed block's send hands back a third of the block. -/
theorem pay_ags (k : Fin 3) : pay m c (.ags k) = ((c : Thread nD τ).loc cc0_scratch7 ↦[Finset.univ]{Ring.shares3 fullShare k} AO m c) := rfl

end Cert.KernelIdeal.Run
-- ==== Proof.Bcast.lean ====
/- The part of the kernel in which device 0 and device 1 broadcast their codes. -/
module

public import proofs.«01_k».proof.Proof.Heads
public import proofs.«01_k».proof.Proof.Evs

@[expose] public section

set_option maxRecDepth 16384
set_option maxHeartbeats 1000000

noncomputable section

namespace Cert.KernelIdeal.Run

open Cert.KernelIdeal Cert.KernelIdeal.Gen
open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : Mem (F := F)) (K : Dev nD × Option CK → ℕ) (c : Dev nD)

/-- Device 0's transfers of block `t` of its rows: to each of the other devices the columns of its heads. -/
theorem wp_row0 {kv H S B} (hkv : Side kv H S B) {l : List Ev} (t : Fin 4) {ot o1 o2 o3 : ℕ} {n1 n2 n3 : Dev nD}
    {i1 i1b g1 g1b s1 d1 c1 p1 q1 e1 i2 i2b g2 g2b s2 d2 c2 p2 q2 e2 i3 i3b g3 g3b s3 d3 c3 p3 q3 e3} (hot : ot = 256 * t.val)
    (hn1 : n1 = 1) (ho1 : o1 = 1024 * 1) (hs1 : s1 = SemLoc.dma (semOf (.snd0 t kv 0))) (hd1 : d1 = SemLoc.dma (semOf (.rcv0 t kv))) (hN1 : (B.slice (Rect.unit (s := S1152x1024) ![ot, 0] ![256, 1024] i1b) g1b).view.amount d1 = amt 0 (.snd0 t kv 0))
    (hn2 : n2 = 2) (ho2 : o2 = 1024 * 2) (hs2 : s2 = SemLoc.dma (semOf (.snd0 t kv 1))) (hd2 : d2 = SemLoc.dma (semOf (.rcv0 t kv))) (hN2 : (B.slice (Rect.unit (s := S1152x1024) ![ot, 0] ![256, 1024] i2b) g2b).view.amount d2 = amt 0 (.snd0 t kv 1))
    (hn3 : n3 = 3) (ho3 : o3 = 1024 * 3) (hs3 : s3 = SemLoc.dma (semOf (.snd0 t kv 2))) (hd3 : d3 = SemLoc.dma (semOf (.rcv0 t kv))) (hN3 : (B.slice (Rect.unit (s := S1152x1024) ![ot, 0] ![256, 1024] i3b) g3b).view.amount d3 = amt 0 (.snd0 t kv 2))
    {α : Type} {Q : α → sProp 𝕄} {k : Prog (TpuEff nD τ sig (Elt F) Λ₀ .tc) α} :
    iprop(Rec m K ∗ Run 0 (.send 1 (.rcv0 t kv) (.snd0 t kv 0) :: .send 2 (.rcv0 t kv) (.snd0 t kv 1) :: .send 3 (.rcv0 t kv) (.snd0 t kv 2) :: l)
        ∗ kvPt m kv 0 (rem0 (3 * t.val)) ∗ bfOwn kv 1 (kbx (256 * t.val) 0 (1024 - 256 * t.val) 1024) ∗ bfOwn kv 2 (kbx (256 * t.val) 0 (1024 - 256 * t.val) 1024) ∗ bfOwn kv 3 (kbx (256 * t.val) 0 (1024 - 256 * t.val) 1024))
      ⊢ iprop(((Run 0 l ∗ kvPt m kv 0 (rem0 (3 * (t.val + 1))) ∗ bfOwn kv 1 (kbx (256 * (t.val + 1)) 0 (1024 - 256 * (t.val + 1)) 1024) ∗ bfOwn kv 2 (kbx (256 * (t.val + 1)) 0 (1024 - 256 * (t.val + 1)) 1024) ∗ bfOwn kv 3 (kbx (256 * (t.val + 1)) 0 (1024 - 256 * (t.val + 1)) 1024)) -∗ wpc 0 k Q)
        -∗ wpc 0
          (.op (.enqueueDma (S.slice (Rect.unit (s := S1024x4096) ![ot, o1] ![256, 1024] i1) g1) (.remote (n1 : Thread nD τ) (B.slice (Rect.unit (s := S1152x1024) ![ot, 0] ![256, 1024] i1b) g1b) s1 c1) d1 p1 q1 e1) fun _ =>
          (.op (.enqueueDma (S.slice (Rect.unit (s := S1024x4096) ![ot, o2] ![256, 1024] i2) g2) (.remote (n2 : Thread nD τ) (B.slice (Rect.unit (s := S1152x1024) ![ot, 0] ![256, 1024] i2b) g2b) s2 c2) d2 p2 q2 e2) fun _ =>
          (.op (.enqueueDma (S.slice (Rect.unit (s := S1024x4096) ![ot, o3] ![256, 1024] i3) g3) (.remote (n3 : Thread nD τ) (B.slice (Rect.unit (s := S1152x1024) ![ot, 0] ![256, 1024] i3b) g3b) s3 c3) d3 p3 q3 e3) fun _ =>
          k))) Q) := by
  iintro ⟨#HR, Hr, s, k1, k2, k3⟩ HQ
  iapply (wp_send0 m K hkv t 0 1 rfl hn1 hot ho1 hs1 hd1 hN1) $$ [Hr s k1]
  · isplitr; · iexact HR
    isplitl [Hr]; · iexact Hr
    isplitl [s]; · iexact s
    iexact k1
  iintro ⟨Hr, s, k1⟩
  iapply (wp_send0 m K hkv t 1 2 rfl hn2 hot ho2 hs2 hd2 hN2) $$ [Hr s k2]
  · isplitr; · iexact HR
    isplitl [Hr]; · iexact Hr
    isplitl [s]; · iexact s
    iexact k2
  iintro ⟨Hr, s, k2⟩
  iapply (wp_send0 m K hkv t 2 3 rfl hn3 hot ho3 hs3 hd3 hN3) $$ [Hr s k3]
  · isplitr; · iexact HR
    isplitl [Hr]; · iexact Hr
    isplitl [s]; · iexact s
    iexact k3
  iintro ⟨Hr, s, k3⟩
  iapply HQ
  isplitl [Hr]; · iexact Hr
  isplitl [s]; · iexact s
  isplitl [k1]; · iexact k1
  isplitl [k2]; · iexact k2
  iexact k3

/-- The third signal, the wait for the other devices' signals, and the broadcast of the first 1024 rows of codes on device 0. -/
theorem part33_0 {l : List Ev} {Q} :
    iprop(Rec m K ∗ Run 0 (seg33 0 ++ l) ∗ barPay (dv ((0 + 0 : ℕ) + 3)) 3 ∗ PreS m 0 ∗ XW m 0)
      ⊢ iprop(((Run 0 l ∗ (tgt 0 1 ∗ tgt 0 2 ∗ tgt 0 3) ∗ PostS m 0 ∗ XW m 0) -∗ Q ⟨(w54 m 0), (w55 m 0), (w56 m 0), (w65 m 0)⟩) -∗ wpc 0 (k0_part33 xM (Memref.isWhole_whole _) wqM (Memref.isWhole_whole _) khM (Memref.isWhole_whole _) vhM (Memref.isWhole_whole _) woM (Memref.isWhole_whole _) oM (Memref.isWhole_whole _) kbM (Memref.isWhole_whole _) vbM (Memref.isWhole_whole _) kvM (Memref.isWhole_whole _) vvM (Memref.isWhole_whole _) cxM (Memref.isWhole_whole _) pbM (Memref.isWhole_whole _) rbM (Memref.isWhole_whole _) aoM (Memref.isWhole_whole _) gbM (Memref.isWhole_whole _) cc0_scratch9 cc0_scratch10 cc0_scratch11 cc0_scratch12 cc0_scratch13 cc0_scratch14 cc0_scratch15 cc0_scratch16 cc0_scratch17 cc0_scratch18 0 (w2 m 0) BS (w30 m 0) (q_c4_i32_18 m 0) (w31 m 0)) Q) := by
  rw [show seg33 0 ++ l = .bar 3 :: .wbar :: .copy (.stg 0) :: .copy (.stg 1) :: .wait (.stg 0) :: .send 1 (.rcv0 0 0) (.snd0 0 0 0) :: .send 2 (.rcv0 0 0) (.snd0 0 0 1) :: .send 3 (.rcv0 0 0) (.snd0 0 0 2) :: .send 1 (.rcv0 1 0) (.snd0 1 0 0) :: .send 2 (.rcv0 1 0) (.snd0 1 0 1) :: .send 3 (.rcv0 1 0) (.snd0 1 0 2) :: .send 1 (.rcv0 2 0) (.snd0 2 0 0) :: .send 2 (.rcv0 2 0) (.snd0 2 0 1) :: .send 3 (.rcv0 2 0) (.snd0 2 0 2) :: .send 1 (.rcv0 3 0) (.snd0 3 0 0) :: .send 2 (.rcv0 3 0) (.snd0 3 0 1) :: .send 3 (.rcv0 3 0) (.snd0 3 0 2) :: .copy (.loc 0) :: .wait (.stg 1) :: .send 1 (.rcv0 0 1) (.snd0 0 1 0) :: .send 2 (.rcv0 0 1) (.snd0 0 1 1) :: .send 3 (.rcv0 0 1) (.snd0 0 1 2) :: .send 1 (.rcv0 1 1) (.snd0 1 1 0) :: .send 2 (.rcv0 1 1) (.snd0 1 1 1) :: .send 3 (.rcv0 1 1) (.snd0 1 1 2) :: .send 1 (.rcv0 2 1) (.snd0 2 1 0) :: .send 2 (.rcv0 2 1) (.snd0 2 1 1) :: .send 3 (.rcv0 2 1) (.snd0 2 1 2) :: .send 1 (.rcv0 3 1) (.snd0 3 1 0) :: .send 2 (.rcv0 3 1) (.snd0 3 1 1) :: .send 3 (.rcv0 3 1) (.snd0 3 1 2) :: .copy (.loc 1) :: l from rfl, k0_part33_eq_skeleton]; unfold k0_part33_skel PreS XW
  simp only [dif_pos (show (k0_cond1 0 = 1#1) by decide), dif_neg (show ¬ (k0_cond2 0 = 1#1) by decide), k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [semSignalWord, semWaitWord, Prog.lift, Prog.bind_op, Prog.bind_ret, Prog.pure_eq_ret, w54, w55, w56, w65, w49, w51]
  iintro ⟨#HR, Hr, B3, ⟨h0, h1, o2, o3, l0, l1⟩, X0, X1⟩ HQ
  iapply (run_signal m K 0 3 (by decide) rfl rfl) $$ [Hr B3]
  · isplitr; · iexact HR
    isplitl [Hr]; · iexact Hr
    iexact B3
  iintro Hr
  iapply (run_wbar m K 0 rfl rfl) $$ [Hr]
  · isplitr; · iexact HR
    iexact Hr
  iintro ⟨Hr, b1, b2, b3⟩
  ihave b1 := (Entails.of_eq (barPay_0 1)) $$ b1
  icases b1 with ⟨⟨k3, v3⟩, t1⟩
  ihave b2 := (Entails.of_eq (barPay_0 2)) $$ b2
  icases b2 with ⟨⟨k2, v2⟩, t2⟩
  ihave b3 := (Entails.of_eq (barPay_0 3)) $$ b3
  icases b3 with ⟨⟨k1, v1⟩, t3⟩
  iapply (wp_stage m K 0 side_K 1024 rfl rfl rfl) $$ [Hr h0 o2]
  · isplitr; · iexact HR
    isplitl [Hr]; · iexact Hr
    isplitl [h0]; · iexact h0
    iexact o2
  iintro Hr
  iapply (wp_stage m K 0 side_V 1024 rfl rfl rfl) $$ [Hr h1 o3]
  · isplitr; · iexact HR
    isplitl [Hr]; · iexact Hr
    isplitl [h1]; · iexact h1
    iexact o3
  iintro Hr
  iapply (run_wait m K 0 (.stg 0) rfl rfl) $$ [Hr]
  · isplitr; · iexact HR
    iexact Hr
  iintro ⟨Hr, p⟩
  ihave p := (Entails.of_eq (pay_stg0 m 0)) $$ p
  icases p with ⟨s, h0⟩
  iapply (wp_row0 m K side_K 0 rfl rfl rfl rfl rfl rfl rfl rfl rfl rfl rfl rfl rfl rfl rfl rfl) $$ [Hr s k1 k2 k3]
  · isplitr; · iexact HR
    isplitl [Hr]; · iexact Hr
    isplitl [s]; · iexact s
    isplitl [k1]; · iexact k1
    isplitl [k2]; · iexact k2
    iexact k3
  iintro ⟨Hr, s, k1, k2, k3⟩
  iapply (wp_row0 m K side_K 1 rfl rfl rfl rfl rfl rfl rfl rfl rfl rfl rfl rfl rfl rfl rfl rfl) $$ [Hr s k1 k2 k3]
  · isplitr; · iexact HR
    isplitl [Hr]; · iexact Hr
    isplitl [s]; · iexact s
    isplitl [k1]; · iexact k1
    isplitl [k2]; · iexact k2
    iexact k3
  iintro ⟨Hr, s, k1, k2, k3⟩
  iapply (wp_row0 m K side_K 2 rfl rfl rfl rfl rfl rfl rfl rfl rfl rfl rfl rfl rfl rfl rfl rfl) $$ [Hr s k1 k2 k3]
  · isplitr; · iexact HR
    isplitl [Hr]; · iexact Hr
    isplitl [s]; · iexact s
    isplitl [k1]; · iexact k1
    isplitl [k2]; · iexact k2
    iexact k3
  iintro ⟨Hr, s, k1, k2, k3⟩
  iapply (wp_row0 m K side_K 3 rfl rfl rfl rfl rfl rfl rfl rfl rfl rfl rfl rfl rfl rfl rfl rfl) $$ [Hr s k1 k2 k3]
  · isplitr; · iexact HR
    isplitl [Hr]; · iexact Hr
    isplitl [s]; · iexact s
    isplitl [k1]; · iexact k1
    isplitl [k2]; · iexact k2
    iexact k3
  iintro ⟨Hr, s, k1, k2, k3⟩
  ihave s := (kvPt_split m 0 0 (blk0_sub 12 (by decide))) $$ s
  icases s with ⟨u, s⟩
  iapply (wp_local m K 0 side_K 1024 0 (Or.inl rfl) rfl rfl rfl rfl) $$ [Hr u l0]
  · isplitr; · iexact HR
    isplitl [Hr]; · iexact Hr
    isplitl [u]; · iexact u
    iexact l0
  iintro Hr
  ihave e0 := (kvPt_room m 0 0 _) $$ s
  iapply (run_wait m K 0 (.stg 1) rfl rfl) $$ [Hr]
  · isplitr; · iexact HR
    iexact Hr
  iintro ⟨Hr, p⟩
  ihave p := (Entails.of_eq (pay_stg0 m 1)) $$ p
  icases p with ⟨s, h1⟩
  iapply (wp_row0 m K side_V 0 rfl rfl rfl rfl rfl rfl rfl rfl rfl rfl rfl rfl rfl rfl rfl rfl) $$ [Hr s v1 v2 v3]
  · isplitr; · iexact HR
    isplitl [Hr]; · iexact Hr
    isplitl [s]; · iexact s
    isplitl [v1]; · iexact v1
    isplitl [v2]; · iexact v2
    iexact v3
  iintro ⟨Hr, s, v1, v2, v3⟩
  iapply (wp_row0 m K side_V 1 rfl rfl rfl rfl rfl rfl rfl rfl rfl rfl rfl rfl rfl rfl rfl rfl) $$ [Hr s v1 v2 v3]
  · isplitr; · iexact HR
    isplitl [Hr]; · iexact Hr
    isplitl [s]; · iexact s
    isplitl [v1]; · iexact v1
    isplitl [v2]; · iexact v2
    iexact v3
  iintro ⟨Hr, s, v1, v2, v3⟩
  iapply (wp_row0 m K side_V 2 rfl rfl rfl rfl rfl rfl rfl rfl rfl rfl rfl rfl rfl rfl rfl rfl) $$ [Hr s v1 v2 v3]
  · isplitr; · iexact HR
    isplitl [Hr]; · iexact Hr
    isplitl [s]; · iexact s
    isplitl [v1]; · iexact v1
    isplitl [v2]; · iexact v2
    iexact v3
  iintro ⟨Hr, s, v1, v2, v3⟩
  iapply (wp_row0 m K side_V 3 rfl rfl rfl rfl rfl rfl rfl rfl rfl rfl rfl rfl rfl rfl rfl rfl) $$ [Hr s v1 v2 v3]
  · isplitr; · iexact HR
    isplitl [Hr]; · iexact Hr
    isplitl [s]; · iexact s
    isplitl [v1]; · iexact v1
    isplitl [v2]; · iexact v2
    iexact v3
  iintro ⟨Hr, s, v1, v2, v3⟩
  ihave s := (kvPt_split m 0 1 (blk0_sub 12 (by decide))) $$ s
  icases s with ⟨u, s⟩
  iapply (wp_local m K 0 side_V 1024 0 (Or.inl rfl) rfl rfl rfl rfl) $$ [Hr u l1]
  · isplitr; · iexact HR
    isplitl [Hr]; · iexact Hr
    isplitl [u]; · iexact u
    iexact l1
  iintro Hr
  ihave e1 := (kvPt_room m 0 1 _) $$ s
  iapply (wp_ldx m 0) $$ X0; iintro X0
  iapply (wp_ldwq m 0) $$ X1; iintro X1
  iapply (le_wp_ret _ _)
  iapply HQ
  isplitl [Hr]; · iexact Hr
  isplitl [t1 t2 t3]
  · isplitl [t1]; · iexact t1
    isplitl [t2]; · iexact t2
    iexact t3
  isplitl [h0 h1 e0 e1]
  · unfold PostS
    isplitl [h0]; · iexact h0
    isplitl [h1]; · iexact h1
    isplitl [e0]; · iexact e0
    iexact e1
  isplitl [X0]; · iexact X0
  iexact X1

/-- The third signal, the wait for the other devices' signals, and the broadcast of the next 128 rows of codes on device 1. -/
theorem part33_1 {l : List Ev} {Q} :
    iprop(Rec m K ∗ Run 1 (seg33 1 ++ l) ∗ barPay (dv ((0 + 1 : ℕ) + 3)) 3 ∗ PreS m 1 ∗ XW m 1)
      ⊢ iprop(((Run 1 l ∗ (tgt 1 1 ∗ tgt 1 2 ∗ tgt 1 3) ∗ PostS m 1 ∗ XW m 1) -∗ Q ⟨(w54 m 1), (w55 m 1), (w56 m 1), (w65 m 1)⟩) -∗ wpc 1 (k0_part33 xM (Memref.isWhole_whole _) wqM (Memref.isWhole_whole _) khM (Memref.isWhole_whole _) vhM (Memref.isWhole_whole _) woM (Memref.isWhole_whole _) oM (Memref.isWhole_whole _) kbM (Memref.isWhole_whole _) vbM (Memref.isWhole_whole _) kvM (Memref.isWhole_whole _) vvM (Memref.isWhole_whole _) cxM (Memref.isWhole_whole _) pbM (Memref.isWhole_whole _) rbM (Memref.isWhole_whole _) aoM (Memref.isWhole_whole _) gbM (Memref.isWhole_whole _) cc0_scratch9 cc0_scratch10 cc0_scratch11 cc0_scratch12 cc0_scratch13 cc0_scratch14 cc0_scratch15 cc0_scratch16 cc0_scratch17 cc0_scratch18 1 (w2 m 1) BS (w30 m 1) (q_c4_i32_18 m 1) (w31 m 1)) Q) := by
  rw [show seg33 1 ++ l = .bar 3 :: .wbar :: .copy (.stg 0) :: .copy (.stg 1) :: .wait (.stg 0) :: .send 0 (.rcv1 0) (.snd1 0 0) :: .send 2 (.rcv1 0) (.snd1 1 0) :: .send 3 (.rcv1 0) (.snd1 2 0) :: .copy (.loc 0) :: .wait (.stg 1) :: .send 0 (.rcv1 1) (.snd1 0 1) :: .send 2 (.rcv1 1) (.snd1 1 1) :: .send 3 (.rcv1 1) (.snd1 2 1) :: .copy (.loc 1) :: l from rfl, k0_part33_eq_skeleton]; unfold k0_part33_skel PreS XW
  simp only [dif_neg (show ¬ (k0_cond1 1 = 1#1) by decide), dif_pos (show (k0_cond2 1 = 1#1) by decide), k0_part10_eq_skeleton, k0_part11_eq_skeleton]
  unfold k0_part10_skel k0_part11_skel
  simp only [semSignalWord, semWaitWord, Prog.lift, Prog.bind_op, Prog.bind_ret, Prog.pure_eq_ret, w54, w55, w56, w65, w49, w51]
  iintro ⟨#HR, Hr, B3, ⟨h0, h1, o2, o3, l0, l1⟩, X0, X1⟩ HQ
  iapply (run_signal m K 1 3 (by decide) rfl rfl) $$ [Hr B3]
  · isplitr; · iexact HR
    isplitl [Hr]; · iexact Hr
    iexact B3
  iintro Hr
  iapply (run_wbar m K 1 rfl rfl) $$ [Hr]
  · isplitr; · iexact HR
    iexact Hr
  iintro ⟨Hr, b1, b2, b3⟩
  ihave b1 := (Entails.of_eq (barPay_1 1)) $$ b1
  icases b1 with ⟨⟨k0, v0⟩, t1⟩
  ihave b2 := (Entails.of_eq (barPay_1 2)) $$ b2
  icases b2 with ⟨⟨k3, v3⟩, t2⟩
  ihave b3 := (Entails.of_eq (barPay_1 3)) $$ b3
  icases b3 with ⟨⟨k2, v2⟩, t3⟩
  iapply (wp_stage m K 1 side_K 128 rfl rfl rfl) $$ [Hr h0 o2]
  · isplitr; · iexact HR
    isplitl [Hr]; · iexact Hr
    isplitl [h0]; · iexact h0
    iexact o2
  iintro Hr
  iapply (wp_stage m K 1 side_V 128 rfl rfl rfl) $$ [Hr h1 o3]
  · isplitr; · iexact HR
    isplitl [Hr]; · iexact Hr
    isplitl [h1]; · iexact h1
    iexact o3
  iintro Hr
  iapply (run_wait m K 1 (.stg 0) rfl rfl) $$ [Hr]
  · isplitr; · iexact HR
    iexact Hr
  iintro ⟨Hr, p⟩
  ihave p := (Entails.of_eq (pay_stg1 m 0)) $$ p
  icases p with ⟨s, h0⟩
  iapply (wp_send1 m K side_K 0 0 rfl rfl rfl rfl rfl rfl) $$ [Hr s k0]
  · isplitr; · iexact HR
    isplitl [Hr]; · iexact Hr
    isplitl [s]; · iexact s
    iexact k0
  iintro ⟨Hr, s⟩
  iapply (wp_send1 m K side_K 1 2 rfl rfl rfl rfl rfl rfl) $$ [Hr s k2]
  · isplitr; · iexact HR
    isplitl [Hr]; · iexact Hr
    isplitl [s]; · iexact s
    iexact k2
  iintro ⟨Hr, s⟩
  iapply (wp_send1 m K side_K 2 3 rfl rfl rfl rfl rfl rfl) $$ [Hr s k3]
  · isplitr; · iexact HR
    isplitl [Hr]; · iexact Hr
    isplitl [s]; · iexact s
    iexact k3
  iintro ⟨Hr, s⟩
  ihave s := (Entails.of_eq (show kvPt m 0 1 (rem1 ((2 : Fin 3).val + 1)) = kvPt m 0 1 (rem1 3) from rfl)) $$ s
  ihave s := (kvPt_split m 1 0 (blk1_sub 3 (by decide))) $$ s
  icases s with ⟨u, s⟩
  iapply (wp_local m K 1 side_K 128 1024 (Or.inr rfl) rfl rfl rfl rfl) $$ [Hr u l0]
  · isplitr; · iexact HR
    isplitl [Hr]; · iexact Hr
    isplitl [u]; · iexact u
    iexact l0
  iintro Hr
  ihave e0 := (kvPt_room m 1 0 _) $$ s
  iapply (run_wait m K 1 (.stg 1) rfl rfl) $$ [Hr]
  · isplitr; · iexact HR
    iexact Hr
  iintro ⟨Hr, p⟩
  ihave p := (Entails.of_eq (pay_stg1 m 1)) $$ p
  icases p with ⟨s, h1⟩
  iapply (wp_send1 m K side_V 0 0 rfl rfl rfl rfl rfl rfl) $$ [Hr s v0]
  · isplitr; · iexact HR
    isplitl [Hr]; · iexact Hr
    isplitl [s]; · iexact s
    iexact v0
  iintro ⟨Hr, s⟩
  iapply (wp_send1 m K side_V 1 2 rfl rfl rfl rfl rfl rfl) $$ [Hr s v2]
  · isplitr; · iexact HR
    isplitl [Hr]; · iexact Hr
    isplitl [s]; · iexact s
    iexact v2
  iintro ⟨Hr, s⟩
  iapply (wp_send1 m K side_V 2 3 rfl rfl rfl rfl rfl rfl) $$ [Hr s v3]
  · isplitr; · iexact HR
    isplitl [Hr]; · iexact Hr
    isplitl [s]; · iexact s
    iexact v3
  iintro ⟨Hr, s⟩
  ihave s := (Entails.of_eq (show kvPt m 1 1 (rem1 ((2 : Fin 3).val + 1)) = kvPt m 1 1 (rem1 3) from rfl)) $$ s
  ihave s := (kvPt_split m 1 1 (blk1_sub 3 (by decide))) $$ s
  icases s with ⟨u, s⟩
  iapply (wp_local m K 1 side_V 128 1024 (Or.inr rfl) rfl rfl rfl rfl) $$ [Hr u l1]
  · isplitr; · iexact HR
    isplitl [Hr]; · iexact Hr
    isplitl [u]; · iexact u
    iexact l1
  iintro Hr
  ihave e1 := (kvPt_room m 1 1 _) $$ s
  iapply (wp_ldx m 1) $$ X0; iintro X0
  iapply (wp_ldwq m 1) $$ X1; iintro X1
  iapply (le_wp_ret _ _)
  iapply HQ
  isplitl [Hr]; · iexact Hr
  isplitl [t1 t2 t3]
  · isplitl [t1]; · iexact t1
    isplitl [t2]; · iexact t2
    iexact t3
  isplitl [h0 h1 e0 e1]
  · unfold PostS
    isplitl [h0]; · iexact h0
    isplitl [h1]; · iexact h1
    isplitl [e0]; · iexact e0
    iexact e1
  isplitl [X0]; · iexact X0
  iexact X1

/-- Only device 0 takes the first branch of the broadcast. -/
theorem cond1_n : ∀ c : Dev nD, c.val ≠ 0 → ¬ (k0_cond1 c = 1#1) := by decide
/-- Only device 1 takes the second branch of the broadcast. -/
theorem cond2_n : ∀ c : Dev nD, c.val ≠ 1 → ¬ (k0_cond2 c = 1#1) := by decide
/-- The other devices only signal and wait at the barrier there. -/
theorem seg33_n (h0 : c.val ≠ 0) (h1 : c.val ≠ 1) (l : List Ev) : seg33 c ++ l = .bar 3 :: .wbar :: l := by
  have h : ∀ c : Dev nD, c = 0 ∨ c = 1 ∨ c = 2 ∨ c = 3 := by decide
  rcases h c with rfl | rfl | rfl | rfl
  · exact absurd rfl h0
  · exact absurd rfl h1
  · rfl
  · rfl
/-- The other devices stage nothing, so nothing is away. -/
theorem SR_n (h0 : c.val ≠ 0) (h1 : c.val ≠ 1) : SR c = ST c := by
  have h : ∀ c : Dev nD, c = 0 ∨ c = 1 ∨ c = 2 ∨ c = 3 := by decide
  rcases h c with rfl | rfl | rfl | rfl
  · exact absurd rfl h0
  · exact absurd rfl h1
  · simp only [SR, ST]
  · simp only [SR, ST]
/-- The third barrier signal goes to the device three places on. -/
theorem dev3_eq : ∀ c : Dev nD, (⟨k0_dev3 c, k0_dev3_lt c⟩ : Dev nD) = dv (c.val + 3) := by decide

/-- The third signal and the wait for the other devices' signals on a device that does not broadcast. -/
theorem part33_n {l : List Ev} {Q} (h0 : c.val ≠ 0) (h1 : c.val ≠ 1) :
    iprop(Rec m K ∗ Run c (seg33 c ++ l) ∗ barPay (dv (c.val + 3)) 3 ∗ PreS m c ∗ XW m c)
      ⊢ iprop(((Run c l ∗ (tgt c 1 ∗ tgt c 2 ∗ tgt c 3) ∗ PostS m c ∗ XW m c) -∗ Q ⟨(w54 m c), (w55 m c), (w56 m c), (w65 m c)⟩) -∗ wpc c (k0_part33 xM (Memref.isWhole_whole _) wqM (Memref.isWhole_whole _) khM (Memref.isWhole_whole _) vhM (Memref.isWhole_whole _) woM (Memref.isWhole_whole _) oM (Memref.isWhole_whole _) kbM (Memref.isWhole_whole _) vbM (Memref.isWhole_whole _) kvM (Memref.isWhole_whole _) vvM (Memref.isWhole_whole _) cxM (Memref.isWhole_whole _) pbM (Memref.isWhole_whole _) rbM (Memref.isWhole_whole _) aoM (Memref.isWhole_whole _) gbM (Memref.isWhole_whole _) cc0_scratch9 cc0_scratch10 cc0_scratch11 cc0_scratch12 cc0_scratch13 cc0_scratch14 cc0_scratch15 cc0_scratch16 cc0_scratch17 cc0_scratch18 c (w2 m c) BS (w30 m c) (q_c4_i32_18 m c) (w31 m c)) Q) := by
  have c1 := cond1_n c h0
  have c2 := cond2_n c h1
  have e := seg33_n c h0 h1 l
  have e2 := SR_n c h0 h1
  rw [e, k0_part33_eq_skeleton]; unfold k0_part33_skel PreS XW
  simp only [dif_neg c1, dif_neg c2]
  simp only [semSignalWord, semWaitWord, Prog.lift, Prog.bind_op, Prog.bind_ret, Prog.pure_eq_ret, w54, w55, w56, w65, w49, w51]
  iintro ⟨#HR, Hr, B3, ⟨h0, h1, e0, e1, _⟩, X0, X1⟩ HQ
  iapply (run_signal m K c 3 (dev3_eq c) rfl rfl) $$ [Hr B3]
  · isplitr; · iexact HR
    isplitl [Hr]; · iexact Hr
    iexact B3
  iintro Hr
  iapply (run_wbar m K c rfl rfl) $$ [Hr]
  · isplitr; · iexact HR
    iexact Hr
  iintro ⟨Hr, b1, b2, b3⟩
  ihave b1 := (Entails.of_eq (barPay_n c h0 h1 1)) $$ b1
  icases b1 with ⟨_, t1⟩
  ihave b2 := (Entails.of_eq (barPay_n c h0 h1 2)) $$ b2
  icases b2 with ⟨_, t2⟩
  ihave b3 := (Entails.of_eq (barPay_n c h0 h1 3)) $$ b3
  icases b3 with ⟨_, t3⟩
  iapply (wp_ldx m c) $$ X0; iintro X0
  iapply (wp_ldwq m c) $$ X1; iintro X1
  iapply (le_wp_ret _ _)
  iapply HQ
  isplitl [Hr]; · iexact Hr
  isplitl [t1 t2 t3]
  · isplitl [t1]; · iexact t1
    isplitl [t2]; · iexact t2
    iexact t3
  isplitl [h0 h1 e0 e1]
  · unfold PostS; rw [e2]
    isplitl [h0]; · iexact h0
    isplitl [h1]; · iexact h1
    isplitl [e0]; · iexact e0
    iexact e1
  isplitl [X0]; · iexact X0
  iexact X1

/-- The part of the kernel that starts the broadcasts, on every device. -/
theorem part33 {l : List Ev} {Q} :
    iprop(Rec m K ∗ Run c (seg33 c ++ l) ∗ barPay (dv (c.val + 3)) 3 ∗ PreS m c ∗ XW m c)
      ⊢ iprop(((Run c l ∗ (tgt c 1 ∗ tgt c 2 ∗ tgt c 3) ∗ PostS m c ∗ XW m c) -∗ Q ⟨(w54 m c), (w55 m c), (w56 m c), (w65 m c)⟩) -∗ wpc c (k0_part33 xM (Memref.isWhole_whole _) wqM (Memref.isWhole_whole _) khM (Memref.isWhole_whole _) vhM (Memref.isWhole_whole _) woM (Memref.isWhole_whole _) oM (Memref.isWhole_whole _) kbM (Memref.isWhole_whole _) vbM (Memref.isWhole_whole _) kvM (Memref.isWhole_whole _) vvM (Memref.isWhole_whole _) cxM (Memref.isWhole_whole _) pbM (Memref.isWhole_whole _) rbM (Memref.isWhole_whole _) aoM (Memref.isWhole_whole _) gbM (Memref.isWhole_whole _) cc0_scratch9 cc0_scratch10 cc0_scratch11 cc0_scratch12 cc0_scratch13 cc0_scratch14 cc0_scratch15 cc0_scratch16 cc0_scratch17 cc0_scratch18 c (w2 m c) BS (w30 m c) (q_c4_i32_18 m c) (w31 m c)) Q) := by
  by_cases h0 : c.val = 0
  · obtain rfl : c = 0 := Fin.ext h0
    exact part33_0 m K
  by_cases h1 : c.val = 1
  · obtain rfl : c = 1 := Fin.ext h1
    exact part33_1 m K
  exact part33_n m K c h0 h1

end Cert.KernelIdeal.Run
-- ==== Proof.Mid.lean ====
/- The parts of the kernel between the first keys and the third query block. -/
module

public import proofs.«01_k».proof.Proof.Joins
public import proofs.«01_k».proof.Proof.Bcast

@[expose] public section

set_option maxRecDepth 16384
set_option maxHeartbeats 1000000

noncomputable section

namespace Cert.KernelIdeal.Run

open Cert.KernelIdeal Cert.KernelIdeal.Gen
open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : Mem (F := F)) (K : Dev nD × Option CK → ℕ) (c : Dev nD)

/-! ## What a device has between the parts -/

/-- How many rows of keys and values a device has when it starts on query block 0. -/
def nk0 (c : Dev nD) : ℕ := if c = 0 then 1024 else 512
/-- And when it starts on query block 1. -/
def nk1 (c : Dev nD) : ℕ := if c = 0 then 1024 else 768
/-- The staged columns that device 0 copied for itself, back from the copy. -/
def LA (c : Dev nD) : sProp 𝕄 :=
  if c = 0 then iprop(stOwn 0 0 (kvx 0 0 1024 1024) ∗ stOwn 1 0 (kvx 0 0 1024 1024)) else iprop(emp)
/-- Those that device 1 copied for itself. -/
def LB1 (c : Dev nD) : sProp 𝕄 :=
  if c = 1 then iprop(stOwn 0 1 (kvx 0 1024 128 1024) ∗ stOwn 1 1 (kvx 0 1024 128 1024)) else iprop(emp)
/-- Block `q` of the partial output. -/
abbrev pbq (q : Fin 4) : sProp 𝕄 := iprop((c : Thread nD τ).loc cc0_scratch5 ↦[sqx (256 * q.val) 0 256 1024]{fullShare} PB m c)
/-- Slot `q` of the partial blocks, filled. -/
abbrev slot (q : Fin 4) : sProp 𝕄 := iprop((c : Thread nD τ).loc cc0_scratch6 ↦[rbx q.val]{fullShare} RSB m c)
/-- Block `q` stored and sent, if another device owns it; on its owner it is still here, and its slot is free. -/
def Kept (q : Fin 4) : sProp 𝕄 := if c = q then iprop(pbq m c q ∗ own cc0_scratch6 q (rbx c.val)) else iprop(emp)
/-- The owner's block `q` of the partial output. -/
def OwnB (q : Fin 4) : sProp 𝕄 := if c = q then pbq m c q else iprop(emp)
/-- The owner's slot `q`, filled. -/
def OwnS (q : Fin 4) : sProp 𝕄 := if c = q then slot m c q else iprop(emp)
/-- Block `q` done: on its owner it is in the owner's slot. -/
def QD (q : Fin 4) : sProp 𝕄 := iprop(OwnB m c q ∗ OwnS m c q)

/-- There are four devices. -/
theorem dev4 : ∀ c : Dev nD, c = 0 ∨ c = 1 ∨ c = 2 ∨ c = 3 := by decide
/-- The device's number, as the kernel computes it. -/
theorem w2_c : w2 m c = BitVec.ofNat 32 c.val := by unfold w2 w1 w0; revert c; decide

/-- The kernel's test for being device `q`. -/
abbrev isDev (c : Dev nD) (q : BitVec 32) : Prop :=
  (Scalar.cmpi .ne (Scalar.extui (Scalar.cmpi .eq (BitVec.ofNat 32 c.val) q : BitVec 1) : BitVec 32) 0#32 : BitVec 1) = 1#1
/-- Its test for being another one. -/
abbrev notDev (c : Dev nD) (q : BitVec 32) : Prop :=
  (Scalar.cmpi .ne (Scalar.extui (Scalar.cmpi .ne (BitVec.ofNat 32 c.val) q : BitVec 1) : BitVec 32) 0#32 : BitVec 1) = 1#1
/-- The first test says so. -/
theorem isDev_iff : ∀ c q : Dev nD, isDev c (BitVec.ofNat 32 q.val) ↔ c = q := by decide
/-- So does the second. -/
theorem notDev_iff : ∀ c q : Dev nD, notDev c (BitVec.ofNat 32 q.val) ↔ c ≠ q := by decide
/-- Block 0 is sent by the devices other than 0. -/
theorem sends0 : ∀ c : Dev nD, k0_cond5 c = 1#1 ↔ c ≠ 0 := by decide
/-- Block 1 is sent by the devices other than 1. -/
theorem sends1 : ∀ c : Dev nD, k0_cond8 c = 1#1 ↔ c ≠ 1 := by decide
/-- Block 2 is sent by the devices other than 2. -/
theorem sends2 : ∀ c : Dev nD, k0_cond11 c = 1#1 ↔ c ≠ 2 := by decide
/-- Block 3 is sent by the devices other than 3. -/
theorem sends3 : ∀ c : Dev nD, k0_cond15 c = 1#1 ↔ c ≠ 3 := by decide

/-- There is a semaphore for every slot. -/
theorem sem_inb : ∀ (s : Fin 4) (a : Fin 1), (![s.val] : Fin 1 → ℕ) a + S1.size a ≤ S4.size a := by decide
/-- The semaphore of slot `s` of the partial blocks, as a number. -/
theorem rsr_num : ∀ s : Fin 4, ((cc0_scratch16.slice (Rect.unit (s := S4) ![s.val] S1.size (sem_inb s))).squeeze S_ squeezes_S1_S_).sem = semOf (.rsr s) := by decide
/-- The semaphore of slot `c`, however the kernel computes the place. -/
theorem rsr_sem {off : Fin 1 → ℕ} (ho : off = ![c.val]) {inb} :
    SemLoc.dma (((cc0_scratch16.slice (Rect.unit (s := S4) off S1.size inb)).squeeze S_ squeezes_S1_S_).sem) = SemLoc.dma (semOf (.rsr c)) := by
  subst ho; exact congrArg SemLoc.dma (rsr_num c)
/-- The first two row blocks are there when the query blocks start. -/
theorem nk0_pos : ∀ c : Dev nD, 512 ≤ nk0 c := by decide
/-- Five half blocks of rows are there when query block 1 starts. -/
theorem nk1_pos : ∀ c : Dev nD, 640 ≤ nk1 c := by decide
/-- Device 0 does not wait for rows. -/
theorem nk_0 : ∀ c : Dev nD, c = 0 → nk0 c = nk1 c := by decide
/-- The other devices have two row blocks, then three. -/
theorem nk_ne : ∀ c : Dev nD, c ≠ 0 → nk0 c = 512 ∧ nk1 c = 768 := by decide
/-- Device 0 has 1024 rows. -/
theorem nk1_0 : ∀ c : Dev nD, c = 0 → nk1 c = 1024 := by decide

/-- Block `q` of the partial output is sent to its owner; on the owner it stays. -/
theorem send_blk {l : List Ev} (q : Fin 4) {p : Prop} [Decidable p] (hp : p ↔ c ≠ q) {n' : Dev nD} (hn' : n' = q) {ob : ℕ} (hob : ob = 256 * q.val) {o3 : Fin 3 → ℕ} (ho3 : o3 = ![c.val, 0, 0])
    {inb₁ h₁ sS} {inb₂ : p → ∀ a, o3 a + (![1, 256, 1024] : Fin 3 → ℕ) a ≤ S4x256x1024.size a} {h₂ : ∀ h : p, ∀ a, (Rect.unit (s := S4x256x1024) o3 ![1, 256, 1024] (inb₂ h)).stride a = 1} {hq : S1x256x1024.Squeezes S256x1024} {hsc : ∀ h : p, ((rbM.slice (Rect.unit (s := S4x256x1024) o3 ![1, 256, 1024] (inb₂ h)) (h₂ h)).squeeze S256x1024 hq).view.ref.isScScratch = false} {sem : p → SemLoc sig} {hsrc : ∀ _ : p, _} {hdst : ∀ h : p, ((rbM.slice (Rect.unit (s := S4x256x1024) o3 ![1, 256, 1024] (inb₂ h)) (h₂ h)).squeeze S256x1024 hq).view.WordExact} {hsem : ∀ h : p, DmaTarget.Typed .vmem (sem h) (.remote (n' : Thread nD τ) ((rbM.slice (Rect.unit (s := S4x256x1024) o3 ![1, 256, 1024] (inb₂ h)) (h₂ h)).squeeze S256x1024 hq) sS (hsc h))} (hsS : sS = SemLoc.dma (semOf (.rss q))) (hs : ∀ h, sem h = SemLoc.dma (semOf (.rsr c)))
    (hN : ∀ h, ((rbM.slice (Rect.unit (s := S4x256x1024) o3 ![1, 256, 1024] (inb₂ h)) (h₂ h)).squeeze S256x1024 hq).view.amount (sem h) = amt c (.rss q))
    {α : Type} {Q : α → sProp 𝕄} {k : Prog (TpuEff nD τ sig (Elt F) Λ₀ .tc) α} :
    iprop(Rec m K ∗ Run c (away c q ++ l) ∗ pbq m c q ∗ own cc0_scratch6 q (rbx c.val))
      ⊢ iprop(((Run c l ∗ Kept m c q) -∗ wpc c k Q)
        -∗ wpc c (if h : p then .op (.enqueueDma (pbM.slice (Rect.unit (s := S1024x1024) ![ob, 0] ![256, 1024] inb₁) h₁)
          (.remote (n' : Thread nD τ) ((rbM.slice (Rect.unit (s := S4x256x1024) o3 ![1, 256, 1024] (inb₂ h)) (h₂ h)).squeeze S256x1024 hq) sS (hsc h)) (sem h) (hsrc h) (hdst h) (hsem h)) (fun _ => k) else k) Q) := by
  unfold Kept away
  iintro ⟨#HR, Hr, P, R⟩ HQ
  by_cases h : c = q
  · rw [dif_neg (fun e => hp.1 e h), if_pos h, if_pos h]
    iapply HQ
    isplitl [Hr]; · iexact Hr
    isplitl [P]; · iexact P
    iexact R
  · rw [dif_pos (hp.2 h), if_neg h, if_neg h]
    iapply (wp_rss m K c q (fun e => h (Fin.ext e.symm)) hn' hob ho3 hsS (hs _) (hN _)) $$ [Hr P R]
    · isplitr; · iexact HR
      isplitl [Hr]; · iexact Hr
      isplitl [P]; · iexact P
      iexact R
    iintro Hr
    iapply HQ
    isplitl [Hr]; · iexact Hr
    iempintro

/-- The owner of block `q` puts its own partial block into its own slot. -/
theorem keep_blk (q : Fin 4) {p : Prop} [Decidable p] (hp : p ↔ c = q) {o1 o2 : Fin 3 → ℕ} (ho1 : o1 = ![q.val, 0, 0]) (ho2 : o2 = ![q.val, 0, 0]) {inb₁ inb₂ hl hx hm}
    {w : S1x256x1024.Idx → Elt F .bf16} (hw : ∀ (e : c = q) (i : S4x256x1024.Idx) (j : S1x256x1024.Idx), (∀ a, (i a).val = (![q.val, 0, 0] : Fin 3 → ℕ) a + (j a).val) → RSB m c i = w j)
    {α : Type} {Q : α → sProp 𝕄} {k : Prog (TpuEff nD τ sig (Elt F) Λ₀ .tc) α} :
    Kept m c q
      ⊢ iprop((QD m c q -∗ wpc c k Q)
        -∗ wpc c (if h : p then .op (.load rbM (Rect.unit (s := S4x256x1024) o1 S1x256x1024.size inb₁).toLoadRect hl)
          (fun _ => .op (.store rbM (Rect.unit (s := S4x256x1024) o2 S1x256x1024.size inb₂) w Finset.univ hx hm) fun _ => k) else k) Q) := by
  unfold QD OwnB OwnS Kept
  by_cases h : c = q
  · rw [dif_pos (hp.2 h), if_pos h, if_pos h, if_pos h]
    subst h
    iintro ⟨P, R⟩ HQ
    iapply (wp_ldo_rb c (o0 := c.val) ho1) $$ R; iintro %_ R
    iapply (wp_sto_rb c (o0 := c.val) ho2 (RSB m c) (hw rfl)) $$ R; iintro R
    iapply HQ
    isplitl [P]; · iexact P
    iexact R
  · rw [dif_neg (fun e => h (hp.1 e)), if_neg h, if_neg h, if_neg h]
    iintro _ HQ
    iapply HQ
    isplitr <;> iempintro

/-- Rows `n` to `n + z` of keys and values arrive. -/
theorem wp_rows {l : List Ev} (ck cv : CK) {n z : ℕ} (pk : pay m c ck = bfPt m 0 c (kbx n 0 z 1024)) (pv : pay m c cv = bfPt m 1 c (kbx n 0 z 1024))
    {sp₁ sp₁' sp₂ sp₂' : Space} {s₁ s₁' s₂ s₂' : Shape} {e₁ e₁' e₂ e₂' : EltTy} {sk sv : DmaSem sig} (hsk : sk = semOf ck) (hsv : sv = semOf cv)
    {src₁ : Memref sig .tc sp₁' s₁' e₁'} {dst₁ : Memref sig .tc sp₁ s₁ e₁} {hsrc₁ hdst₁} {src₂ : Memref sig .tc sp₂' s₂' e₂'} {dst₂ : Memref sig .tc sp₂ s₂ e₂} {hsrc₂ hdst₂}
    (hNk : dst₁.view.dmaCredit = amt c ck) (hNv : dst₂.view.dmaCredit = amt c cv)
    {α : Type} {Q : α → sProp 𝕄} {k : Prog (TpuEff nD τ sig (Elt F) Λ₀ .tc) α} :
    iprop(Rec m K ∗ Run c (.wait ck :: .wait cv :: l) ∗ bfPt m 0 c (kbx 0 0 n 1024) ∗ bfPt m 1 c (kbx 0 0 n 1024))
      ⊢ iprop(((Run c l ∗ bfPt m 0 c (kbx 0 0 (n + z) 1024) ∗ bfPt m 1 c (kbx 0 0 (n + z) 1024)) -∗ wpc c k Q)
        -∗ wpc c (.op (.waitDma2 sk src₁ dst₁ hsrc₁ hdst₁) fun _ => .op (.waitDma2 sv src₂ dst₂ hsrc₂ hdst₂) fun _ => k) Q) := by
  iintro ⟨#HR, Hr, Hk, Hv⟩ HQ
  iapply (run_wait m K c ck hsk hNk) $$ [Hr]
  · isplitr; · iexact HR
    iexact Hr
  iintro ⟨Hr, p⟩
  ihave p := (Entails.of_eq pk) $$ p
  ihave Hk := (bf_rows m c 0 n z) $$ [Hk p]
  · isplitl [Hk]; · iexact Hk
    iexact p
  iapply (run_wait m K c cv hsv hNv) $$ [Hr]
  · isplitr; · iexact HR
    iexact Hr
  iintro ⟨Hr, p⟩
  ihave p := (Entails.of_eq pv) $$ p
  ihave Hv := (bf_rows m c 1 n z) $$ [Hv p]
  · isplitl [Hv]; · iexact Hv
    iexact p
  iapply HQ
  isplitl [Hr]; · iexact Hr
  isplitl [Hk]; · iexact Hk
  iexact Hv

/-- A row block arrives at the devices other than 0; device 0 has all of its rows already. -/
theorem rows_blk {l : List Ev} (t : Fin 4) {n₀ n₁ : ℕ} (h₀ : c = 0 → n₀ = n₁) (h₁ : c ≠ 0 → n₀ = 256 * t.val ∧ n₁ = 256 * t.val + 256) {p : Prop} [Decidable p] (hp : p ↔ c ≠ 0)
    {sp₁ sp₁' sp₂ sp₂' : Space} {s₁ s₁' s₂ s₂' : Shape} {e₁ e₁' e₂ e₂' : EltTy} {sk sv : DmaSem sig} (hsk : sk = semOf (.rcv0 t 0)) (hsv : sv = semOf (.rcv0 t 1))
    {src₁ : Memref sig .tc sp₁' s₁' e₁'} {dst₁ : Memref sig .tc sp₁ s₁ e₁} {hsrc₁ hdst₁} {src₂ : Memref sig .tc sp₂' s₂' e₂'} {dst₂ : Memref sig .tc sp₂ s₂ e₂} {hsrc₂ hdst₂}
    (hNk : dst₁.view.dmaCredit = amt c (.rcv0 t 0)) (hNv : dst₂.view.dmaCredit = amt c (.rcv0 t 1))
    {α : Type} {Q : α → sProp 𝕄} {k : Prog (TpuEff nD τ sig (Elt F) Λ₀ .tc) α} :
    iprop(Rec m K ∗ Run c (rows c t ++ l) ∗ bfPt m 0 c (kbx 0 0 n₀ 1024) ∗ bfPt m 1 c (kbx 0 0 n₀ 1024))
      ⊢ iprop(((Run c l ∗ bfPt m 0 c (kbx 0 0 n₁ 1024) ∗ bfPt m 1 c (kbx 0 0 n₁ 1024)) -∗ wpc c k Q)
        -∗ wpc c (if h : p then .op (.waitDma2 sk src₁ dst₁ hsrc₁ hdst₁) (fun _ => .op (.waitDma2 sv src₂ dst₂ hsrc₂ hdst₂) fun _ => k) else k) Q) := by
  unfold rows
  by_cases h : c = 0
  · rw [dif_neg (fun e => hp.1 e h), if_pos h, h₀ h]
    iintro ⟨_, H⟩ HQ
    iapply HQ; iexact H
  · rw [dif_pos (hp.2 h), if_neg h, (h₁ h).1, (h₁ h).2]
    exact wp_rows m K c (.rcv0 t 0) (.rcv0 t 1) (pay_rcv0 m c t 0) (pay_rcv0 m c t 1) hsk hsv hNk hNv

/-! ## The parts -/
/-- The first keys and values have arrived. -/
theorem part34 {l : List Ev} {Q} :
    iprop(Rec m K ∗ Run c (seg34 c ++ l) ∗ emp)
      ⊢ iprop(((Run c l ∗ bfPt m 0 c (kbx 0 0 (nk0 c) 1024) ∗ bfPt m 1 c (kbx 0 0 (nk0 c) 1024) ∗ LA c) -∗ Q ⟨(w74 m c), (w103 m c)⟩) -∗ wpc c (k0_part34 xM (Memref.isWhole_whole _) wqM (Memref.isWhole_whole _) khM (Memref.isWhole_whole _) vhM (Memref.isWhole_whole _) woM (Memref.isWhole_whole _) oM (Memref.isWhole_whole _) kbM (Memref.isWhole_whole _) vbM (Memref.isWhole_whole _) kvM (Memref.isWhole_whole _) vvM (Memref.isWhole_whole _) cxM (Memref.isWhole_whole _) pbM (Memref.isWhole_whole _) rbM (Memref.isWhole_whole _) aoM (Memref.isWhole_whole _) gbM (Memref.isWhole_whole _) cc0_scratch9 cc0_scratch10 cc0_scratch11 cc0_scratch12 cc0_scratch13 cc0_scratch14 cc0_scratch15 cc0_scratch16 cc0_scratch17 cc0_scratch18 (w2 m c) (w54 m c) (w55 m c) (w56 m c) (w65 m c)) Q) := by
  rw [k0_part34_eq_skeleton]; unfold k0_part34_skel
  simp only [w2_c m, Prog.lift, Prog.bind_op, Prog.bind_ret, Prog.pure_eq_ret, w74, w103, w75, w76, w77, w78, w79, w80, w82, w98]
  iintro ⟨#HR, Hr, _⟩ HQ
  unfold seg34 nk0 LA
  by_cases h : c = 0
  · subst h
    simp only [if_pos]
    rw [dif_pos (show isDev 0 0#32 from (isDev_iff 0 0).2 rfl), dif_neg (show ¬ notDev 0 0#32 from fun e => (notDev_iff 0 0).1 e rfl)]
    simp only [Prog.bind_op, Prog.bind_ret, List.cons_append, List.nil_append]
    iapply (run_wait m K 0 (.loc 0) rfl rfl) $$ [Hr]
    · isplitr; · iexact HR
      iexact Hr
    iintro ⟨Hr, p⟩
    ihave p := (Entails.of_eq (pay_loc0 m 0)) $$ p
    icases p with ⟨Hk, U0⟩
    ihave U0 := (kvPt_room m 0 0 _) $$ U0
    iapply (run_wait m K 0 (.loc 1) rfl rfl) $$ [Hr]
    · isplitr; · iexact HR
      iexact Hr
    iintro ⟨Hr, p⟩
    ihave p := (Entails.of_eq (pay_loc0 m 1)) $$ p
    icases p with ⟨Hv, U1⟩
    ihave U1 := (kvPt_room m 0 1 _) $$ U1
    iapply (wp_ldk m 0 (by omega)) $$ Hk; iintro Hk
    iapply (wp_ldv m 0 (by omega)) $$ Hv; iintro Hv
    iapply (le_wp_ret _ _)
    iapply HQ
    isplitl [Hr]; · iexact Hr
    isplitl [Hk]; · iexact Hk
    isplitl [Hv]; · iexact Hv
    isplitl [U0]; · iexact U0
    iexact U1
  · simp only [if_neg h]
    rw [dif_neg (show ¬ isDev c 0#32 from fun e => h ((isDev_iff c 0).1 e)), dif_pos (show notDev c 0#32 from (notDev_iff c 0).2 h), k0_part12_eq_skeleton]
    unfold k0_part12_skel
    simp only [Prog.lift, Prog.pure_eq_ret, Prog.bind_op, Prog.bind_ret, List.cons_append, List.nil_append]
    iapply (run_wait m K c (.rcv0 0 0) rfl rfl) $$ [Hr]
    · isplitr; · iexact HR
      iexact Hr
    iintro ⟨Hr, p⟩
    ihave p := (Entails.of_eq (pay_rcv0 m c 0 0)) $$ p
    irename p => Hk
    iapply (run_wait m K c (.rcv0 0 1) rfl rfl) $$ [Hr]
    · isplitr; · iexact HR
      iexact Hr
    iintro ⟨Hr, p⟩
    ihave p := (Entails.of_eq (pay_rcv0 m c 0 1)) $$ p
    irename p => Hv
    iapply (wp_rows m K c (.rcv0 1 0) (.rcv0 1 1) (n := 256) (z := 256) rfl rfl rfl rfl rfl rfl) $$ [Hr Hk Hv]
    · isplitr; · iexact HR
      isplitl [Hr]; · iexact Hr
      isplitl [Hk]; · iexact Hk
      iexact Hv
    iintro ⟨Hr, Hk, Hv⟩
    iapply (wp_ldk m c (by omega)) $$ Hk; iintro Hk
    iapply (wp_ldv m c (by omega)) $$ Hv; iintro Hv
    iapply (le_wp_ret _ _)
    iapply HQ
    isplitl [Hr]; · iexact Hr
    isplitl [Hk]; · iexact Hk
    isplitl [Hv]; · iexact Hv
    iempintro

/-- The last head of query block 0, and the partial block 0 on its way to its owner. -/
theorem part39 {l : List Ev} {Q} :
    iprop(Rec m K ∗ Run c (seg39 c ++ l) ∗ HS m c (nk0 c) 7 ∗ (((c : Dev nD) : Thread nD τ).loc cc0_stg2_0 ↦[Finset.univ]{fullShare} WO m c) ∗ own (F := F) cc0_scratch5 c (sqx 0 0 256 1024) ∗ own (F := F) cc0_scratch6 0 (rbx (c : Dev nD).val))
      ⊢ iprop(((Run c l ∗ HS m c (nk0 c) 8 ∗ (((c : Dev nD) : Thread nD τ).loc cc0_stg2_0 ↦[Finset.univ]{fullShare} WO m c) ∗ Kept m c 0) -∗ Q ⟨(w292 m c), (q_c0_i32_144 m c)⟩) -∗ wpc c (k0_part39 xM (Memref.isWhole_whole _) wqM (Memref.isWhole_whole _) khM (Memref.isWhole_whole _) vhM (Memref.isWhole_whole _) woM (Memref.isWhole_whole _) oM (Memref.isWhole_whole _) kbM (Memref.isWhole_whole _) vbM (Memref.isWhole_whole _) kvM (Memref.isWhole_whole _) vvM (Memref.isWhole_whole _) cxM (Memref.isWhole_whole _) pbM (Memref.isWhole_whole _) rbM (Memref.isWhole_whole _) aoM (Memref.isWhole_whole _) gbM (Memref.isWhole_whole _) cc0_scratch9 cc0_scratch10 cc0_scratch11 cc0_scratch12 cc0_scratch13 cc0_scratch14 cc0_scratch15 cc0_scratch16 cc0_scratch17 cc0_scratch18 c (w2 m c) (w65 m c) (w263 m c)) Q) := by
  rw [k0_part39_eq_skeleton]; unfold k0_part39_skel HS seg39
  simp only [Prog.lift, Prog.bind_op, Prog.bind_ret, Prog.pure_eq_ret, w292, q_c0_i32_144, w264, w280, w289, w290]
  iintro ⟨#HR, Hr, ⟨Hk, Hv, Hx⟩, X4, P, R⟩ HQ
  iapply (wp_ldk m c (nk0_pos c)) $$ Hk; iintro Hk
  iapply (wp_ldv m c (nk0_pos c)) $$ Hv; iintro Hv
  iapply (wp_ldc m c) $$ Hx; iintro %_ Hx
  iapply (wp_stc m c (q := 0) (h := 7) rfl (by decide) rfl rfl rfl) $$ Hx; iintro Hx
  iapply (wp_ldcr m c (b := 0) rfl rfl) $$ Hx; iintro Hx
  iapply (wp_ldwo m c) $$ X4; iintro X4
  iapply (wp_ldo_pb c (o0 := 0) rfl) $$ P; iintro %_ P
  iapply (wp_sto_pb c (o0 := 0) rfl (PB m c) (fun i j h => PB_blk m c 0 h)) $$ P; iintro P
  iapply (send_blk m K c 0 (sends0 c) rfl rfl (k0_off2_eq c) rfl (fun h => rsr_sem c (k0_off1_eq c)) (fun _ => rfl)) $$ [Hr P R]
  · isplitr; · iexact HR
    isplitl [Hr]; · iexact Hr
    isplitl [P]; · iexact P
    iexact R
  iintro ⟨Hr, E⟩
  iapply (le_wp_ret _ _)
  iapply HQ
  isplitl [Hr]; · iexact Hr
  isplitl [Hk Hv Hx]
  · isplitl [Hk]; · iexact Hk
    isplitl [Hv]; · iexact Hv
    iexact Hx
  isplitl [X4]; · iexact X4
  iexact E

/-- Query block 0 done; the next rows of keys and values have arrived. -/
theorem part40 {l : List Ev} {Q} :
    iprop(Rec m K ∗ Run c (seg40 c ++ l) ∗ HS m c (nk0 c) 8 ∗ Kept m c 0)
      ⊢ iprop(((Run c l ∗ HS m c (nk1 c) 9 ∗ QD m c 0) -∗ Q (w337 m c)) -∗ wpc c (k0_part40 xM (Memref.isWhole_whole _) wqM (Memref.isWhole_whole _) khM (Memref.isWhole_whole _) vhM (Memref.isWhole_whole _) woM (Memref.isWhole_whole _) oM (Memref.isWhole_whole _) kbM (Memref.isWhole_whole _) vbM (Memref.isWhole_whole _) kvM (Memref.isWhole_whole _) vvM (Memref.isWhole_whole _) cxM (Memref.isWhole_whole _) pbM (Memref.isWhole_whole _) rbM (Memref.isWhole_whole _) aoM (Memref.isWhole_whole _) gbM (Memref.isWhole_whole _) cc0_scratch9 cc0_scratch10 cc0_scratch11 cc0_scratch12 cc0_scratch13 cc0_scratch14 cc0_scratch15 cc0_scratch16 cc0_scratch17 cc0_scratch18 (w2 m c) (w54 m c) (w74 m c) (w292 m c) (q_c0_i32_144 m c)) Q) := by
  rw [k0_part40_eq_skeleton]; unfold k0_part40_skel HS seg40
  simp only [w2_c m, q_c0_i32_144, Prog.lift, Prog.bind_op, Prog.bind_ret, Prog.pure_eq_ret, w337, w300, w301, w302, w303, w304, w305, w307, w323, w333]
  iintro ⟨#HR, Hr, ⟨Hk, Hv, Hx⟩, E⟩ HQ
  iapply (keep_blk m c 0 (isDev_iff c 0) rfl rfl (fun e _ _ h => RSB_own m c e h)) $$ E; iintro D
  iapply (rows_blk m K c 2 (n₁ := nk1 c) (nk_0 c) (nk_ne c) (notDev_iff c 0) rfl rfl rfl rfl) $$ [Hr Hk Hv]
  · isplitr; · iexact HR
    isplitl [Hr]; · iexact Hr
    isplitl [Hk]; · iexact Hk
    iexact Hv
  iintro ⟨Hr, Hk, Hv⟩
  iapply (wp_ldk m c (nk1_pos c)) $$ Hk; iintro Hk
  iapply (wp_ldv m c (nk1_pos c)) $$ Hv; iintro Hv
  iapply (wp_ldc m c) $$ Hx; iintro %_ Hx
  iapply (wp_stc m c (q := 1) (h := 0) rfl (by decide) rfl rfl rfl) $$ Hx; iintro Hx
  iapply (wp_ldk m c (nk1_pos c)) $$ Hk; iintro Hk
  iapply (le_wp_ret _ _)
  iapply HQ
  isplitl [Hr]; · iexact Hr
  isplitl [Hk Hv Hx]
  · isplitl [Hk]; · iexact Hk
    isplitl [Hv]; · iexact Hv
    iexact Hx
  iexact D

/-- Query block 1 done; all of the first 1024 rows of keys and values have arrived. -/
theorem part45 {l : List Ev} {Q} :
    iprop(Rec m K ∗ Run c (seg45 c ++ l) ∗ HS m c (nk1 c) 15 ∗ (((c : Dev nD) : Thread nD τ).loc cc0_stg2_0 ↦[Finset.univ]{fullShare} WO m c) ∗ own (F := F) cc0_scratch5 c (sqx 256 0 256 1024) ∗ own (F := F) cc0_scratch6 1 (rbx (c : Dev nD).val))
      ⊢ iprop(((Run c l ∗ HS m c 1024 16 ∗ (((c : Dev nD) : Thread nD τ).loc cc0_stg2_0 ↦[Finset.univ]{fullShare} WO m c) ∗ QD m c 1) -∗ Q (w531 m c)) -∗ wpc c (k0_part45 xM (Memref.isWhole_whole _) wqM (Memref.isWhole_whole _) khM (Memref.isWhole_whole _) vhM (Memref.isWhole_whole _) woM (Memref.isWhole_whole _) oM (Memref.isWhole_whole _) kbM (Memref.isWhole_whole _) vbM (Memref.isWhole_whole _) kvM (Memref.isWhole_whole _) vvM (Memref.isWhole_whole _) cxM (Memref.isWhole_whole _) pbM (Memref.isWhole_whole _) rbM (Memref.isWhole_whole _) aoM (Memref.isWhole_whole _) gbM (Memref.isWhole_whole _) cc0_scratch9 cc0_scratch10 cc0_scratch11 cc0_scratch12 cc0_scratch13 cc0_scratch14 cc0_scratch15 cc0_scratch16 cc0_scratch17 cc0_scratch18 c (w2 m c) (w54 m c) (w498 m c)) Q) := by
  rw [k0_part45_eq_skeleton]; unfold k0_part45_skel HS seg45
  simp only [w2_c m, List.append_assoc, Prog.lift, Prog.bind_op, Prog.bind_ret, Prog.pure_eq_ret, w531, w505, w514, w515, w525, w526, w527, w528, w529, w530]
  iintro ⟨#HR, Hr, ⟨Hk, Hv, Hx⟩, X4, P, R⟩ HQ
  iapply (wp_ldv m c (nk1_pos c)) $$ Hv; iintro Hv
  iapply (wp_ldc m c) $$ Hx; iintro %_ Hx
  iapply (wp_stc m c (q := 1) (h := 7) rfl (by decide) rfl rfl rfl) $$ Hx; iintro Hx
  iapply (wp_ldcr m c (b := 1) rfl rfl) $$ Hx; iintro Hx
  iapply (wp_ldwo m c) $$ X4; iintro X4
  iapply (wp_ldo_pb c (o0 := 256) rfl) $$ P; iintro %_ P
  iapply (wp_sto_pb c (o0 := 256) rfl (PB m c) (fun i j h => PB_blk m c 1 h)) $$ P; iintro P
  iapply (send_blk m K c 1 (sends1 c) rfl rfl (k0_off4_eq c) rfl (fun h => rsr_sem c (k0_off3_eq c)) (fun _ => rfl)) $$ [Hr P R]
  · isplitr; · iexact HR
    isplitl [Hr]; · iexact Hr
    isplitl [P]; · iexact P
    iexact R
  iintro ⟨Hr, E⟩
  iapply (keep_blk m c 1 (isDev_iff c 1) rfl rfl (fun e _ _ h => RSB_own m c e h)) $$ E; iintro D
  iapply (rows_blk m K c 3 (n₁ := 1024) (nk1_0 c) (fun h => ⟨(nk_ne c h).2, rfl⟩) (notDev_iff c 0) rfl rfl rfl rfl) $$ [Hr Hk Hv]
  · isplitr; · iexact HR
    isplitl [Hr]; · iexact Hr
    isplitl [Hk]; · iexact Hk
    iexact Hv
  iintro ⟨Hr, Hk, Hv⟩
  iapply (le_wp_ret _ _)
  iapply HQ
  isplitl [Hr]; · iexact Hr
  isplitl [Hk Hv Hx]
  · isplitl [Hk]; · iexact Hk
    isplitl [Hv]; · iexact Hv
    iexact Hx
  isplitl [X4]; · iexact X4
  iexact D

/-- Query block 2 done; all rows of keys and values have arrived. -/
theorem part51 {l : List Ev} {Q} :
    iprop(Rec m K ∗ Run c (seg51 c ++ l) ∗ HS m c 1024 23 ∗ (((c : Dev nD) : Thread nD τ).loc cc0_stg2_0 ↦[Finset.univ]{fullShare} WO m c) ∗ own (F := F) cc0_scratch5 c (sqx 512 0 256 1024) ∗ own (F := F) cc0_scratch6 2 (rbx (c : Dev nD).val))
      ⊢ iprop(((Run c l ∗ HS m c 1152 24 ∗ (((c : Dev nD) : Thread nD τ).loc cc0_stg2_0 ↦[Finset.univ]{fullShare} WO m c) ∗ QD m c 2 ∗ LB1 c) -∗ Q (w765 m c)) -∗ wpc c (k0_part51 xM (Memref.isWhole_whole _) wqM (Memref.isWhole_whole _) khM (Memref.isWhole_whole _) vhM (Memref.isWhole_whole _) woM (Memref.isWhole_whole _) oM (Memref.isWhole_whole _) kbM (Memref.isWhole_whole _) vbM (Memref.isWhole_whole _) kvM (Memref.isWhole_whole _) vvM (Memref.isWhole_whole _) cxM (Memref.isWhole_whole _) pbM (Memref.isWhole_whole _) rbM (Memref.isWhole_whole _) aoM (Memref.isWhole_whole _) gbM (Memref.isWhole_whole _) cc0_scratch9 cc0_scratch10 cc0_scratch11 cc0_scratch12 cc0_scratch13 cc0_scratch14 cc0_scratch15 cc0_scratch16 cc0_scratch17 cc0_scratch18 c (w2 m c) (w54 m c) (w74 m c) (w732 m c) (cst_350 m c)) Q) := by
  rw [k0_part51_eq_skeleton]; unfold k0_part51_skel HS seg51
  simp only [w2_c m, List.append_assoc, Prog.lift, Prog.bind_op, Prog.bind_ret, Prog.pure_eq_ret, w765, w739, w740, w750, w751, w752, w753, w754, w755, w756, w757, w758, w760]
  iintro ⟨#HR, Hr, ⟨Hk, Hv, Hx⟩, X4, P, R⟩ HQ
  iapply (wp_ldc m c) $$ Hx; iintro %_ Hx
  iapply (wp_stc m c (q := 2) (h := 7) rfl (by decide) rfl rfl rfl) $$ Hx; iintro Hx
  iapply (wp_ldcr m c (b := 2) rfl rfl) $$ Hx; iintro Hx
  iapply (wp_ldwo m c) $$ X4; iintro X4
  iapply (wp_ldo_pb c (o0 := 512) rfl) $$ P; iintro %_ P
  iapply (wp_sto_pb c (o0 := 512) rfl (PB m c) (fun i j h => PB_blk m c 2 h)) $$ P; iintro P
  iapply (send_blk m K c 2 (sends2 c) rfl rfl (k0_off6_eq c) rfl (fun h => rsr_sem c (k0_off5_eq c)) (fun _ => rfl)) $$ [Hr P R]
  · isplitr; · iexact HR
    isplitl [Hr]; · iexact Hr
    isplitl [P]; · iexact P
    iexact R
  iintro ⟨Hr, E⟩
  iapply (keep_blk m c 2 (isDev_iff c 2) rfl rfl (fun e _ _ h => RSB_own m c e h)) $$ E; iintro D
  unfold rows1 LB1
  by_cases h : c = 1
  · subst h
    rw [dif_pos (show isDev 1 1#32 from (isDev_iff 1 1).2 rfl), dif_neg (show ¬ notDev 1 1#32 from fun e => (notDev_iff 1 1).1 e rfl), if_pos rfl, if_pos rfl]
    simp only [List.cons_append, List.nil_append]
    iapply (run_wait m K 1 (.loc 0) rfl rfl) $$ [Hr]
    · isplitr; · iexact HR
      iexact Hr
    iintro ⟨Hr, p⟩
    ihave p := (Entails.of_eq (pay_loc1 m 0)) $$ p
    icases p with ⟨p, U0⟩
    ihave U0 := (kvPt_room m 1 0 _) $$ U0
    ihave Hk := (bf_rows m 1 0 1024 128) $$ [Hk p]
    · isplitl [Hk]; · iexact Hk
      iexact p
    iapply (run_wait m K 1 (.loc 1) rfl rfl) $$ [Hr]
    · isplitr; · iexact HR
      iexact Hr
    iintro ⟨Hr, p⟩
    ihave p := (Entails.of_eq (pay_loc1 m 1)) $$ p
    icases p with ⟨p, U1⟩
    ihave U1 := (kvPt_room m 1 1 _) $$ U1
    ihave Hv := (bf_rows m 1 1 1024 128) $$ [Hv p]
    · isplitl [Hv]; · iexact Hv
      iexact p
    iapply (wp_ldk m 1 (by omega)) $$ Hk; iintro Hk
    iapply (le_wp_ret _ _)
    iapply HQ
    isplitl [Hr]; · iexact Hr
    isplitl [Hk Hv Hx]
    · isplitl [Hk]; · iexact Hk
      isplitl [Hv]; · iexact Hv
      iexact Hx
    isplitl [X4]; · iexact X4
    isplitl [D]; · iexact D
    isplitl [U0]; · iexact U0
    iexact U1
  · rw [dif_neg (show ¬ isDev c 1#32 from fun e => h ((isDev_iff c 1).1 e)), dif_pos (show notDev c 1#32 from (notDev_iff c 1).2 h), if_neg h, if_neg h]
    simp only [List.cons_append, List.nil_append]
    iapply (wp_rows m K c (.rcv1 0) (.rcv1 1) (n := 1024) (z := 128) rfl rfl rfl rfl rfl rfl) $$ [Hr Hk Hv]
    · isplitr; · iexact HR
      isplitl [Hr]; · iexact Hr
      isplitl [Hk]; · iexact Hk
      iexact Hv
    iintro ⟨Hr, Hk, Hv⟩
    iapply (wp_ldk m c (by omega)) $$ Hk; iintro Hk
    iapply (le_wp_ret _ _)
    iapply HQ
    isplitl [Hr]; · iexact Hr
    isplitl [Hk Hv Hx]
    · isplitl [Hk]; · iexact Hk
      isplitl [Hv]; · iexact Hv
      iexact Hx
    isplitl [X4]; · iexact X4
    isplitl [D]; · iexact D
    iempintro

end Cert.KernelIdeal.Run
-- ==== Proof.Tail.lean ====
/- The last parts of the kernel: the exchange of the blocks of the result. -/
module

public import proofs.«01_k».proof.Proof.Mid

@[expose] public section

set_option maxRecDepth 16384
set_option maxHeartbeats 1000000

noncomputable section

namespace Cert.KernelIdeal.Run

open Cert.KernelIdeal Cert.KernelIdeal.Gen
open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : Mem (F := F)) (K : Dev nD × Option CK → ℕ) (c : Dev nD)

/-! ## Facts of the last parts -/

/-- The owner's slot, whichever it is. -/
theorem own_slot : iprop(OwnS m c 0 ∗ OwnS m c 1 ∗ OwnS m c 2 ∗ OwnS m c 3) ⊢ slot m c c := by
  unfold OwnS
  iintro ⟨S0, S1, S2, S3⟩
  rcases dev4 c with rfl | rfl | rfl | rfl
  · ihave S := (Entails.of_eq (if_pos rfl)) $$ S0
    iexact S
  · ihave S := (Entails.of_eq (if_pos rfl)) $$ S1
    iexact S
  · ihave S := (Entails.of_eq (if_pos rfl)) $$ S2
    iexact S
  · ihave S := (Entails.of_eq (if_pos rfl)) $$ S3
    iexact S
/-- The own slot and the three that came are the four slots. -/
theorem slots_all : iprop(slot m c c ∗ pay m c (.rsr (oth c 0)) ∗ pay m c (.rsr (oth c 1)) ∗ pay m c (.rsr (oth c 2)))
    ⊢ iprop(((c : Thread nD τ).loc cc0_scratch6 ↦[rbx 0]{fullShare} RSB m c) ∗ ((c : Thread nD τ).loc cc0_scratch6 ↦[rbx 1]{fullShare} RSB m c) ∗ ((c : Thread nD τ).loc cc0_scratch6 ↦[rbx 2]{fullShare} RSB m c) ∗ ((c : Thread nD τ).loc cc0_scratch6 ↦[rbx 3]{fullShare} RSB m c)) := by
  iintro ⟨S, A, B, D⟩
  ihave A := (Entails.of_eq (pay_rsr m c (oth c 0))) $$ A
  ihave B := (Entails.of_eq (pay_rsr m c (oth c 1))) $$ B
  ihave D := (Entails.of_eq (pay_rsr m c (oth c 2))) $$ D
  rcases dev4 c with rfl | rfl | rfl | rfl
  · isplitl [S]; · iexact S
    isplitl [A]; · iexact A
    isplitl [B]; · iexact B
    iexact D
  · isplitl [A]; · iexact A
    isplitl [S]; · iexact S
    isplitl [B]; · iexact B
    iexact D
  · isplitl [A]; · iexact A
    isplitl [B]; · iexact B
    isplitl [S]; · iexact S
    iexact D
  · isplitl [A]; · iexact A
    isplitl [B]; · iexact B
    isplitl [D]; · iexact D
    iexact S

/-- Three copies waited for, one after the other. -/
theorem wp_wait3 {l : List Ev} (a b d : CK)
    {sp₁ sp₁' sp₂ sp₂' sp₃ sp₃' : Space} {s₁ s₁' s₂ s₂' s₃ s₃' : Shape} {e₁ e₁' e₂ e₂' e₃ e₃' : EltTy} {sa sb sd : DmaSem sig} (ha : sa = semOf a) (hb : sb = semOf b) (hd : sd = semOf d)
    {src₁ : Memref sig .tc sp₁' s₁' e₁'} {dst₁ : Memref sig .tc sp₁ s₁ e₁} {hsrc₁ hdst₁} {src₂ : Memref sig .tc sp₂' s₂' e₂'} {dst₂ : Memref sig .tc sp₂ s₂ e₂} {hsrc₂ hdst₂}
    {src₃ : Memref sig .tc sp₃' s₃' e₃'} {dst₃ : Memref sig .tc sp₃ s₃ e₃} {hsrc₃ hdst₃}
    (hNa : dst₁.view.dmaCredit = amt c a) (hNb : dst₂.view.dmaCredit = amt c b) (hNd : dst₃.view.dmaCredit = amt c d)
    {α : Type} {Q : α → sProp 𝕄} {k : Prog (TpuEff nD τ sig (Elt F) Λ₀ .tc) α} :
    iprop(Rec m K ∗ Run c (.wait a :: .wait b :: .wait d :: l))
      ⊢ iprop(((Run c l ∗ pay m c a ∗ pay m c b ∗ pay m c d) -∗ wpc c k Q)
        -∗ wpc c (.op (.waitDma2 sa src₁ dst₁ hsrc₁ hdst₁) fun _ => .op (.waitDma2 sb src₂ dst₂ hsrc₂ hdst₂) fun _ => .op (.waitDma2 sd src₃ dst₃ hsrc₃ hdst₃) fun _ => k) Q) := by
  iintro ⟨#HR, Hr⟩ HQ
  iapply (run_wait m K c a ha hNa) $$ [Hr]
  · isplitr; · iexact HR
    iexact Hr
  iintro ⟨Hr, A⟩
  iapply (run_wait m K c b hb hNb) $$ [Hr]
  · isplitr; · iexact HR
    iexact Hr
  iintro ⟨Hr, B⟩
  iapply (run_wait m K c d hd hNd) $$ [Hr]
  · isplitr; · iexact HR
    iexact Hr
  iintro ⟨Hr, D⟩
  iapply HQ
  isplitl [Hr]; · iexact Hr
  isplitl [A]; · iexact A
  isplitl [B]; · iexact B
  iexact D

/-- A block of the partial output is back from its owner; the owner's own has been here all the time. -/
theorem back_blk {l : List Ev} (q : Fin 4) {p : Prop} [Decidable p] (hp : p ↔ c ≠ q)
    {sp sp' : Space} {s s' : Shape} {e e' : EltTy} {sem : DmaSem sig} (hs : sem = semOf (.rss q))
    {src : p → Memref sig .tc sp' s' e'} {dst : Memref sig .tc sp s e} {hsrc : ∀ h, (src h).view.WordExact} {hdst : p → dst.view.WordExact} (hN : dst.view.dmaCredit = amt c (.rss q))
    {α : Type} {Q : α → sProp 𝕄} {k : Prog (TpuEff nD τ sig (Elt F) Λ₀ .tc) α} :
    iprop(Rec m K ∗ Run c (back c q ++ l) ∗ OwnB m c q)
      ⊢ iprop(((Run c l ∗ own cc0_scratch5 c (sqx (256 * q.val) 0 256 1024)) -∗ wpc c k Q)
        -∗ wpc c (if h : p then .op (.waitDma2 sem (src h) dst (hsrc h) (hdst h)) (fun _ => k) else k) Q) := by
  unfold back OwnB
  by_cases h : c = q
  · rw [dif_neg (fun e => hp.1 e h), if_pos h, if_pos h]
    iintro ⟨_, Hr, P⟩ HQ
    iapply HQ
    isplitl [Hr]; · iexact Hr
    iapply (own_of c cc0_scratch5 (PB m c)); iexact P
  · rw [dif_pos (hp.2 h), if_neg h, if_neg h]
    iintro ⟨#HR, Hr, _⟩ HQ
    iapply (run_wait m K c (.rss q) hs hN) $$ [Hr]
    · isplitr; · iexact HR
      iexact Hr
    iintro ⟨Hr, P⟩
    ihave P := (Entails.of_eq (pay_rss m c q)) $$ P
    iapply HQ
    isplitl [Hr]; · iexact Hr
    iapply (own_of c cc0_scratch5 (PB m c)); iexact P

/-- Device 0 adds up in the first branch. -/
theorem sums0 : ∀ c : Dev nD, k0_cond17 c = 1#1 ↔ c = 0 := by decide
/-- Device 1 in the second. -/
theorem sums1 : ∀ c : Dev nD, k0_cond18 c = 1#1 ↔ c = 1 := by decide
/-- Device 2 in the third. -/
theorem sums2 : ∀ c : Dev nD, k0_cond19 c = 1#1 ↔ c = 2 := by decide
/-- Device 3 in the fourth. -/
theorem sums3 : ∀ c : Dev nD, k0_cond20 c = 1#1 ↔ c = 3 := by decide
/-- Block 0 comes back to the devices other than 0. -/
theorem backs0 : ∀ c : Dev nD, k0_cond23 c = 1#1 ↔ c ≠ 0 := by decide
/-- Block 1 comes back to the devices other than 1. -/
theorem backs1 : ∀ c : Dev nD, k0_cond24 c = 1#1 ↔ c ≠ 1 := by decide
/-- Block 2 comes back to the devices other than 2. -/
theorem backs2 : ∀ c : Dev nD, k0_cond25 c = 1#1 ↔ c ≠ 2 := by decide
/-- Block 3 comes back to the devices other than 3. -/
theorem backs3 : ∀ c : Dev nD, k0_cond26 c = 1#1 ↔ c ≠ 3 := by decide

/-- Something done under a condition: the continuation is reached either way. -/
theorem wp_dite {p : Prop} [Decidable p] {α : Type} {Q : α → sProp 𝕄} {A : p → Prog (TpuEff nD τ sig (Elt F) Λ₀ .tc) α} {k : Prog (TpuEff nD τ sig (Elt F) Λ₀ .tc) α} {P R : sProp 𝕄}
    (hA : ∀ h : p, P ⊢ iprop((R -∗ wpc c k Q) -∗ wpc c (A h) Q)) (hk : ¬ p → P ⊢ R) :
    P ⊢ iprop((R -∗ wpc c k Q) -∗ wpc c (if h : p then A h else k) Q) := by
  by_cases h : p
  · rw [dif_pos h]; exact hA h
  · rw [dif_neg h]
    iintro H HQ
    iapply HQ; iapply (hk h); iexact H
/-- A device other than 1 has no copies of its own under way once device 0's are back. -/
theorem at_rest (h : c ≠ 1) : (if c = 0 then ST c else SR c) = ST c := by
  by_cases h0 : c = 0
  · exact if_pos h0
  · rw [if_neg h0]; exact SR_n c (fun e => h0 (Fin.ext e)) (fun e => h (Fin.ext e))
/-- Where block `s` of the others' results goes. -/
theorem out_off : ∀ (c : Dev nD) (s : Fin 3), k0_off9 c (BitVec.ofNat 32 s.val) = ![256 * ((c.val + (s.val + 1)) % 4), 0] := by decide

/-! ## The parts -/

/-- The last query block, the sum of the partial blocks on the owner, and the summed block on its way to the others. -/
theorem part57 {l : List Ev} {Q} :
    iprop(Rec m K ∗ Run c (seg57 c ++ l) ∗ HS m c 1152 31 ∗ (((c : Dev nD) : Thread nD τ).loc cc0_stg2_0 ↦[Finset.univ]{fullShare} WO m c) ∗ own (F := F) cc0_scratch5 c (sqx 768 0 256 1024) ∗ own (F := F) cc0_scratch6 3 (rbx (c : Dev nD).val) ∗ (QD m c 0 ∗ QD m c 1 ∗ QD m c 2) ∗ own (F := F) cc0_scratch7 c (bx (s := S256x1024) ![0, 0] ![256, 1024]) ∗ own (F := F) cc0_stg3_0 c (sqx (256 * ((c.val + 0) % 4)) 0 256 1024) ∗ (own (F := F) cc0_scratch8 (dv (c.val + 1)) (gbx 2) ∗ own (F := F) cc0_scratch8 (dv (c.val + 2)) (gbx 1) ∗ own (F := F) cc0_scratch8 (dv (c.val + 3)) (gbx 0)))
      ⊢ iprop(((Run c l ∗ HS m c 1152 32 ∗ (((c : Dev nD) : Thread nD τ).loc cc0_stg2_0 ↦[Finset.univ]{fullShare} WO m c) ∗ (OwnB m c 0 ∗ OwnB m c 1 ∗ OwnB m c 2 ∗ OwnB m c 3) ∗ own (F := F) cc0_scratch6 c Finset.univ ∗ (((c : Dev nD) : Thread nD τ).loc cc0_stg3_0 ↦[sqx (256 * ((c.val + 0) % 4)) 0 256 1024]{fullShare} OUT m c)) -∗ Q ⟨(w993 m c), (q_c0_i32_488 m c)⟩) -∗ wpc c (k0_part57 xM (Memref.isWhole_whole _) wqM (Memref.isWhole_whole _) khM (Memref.isWhole_whole _) vhM (Memref.isWhole_whole _) woM (Memref.isWhole_whole _) oM (Memref.isWhole_whole _) kbM (Memref.isWhole_whole _) vbM (Memref.isWhole_whole _) kvM (Memref.isWhole_whole _) vvM (Memref.isWhole_whole _) cxM (Memref.isWhole_whole _) pbM (Memref.isWhole_whole _) rbM (Memref.isWhole_whole _) aoM (Memref.isWhole_whole _) gbM (Memref.isWhole_whole _) cc0_scratch9 cc0_scratch10 cc0_scratch11 cc0_scratch12 cc0_scratch13 cc0_scratch14 cc0_scratch15 cc0_scratch16 cc0_scratch17 cc0_scratch18 c (w2 m c) (w966 m c)) Q) := by
  rw [k0_part57_eq_skeleton]; unfold k0_part57_skel HS seg57 QD
  simp only [w2_c m, List.append_assoc, Prog.lift, Prog.bind_op, Prog.bind_ret, Prog.pure_eq_ret, w993, q_c0_i32_488, w967, w968, w978, w979, w980]
  iintro ⟨#HR, Hr, ⟨Hk, Hv, Hx⟩, X4, P, R, ⟨⟨B0, S0⟩, ⟨B1, S1⟩, ⟨B2, S2⟩⟩, Y, O, G2, G1, G0⟩ HQ
  iapply (wp_stc m c (q := 3) (h := 7) rfl (by decide) rfl rfl rfl) $$ Hx; iintro Hx
  iapply (wp_ldcr m c (b := 3) rfl rfl) $$ Hx; iintro Hx
  iapply (wp_ldwo m c) $$ X4; iintro X4
  iapply (wp_ldo_pb c (o0 := 768) rfl) $$ P; iintro %_ P
  iapply (wp_sto_pb c (o0 := 768) rfl (PB m c) (fun i j h => PB_blk m c 3 h)) $$ P; iintro P
  iapply (send_blk m K c 3 (sends3 c) rfl rfl (k0_off8_eq c) rfl (fun h => rsr_sem c (k0_off7_eq c)) (fun _ => rfl)) $$ [Hr P R]
  · isplitr; · iexact HR
    isplitl [Hr]; · iexact Hr
    isplitl [P]; · iexact P
    iexact R
  iintro ⟨Hr, E⟩
  iapply (keep_blk m c 3 (isDev_iff c 3) rfl rfl (fun e _ _ h => RSB_own m c e h)) $$ E; iintro D
  ihave D := (Entails.of_eq (show QD m c 3 = iprop(OwnB m c 3 ∗ OwnS m c 3) from rfl)) $$ D
  icases D with ⟨B3, S3⟩
  ihave S := (own_slot m c) $$ [S0 S1 S2 S3]
  · isplitl [S0]; · iexact S0
    isplitl [S1]; · iexact S1
    isplitl [S2]; · iexact S2
    iexact S3
  simp only [sums0, sums1, sums2, sums3]
  rcases dev4 c with h | h | h | h
  all_goals
    iterate 4 first | rw [dif_pos h] | rw [dif_neg (by subst h; decide)]
    simp only [k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, Prog.lift, Prog.bind_op, Prog.bind_ret, Prog.pure_eq_ret]
    iapply (wp_wait3 m K c (.rsr (oth c 0)) (.rsr (oth c 1)) (.rsr (oth c 2)) (by subst h; rfl) (by subst h; rfl) (by subst h; rfl) (by rfl) (by rfl) (by rfl)) $$ [Hr]
    · isplitr; · iexact HR
      iexact Hr
    iintro ⟨Hr, A0, A1, A2⟩
    ihave S := (slots_all m c) $$ [S A0 A1 A2]
    · isplitl [S]; · iexact S
      isplitl [A0]; · iexact A0
      isplitl [A1]; · iexact A1
      iexact A2
    icases S with ⟨S0, S1, S2, S3⟩
    iapply (wp_ldv_rb m c (s := 0)) $$ S0; iintro S0
    iapply (wp_ldv_rb m c (s := 1)) $$ S1; iintro S1
    iapply (wp_ldv_rb m c (s := 2)) $$ S2; iintro S2
    iapply (wp_ldv_rb m c (s := 3)) $$ S3; iintro S3
    iapply (wp_ldo_ob c (o0 := 256 * ((c.val + 0) % 4)) (by subst h; rfl)) $$ O; iintro %_ O
    iapply (wp_sto_ob c (o0 := 256 * ((c.val + 0) % 4)) (by subst h; rfl) (OUT m c) (fun i j hj => by subst h; exact OUT_own m _ hj)) $$ O; iintro O
    iapply (wp_ldo_ao c (o0 := 0) rfl) $$ Y; iintro %_ Y
    iapply (wp_sto_ao c (o0 := 0) rfl (AO m c) (fun i j hj => by subst h; exact AO_all m _ hj)) $$ Y; iintro Y
    rw [ao_univ]
    ihave Y := (Ring.pointsTo_thirds fullShare (AO m c)).1 $$ Y
    icases Y with ⟨Y0, Y1, Y2⟩
    iapply (wp_ags m K c 0 2 (dv (c.val + 1)) (by subst h; rfl) (by subst h; rfl) rfl rfl rfl rfl (by subst h; rfl)) $$ [Hr Y0 G2]
    · isplitr; · iexact HR
      isplitl [Hr]; · iexact Hr
      isplitl [Y0]; · iexact Y0
      iexact G2
    iintro Hr
    iapply (wp_ags m K c 1 1 (dv (c.val + 2)) (by subst h; rfl) (by subst h; rfl) rfl rfl rfl rfl (by subst h; rfl)) $$ [Hr Y1 G1]
    · isplitr; · iexact HR
      isplitl [Hr]; · iexact Hr
      isplitl [Y1]; · iexact Y1
      iexact G1
    iintro Hr
    iapply (wp_ags m K c 2 0 (dv (c.val + 3)) (by subst h; rfl) (by subst h; rfl) rfl rfl rfl rfl (by subst h; rfl)) $$ [Hr Y2 G0]
    · isplitr; · iexact HR
      isplitl [Hr]; · iexact Hr
      isplitl [Y2]; · iexact Y2
      iexact G0
    iintro Hr
    ihave S0 := (own_of c cc0_scratch6 (RSB m c)) $$ S0
    ihave S1 := (own_of c cc0_scratch6 (RSB m c)) $$ S1
    ihave S2 := (own_of c cc0_scratch6 (RSB m c)) $$ S2
    ihave S3 := (own_of c cc0_scratch6 (RSB m c)) $$ S3
    iapply (le_wp_ret _ _)
    iapply HQ
    isplitl [Hr]; · iexact Hr
    isplitl [Hk Hv Hx]
    · isplitl [Hk]; · iexact Hk
      isplitl [Hv]; · iexact Hv
      iexact Hx
    isplitl [X4]; · iexact X4
    isplitl [B0 B1 B2 B3]
    · isplitl [B0]; · iexact B0
      isplitl [B1]; · iexact B1
      isplitl [B2]; · iexact B2
      iexact B3
    isplitr [O]
    · iapply (rb_join c)
      isplitl [S0]; · iexact S0
      isplitl [S1]; · iexact S1
      isplitl [S2]; · iexact S2
      iexact S3
    iexact O

/-- The first block of the other devices stored, the second arrived. -/
theorem part58 {l : List Ev} {a1 a2 : BitVec 32} {Q} :
    iprop(Rec m K ∗ Run c (seg58 c ++ l) ∗ own (F := F) cc0_stg3_0 c (sqx (256 * ((c.val + 1) % 4)) 0 256 1024))
      ⊢ iprop((∀ v, (Run c l ∗ (((c : Dev nD) : Thread nD τ).loc cc0_scratch8 ↦[gbx 0]{fullShare} AGB m c) ∗ (((c : Dev nD) : Thread nD τ).loc cc0_scratch8 ↦[gbx 1]{fullShare} AGB m c) ∗ (((c : Dev nD) : Thread nD τ).loc cc0_stg3_0 ↦[sqx (256 * ((c.val + 1) % 4)) 0 256 1024]{fullShare} OUT m c)) -∗ Q v) -∗ wpc c (k0_part58 xM (Memref.isWhole_whole _) wqM (Memref.isWhole_whole _) khM (Memref.isWhole_whole _) vhM (Memref.isWhole_whole _) woM (Memref.isWhole_whole _) oM (Memref.isWhole_whole _) kbM (Memref.isWhole_whole _) vbM (Memref.isWhole_whole _) kvM (Memref.isWhole_whole _) vvM (Memref.isWhole_whole _) cxM (Memref.isWhole_whole _) pbM (Memref.isWhole_whole _) rbM (Memref.isWhole_whole _) aoM (Memref.isWhole_whole _) gbM (Memref.isWhole_whole _) cc0_scratch9 cc0_scratch10 cc0_scratch11 cc0_scratch12 cc0_scratch13 cc0_scratch14 cc0_scratch15 cc0_scratch16 cc0_scratch17 cc0_scratch18 c (w2 m c) a1 a2) Q) := by
  rw [k0_part58_eq_skeleton]; unfold k0_part58_skel seg58
  simp only [List.cons_append, List.nil_append, Prog.lift, Prog.bind_op, Prog.bind_ret, Prog.pure_eq_ret, w1011]
  iintro ⟨#HR, Hr, O⟩ HQ
  iapply (run_wait m K c (.agr 0) rfl rfl) $$ [Hr]
  · isplitr; · iexact HR
    iexact Hr
  iintro ⟨Hr, G0⟩
  ihave G0 := (Entails.of_eq (pay_agr m c 0)) $$ G0
  iapply (wp_ldv_gb m c (s := (0 : Fin 3).val)) $$ G0; iintro G0
  iapply (wp_ldo_ob c (o0 := 256 * ((c.val + 1) % 4)) (out_off c 0)) $$ O; iintro %_ O
  iapply (wp_sto_ob c (o0 := 256 * ((c.val + 1) % 4)) (out_off c 0) (OUT m c) (fun i j h => OUT_gv m c 0 (by decide) h)) $$ O; iintro O
  iapply (run_wait m K c (.agr 1) rfl rfl) $$ [Hr]
  · isplitr; · iexact HR
    iexact Hr
  iintro ⟨Hr, G1⟩
  ihave G1 := (Entails.of_eq (pay_agr m c 1)) $$ G1
  iapply (le_wp_ret _ _)
  iapply HQ
  isplitl [Hr]; · iexact Hr
  isplitl [G0]; · iexact G0
  isplitl [G1]; · iexact G1
  iexact O

/-- The second block stored, the third arrived. -/
theorem part59 {l : List Ev} {a1 a2 : BitVec 32} {Q} :
    iprop(Rec m K ∗ Run c (seg59 c ++ l) ∗ (((c : Dev nD) : Thread nD τ).loc cc0_scratch8 ↦[gbx 1]{fullShare} AGB m c) ∗ own (F := F) cc0_stg3_0 c (sqx (256 * ((c.val + 2) % 4)) 0 256 1024))
      ⊢ iprop((∀ v, (Run c l ∗ (((c : Dev nD) : Thread nD τ).loc cc0_scratch8 ↦[gbx 1]{fullShare} AGB m c) ∗ (((c : Dev nD) : Thread nD τ).loc cc0_scratch8 ↦[gbx 2]{fullShare} AGB m c) ∗ (((c : Dev nD) : Thread nD τ).loc cc0_stg3_0 ↦[sqx (256 * ((c.val + 2) % 4)) 0 256 1024]{fullShare} OUT m c)) -∗ Q v) -∗ wpc c (k0_part59 xM (Memref.isWhole_whole _) wqM (Memref.isWhole_whole _) khM (Memref.isWhole_whole _) vhM (Memref.isWhole_whole _) woM (Memref.isWhole_whole _) oM (Memref.isWhole_whole _) kbM (Memref.isWhole_whole _) vbM (Memref.isWhole_whole _) kvM (Memref.isWhole_whole _) vvM (Memref.isWhole_whole _) cxM (Memref.isWhole_whole _) pbM (Memref.isWhole_whole _) rbM (Memref.isWhole_whole _) aoM (Memref.isWhole_whole _) gbM (Memref.isWhole_whole _) cc0_scratch9 cc0_scratch10 cc0_scratch11 cc0_scratch12 cc0_scratch13 cc0_scratch14 cc0_scratch15 cc0_scratch16 cc0_scratch17 cc0_scratch18 c (w2 m c) a1 a2) Q) := by
  rw [k0_part59_eq_skeleton]; unfold k0_part59_skel seg59
  simp only [List.cons_append, List.nil_append, Prog.lift, Prog.bind_op, Prog.bind_ret, Prog.pure_eq_ret, w1035]
  iintro ⟨#HR, Hr, G1, O⟩ HQ
  iapply (wp_ldv_gb m c (s := 1)) $$ G1; iintro G1
  iapply (wp_ldo_ob c (o0 := 256 * ((c.val + 2) % 4)) (out_off c 1)) $$ O; iintro %_ O
  iapply (wp_sto_ob c (o0 := 256 * ((c.val + 2) % 4)) (out_off c 1) (OUT m c) (fun i j h => OUT_gv m c 1 (by decide) h)) $$ O; iintro O
  iapply (run_wait m K c (.agr 2) rfl rfl) $$ [Hr]
  · isplitr; · iexact HR
    iexact Hr
  iintro ⟨Hr, G2⟩
  ihave G2 := (Entails.of_eq (pay_agr m c 2)) $$ G2
  iapply (le_wp_ret _ _)
  iapply HQ
  isplitl [Hr]; · iexact Hr
  isplitl [G1]; · iexact G1
  isplitl [G2]; · iexact G2
  iexact O

/-- The third block stored, and every block that was sent is back. -/
theorem part60 {l : List Ev} {a1 a2 : BitVec 32} {a3 : BitVec 1} {Q} :
    iprop(Rec m K ∗ Run c (seg60 c ++ l) ∗ (((c : Dev nD) : Thread nD τ).loc cc0_scratch8 ↦[gbx 2]{fullShare} AGB m c) ∗ own (F := F) cc0_stg3_0 c (sqx (256 * ((c.val + 3) % 4)) 0 256 1024) ∗ (OwnB m c 0 ∗ OwnB m c 1 ∗ OwnB m c 2 ∗ OwnB m c 3) ∗ (stOwn 0 c (SR c) ∗ stOwn 1 c (SR c)) ∗ LA c ∗ LB1 c)
      ⊢ iprop((∀ v, (Run c l ∗ (((c : Dev nD) : Thread nD τ).loc cc0_scratch8 ↦[gbx 2]{fullShare} AGB m c) ∗ (((c : Dev nD) : Thread nD τ).loc cc0_stg3_0 ↦[sqx (256 * ((c.val + 3) % 4)) 0 256 1024]{fullShare} OUT m c) ∗ own (F := F) cc0_scratch5 c Finset.univ ∗ stOwn 0 c (ST c) ∗ stOwn 1 c (ST c)) -∗ Q v) -∗ wpc c (k0_part60 xM (Memref.isWhole_whole _) wqM (Memref.isWhole_whole _) khM (Memref.isWhole_whole _) vhM (Memref.isWhole_whole _) woM (Memref.isWhole_whole _) oM (Memref.isWhole_whole _) kbM (Memref.isWhole_whole _) vbM (Memref.isWhole_whole _) kvM (Memref.isWhole_whole _) vvM (Memref.isWhole_whole _) cxM (Memref.isWhole_whole _) pbM (Memref.isWhole_whole _) rbM (Memref.isWhole_whole _) aoM (Memref.isWhole_whole _) gbM (Memref.isWhole_whole _) cc0_scratch9 cc0_scratch10 cc0_scratch11 cc0_scratch12 cc0_scratch13 cc0_scratch14 cc0_scratch15 cc0_scratch16 cc0_scratch17 cc0_scratch18 c (w2 m c) a1 a2 a3) Q) := by
  rw [k0_part60_eq_skeleton]; unfold k0_part60_skel seg60
  simp only [w2_c m, List.append_assoc, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, Prog.lift, Prog.bind_op, Prog.bind_ret, Prog.pure_eq_ret, w1059]
  iintro ⟨#HR, Hr, G2, O, ⟨B0, B1, B2, B3⟩, ⟨W0, W1⟩, LA, LB⟩ HQ
  iapply (wp_ldv_gb m c (s := 2)) $$ G2; iintro G2
  iapply (wp_ldo_ob c (o0 := 256 * ((c.val + 3) % 4)) (out_off c 2)) $$ O; iintro %_ O
  iapply (wp_sto_ob c (o0 := 256 * ((c.val + 3) % 4)) (out_off c 2) (OUT m c) (fun i j h => OUT_gv m c 2 (by decide) h)) $$ O; iintro O
  iapply (wp_dite c (P := iprop(Rec m K ∗ Run c (done0 c ++ (done1 c ++ (back c 0 ++ (back c 1 ++ (back c 2 ++ (back c 3 ++ l)))))) ∗ (stOwn 0 c (SR c) ∗ stOwn 1 c (SR c)) ∗ LA c)) (R := iprop(Run c (done1 c ++ (back c 0 ++ (back c 1 ++ (back c 2 ++ (back c 3 ++ l))))) ∗ stOwn 0 c (if c = 0 then ST c else SR c) ∗ stOwn 1 c (if c = 0 then ST c else SR c)))
    (fun hd => by
      obtain rfl := (isDev_iff c 0).1 hd
      rw [show done0 0 = (ends0 0 ++ (ends0 1 ++ (ends0 2 ++ ends0 3))) from rfl, show LA 0 = iprop(stOwn (F := F) 0 0 (kvx 0 0 1024 1024) ∗ stOwn 1 0 (kvx 0 0 1024 1024)) from rfl, show SR 0 = rem0 13 from rfl]
      simp only [ends0, List.cons_append, List.nil_append]
      iintro ⟨#HR, Hr, ⟨W0, W1⟩, L0, L1⟩ HQ
      ihave W0 := (stOwn_join 0 0 (blk0_sub 12 (by decide))) $$ [L0 W0]
      · isplitl [L0]; · iexact L0
        iexact W0
      ihave W1 := (stOwn_join 0 1 (blk0_sub 12 (by decide))) $$ [L1 W1]
      · isplitl [L1]; · iexact L1
        iexact W1
      iapply (wp_wait3 m K 0 (.snd0 0 0 0) (.snd0 0 0 1) (.snd0 0 0 2) rfl rfl rfl rfl rfl rfl) $$ [Hr]
      · isplitr; · iexact HR
        iexact Hr
      iintro ⟨Hr, K0⟩
      iapply (wp_wait3 m K 0 (.snd0 0 1 0) (.snd0 0 1 1) (.snd0 0 1 2) rfl rfl rfl rfl rfl rfl) $$ [Hr]
      · isplitr; · iexact HR
        iexact Hr
      iintro ⟨Hr, V0⟩
      iapply (wp_wait3 m K 0 (.snd0 1 0 0) (.snd0 1 0 1) (.snd0 1 0 2) rfl rfl rfl rfl rfl rfl) $$ [Hr]
      · isplitr; · iexact HR
        iexact Hr
      iintro ⟨Hr, K1⟩
      iapply (wp_wait3 m K 0 (.snd0 1 1 0) (.snd0 1 1 1) (.snd0 1 1 2) rfl rfl rfl rfl rfl rfl) $$ [Hr]
      · isplitr; · iexact HR
        iexact Hr
      iintro ⟨Hr, V1⟩
      iapply (wp_wait3 m K 0 (.snd0 2 0 0) (.snd0 2 0 1) (.snd0 2 0 2) rfl rfl rfl rfl rfl rfl) $$ [Hr]
      · isplitr; · iexact HR
        iexact Hr
      iintro ⟨Hr, K2⟩
      iapply (wp_wait3 m K 0 (.snd0 2 1 0) (.snd0 2 1 1) (.snd0 2 1 2) rfl rfl rfl rfl rfl rfl) $$ [Hr]
      · isplitr; · iexact HR
        iexact Hr
      iintro ⟨Hr, V2⟩
      iapply (wp_wait3 m K 0 (.snd0 3 0 0) (.snd0 3 0 1) (.snd0 3 0 2) rfl rfl rfl rfl rfl rfl) $$ [Hr]
      · isplitr; · iexact HR
        iexact Hr
      iintro ⟨Hr, K3⟩
      iapply (wp_wait3 m K 0 (.snd0 3 1 0) (.snd0 3 1 1) (.snd0 3 1 2) rfl rfl rfl rfl rfl rfl) $$ [Hr]
      · isplitr; · iexact HR
        iexact Hr
      iintro ⟨Hr, V3⟩
      ihave W0 := (rejoin0_three m 0 3 rfl) $$ [K3 W0]
      · isplitl [K3]; · iexact K3
        iexact W0
      ihave W1 := (rejoin0_three m 1 3 rfl) $$ [V3 W1]
      · isplitl [V3]; · iexact V3
        iexact W1
      ihave W0 := (rejoin0_three m 0 2 rfl) $$ [K2 W0]
      · isplitl [K2]; · iexact K2
        iexact W0
      ihave W1 := (rejoin0_three m 1 2 rfl) $$ [V2 W1]
      · isplitl [V2]; · iexact V2
        iexact W1
      ihave W0 := (rejoin0_three m 0 1 rfl) $$ [K1 W0]
      · isplitl [K1]; · iexact K1
        iexact W0
      ihave W1 := (rejoin0_three m 1 1 rfl) $$ [V1 W1]
      · isplitl [V1]; · iexact V1
        iexact W1
      ihave W0 := (rejoin0_three m 0 0 rfl) $$ [K0 W0]
      · isplitl [K0]; · iexact K0
        iexact W0
      ihave W1 := (rejoin0_three m 1 0 rfl) $$ [V0 W1]
      · isplitl [V0]; · iexact V0
        iexact W1
      iapply HQ
      isplitl [Hr]; · iexact Hr
      isplitl [W0]; · iexact W0
      iexact W1)
    (fun hd => by
      have h : c ≠ 0 := fun e => hd ((isDev_iff c 0).2 e)
      unfold done0; rw [if_neg h, if_neg h]
      iintro ⟨_, Hr, ⟨W0, W1⟩, _⟩
      isplitl [Hr]; · iexact Hr
      isplitl [W0]; · iexact W0
      iexact W1)) $$ [Hr W0 W1 LA]
  · isplitr; · iexact HR
    isplitl [Hr]; · iexact Hr
    isplitl [W0 W1]
    · isplitl [W0]; · iexact W0
      iexact W1
    iexact LA
  iintro ⟨Hr, W0, W1⟩
  iapply (wp_dite c (P := iprop(Rec m K ∗ Run c (done1 c ++ (back c 0 ++ (back c 1 ++ (back c 2 ++ (back c 3 ++ l))))) ∗ (stOwn 0 c (if c = 0 then ST c else SR c) ∗ stOwn 1 c (if c = 0 then ST c else SR c)) ∗ LB1 c)) (R := iprop(Run c (back c 0 ++ (back c 1 ++ (back c 2 ++ (back c 3 ++ l)))) ∗ stOwn 0 c (ST c) ∗ stOwn 1 c (ST c)))
    (fun hd => by
      obtain rfl := (isDev_iff c 1).1 hd
      rw [show done1 1 = [.wait (.snd1 0 0), .wait (.snd1 1 0), .wait (.snd1 2 0), .wait (.snd1 0 1), .wait (.snd1 1 1), .wait (.snd1 2 1)] from rfl, show LB1 1 = iprop(stOwn (F := F) 0 1 (kvx 0 1024 128 1024) ∗ stOwn 1 1 (kvx 0 1024 128 1024)) from rfl, show (if (1 : Dev nD) = 0 then ST 1 else SR 1) = rem1 4 from rfl]
      simp only [List.cons_append, List.nil_append]
      iintro ⟨#HR, Hr, ⟨W0, W1⟩, L0, L1⟩ HQ
      ihave W0 := (stOwn_join 1 0 (blk1_sub 3 (by decide))) $$ [L0 W0]
      · isplitl [L0]; · iexact L0
        iexact W0
      ihave W1 := (stOwn_join 1 1 (blk1_sub 3 (by decide))) $$ [L1 W1]
      · isplitl [L1]; · iexact L1
        iexact W1
      iapply (wp_wait3 m K 1 (.snd1 0 0) (.snd1 1 0) (.snd1 2 0) rfl rfl rfl rfl rfl rfl) $$ [Hr]
      · isplitr; · iexact HR
        iexact Hr
      iintro ⟨Hr, K⟩
      iapply (wp_wait3 m K 1 (.snd1 0 1) (.snd1 1 1) (.snd1 2 1) rfl rfl rfl rfl rfl rfl) $$ [Hr]
      · isplitr; · iexact HR
        iexact Hr
      iintro ⟨Hr, V⟩
      ihave W0 := (rejoin1_three m 0) $$ [K W0]
      · isplitl [K]; · iexact K
        iexact W0
      ihave W1 := (rejoin1_three m 1) $$ [V W1]
      · isplitl [V]; · iexact V
        iexact W1
      iapply HQ
      isplitl [Hr]; · iexact Hr
      isplitl [W0]; · iexact W0
      iexact W1)
    (fun hd => by
      have h : c ≠ 1 := fun e => hd ((isDev_iff c 1).2 e)
      unfold done1; rw [if_neg h, at_rest c h]
      iintro ⟨_, Hr, ⟨W0, W1⟩, _⟩
      isplitl [Hr]; · iexact Hr
      isplitl [W0]; · iexact W0
      iexact W1)) $$ [Hr W0 W1 LB]
  · isplitr; · iexact HR
    isplitl [Hr]; · iexact Hr
    isplitl [W0 W1]
    · isplitl [W0]; · iexact W0
      iexact W1
    iexact LB
  iintro ⟨Hr, W0, W1⟩
  iapply (back_blk m K c 0 (backs0 c) rfl rfl) $$ [Hr B0]
  · isplitr; · iexact HR
    isplitl [Hr]; · iexact Hr
    iexact B0
  iintro ⟨Hr, B0⟩
  iapply (back_blk m K c 1 (backs1 c) rfl rfl) $$ [Hr B1]
  · isplitr; · iexact HR
    isplitl [Hr]; · iexact Hr
    iexact B1
  iintro ⟨Hr, B1⟩
  iapply (back_blk m K c 2 (backs2 c) rfl rfl) $$ [Hr B2]
  · isplitr; · iexact HR
    isplitl [Hr]; · iexact Hr
    iexact B2
  iintro ⟨Hr, B2⟩
  iapply (back_blk m K c 3 (backs3 c) rfl rfl) $$ [Hr B3]
  · isplitr; · iexact HR
    isplitl [Hr]; · iexact Hr
    iexact B3
  iintro ⟨Hr, B3⟩
  iapply (le_wp_ret _ _)
  iapply HQ
  isplitl [Hr]; · iexact Hr
  isplitl [G2]; · iexact G2
  isplitl [O]; · iexact O
  isplitl [B0 B1 B2 B3]
  · iapply (pb_join c)
    isplitl [B0]; · iexact B0
    isplitl [B1]; · iexact B1
    isplitl [B2]; · iexact B2
    iexact B3
  isplitl [W0]; · iexact W0
  iexact W1

/-- Two of the three sends of the summed block are done. -/
theorem part61 {l : List Ev} {a1 a2 : BitVec 32} {a3 : BitVec 1} {Q} :
    iprop(Rec m K ∗ Run c (seg61 c ++ l) ∗ emp)
      ⊢ iprop((∀ v, (Run c l ∗ (((c : Dev nD) : Thread nD τ).loc cc0_scratch7 ↦[Finset.univ]{Ring.shares3 fullShare 0} AO m c) ∗ (((c : Dev nD) : Thread nD τ).loc cc0_scratch7 ↦[Finset.univ]{Ring.shares3 fullShare 1} AO m c)) -∗ Q v) -∗ wpc c (k0_part61 xM (Memref.isWhole_whole _) wqM (Memref.isWhole_whole _) khM (Memref.isWhole_whole _) vhM (Memref.isWhole_whole _) woM (Memref.isWhole_whole _) oM (Memref.isWhole_whole _) kbM (Memref.isWhole_whole _) vbM (Memref.isWhole_whole _) kvM (Memref.isWhole_whole _) vvM (Memref.isWhole_whole _) cxM (Memref.isWhole_whole _) pbM (Memref.isWhole_whole _) rbM (Memref.isWhole_whole _) aoM (Memref.isWhole_whole _) gbM (Memref.isWhole_whole _) cc0_scratch9 cc0_scratch10 cc0_scratch11 cc0_scratch12 cc0_scratch13 cc0_scratch14 cc0_scratch15 cc0_scratch16 cc0_scratch17 cc0_scratch18 (w2 m c) a1 a2 a3) Q) := by
  rw [k0_part61_eq_skeleton]; unfold k0_part61_skel seg61
  simp only [List.cons_append, List.nil_append, Prog.lift, Prog.bind_op, Prog.bind_ret, Prog.pure_eq_ret]
  iintro ⟨#HR, Hr, _⟩ HQ
  iapply (run_wait m K c (.ags 0) rfl rfl) $$ [Hr]
  · isplitr; · iexact HR
    iexact Hr
  iintro ⟨Hr, Y0⟩
  ihave Y0 := (Entails.of_eq (pay_ags m c 0)) $$ Y0
  iapply (run_wait m K c (.ags 1) rfl rfl) $$ [Hr]
  · isplitr; · iexact HR
    iexact Hr
  iintro ⟨Hr, Y1⟩
  ihave Y1 := (Entails.of_eq (pay_ags m c 1)) $$ Y1
  iapply (le_wp_ret _ _)
  iapply HQ
  isplitl [Hr]; · iexact Hr
  isplitl [Y0]; · iexact Y0
  iexact Y1

end Cert.KernelIdeal.Run
-- ==== Proof.Body.lean ====
/- The whole kernel of one device, part by part. -/
module

public import proofs.«01_k».proof.Proof.Tail

@[expose] public section

set_option maxRecDepth 16384
set_option maxHeartbeats 1000000

noncomputable section

namespace Cert.KernelIdeal.Run

open Cert.KernelIdeal Cert.KernelIdeal.Gen
open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : Mem (F := F)) (K : Dev nD × Option CK → ℕ) (c : Dev nD)

/-- Four things counted from the device are the four things counted from device 0. -/
theorem rot4 (Φ : ℕ → sProp 𝕄) : iprop(Φ ((c.val + 0) % 4) ∗ Φ ((c.val + 1) % 4) ∗ Φ ((c.val + 2) % 4) ∗ Φ ((c.val + 3) % 4)) ⊢ iprop(Φ 0 ∗ Φ 1 ∗ Φ 2 ∗ Φ 3) := by
  rcases dev4 c with rfl | rfl | rfl | rfl
  case' inl => change iprop(Φ 0 ∗ Φ 1 ∗ Φ 2 ∗ Φ 3) ⊢ _; iintro ⟨A, B, C, D⟩
  case' inr.inl => change iprop(Φ 1 ∗ Φ 2 ∗ Φ 3 ∗ Φ 0) ⊢ _; iintro ⟨B, C, D, A⟩
  case' inr.inr.inl => change iprop(Φ 2 ∗ Φ 3 ∗ Φ 0 ∗ Φ 1) ⊢ _; iintro ⟨C, D, A, B⟩
  case' inr.inr.inr => change iprop(Φ 3 ∗ Φ 0 ∗ Φ 1 ∗ Φ 2) ⊢ _; iintro ⟨D, A, B, C⟩
  all_goals
    isplitl [A]; · iexact A
    isplitl [B]; · iexact B
    isplitl [C]; · iexact C
    iexact D
/-- And the other way round. -/
theorem unrot4 (Φ : ℕ → sProp 𝕄) : iprop(Φ 0 ∗ Φ 1 ∗ Φ 2 ∗ Φ 3) ⊢ iprop(Φ ((c.val + 0) % 4) ∗ Φ ((c.val + 1) % 4) ∗ Φ ((c.val + 2) % 4) ∗ Φ ((c.val + 3) % 4)) := by
  rcases dev4 c with rfl | rfl | rfl | rfl
  case' inl => change _ ⊢ iprop(Φ 0 ∗ Φ 1 ∗ Φ 2 ∗ Φ 3); iintro ⟨A, B, C, D⟩
  case' inr.inl => change _ ⊢ iprop(Φ 1 ∗ Φ 2 ∗ Φ 3 ∗ Φ 0); iintro ⟨D, A, B, C⟩
  case' inr.inr.inl => change _ ⊢ iprop(Φ 2 ∗ Φ 3 ∗ Φ 0 ∗ Φ 1); iintro ⟨C, D, A, B⟩
  case' inr.inr.inr => change _ ⊢ iprop(Φ 3 ∗ Φ 0 ∗ Φ 1 ∗ Φ 2); iintro ⟨B, C, D, A⟩
  all_goals
    isplitl [A]; · iexact A
    isplitl [B]; · iexact B
    isplitl [C]; · iexact C
    iexact D
/-- Counting from the device forwards or backwards round the ring. -/
theorem dv_turn : ∀ c : Dev nD, dv ((c.val + 0) % 4) = c ∧ dv ((c.val + 1) % 4) = dv (c.val + 1) ∧ dv ((c.val + 2) % 4) = dv (c.val + 2) ∧ dv ((c.val + 3) % 4) = dv (c.val + 3)
    ∧ dv (c.val + 4 - 3) = dv (c.val + 1) ∧ dv (c.val + 4 - 2) = dv (c.val + 2) ∧ dv (c.val + 4 - 1) = dv (c.val + 3) := by decide

/-- The room that the other devices lent, sorted by device. -/
def RM : sProp 𝕄 := iprop((own cc0_scratch6 0 (rbx c.val) ∗ own cc0_scratch6 1 (rbx c.val) ∗ own cc0_scratch6 2 (rbx c.val) ∗ own cc0_scratch6 3 (rbx c.val))
  ∗ (own cc0_scratch8 (dv (c.val + 1)) (gbx 2) ∗ own cc0_scratch8 (dv (c.val + 2)) (gbx 1) ∗ own cc0_scratch8 (dv (c.val + 3)) (gbx 0)))
/-- The room lent at the barrier, with the device's own slot, sorted by device. -/
theorem room_sorted : iprop((tgt (F := F) c 1 ∗ tgt c 2 ∗ tgt c 3) ∗ own (F := F) cc0_scratch6 c (rbx c.val)) ⊢ RM c := by
  obtain ⟨e0, e1, e2, e3, f1, f2, f3⟩ := dv_turn c
  unfold RM tgt
  simp only [show (1 : Fin 4).val = 1 from rfl, show (2 : Fin 4).val = 2 from rfl, show (3 : Fin 4).val = 3 from rfl, f1, f2, f3]
  iintro ⟨⟨⟨A3, B3⟩, ⟨A2, B2⟩, ⟨A1, B1⟩⟩, A0⟩
  isplitl [A0 A1 A2 A3]
  · iapply (rot4 c (fun a => own (F := F) cc0_scratch6 (dv a) (rbx c.val)))
    rw [e0, e1, e2, e3]
    isplitl [A0]; · iexact A0
    isplitl [A1]; · iexact A1
    isplitl [A2]; · iexact A2
    iexact A3
  isplitl [B1]; · iexact B1
  isplitl [B2]; · iexact B2
  iexact B3

/-- The four blocks of the output buffer, in the order in which device `c` fills them. -/
theorem out_cut : own (F := F) cc0_stg3_0 c Finset.univ ⊢ iprop(own (F := F) cc0_stg3_0 c (sqx (256 * ((c.val + 0) % 4)) 0 256 1024) ∗ own (F := F) cc0_stg3_0 c (sqx (256 * ((c.val + 1) % 4)) 0 256 1024) ∗ own (F := F) cc0_stg3_0 c (sqx (256 * ((c.val + 2) % 4)) 0 256 1024) ∗ own (F := F) cc0_stg3_0 c (sqx (256 * ((c.val + 3) % 4)) 0 256 1024)) :=
  (ob_cut c).trans (unrot4 c (fun a => own (F := F) cc0_stg3_0 c (sqx (256 * a) 0 256 1024)))
/-- The four blocks filled are the whole result. -/
theorem out_whole : iprop(((c : Thread nD τ).loc cc0_stg3_0 ↦[sqx (256 * ((c.val + 0) % 4)) 0 256 1024]{fullShare} OUT m c) ∗ ((c : Thread nD τ).loc cc0_stg3_0 ↦[sqx (256 * ((c.val + 1) % 4)) 0 256 1024]{fullShare} OUT m c) ∗ ((c : Thread nD τ).loc cc0_stg3_0 ↦[sqx (256 * ((c.val + 2) % 4)) 0 256 1024]{fullShare} OUT m c) ∗ ((c : Thread nD τ).loc cc0_stg3_0 ↦[sqx (256 * ((c.val + 3) % 4)) 0 256 1024]{fullShare} OUT m c)) ⊢ ((c : Thread nD τ).loc cc0_stg3_0 ↦[Finset.univ]{fullShare} OUT m c : sProp 𝕄) :=
  (rot4 c (fun a => iprop((c : Thread nD τ).loc cc0_stg3_0 ↦[sqx (256 * a) 0 256 1024]{fullShare} OUT m c))).trans (out_join m c)

/-- What device `c` starts the kernel with. -/
def BPre : sProp 𝕄 :=
  iprop((barPay (dv (c.val + 1)) 1 ∗ barPay (dv (c.val + 2)) 2 ∗ barPay (dv (c.val + 3)) 3) ∗ PreS m c ∗ own cc0_scratch6 c (rbx c.val)
    ∗ own cc0_scratch4 c Finset.univ ∗ own cc0_scratch5 c Finset.univ ∗ own cc0_scratch7 c Finset.univ ∗ own cc0_stg3_0 c Finset.univ
    ∗ XW m c ∗ ((c : Thread nD τ).loc cc0_stg2_0 ↦[Finset.univ]{fullShare} WO m c))
/-- What it ends with: the result in its buffer, every input as it was, and the scratch buffers whole again. -/
def BPost : sProp 𝕄 :=
  iprop(((c : Thread nD τ).loc cc0_stg3_0 ↦[Finset.univ]{fullShare} OUT m c)
    ∗ XW m c ∗ ((c : Thread nD τ).loc cc0_stg2_0 ↦[Finset.univ]{fullShare} WO m c)
    ∗ (hbPt m 0 c (ST c) ∗ hbPt m 1 c (ST c))
    ∗ own cc0_scratch0 c Finset.univ ∗ own cc0_scratch1 c Finset.univ ∗ own cc0_scratch2 c (ST c) ∗ own cc0_scratch3 c (ST c)
    ∗ own cc0_scratch4 c Finset.univ ∗ own cc0_scratch5 c Finset.univ ∗ own cc0_scratch6 c Finset.univ ∗ own cc0_scratch7 c Finset.univ
    ∗ own cc0_scratch8 c Finset.univ)

/-- Before any head is stored, the context buffer holds anything. -/
theorem ctx_start : own (F := F) cc0_scratch4 c Finset.univ ⊢ CtxI m c 0 := by
  unfold own CtxI
  iintro ⟨%f, H⟩
  iexists f
  isplitr; · ipureintro; exact fun i h => absurd h (Nat.not_lt_zero _)
  iexact H
/-- At any time the context buffer may be given up as holding anything. -/
theorem ctx_end (n : ℕ) : CtxI m c n ⊢ own (F := F) cc0_scratch4 c Finset.univ := by
  unfold own CtxI
  iintro ⟨%f, -, H⟩
  iexists f
  iexact H

/-- The kernel of device `c`, from its start to its end. -/
theorem body_run : iprop(Rec m K ∗ Run c (evs c) ∗ BPre m c)
    ⊢ wpc c (cc0__body xM (Memref.isWhole_whole _) wqM (Memref.isWhole_whole _) khM (Memref.isWhole_whole _) vhM (Memref.isWhole_whole _) woM (Memref.isWhole_whole _) oM (Memref.isWhole_whole _) kbM (Memref.isWhole_whole _) vbM (Memref.isWhole_whole _) kvM (Memref.isWhole_whole _) vvM (Memref.isWhole_whole _) cxM (Memref.isWhole_whole _) pbM (Memref.isWhole_whole _) rbM (Memref.isWhole_whole _) aoM (Memref.isWhole_whole _) gbM (Memref.isWhole_whole _) cc0_scratch9 cc0_scratch10 cc0_scratch11 cc0_scratch12 cc0_scratch13 cc0_scratch14 cc0_scratch15 cc0_scratch16 cc0_scratch17 cc0_scratch18) (fun _ => iprop(Run c [] ∗ BPost m c)) := by
  rw [cc0__body_eq_skeleton]; unfold cc0__body_skel evs BPre
  iintro ⟨#HR, Hr, ⟨B1, B2, B3⟩, HS, R, C4, P, A, O, X, X4⟩
  iapply (Entails.of_eq (wp_bind _ _ _ _ _ _).symm)
  iapply (part32 m K c) $$ [Hr B1 B2]
  · isplitr; · iexact HR
    isplitl [Hr]; · iexact Hr
    isplitl [B1]; · iexact B1
    iexact B2
  iintro Hr
  try dsimp only
  iapply (Entails.of_eq (wp_bind _ _ _ _ _ _).symm)
  iapply (part33 m K c) $$ [Hr B3 HS X]
  · isplitr; · iexact HR
    isplitl [Hr]; · iexact Hr
    isplitl [B3]; · iexact B3
    isplitl [HS]; · iexact HS
    iexact X
  iintro ⟨Hr, T, W, X⟩
  try dsimp only
  ihave RM := (room_sorted c) $$ [T R]
  · isplitl [T]; · iexact T
    iexact R
  unfold RM
  icases RM with ⟨⟨R0, R1, R2, R3⟩, G⟩
  ihave P := (pb_cut c) $$ P
  icases P with ⟨P0, P1, P2, P3⟩
  ihave O := (out_cut c) $$ O
  icases O with ⟨O0, O1, O2, O3⟩
  ihave CT := (ctx_start m c) $$ C4
  iapply (Entails.of_eq (wp_bind _ _ _ _ _ _).symm)
  iapply (part34 m K c) $$ [Hr ]
  · isplitr; · iexact HR
    isplitl [Hr]; · iexact Hr
    iempintro
  iintro ⟨Hr, Hk, Hv, LA⟩
  try dsimp only
  ihave H := (Entails.of_eq (show iprop(bfPt m 0 c (kbx 0 0 (nk0 c) 1024) ∗ bfPt m 1 c (kbx 0 0 (nk0 c) 1024) ∗ CtxI m c 0) = HS m c (nk0 c) 0 from rfl)) $$ [Hk Hv CT]
  · isplitl [Hk]; · iexact Hk
    isplitl [Hv]; · iexact Hv
    iexact CT
  iapply (Entails.of_eq (wp_bind _ _ _ _ _ _).symm)
  iapply (part35 m c (nk0_pos c)) $$ [H]
  · iexact H
  iintro H
  try dsimp only
  iapply (Entails.of_eq (wp_bind _ _ _ _ _ _).symm)
  iapply (part36 m c (nk0_pos c)) $$ [H]
  · iexact H
  iintro H
  try dsimp only
  iapply (Entails.of_eq (wp_bind _ _ _ _ _ _).symm)
  iapply (part37 m c (nk0_pos c)) $$ [H]
  · iexact H
  iintro H
  try dsimp only
  iapply (Entails.of_eq (wp_bind _ _ _ _ _ _).symm)
  iapply (part38 m c (nk0_pos c)) $$ [H]
  · iexact H
  iintro H
  try dsimp only
  iapply (Entails.of_eq (wp_bind _ _ _ _ _ _).symm)
  iapply (part39 m K c) $$ [Hr H X4 P0 R0]
  · isplitr; · iexact HR
    isplitl [Hr]; · iexact Hr
    isplitl [H]; · iexact H
    isplitl [X4]; · iexact X4
    isplitl [P0]; · iexact P0
    iexact R0
  iintro ⟨Hr, H, X4, E⟩
  try dsimp only
  iapply (Entails.of_eq (wp_bind _ _ _ _ _ _).symm)
  iapply (part40 m K c) $$ [Hr H E]
  · isplitr; · iexact HR
    isplitl [Hr]; · iexact Hr
    isplitl [H]; · iexact H
    iexact E
  iintro ⟨Hr, H, Q0⟩
  try dsimp only
  iapply (Entails.of_eq (wp_bind _ _ _ _ _ _).symm)
  iapply (part41 m c (nk1_pos c)) $$ [H]
  · iexact H
  iintro H
  try dsimp only
  iapply (Entails.of_eq (wp_bind _ _ _ _ _ _).symm)
  iapply (part42 m c (nk1_pos c)) $$ [H]
  · iexact H
  iintro H
  try dsimp only
  iapply (Entails.of_eq (wp_bind _ _ _ _ _ _).symm)
  iapply (part43 m c (nk1_pos c)) $$ [H]
  · iexact H
  iintro H
  try dsimp only
  iapply (Entails.of_eq (wp_bind _ _ _ _ _ _).symm)
  iapply (part44 m c (nk1_pos c)) $$ [H]
  · iexact H
  iintro H
  try dsimp only
  iapply (Entails.of_eq (wp_bind _ _ _ _ _ _).symm)
  iapply (part45 m K c) $$ [Hr H X4 P1 R1]
  · isplitr; · iexact HR
    isplitl [Hr]; · iexact Hr
    isplitl [H]; · iexact H
    isplitl [X4]; · iexact X4
    isplitl [P1]; · iexact P1
    iexact R1
  iintro ⟨Hr, H, X4, Q1⟩
  try dsimp only
  iapply (Entails.of_eq (wp_bind _ _ _ _ _ _).symm)
  iapply (part46 m c (n := 1024) (by decide)) $$ [H]
  · iexact H
  iintro H
  try dsimp only
  iapply (Entails.of_eq (wp_bind _ _ _ _ _ _).symm)
  iapply (part47 m c (n := 1024) (by decide)) $$ [H]
  · iexact H
  iintro H
  try dsimp only
  iapply (Entails.of_eq (wp_bind _ _ _ _ _ _).symm)
  iapply (part48 m c (n := 1024) (by decide)) $$ [H]
  · iexact H
  iintro H
  try dsimp only
  iapply (Entails.of_eq (wp_bind _ _ _ _ _ _).symm)
  iapply (part49 m c (n := 1024) (by decide)) $$ [H]
  · iexact H
  iintro H
  try dsimp only
  iapply (Entails.of_eq (wp_bind _ _ _ _ _ _).symm)
  iapply (part50 m c (n := 1024) (by decide)) $$ [H]
  · iexact H
  iintro H
  try dsimp only
  iapply (Entails.of_eq (wp_bind _ _ _ _ _ _).symm)
  iapply (part51 m K c) $$ [Hr H X4 P2 R2]
  · isplitr; · iexact HR
    isplitl [Hr]; · iexact Hr
    isplitl [H]; · iexact H
    isplitl [X4]; · iexact X4
    isplitl [P2]; · iexact P2
    iexact R2
  iintro ⟨Hr, H, X4, Q2, LM⟩
  try dsimp only
  iapply (Entails.of_eq (wp_bind _ _ _ _ _ _).symm)
  iapply (part52 m c (n := 1152) (by decide)) $$ [H]
  · iexact H
  iintro H
  try dsimp only
  iapply (Entails.of_eq (wp_bind _ _ _ _ _ _).symm)
  iapply (part53 m c (n := 1152) (by decide)) $$ [H]
  · iexact H
  iintro H
  try dsimp only
  iapply (Entails.of_eq (wp_bind _ _ _ _ _ _).symm)
  iapply (part54 m c (n := 1152) (by decide)) $$ [H]
  · iexact H
  iintro H
  try dsimp only
  iapply (Entails.of_eq (wp_bind _ _ _ _ _ _).symm)
  iapply (part55 m c (n := 1152) (by decide)) $$ [H]
  · iexact H
  iintro H
  try dsimp only
  iapply (Entails.of_eq (wp_bind _ _ _ _ _ _).symm)
  iapply (part56 m c (n := 1152) (by decide)) $$ [H]
  · iexact H
  iintro H
  try dsimp only
  ihave A := (Entails.of_eq (congrArg (own (F := F) cc0_scratch7 c) ao_univ.symm)) $$ A
  ihave QQ := (show iprop(QD m c 0 ∗ QD m c 1 ∗ QD m c 2) ⊢ iprop(QD m c 0 ∗ QD m c 1 ∗ QD m c 2) from Entails.of_eq rfl) $$ [Q0 Q1 Q2]
  · isplitl [Q0]; · iexact Q0
    isplitl [Q1]; · iexact Q1
    iexact Q2
  iapply (Entails.of_eq (wp_bind _ _ _ _ _ _).symm)
  iapply (part57 m K c) $$ [Hr H X4 P3 R3 QQ A O0 G]
  · isplitr; · iexact HR
    isplitl [Hr]; · iexact Hr
    isplitl [H]; · iexact H
    isplitl [X4]; · iexact X4
    isplitl [P3]; · iexact P3
    isplitl [R3]; · iexact R3
    isplitl [QQ]; · iexact QQ
    isplitl [A]; · iexact A
    isplitl [O0]; · iexact O0
    iexact G
  iintro ⟨Hr, H, X4, PC, R, O0⟩
  try dsimp only
  iapply (Entails.of_eq (wp_bind _ _ _ _ _ _).symm)
  iapply (part58 m K c) $$ [Hr O1]
  · isplitr; · iexact HR
    isplitl [Hr]; · iexact Hr
    iexact O1
  iintro %_ ⟨Hr, G0, G1, O1⟩
  try dsimp only
  iapply (Entails.of_eq (wp_bind _ _ _ _ _ _).symm)
  iapply (part59 m K c) $$ [Hr G1 O2]
  · isplitr; · iexact HR
    isplitl [Hr]; · iexact Hr
    isplitl [G1]; · iexact G1
    iexact O2
  iintro %_ ⟨Hr, G1, G2, O2⟩
  try dsimp only
  unfold PostS
  icases W with ⟨D0, D1, W2, W3⟩
  iapply (Entails.of_eq (wp_bind _ _ _ _ _ _).symm)
  iapply (part60 m K c) $$ [Hr G2 O3 PC W2 W3 LA LM]
  · isplitr; · iexact HR
    isplitl [Hr]; · iexact Hr
    isplitl [G2]; · iexact G2
    isplitl [O3]; · iexact O3
    isplitl [PC]; · iexact PC
    isplitl [W2 W3]
    · isplitl [W2]; · iexact W2
      iexact W3
    isplitl [LA]; · iexact LA
    iexact LM
  iintro %_ ⟨Hr, G2, O3, P, W2, W3⟩
  try dsimp only
  iapply (Entails.of_eq (wp_bind _ _ _ _ _ _).symm)
  iapply (part61 m K c) $$ [Hr ]
  · isplitr; · iexact HR
    isplitl [Hr]; · iexact Hr
    iempintro
  iintro %_ ⟨Hr, Y0, Y1⟩
  try dsimp only
  simp only [Prog.lift, Prog.bind_op, Prog.bind_ret, Prog.pure_eq_ret]
  ihave Hr := (Entails.of_eq (congrArg (Run (F := F) c) (show seg62 c ++ [] = [Ev.wait (.ags 2)] from rfl))) $$ Hr
  iapply (run_wait m K c (.ags 2) rfl rfl) $$ [Hr]
  · isplitr; · iexact HR
    iexact Hr
  iintro ⟨Hr, Y2⟩
  ihave Y2 := (Entails.of_eq (show pay m c (.ags 2) = iprop((c : Thread nD τ).loc cc0_scratch7 ↦[Finset.univ]{Ring.shares3 fullShare 2} AO m c) from rfl)) $$ Y2
  ihave Y := (Ring.pointsTo_thirds (ℓ := (c : Thread nD τ).loc cc0_scratch7) fullShare (AO m c)).2 $$ [Y0 Y1 Y2]
  · isplitl [Y0]; · iexact Y0
    isplitl [Y1]; · iexact Y1
    iexact Y2
  iapply (le_wp_ret _ _)
  unfold BPost HS
  icases H with ⟨Hk, Hv, CT⟩
  isplitl [Hr]; · iexact Hr
  isplitl [O0 O1 O2 O3]
  · iapply (out_whole m c)
    isplitl [O0]; · iexact O0
    isplitl [O1]; · iexact O1
    isplitl [O2]; · iexact O2
    iexact O3
  isplitl [X]; · iexact X
  isplitl [X4]; · iexact X4
  isplitl [D0 D1]
  · isplitl [D0]; · iexact D0
    iexact D1
  isplitl [Hk]
  · iapply (Entails.of_eq (congrArg (own (F := F) cc0_scratch0 c) kb_univ))
    iapply (own_of c cc0_scratch0 (KB m c))
    iapply (Entails.of_eq (bfPt_K m c (kbx 0 0 1152 1024))); iexact Hk
  isplitl [Hv]
  · iapply (Entails.of_eq (congrArg (own (F := F) cc0_scratch1 c) kb_univ))
    iapply (own_of c cc0_scratch1 (VB m c))
    iapply (Entails.of_eq (bfPt_V m c (kbx 0 0 1152 1024))); iexact Hv
  isplitl [W2]; · iapply (Entails.of_eq (stOwn_K c (ST c))); iexact W2
  isplitl [W3]; · iapply (Entails.of_eq (stOwn_V c (ST c))); iexact W3
  isplitl [CT]; · iapply (ctx_end m c 32); iexact CT
  isplitl [P]; · iexact P
  isplitl [R]; · iexact R
  isplitl [Y]; · iapply (own_of c cc0_scratch7 (AO m c)); iexact Y
  iapply (gb_join c)
  isplitl [G0]; · iapply (own_of c cc0_scratch8 (AGB m c)); iexact G0
  isplitl [G1]; · iapply (own_of c cc0_scratch8 (AGB m c)); iexact G1
  iapply (own_of c cc0_scratch8 (AGB m c)); iexact G2

end Cert.KernelIdeal.Run
-- ==== Proof.Rooms.lean ====
/- What each device lends the others at the start, and how its buffers are cut for that and joined again. -/
module

public import proofs.«01_k».proof.Proof.Body

@[expose] public section

set_option maxRecDepth 16384
set_option maxHeartbeats 1000000

noncomputable section

namespace Cert.KernelIdeal.Run

open Cert.KernelIdeal Cert.KernelIdeal.Gen
open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : Mem (F := F)) (c : Dev nD)

/-- A part of a buffer can be seen as its empty part and itself. -/
theorem own_none (b : Ref sig .tc) (S : Finset (Idx ((c : Thread nD τ).loc b))) : own (F := F) b c S ⊢ iprop(own b c ∅ ∗ own b c S) := by
  iintro H
  ihave H := (own_split c b (Finset.empty_subset S)) $$ H
  icases H with ⟨H0, H⟩
  isplitl [H0]; · iexact H0
  iapply (Entails.of_eq (congrArg (own (F := F) b c) Finset.sdiff_empty))
  iexact H

/-- The buffers that other devices write. -/
def Rooms : sProp 𝕄 := iprop(own cc0_scratch0 c Finset.univ ∗ own cc0_scratch1 c Finset.univ ∗ own cc0_scratch6 c Finset.univ ∗ own cc0_scratch8 c Finset.univ)
/-- What a device lends the three others, and what of these buffers it writes itself. -/
def Lent : sProp 𝕄 := iprop((barPay (dv (c.val + 1)) 1 ∗ barPay (dv (c.val + 2)) 2 ∗ barPay (dv (c.val + 3)) 3)
  ∗ (own cc0_scratch0 c (LB c) ∗ own cc0_scratch1 c (LB c)) ∗ own cc0_scratch6 c (rbx c.val))

/-- What device 0 lends at the barrier, spelled out. -/
theorem Lent_0 : Lent (F := F) 0 = iprop((((own cc0_scratch0 0 (kbx 1024 0 128 1024) ∗ own cc0_scratch1 0 (kbx 1024 0 128 1024)) ∗ own cc0_scratch6 0 (rbx 1) ∗ own cc0_scratch8 0 (gbx 0)) ∗ (emp ∗ own cc0_scratch6 0 (rbx 2) ∗ own cc0_scratch8 0 (gbx 1)) ∗ (emp ∗ own cc0_scratch6 0 (rbx 3) ∗ own cc0_scratch8 0 (gbx 2))) ∗ (own cc0_scratch0 0 (kbx 0 0 1024 1024) ∗ own cc0_scratch1 0 (kbx 0 0 1024 1024)) ∗ own cc0_scratch6 0 (rbx 0)) := rfl
/-- Device 0: its buffers, cut for the others. -/
theorem lend_0 : Rooms (F := F) 0 ⊢ Lent 0 := by
  rw [Lent_0]
  unfold Rooms
  iintro ⟨K, V, R, G⟩
  ihave K := (kbK_cut 0) $$ K
  icases K with ⟨KT, KB⟩
  ihave V := (kbV_cut 0) $$ V
  icases V with ⟨VT, VB⟩
  ihave R := (rb_cut 0) $$ R
  icases R with ⟨R0, R1, R2, R3⟩
  ihave G := (gb_cut 0) $$ G
  icases G with ⟨G0, G1, G2⟩
  isplitl [KB VB R1 G0 R2 G1 R3 G2]
  · isplitl [KB VB R1 G0]
    · isplitl [KB VB]
      · isplitl [KB]; · iexact KB
        iexact VB
      isplitl [R1]; · iexact R1
      iexact G0
    isplitl [R2 G1]
    · isplitr; · iempintro
      isplitl [R2]; · iexact R2
      iexact G1
    · isplitr; · iempintro
      isplitl [R3]; · iexact R3
      iexact G2
  isplitl [KT VT]
  · isplitl [KT]; · iexact KT
    iexact VT
  iexact R0

/-- What device 1 lends at the barrier, spelled out. -/
theorem Lent_1 : Lent (F := F) 1 = iprop(((emp ∗ own cc0_scratch6 1 (rbx 2) ∗ own cc0_scratch8 1 (gbx 0)) ∗ (emp ∗ own cc0_scratch6 1 (rbx 3) ∗ own cc0_scratch8 1 (gbx 1)) ∗ ((own cc0_scratch0 1 (kbx 0 0 1024 1024) ∗ own cc0_scratch1 1 (kbx 0 0 1024 1024)) ∗ own cc0_scratch6 1 (rbx 0) ∗ own cc0_scratch8 1 (gbx 2))) ∗ (own cc0_scratch0 1 (kbx 1024 0 128 1024) ∗ own cc0_scratch1 1 (kbx 1024 0 128 1024)) ∗ own cc0_scratch6 1 (rbx 1)) := rfl
/-- Device 1: its buffers, cut for the others. -/
theorem lend_1 : Rooms (F := F) 1 ⊢ Lent 1 := by
  rw [Lent_1]
  unfold Rooms
  iintro ⟨K, V, R, G⟩
  ihave K := (kbK_cut 1) $$ K
  icases K with ⟨KT, KB⟩
  ihave V := (kbV_cut 1) $$ V
  icases V with ⟨VT, VB⟩
  ihave R := (rb_cut 1) $$ R
  icases R with ⟨R0, R1, R2, R3⟩
  ihave G := (gb_cut 1) $$ G
  icases G with ⟨G0, G1, G2⟩
  isplitl [R2 G0 R3 G1 KT VT R0 G2]
  · isplitl [R2 G0]
    · isplitr; · iempintro
      isplitl [R2]; · iexact R2
      iexact G0
    isplitl [R3 G1]
    · isplitr; · iempintro
      isplitl [R3]; · iexact R3
      iexact G1
    · isplitl [KT VT]
      · isplitl [KT]; · iexact KT
        iexact VT
      isplitl [R0]; · iexact R0
      iexact G2
  isplitl [KB VB]
  · isplitl [KB]; · iexact KB
    iexact VB
  iexact R1

/-- What device 2 lends at the barrier, spelled out. -/
theorem Lent_2 : Lent (F := F) 2 = iprop(((emp ∗ own cc0_scratch6 2 (rbx 3) ∗ own cc0_scratch8 2 (gbx 0)) ∗ ((own cc0_scratch0 2 (kbx 0 0 1024 1024) ∗ own cc0_scratch1 2 (kbx 0 0 1024 1024)) ∗ own cc0_scratch6 2 (rbx 0) ∗ own cc0_scratch8 2 (gbx 1)) ∗ ((own cc0_scratch0 2 (kbx 1024 0 128 1024) ∗ own cc0_scratch1 2 (kbx 1024 0 128 1024)) ∗ own cc0_scratch6 2 (rbx 1) ∗ own cc0_scratch8 2 (gbx 2))) ∗ (own cc0_scratch0 2 (∅) ∗ own cc0_scratch1 2 (∅)) ∗ own cc0_scratch6 2 (rbx 2)) := rfl
/-- Device 2: its buffers, cut for the others. -/
theorem lend_2 : Rooms (F := F) 2 ⊢ Lent 2 := by
  rw [Lent_2]
  unfold Rooms
  iintro ⟨K, V, R, G⟩
  ihave K := (kbK_cut 2) $$ K
  icases K with ⟨KT, KB⟩
  ihave V := (kbV_cut 2) $$ V
  icases V with ⟨VT, VB⟩
  ihave R := (rb_cut 2) $$ R
  icases R with ⟨R0, R1, R2, R3⟩
  ihave G := (gb_cut 2) $$ G
  icases G with ⟨G0, G1, G2⟩
  ihave KT := (own_none 2 cc0_scratch0 _) $$ KT
  icases KT with ⟨KE, KT⟩
  ihave VT := (own_none 2 cc0_scratch1 _) $$ VT
  icases VT with ⟨VE, VT⟩
  isplitl [R3 G0 KT VT R0 G1 KB VB R1 G2]
  · isplitl [R3 G0]
    · isplitr; · iempintro
      isplitl [R3]; · iexact R3
      iexact G0
    isplitl [KT VT R0 G1]
    · isplitl [KT VT]
      · isplitl [KT]; · iexact KT
        iexact VT
      isplitl [R0]; · iexact R0
      iexact G1
    · isplitl [KB VB]
      · isplitl [KB]; · iexact KB
        iexact VB
      isplitl [R1]; · iexact R1
      iexact G2
  isplitl [KE VE]
  · isplitl [KE]; · iexact KE
    iexact VE
  iexact R2

/-- What device 3 lends at the barrier, spelled out. -/
theorem Lent_3 : Lent (F := F) 3 = iprop((((own cc0_scratch0 3 (kbx 0 0 1024 1024) ∗ own cc0_scratch1 3 (kbx 0 0 1024 1024)) ∗ own cc0_scratch6 3 (rbx 0) ∗ own cc0_scratch8 3 (gbx 0)) ∗ ((own cc0_scratch0 3 (kbx 1024 0 128 1024) ∗ own cc0_scratch1 3 (kbx 1024 0 128 1024)) ∗ own cc0_scratch6 3 (rbx 1) ∗ own cc0_scratch8 3 (gbx 1)) ∗ (emp ∗ own cc0_scratch6 3 (rbx 2) ∗ own cc0_scratch8 3 (gbx 2))) ∗ (own cc0_scratch0 3 (∅) ∗ own cc0_scratch1 3 (∅)) ∗ own cc0_scratch6 3 (rbx 3)) := rfl
/-- Device 3: its buffers, cut for the others. -/
theorem lend_3 : Rooms (F := F) 3 ⊢ Lent 3 := by
  rw [Lent_3]
  unfold Rooms
  iintro ⟨K, V, R, G⟩
  ihave K := (kbK_cut 3) $$ K
  icases K with ⟨KT, KB⟩
  ihave V := (kbV_cut 3) $$ V
  icases V with ⟨VT, VB⟩
  ihave R := (rb_cut 3) $$ R
  icases R with ⟨R0, R1, R2, R3⟩
  ihave G := (gb_cut 3) $$ G
  icases G with ⟨G0, G1, G2⟩
  ihave KT := (own_none 3 cc0_scratch0 _) $$ KT
  icases KT with ⟨KE, KT⟩
  ihave VT := (own_none 3 cc0_scratch1 _) $$ VT
  icases VT with ⟨VE, VT⟩
  isplitl [KT VT R0 G0 KB VB R1 G1 R2 G2]
  · isplitl [KT VT R0 G0]
    · isplitl [KT VT]
      · isplitl [KT]; · iexact KT
        iexact VT
      isplitl [R0]; · iexact R0
      iexact G0
    isplitl [KB VB R1 G1]
    · isplitl [KB VB]
      · isplitl [KB]; · iexact KB
        iexact VB
      isplitl [R1]; · iexact R1
      iexact G1
    · isplitr; · iempintro
      isplitl [R2]; · iexact R2
      iexact G2
  isplitl [KE VE]
  · isplitl [KE]; · iexact KE
    iexact VE
  iexact R3

/-- The same for every device. -/
theorem lend : Rooms (F := F) c ⊢ Lent c := by
  rcases dev4 c with rfl | rfl | rfl | rfl
  exacts [lend_0, lend_1, lend_2, lend_3]

/-- A device's scratch buffers, whole. -/
def Scr : sProp 𝕄 :=
  iprop(own cc0_scratch0 c Finset.univ ∗ own cc0_scratch1 c Finset.univ ∗ own cc0_scratch2 c Finset.univ ∗ own cc0_scratch3 c Finset.univ
    ∗ own cc0_scratch4 c Finset.univ ∗ own cc0_scratch5 c Finset.univ ∗ own cc0_scratch6 c Finset.univ ∗ own cc0_scratch7 c Finset.univ ∗ own cc0_scratch8 c Finset.univ)
/-- Its codes in main memory, whole. -/
def Hb : sProp 𝕄 := iprop(hbPt m 0 c Finset.univ ∗ hbPt m 1 c Finset.univ)
/-- What a device keeps aside: the rows of codes nobody reads, and their room. -/
def Aside : sProp 𝕄 :=
  iprop((hbPt m 0 c (Finset.univ \ ST c) ∗ hbPt m 1 c (Finset.univ \ ST c)) ∗ own cc0_scratch2 c (Finset.univ \ ST c) ∗ own cc0_scratch3 c (Finset.univ \ ST c))
/-- The four staged windows, the result's at any contents. -/
def Win : sProp 𝕄 := iprop(XW m c ∗ ((c : Thread nD τ).loc cc0_stg2_0 ↦[Finset.univ]{fullShare} WO m c) ∗ own cc0_stg3_0 c Finset.univ)
/-- The four staged windows at the end. -/
def WinOut : sProp 𝕄 := iprop(XW m c ∗ ((c : Thread nD τ).loc cc0_stg2_0 ↦[Finset.univ]{fullShare} WO m c) ∗ ((c : Thread nD τ).loc cc0_stg3_0 ↦[Finset.univ]{fullShare} OUT m c))

/-- A set of a code argument's elements, taken apart from the others. -/
theorem hb_cut (kv : Fin 2) (S : Finset S1024x4096.Idx) : hbPt m kv c Finset.univ ⊢ iprop(hbPt m kv c S ∗ hbPt m kv c (Finset.univ \ S)) := by
  fin_cases kv
  · show hbPt m 0 c _ ⊢ iprop(hbPt m 0 c _ ∗ hbPt m 0 c _)
    rw [hbPt_K, hbPt_K, hbPt_K]; exact (pointsTo_split_subset (Finset.subset_univ S)).1
  · show hbPt m 1 c _ ⊢ iprop(hbPt m 1 c _ ∗ hbPt m 1 c _)
    rw [hbPt_V, hbPt_V, hbPt_V]; exact (pointsTo_split_subset (Finset.subset_univ S)).1
/-- And put back. -/
theorem hb_join (kv : Fin 2) (S : Finset S1024x4096.Idx) : iprop(hbPt m kv c S ∗ hbPt m kv c (Finset.univ \ S)) ⊢ hbPt m kv c Finset.univ := by
  fin_cases kv
  · show iprop(hbPt m 0 c _ ∗ hbPt m 0 c _) ⊢ hbPt m 0 c _
    rw [hbPt_K, hbPt_K, hbPt_K]; exact (pointsTo_split_subset (Finset.subset_univ S)).2
  · show iprop(hbPt m 1 c _ ∗ hbPt m 1 c _) ⊢ hbPt m 1 c _
    rw [hbPt_V, hbPt_V, hbPt_V]; exact (pointsTo_split_subset (Finset.subset_univ S)).2

/-- A device's buffers at the start are what its kernel starts from, and what it keeps aside. -/
theorem enter : iprop(Scr c ∗ Hb m c ∗ Win m c) ⊢ iprop(BPre m c ∗ Aside m c) := by
  unfold Scr Hb Win
  iintro ⟨⟨S0, S1, S2, S3, S4, S5, S6, S7, S8⟩, ⟨HK, HV⟩, X, X4, O⟩
  ihave H := (lend (F := F) c) $$ [S0 S1 S6 S8]
  · unfold Rooms
    isplitl [S0]; · iexact S0
    isplitl [S1]; · iexact S1
    isplitl [S6]; · iexact S6
    iexact S8
  ihave H := (Entails.of_eq (show Lent (F := F) c = iprop((barPay (dv (c.val + 1)) 1 ∗ barPay (dv (c.val + 2)) 2 ∗ barPay (dv (c.val + 3)) 3)
    ∗ (own cc0_scratch0 c (LB c) ∗ own cc0_scratch1 c (LB c)) ∗ own cc0_scratch6 c (rbx c.val)) from by unfold Lent; exact _root_.rfl)) $$ H
  icases H with ⟨B, ⟨L0, L1⟩, R⟩
  ihave HK := (hb_cut m c 0 (ST c)) $$ HK
  icases HK with ⟨HK, HK'⟩
  ihave HV := (hb_cut m c 1 (ST c)) $$ HV
  icases HV with ⟨HV, HV'⟩
  ihave S2 := (own_split c cc0_scratch2 (Finset.subset_univ (ST c))) $$ S2
  icases S2 with ⟨S2, S2'⟩
  ihave S3 := (own_split c cc0_scratch3 (Finset.subset_univ (ST c))) $$ S3
  icases S3 with ⟨S3, S3'⟩
  unfold BPre PreS Aside
  rw [stOwn_K, stOwn_V, bfOwn_K, bfOwn_V]
  isplitl [B HK HV S2 S3 L0 L1 R S4 S5 S7 O X X4]
  · isplitl [B]; · iexact B
    isplitl [HK HV S2 S3 L0 L1]
    · isplitl [HK]; · iexact HK
      isplitl [HV]; · iexact HV
      isplitl [S2]; · iexact S2
      isplitl [S3]; · iexact S3
      isplitl [L0]; · iexact L0
      iexact L1
    isplitl [R]; · iexact R
    isplitl [S4]; · iexact S4
    isplitl [S5]; · iexact S5
    isplitl [S7]; · iexact S7
    isplitl [O]; · iexact O
    isplitl [X]; · iexact X
    iexact X4
  isplitl [HK' HV']
  · isplitl [HK']; · iexact HK'
    iexact HV'
  isplitl [S2']; · iexact S2'
  iexact S3'

/-- And at the end the other way. -/
theorem leave : iprop(BPost m c ∗ Aside m c) ⊢ iprop(Scr c ∗ Hb m c ∗ WinOut m c) := by
  unfold BPost Aside
  iintro ⟨⟨O, X, X4, ⟨HK, HV⟩, S0, S1, S2, S3, S4, S5, S6, S7, S8⟩, ⟨HK', HV'⟩, S2', S3'⟩
  unfold Scr Hb WinOut
  isplitl [S0 S1 S2 S3 S4 S5 S6 S7 S8 S2' S3']
  · isplitl [S0]; · iexact S0
    isplitl [S1]; · iexact S1
    isplitl [S2 S2']
    · iapply (own_join c cc0_scratch2 (Finset.subset_univ (ST c)))
      isplitl [S2]; · iexact S2
      iexact S2'
    isplitl [S3 S3']
    · iapply (own_join c cc0_scratch3 (Finset.subset_univ (ST c)))
      isplitl [S3]; · iexact S3
      iexact S3'
    isplitl [S4]; · iexact S4
    isplitl [S5]; · iexact S5
    isplitl [S6]; · iexact S6
    isplitl [S7]; · iexact S7
    iexact S8
  isplitl [HK HV HK' HV']
  · isplitl [HK HK']
    · iapply (hb_join m c 0 (ST c))
      isplitl [HK]; · iexact HK
      iexact HK'
    iapply (hb_join m c 1 (ST c))
    isplitl [HV]; · iexact HV
    iexact HV'
  isplitl [X]; · iexact X
  isplitl [X4]; · iexact X4
  iexact O

end Cert.KernelIdeal.Run

end
-- ==== Proof.Deal.lean ====
/- The launch: the cells, the tokens and the credits of the protocol, dealt to the devices. -/
module

public import proofs.«01_k».proof.Proof.Rooms

@[expose] public section

set_option maxRecDepth 16384
set_option maxHeartbeats 1000000

noncomputable section

namespace Cert.KernelIdeal.Run

open Cert.KernelIdeal Cert.KernelIdeal.Gen
open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : Mem (F := F))

/-! ## The cells -/

/-- The kernel's own semaphores. -/
def osem (k : CK) : SemLoc sig := .dma (semOf k)

/-- Different cells are different semaphores. -/
theorem semOf_injective : Function.Injective semOf := fun a b h => Option.some.inj ((ofSem_semOf a).symm.trans ((congrArg ofSem h).trans (ofSem_semOf b)))

/-- The kernel's own semaphores are listed once each. -/
theorem osem_injective : Function.Injective osem := fun a b h => semOf_injective (SemLoc.dma.inj h)

/-- They all belong to the kernel's scope. -/
theorem osem_scoped : ∀ k, (osem k).isScoped .tc = true := by decide +kernel
/-- None of them is a semaphore of the staging of the operands. -/
theorem osem_stage : ∀ k w s, osem k ≠ .dma ((spec0 w).sem s) := by decide +kernel

/-- What the launch asks of the kernel's own semaphores. -/
theorem ownSemFacts : Pipeline.OwnSemFacts cfg0.spec osem := ⟨osem_scoped, osem_injective, osem_stage⟩

/-- Different cells of different devices are different semaphores. -/
theorem kcell_injective : Function.Injective (kcell : Dev nD × Option CK → GSem nD τ sig) := by
  rintro ⟨c, k⟩ ⟨c', k'⟩ h
  have h1 : c = c' := by
    cases k <;> cases k' <;> exact congrArg (fun g : GSem nD τ sig => g.1.1) h
  subst h1
  cases k with
  | none => cases k' with
    | none => rfl
    | some k' => exact absurd (congrArg Prod.snd h) (fun h' => by cases h')
  | some k => cases k' with
    | none => exact absurd (congrArg Prod.snd h) (fun h' => by cases h')
    | some k' => exact congrArg (fun k => (c, some k)) (osem_injective (congrArg Prod.snd h))

/-- All the semaphores the protocol runs on. -/
def ringCells : Finset (GSem nD τ sig) := Finset.univ.map ⟨kcell, kcell_injective⟩

/-! ## The tokens -/

/-- The right to contribute once to a cell: whose cell, which one, and as which of its contributors. -/
abbrev Key : Type := Dev nD × Option CK × Fin 4

/-- What device `c` contributes in the steps `l`. -/
def keys (c : Dev nD) : List Ev → List Key
  | [] => []
  | .bar d :: l => (dv (c.val + d.val), none, d) :: keys c l
  | .copy k :: l => (c, some k, 0) :: keys c l
  | .send n kR kS :: l => (c, some kS, 0) :: (n, some kR, 0) :: keys c l
  | .wbar :: l => keys c l
  | .wait _ :: l => keys c l

/-- What all four devices contribute in all their steps. -/
def allKeys : List Key := keys 0 (evs 0) ++ (keys 1 (evs 1) ++ (keys 2 (evs 2) ++ keys 3 (evs 3)))

/-- No two steps of any devices use the same right. -/
theorem allKeys_nodup : allKeys.Nodup := by decide +kernel

/-- The token of a contribution. -/
abbrev tokOf (x : Key) : GSem nD τ sig × ℕ × Fin 4 := (kcell (x.1, x.2.1), 0, x.2.2)
/-- Different contributions have different tokens. -/
theorem tokOf_injective : Function.Injective tokOf := by
  rintro ⟨c, k, d⟩ ⟨c', k', d'⟩ h
  have h1 := kcell_injective (congrArg Prod.fst h)
  have h2 : d = d' := congrArg (fun x : GSem nD τ sig × ℕ × Fin 4 => x.2.2) h
  cases h1; subst h2; rfl

/-- The tokens of all contributions. -/
def ringToks : Finset (GSem nD τ sig × ℕ × Fin 4) := allKeys.toFinset.map ⟨tokOf, tokOf_injective⟩

/-- The right to one contribution. -/
def keyTok (x : Key) : sProp 𝕄 := dutyTok ER (kcell (x.1, x.2.1)) 0 x.2.2

/-- The tokens of a list are the first one's and the others'. -/
theorem keyTok_cons (x : Key) (l : List Key) (h : (x :: l).Nodup) :
    bigSep (x :: l).toFinset (keyTok (F := F)) = iprop(keyTok x ∗ bigSep l.toFinset keyTok) := by
  rw [List.toFinset_cons]
  exact BI.bigSep_insert fun h' => (List.nodup_cons.mp h).1 (List.mem_toFinset.mp h')

/-- The tokens of two lists are those of the one and those of the other. -/
theorem keyTok_append (l l' : List Key) (h : (l ++ l').Nodup) :
    bigSep (l ++ l').toFinset (keyTok (F := F)) = iprop(bigSep l.toFinset keyTok ∗ bigSep l'.toFinset keyTok) := by
  rw [List.toFinset_append]
  exact BI.bigSep_union (List.disjoint_toFinset_iff_disjoint.mpr (List.disjoint_of_nodup_append h))

/-- The rights of the steps `l` are the tokens a device runs them with. -/
theorem toks_of (c : Dev nD) : ∀ l : List Ev, (keys c l).Nodup → bigSep (keys c l).toFinset (keyTok (F := F)) ⊢ toks c l
  | [], _ => by iintro -; unfold toks; iempintro
  | .bar d :: l, h => by
    refine (Entails.of_eq (keyTok_cons _ _ h)).trans ?_
    exact BI.sep_mono (show keyTok (dv (c.val + d.val), none, d) ⊢ tok c (.bar d) from by unfold keyTok tok; exact BI.Entails.refl _) (toks_of c l (List.nodup_cons.mp h).2)
  | .copy k :: l, h => by
    refine (Entails.of_eq (keyTok_cons _ _ h)).trans ?_
    exact BI.sep_mono (show keyTok (c, some k, 0) ⊢ tok c (.copy k) from by unfold keyTok tok; exact BI.Entails.refl _) (toks_of c l (List.nodup_cons.mp h).2)
  | .send n kR kS :: l, h => by
    have h' := (List.nodup_cons.mp h).2
    refine (Entails.of_eq (keyTok_cons _ _ h)).trans ((BI.sep_mono (BI.Entails.refl _) ((Entails.of_eq (keyTok_cons _ _ h')).trans
      (BI.sep_mono (BI.Entails.refl _) (toks_of c l (List.nodup_cons.mp h').2)))).trans ?_)
    show iprop(keyTok (c, some kS, 0) ∗ keyTok (n, some kR, 0) ∗ toks c l) ⊢ iprop((dutyTok ER (cell c kS) 0 0 ∗ dutyTok ER (cell n kR) 0 0) ∗ toks c l)
    unfold keyTok
    iintro ⟨H1, H2, H3⟩
    isplitl [H1 H2]
    · isplitl [H1]; · iexact H1
      iexact H2
    iexact H3
  | .wbar :: l, h => by
    show _ ⊢ iprop(emp ∗ toks c l)
    iintro H
    isplitr; · iempintro
    iapply (toks_of c l h); iexact H
  | .wait _ :: l, h => by
    show _ ⊢ iprop(emp ∗ toks c l)
    iintro H
    isplitr; · iempintro
    iapply (toks_of c l h); iexact H

/-- Something of every device is something of each of the four. -/
theorem bigSep_dev (Φ : Dev nD → sProp 𝕄) : bigSep Finset.univ Φ = iprop(Φ 0 ∗ Φ 1 ∗ Φ 2 ∗ Φ 3) :=
  bigSep_univ_eq_bigSepL [0, 1, 2, 3] (by decide) (by decide) Φ

/-- All tokens, dealt to the devices that use them. -/
theorem toks_deal : bigSep ringToks (fun x => (dutyTok ER x.1 x.2.1 x.2.2 : sProp 𝕄)) ⊢ bigSep Finset.univ fun c : Dev nD => toks c (evs c) := by
  have h0 := allKeys_nodup
  have n0 := List.Nodup.of_append_left h0
  have h1 := List.Nodup.of_append_right h0
  have n1 := List.Nodup.of_append_left h1
  have h2 := List.Nodup.of_append_right h1
  have n2 := List.Nodup.of_append_left h2
  have n3 := List.Nodup.of_append_right h2
  unfold ringToks
  rw [bigSep_map, bigSep_dev]
  show bigSep allKeys.toFinset (keyTok (F := F)) ⊢ _
  unfold allKeys
  rw [keyTok_append _ _ h0, keyTok_append _ _ h1, keyTok_append _ _ h2]
  exact BI.sep_mono (toks_of 0 _ n0) (BI.sep_mono (toks_of 1 _ n1) (BI.sep_mono (toks_of 2 _ n2) (toks_of 3 _ n3)))

/-! ## What the launch deals -/

/-- The bookkeeping at the launch: of the staging and of the rounds. -/
def u₀ : UU := (initOf (Pipeline.cells cfgs cellOf_inj) (Pipeline.launchToks cfgs cellOf_inj), initOf ringCells ringToks)

/-- What device `c` is dealt: the state of its cells, its place at each, and its tokens. -/
def G (c : Dev nD) : sProp 𝕄 :=
  iprop((bigSep Finset.univ fun k : Option CK => roundState ER (rd m) (kcell (c, k)) 0)
    ∗ (bigSep Finset.univ fun k : Option CK => iprop(atPos ER (kcell (c, k)) 0 ∅ 0 ∗ reached ER (kcell (c, k)) 0)) ∗ toks c (evs c))

/-- What the devices make of it together: every cell known to all. -/
def G' (c : Dev nD) : sProp 𝕄 :=
  iprop(∃ K : Dev nD × Option CK → ℕ, (bigSep Finset.univ fun ck => iprop(cellInv ER (rd m) (K ck) (kcell ck) ∗ reached ER (kcell ck) 0))
    ∗ (bigSep Finset.univ fun k : Option CK => atPos ER (kcell (c, k)) 0 ∅ 0) ∗ toks c (evs c))

/-- The round bookkeeping, allocated and dealt out to the devices. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Option CK => Φ (kcell (c, k)) := by
    unfold ringCells; rw [bigSep_map, bigSep_univ_prod]; rfl
  iintro HX
  imod (Rounds.fund ER (rd m) ringCells ringToks) $$ HX with ⟨Hst, Hr, Hat, Htok⟩
  imodintro
  ihave Hst := (Entails.of_eq (hX fun g => roundState ER (rd m) g 0)) $$ Hst
  ihave Hat := (Entails.of_eq (hX fun g => atPos ER g 0 ∅ 0)) $$ Hat
  ihave Hr := (Entails.of_eq (hX fun g => reached ER g 0)) $$ Hr
  ihave Htok := (toks_deal (F := F)) $$ Htok
  unfold G; simp only [bigSep_sep']
  isplitl [Hst]; · iexact Hst
  isplitl [Hat Hr]
  · isplitl [Hat] <;> iassumption
  iexact Htok

/-- Something of every cell is that of the barrier and that of every other cell. -/
theorem bigSep_option (Φ : Option CK → sProp 𝕄) : bigSep Finset.univ Φ = iprop(Φ none ∗ bigSep Finset.univ fun k : CK => Φ (some k)) := by
  rw [bigSep_univ_at Φ none]
  have h : (Finset.univ.erase none : Finset (Option CK)) = Finset.univ.map ⟨some, Option.some_injective CK⟩ := by
    ext x; cases x <;> simp
  rw [h, bigSep_map]; rfl

/-- The one semaphore that outlives the kernel is the barrier's. -/
theorem unscopedSems0_eq (c : Dev nD) : (unscopedSems0 c : sProp 𝕄) = semVal (bcell c) 0 := by
  unfold unscopedSems0; rw [bigSep_eq_bigSepL_of_eq [SemLoc.reg barS] (by decide +kernel) (by decide)]; rfl

/-- The kernel's own semaphores on device `c`, at zero. -/
abbrev oSems (c : Dev nD) : sProp 𝕄 := Pipeline.ownSems0 (Ix := Unit) (Name := ℕ) (U := UU) (Lvl := ℕ) (Val := Elt F) (τ := τ) osem c

/-- All semaphores of a device at zero, cell by cell. -/
theorem sems0_eq (c : Dev nD) : iprop(oSems c ∗ unscopedSems0 c) ⊢ (bigSep Finset.univ fun k : Option CK => semVal (kcell (c, k)) 0 : sProp 𝕄) := by
  rw [unscopedSems0_eq, bigSep_option]
  iintro ⟨H, HB⟩
  isplitl [HB]; · iexact HB
  ihave H := (Entails.of_eq (show oSems (F := F) c = (bigSep Finset.univ fun k : CK => semVal (kcell (c, some k)) 0 : sProp 𝕄) from rfl)) $$ H
  iexact H

/-- The invariants of one device's cells, set up from its semaphores and its share of the bookkeeping. -/
theorem core_alloc (c : Dev nD) : iprop(oSems c ∗ unscopedSems0 c ∗ G m c)
    ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c (evs c)) := by
  unfold G
  iintro ⟨Hos, Hus, Hst, Hat, Htok⟩
  ihave Hv := (sems0_eq (F := F) c) $$ [Hos Hus]
  · isplitl [Hos] <;> iassumption
  imod (show iprop((bigSep Finset.univ fun k : Option CK => semVal (kcell (c, k)) 0) ∗ bigSep Finset.univ fun k : Option CK => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Shared knowledge may be used for each member of a family. -/
theorem with_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (BI.sep_mono (BI.bigSep_of_persistent S R) (BI.Entails.refl _)).trans
    (show iprop((bigSep S fun _ => R) ∗ bigSep S Φ) ⊢ bigSep S Ψ from by rw [← bigSep_sep']; exact bigSep_mono h)

/-- What was set up device by device, with the invariants of all cells known to every device. -/
theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c (evs c)) : sProp 𝕄)
      ⊢ bigSep Finset.univ (G' m) := by
  rw [bigSep_sep', bigSep_sep', ← bigSep_univ_prod (fun ck : Dev nD × Option CK => iprop(∃ κ : ℕ, cellInv ER (rd m) κ (kcell ck))),
    bigSep_congr (s := Finset.univ) (fun (c : Dev nD) _ => bigSep_sep' Finset.univ (fun k : Option CK => (atPos ER (kcell (c, k)) 0 ∅ 0 : sProp 𝕄)) (fun k => reached ER (kcell (c, k)) 0)),
    bigSep_sep', ← bigSep_univ_prod (fun ck : Dev nD × Option CK => (reached ER (kcell ck) 0 : sProp 𝕄))]
  iintro ⟨HI, ⟨Hat, #HR⟩, Htok⟩
  ihave HK := (BI.bigSep_exists_pi Finset.univ (fun (ck : Dev nD × Option CK) (κ : ℕ) => (cellInv ER (rd m) κ (kcell ck) : sProp 𝕄))) $$ HI
  icases HK with ⟨%K, #HI⟩
  iapply (with_all (R := iprop(bigSep Finset.univ fun ck => iprop(cellInv ER (rd m) (K ck) (kcell ck) ∗ reached ER (kcell ck) 0)))
    (Φ := fun c : Dev nD => iprop((bigSep Finset.univ fun k : Option CK => (atPos ER (kcell (c, k)) 0 ∅ 0 : sProp 𝕄)) ∗ toks c (evs c)))
    fun c _ => show _ ⊢ G' m c from by
      unfold G'; iintro ⟨#H, Ht⟩; iexists K; isplitr; · iexact H
      iexact Ht)
  isplitr
  · iapply (Entails.of_eq (bigSep_sep' Finset.univ (fun ck : Dev nD × Option CK => (cellInv ER (rd m) (K ck) (kcell ck) : sProp 𝕄)) (fun ck => reached ER (kcell ck) 0)).symm)
    isplitr; · iexact HI
    iexact HR
  · iapply (Entails.of_eq (bigSep_sep' Finset.univ (fun c : Dev nD => bigSep Finset.univ fun k : Option CK => (atPos ER (kcell (c, k)) 0 ∅ 0 : sProp 𝕄)) (fun c => toks c (evs c))).symm)
    isplitl [Hat]; · iexact Hat
    iexact Htok

/-- The cells of all devices, opened to all. -/
theorem glob : (bigSep Finset.univ fun c => iprop(oSems c ∗ unscopedSems0 c ∗ G m c) : sProp 𝕄) ⊢ |={Set.univ}=> bigSep Finset.univ (G' m) :=
  ((bigSep_mono fun c _ => core_alloc m c).trans (bigSep_fupd _ _)).trans (BI.fupd_mono (regroup m))

/-! ## The credits -/

/-- How often the steps `l` of device `d` signal the barrier of device `n`. -/
def cntBar (d n : Dev nD) : List Ev → ℕ
  | [] => 0
  | .bar e :: l => cntBar d n l + (if dv (d.val + e.val) = n then 1 else 0)
  | _ :: l => cntBar d n l
/-- How often they send to its cell `k`. -/
def cnt (n : Dev nD) (k : CK) : List Ev → ℕ
  | [] => 0
  | .send n' kR _ :: l => cnt n k l + (if n' = n ∧ kR = k then 1 else 0)
  | _ :: l => cnt n k l

/-- Barrier cells are equal only on equal devices. -/
theorem bcell_iff {a b : Dev nD} : bcell a = bcell b ↔ a = b := ⟨fun h => by cases kcell_injective (a₁ := (a, none)) (a₂ := (b, none)) h; rfl, fun h => h ▸ rfl⟩
/-- Cells are equal only on equal devices and of equal names. -/
theorem cell_iff {a b : Dev nD} {k l : CK} : cell a k = cell b l ↔ a = b ∧ k = l :=
  ⟨fun h => by cases kcell_injective (a₁ := (a, some k)) (a₂ := (b, some l)) h; exact ⟨rfl, rfl⟩, fun h => by rw [h.1, h.2]⟩
/-- A barrier cell is no other cell. -/
theorem bcell_ne (a b : Dev nD) (k : CK) : bcell a ≠ cell b k := fun h => by
  have := kcell_injective (a₁ := (a, none)) (a₂ := (b, some k)) h; cases this

/-- What a list of steps owes a barrier cell: one for each signal to it. -/
theorem tal_bar (d n : Dev nD) : ∀ l, tal d l (bcell n) () = cntBar d n l
  | [] => rfl
  | .bar e :: l => by
    show (tal d l + tallyAt (bcell (dv (d.val + e.val))) () 1) (bcell n) () = cntBar d n l + _
    rw [Pi.add_apply, Finsupp.add_apply, tal_bar d n l, tallyAt_apply]
    congr 1
    by_cases h : dv (d.val + e.val) = n
    · rw [if_pos h, if_pos ⟨bcell_iff.mpr h.symm, rfl⟩]
    · rw [if_neg h, if_neg fun h' => h (bcell_iff.mp h'.1).symm]
  | .send n' kR _ :: l => by
    show (tal d l + tallyAt (cell n' kR) () (amt n' kR)) (bcell n) () = cntBar d n l
    rw [Pi.add_apply, Finsupp.add_apply, tal_bar d n l, tallyAt_ne_cell (bcell_ne _ _ _), Finsupp.zero_apply, Nat.add_zero]
  | .wbar :: l => tal_bar d n l
  | .copy _ :: l => tal_bar d n l
  | .wait _ :: l => tal_bar d n l

/-- What a list of steps owes a cell: the size of its transfer for each send to it. -/
theorem tal_cell (d n : Dev nD) (k : CK) : ∀ l, tal d l (cell n k) () = cnt n k l * amt n k
  | [] => (Nat.zero_mul _).symm
  | .bar e :: l => by
    show (tal d l + tallyAt (bcell (dv (d.val + e.val))) () 1) (cell n k) () = cnt n k l * _
    rw [Pi.add_apply, Finsupp.add_apply, tal_cell d n k l, tallyAt_ne_cell (bcell_ne _ _ _).symm, Finsupp.zero_apply, Nat.add_zero]
  | .send n' kR _ :: l => by
    show (tal d l + tallyAt (cell n' kR) () (amt n' kR)) (cell n k) () = (cnt n k l + _) * _
    rw [Pi.add_apply, Finsupp.add_apply, tal_cell d n k l, tallyAt_apply, Nat.add_mul]
    congr 1
    by_cases h : n' = n ∧ kR = k
    · rw [if_pos h, if_pos ⟨cell_iff.mpr ⟨h.1.symm, h.2.symm⟩, rfl⟩, Nat.one_mul, h.1, h.2]
    · rw [if_neg h, if_neg fun h' => h ⟨(cell_iff.mp h'.1).1.symm, (cell_iff.mp h'.1).2.symm⟩, Nat.zero_mul]
  | .wbar :: l => tal_cell d n k l
  | .copy _ :: l => tal_cell d n k l
  | .wait _ :: l => tal_cell d n k l

/-- What each device owes the others at the start. -/
def O₀ (c : Dev nD) : CellTallies nD τ sig Unit := tal c (evs c)

/-- Three signals come to each barrier. -/
theorem cntBar_all : ∀ n : Dev nD, (∑ d : Dev nD, cntBar d n (evs d)) = 3 := by decide +kernel
/-- One send comes to each landing cell that a device waits for. -/
theorem cnt_all : ∀ (n : Dev nD) (k : CK), k ∈ wts (evs n) → k ∉ iss (evs n) → (∑ d : Dev nD, cnt n k (evs d)) = 1 := by decide +kernel
/-- A cell that a device never waits for is unused. -/
theorem unused_of : ∀ (n : Dev nD) (k : CK), k ∉ wts (evs n) → used n k = false := by decide +kernel
/-- Every device waits at its barrier. -/
theorem hasBar_evs : ∀ n : Dev nD, hasBar (evs n) = true := by decide +kernel
/-- Everything that is owed lies above level 0. -/
theorem above_evs : ∀ n : Dev nD, above 0 (evs n) = true := by decide +kernel

/-- The launch gives credit of three for each barrier. -/
theorem launch_bar (c : Dev nD) : tallyOn (bcell c) (launchCredit (Pipeline.owing O₀) 0 (bcell c)) = (tallyAt (bcell c) () 3 : CellTallies nD τ sig Unit) := by
  unfold tallyAt; refine congrArg _ (Finsupp.ext fun u => ?_); cases u
  rw [Pipeline.launchCredit_owing, Finsupp.single_eq_same, ← cntBar_all c]
  exact Finset.sum_congr rfl fun d _ => tal_bar d c _

/-- The launch gives each awaited landing cell the credit of its transfer. -/
theorem launch_cell (c : Dev nD) (k : CK) (hw : k ∈ wts (evs c)) (hi : k ∉ iss (evs c)) :
    tallyOn (cell c k) (launchCredit (Pipeline.owing O₀) 0 (cell c k)) = (tallyAt (cell c k) () (amt c k) : CellTallies nD τ sig Unit) := by
  unfold tallyAt; refine congrArg _ (Finsupp.ext fun u => ?_); cases u
  rw [Pipeline.launchCredit_owing, Finsupp.single_eq_same]
  refine (Finset.sum_congr rfl fun d _ => tal_cell d c k (evs d)).trans ?_
  rw [← Finset.sum_mul, cnt_all c k hw hi, Nat.one_mul]

/-- The credit device `c` may spend at its cell `k`. -/
def credOf (c : Dev nD) (k : CK) : sProp 𝕄 := cred (tallyOn (cell c k) (launchCredit (Pipeline.owing O₀) 0 (cell c k)))

/-- The launch's credits, cell by cell. -/
theorem creds (c : Dev nD) : (Pipeline.launchCred O₀ c : sProp 𝕄) ⊢ iprop(cred (tallyAt (bcell c) () 3) ∗ bigSep Finset.univ fun k : CK => credOf c k) := by
  unfold Pipeline.launchCred
  rw [bigSep_univ_at _ (SemLoc.reg barS), launch_bar]
  refine BI.sep_mono (BI.Entails.refl _) ?_
  have h : Finset.univ.map ⟨osem, osem_injective⟩ ⊆ (Finset.univ.erase (SemLoc.reg barS) : Finset (SemLoc sig)) := fun x hx => by
    obtain ⟨k, -, rfl⟩ := Finset.mem_map.mp hx
    exact Finset.mem_erase.mpr ⟨(show osem k ≠ SemLoc.reg barS from by unfold osem; exact fun h' => nomatch h'), Finset.mem_univ _⟩
  refine BI.Entails.trans (BI.bigSep_subset h) ?_
  rw [bigSep_map]; exact BI.Entails.refl _

/-- A cell at the start: waiting for a transfer, or never used and closed at once. -/
theorem cell_start (K : Dev nD × Option CK → ℕ) (c : Dev nD) (k : CK) :
    iprop(Rec m K ∗ (atPos ER (cell c k) 0 ∅ 0 ∗ credOf c k)) ⊢ |={Set.univ}=> cellSt c (evs c) k := by
  iintro ⟨#HR, Hat, Hc⟩
  unfold cellSt
  by_cases hw : k ∈ wts (evs c)
  · rw [if_pos hw]
    by_cases hi : k ∈ iss (evs c)
    · rw [if_pos hi]
      imodintro
      isplitl [Hat]; · iexact Hat
      iempintro
    · rw [if_neg hi]
      ihave Hc := (show credOf (F := F) c k ⊢ cred (tallyAt (cell c k) () (amt c k)) from by unfold credOf; rw [launch_cell c k hw hi]) $$ Hc
      imodintro
      isplitl [Hat]; · iexact Hat
      iexact Hc
  · rw [if_neg hw]
    ihave HI := (Rec_at m K (c, some k)) $$ HR
    icases HI with ⟨#HI, -⟩
    imod (Rounds.cell_close ER (rd m) (Set.mem_univ (K (c, some k))) (fun h => h) (R := 0) (duties_unused m (unused_of c k hw))) $$ [Hat] with Hz
    · isplitr; · iexact HI
      iexact Hat
    imodintro
    iexact Hz

/-- All cells of a device at the start. -/
theorem cells_start (K : Dev nD × Option CK → ℕ) (c : Dev nD) :
    iprop(Rec m K ∗ (bigSep Finset.univ fun k : CK => atPos ER (cell c k) 0 ∅ 0) ∗ bigSep Finset.univ fun k : CK => credOf c k)
      ⊢ |={Set.univ}=> bigSep Finset.univ fun k : CK => cellSt c (evs c) k := by
  rw [← bigSep_sep']
  exact (with_all (R := Rec m K) fun k _ => cell_start m K c k).trans (bigSep_fupd _ _)

/-- What device `c`'s kernel starts from. -/
def start (c : Dev nD) : sProp 𝕄 := iprop((levAts L lv ∗ Pipeline.launchCred O₀ c ∗ G' m c) ∗ Hb m c)

/-- From it, the protocol about to run. -/
theorem run_start (c : Dev nD) (W : Waits sig Unit) :
    iprop((levAts L lv ∗ Pipeline.launchCred O₀ c ∗ G' m c) ∗ owes (c : Thread nD τ) (O₀ c) W)
      ⊢ |={Set.univ}=> iprop(∃ K, Rec m K ∗ Run c (evs c)) := by
  unfold G'
  iintro ⟨⟨#HL, Hc, ⟨%K, #HI, Hat, Ht⟩⟩, HO⟩
  ihave Hc := (creds (F := F) c) $$ Hc
  icases Hc with ⟨HcB, Hc⟩
  ihave Hat := (Entails.of_eq (bigSep_option (fun k : Option CK => (atPos ER (kcell (c, k)) 0 ∅ 0 : sProp 𝕄)))) $$ Hat
  icases Hat with ⟨HaB, Hat⟩
  ihave #HR := (show iprop((bigSep Finset.univ fun ck => iprop(cellInv ER (rd m) (K ck) (kcell ck) ∗ reached ER (kcell ck) 0)) ∗ levAts L lv) ⊢ Rec m K from by unfold Rec; exact BI.Entails.refl _) $$ [HL]
  · isplitr; · iexact HI
    iexact HL
  imod (cells_start m K c) $$ [Hat Hc] with Hs
  · isplitr; · iexact HR
    isplitl [Hat]; · iexact Hat
    iexact Hc
  imodintro
  iexists K
  isplitr; · iexact HR
  unfold Run
  isplitr; · ipureintro; exact good_evs c
  isplitl [HO]; · iexists W; iexact HO
  isplitl [Ht]; · iexact Ht
  isplitl [HaB HcB]
  · unfold barSt; rw [if_pos (hasBar_evs c)]
    isplitl [HaB]; · iexact HaB
    iexact HcB
  iexact Hs

end Cert.KernelIdeal.Run

end
-- ==== Proof.Run.lean ====
/- The run of all devices: every one ends with its result, its arguments as they were, and every semaphore at zero. -/
module

public import proofs.«01_k».proof.Proof.Deal
public import proofs.«01_k».proof.Proof.Gen.KernelIdeal.Frame
public import Idealize.ShloMosaic.Lib.Pipeline.CollectiveSegs

@[expose] public section

set_option maxRecDepth 16384
set_option maxHeartbeats 1000000

noncomputable section

namespace Cert.KernelIdeal.Run

open Cert.KernelIdeal Cert.KernelIdeal.Gen
open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : Mem (F := F)) (ρ : Dev nD → PrngReg)

/-- The one point of the kernel's grid. -/
def t₀ : Fin cfg0.N := ⟨0, by rw [show cfg0.N = 1 from N_0]; exact Nat.one_pos⟩
/-- The grid has one step. -/
theorem fin_N (t : Fin cfg0.N) : t = t₀ := by
  obtain ⟨t, ht⟩ := t
  have h : cfg0.N = 1 := N_0
  exact Fin.ext (by simp only [t₀]; omega)

/-- At the start: the shared knowledge, the codes, the scratch buffers. -/
def Φ₀ (c : Dev nD) : sProp 𝕄 := iprop(start m c ∗ Scr c)
/-- At the end: every semaphore at zero, the codes as they were, the scratch buffers. -/
def Φ₁ (c : Dev nD) : sProp 𝕄 := iprop((unscopedSems0 c ∗ Hb m c) ∗ oSems c ∗ Scr c)

/-- The one call on device `c`: what its operands hold before and after, what its body is given and leaves, and what it owes others. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => X m c
    | ⟨1, _⟩ => WQ m c
    | ⟨2, _⟩ => WO m c
    | ⟨3, _⟩ => OUT m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- The staged input of a window is its whole array. -/
theorem iblk_0 (c : Dev nD) (t : Fin cfg0.N) : iblk m c 0 t = X m c := by
  rw [fin_N t]; funext j; unfold iblk; blk_simp; refine congrArg (m _) (funext fun a => Fin.ext ?_); fin_cases a <;> exact (Nat.zero_add _).trans (Nat.one_mul _)
/-- The staged block of Wq is the device's argument. -/
theorem iblk_1 (c : Dev nD) (t : Fin cfg0.N) : iblk m c 1 t = WQ m c := by
  rw [fin_N t]; funext j; unfold iblk; blk_simp; refine congrArg (m _) (funext fun a => Fin.ext ?_); fin_cases a <;> exact (Nat.zero_add _).trans (Nat.one_mul _)
/-- The staged block of Wo is the device's argument. -/
theorem iblk_2 (c : Dev nD) (t : Fin cfg0.N) : iblk m c 2 t = WO m c := by
  rw [fin_N t]; funext j; unfold iblk; blk_simp; refine congrArg (m _) (funext fun a => Fin.ext ?_); fin_cases a <;> exact (Nat.zero_add _).trans (Nat.one_mul _)

/-- Something of every staged operand is something of each of the four. -/
theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

/-- To own a whole buffer's view is to own all its elements. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A window's buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The input is staged when the body starts. -/
theorem before_0 (c : Dev nD) (d) : (dats m ρ 0 c).before (0 : Fin 4) t₀ d = X m c := by
  unfold Dat.before; rw [if_pos (fetch0_0 t₀)]; exact iblk_0 m c t₀
/-- So is the query projection. -/
theorem before_1 (c : Dev nD) (d) : (dats m ρ 0 c).before (1 : Fin 4) t₀ d = WQ m c := by
  unfold Dat.before; rw [if_pos (fetch0_1 t₀)]; exact iblk_1 m c t₀
/-- So is the output projection. -/
theorem before_2 (c : Dev nD) (d) : (dats m ρ 0 c).before (2 : Fin 4) t₀ d = WO m c := by
  unfold Dat.before; rw [if_pos (fetch0_2 t₀)]; exact iblk_2 m c t₀

/-- What the body is given. -/
def bodyPre (c : Dev nD) : sProp 𝕄 :=
  iprop(Φ₀ m c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))
/-- What the body leaves. -/
def bodyPost (c : Dev nD) : sProp 𝕄 :=
  iprop(Φ₁ m c ∗ (dats m ρ 0 c).owesAt () t₀.succ ∗ stg c cc0_stg0_0 (X m c) ∗ stg c cc0_stg1_0 (WQ m c) ∗ stg c cc0_stg2_0 (WO m c) ∗ stg c cc0_stg3_0 (OUT m c))

/-- What the protocol leaves when every step is done. -/
theorem run_end (c : Dev nD) : Run (F := F) c [] ⊢ iprop((∃ W, owes (c : Thread nD τ) 0 W) ∗ unscopedSems0 c ∗ oSems c) := by
  unfold Run
  iintro ⟨-, HO, -, HB, HS⟩
  isplitl [HO]; · iexact HO
  isplitl [HB]
  · rw [unscopedSems0_eq]
    ihave HB := (Entails.of_eq (show barSt (F := F) c [] = semVal (bcell c) 0 from rfl)) $$ HB
    iexact HB
  ihave HS := (Entails.of_eq (show (bigSep Finset.univ fun k : CK => cellSt (F := F) c [] k) = oSems (F := F) c from rfl)) $$ HS
  iexact HS

/-- What the kernel of device `c` has to do, done. -/
theorem sound (c : Dev nD) : bodyPre m ρ c ⊢ wpc c (cc0__body xM (Memref.isWhole_whole _) wqM (Memref.isWhole_whole _) khM (Memref.isWhole_whole _) vhM (Memref.isWhole_whole _) woM (Memref.isWhole_whole _) oM (Memref.isWhole_whole _) kbM (Memref.isWhole_whole _) vbM (Memref.isWhole_whole _) kvM (Memref.isWhole_whole _) vvM (Memref.isWhole_whole _) cxM (Memref.isWhole_whole _) pbM (Memref.isWhole_whole _) rbM (Memref.isWhole_whole _) aoM (Memref.isWhole_whole _) gbM (Memref.isWhole_whole _) cc0_scratch9 cc0_scratch10 cc0_scratch11 cc0_scratch12 cc0_scratch13 cc0_scratch14 cc0_scratch15 cc0_scratch16 cc0_scratch17 cc0_scratch18) (fun _ => bodyPost m ρ c) := by
  unfold bodyPre Φ₀ start Dat.owesAt Pipeline.owesWithin
  iintro ⟨⟨⟨Hg, Hh⟩, Hs⟩, ⟨%W, -, HO⟩, ⟨%d0, %g0, %hg0, H0⟩, ⟨%d1, %g1, %hg1, H1⟩, ⟨%d2, %g2, %hg2, H2⟩, ⟨%d3, %g3, %hg3, H3⟩⟩
  rw [before_0] at hg0
  rw [before_1] at hg1
  rw [before_2] at hg2
  subst hg0; subst hg1; subst hg2
  ihave HO := (Entails.of_eq (show (owes (c : Thread nD τ) ((dats m ρ 0 c).owed t₀.castSucc) W : sProp 𝕄) = owes (c : Thread nD τ) (O₀ c) W from rfl)) $$ HO
  imod (run_start m c W) $$ [Hg HO] with H
  · isplitl [Hg]; · iexact Hg
    iexact HO
  icases H with ⟨%K, #HR, Hr⟩
  ihave H := (enter m c) $$ [Hs Hh H0 H1 H2 H3]
  · isplitl [Hs]; · iexact Hs
    isplitl [Hh]; · iexact Hh
    unfold Win XW
    isplitl [H0 H1]
    · isplitl [H0]; · iexact H0
      iexact H1
    isplitl [H2]; · iexact H2
    unfold own
    iexists g3
    iexact H3
  icases H with ⟨HB, HA⟩
  iapply (wp_wand_r _ _ _ (Q := fun _ => iprop(Run c [] ∗ BPost m c)))
  isplitl [Hr HB]
  · iapply (body_run m K c)
    isplitr; · iexact HR
    isplitl [Hr]; · iexact Hr
    iexact HB
  iintro %u ⟨Hr, HB⟩
  ihave Hr := (run_end (F := F) c) $$ Hr
  icases Hr with ⟨⟨%W', HO⟩, HU, HS⟩
  ihave H := (leave m c) $$ [HB HA]
  · isplitl [HB]; · iexact HB
    iexact HA
  unfold WinOut XW
  icases H with ⟨Hs, Hh, ⟨H0, H1⟩, H2, H3⟩
  unfold bodyPost Φ₁ Dat.owesAt Pipeline.owesWithin
  rw [show (dats m ρ 0 c).owed t₀.succ = 0 from rfl]
  isplitl [HU Hh HS Hs]
  · isplitl [HU Hh]
    · isplitl [HU]; · iexact HU
      iexact Hh
    isplitl [HS]; · iexact HS
    iexact Hs
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  iexists _; isplitr; · (ipureintro; rfl)
  iexact H3

/-- The body does what the launch asks of it. -/
theorem body_obligation (c : Dev nD) : BodyObligation (dats (F := F) m ρ 0 c) (defs₀ (F := F)) 𝒱₀ () Set.univ := fun t => by
  rw [fin_N t]
  rw [bigSep_W, bigSep_W]
  simp only [owns_whole_eq]
  exact sound m ρ c

/-! ## The launch -/

/-- The kernel has the staging buffers to itself. -/
theorem share_eq (c : Dev nD) (w : Fin cfg0.W) : (dats m ρ 0 c).share w = fullShare := by unfold Dat.share; split <;> rfl

/-- The staging semaphores are at level 0. -/
theorem lv_stage : ∀ w s, lv (((0 : Dev nD) : Thread nD τ), .dma ((spec0 w).sem s)) () = 0 := by decide +kernel

/-- The staging's waits are allowed, whatever the kernel owes. -/
theorem waits (c : Dev nD) : (levAts L lv : sProp 𝕄) ⊢ Pipeline.cellsWaits cfgs (dats m ρ) () 0 c :=
  Pipeline.cellsWaits_intro cfgs (dats m ρ) () 0 c fun w s t => by
    have h0 : lv ((c : Thread nD τ), .dma ((spec0 w).sem s)) () ≤ 0 := le_of_eq (lv_stage w s)
    rcases t with ⟨_ | _, ht⟩
    · exact mayWait c (above_evs c) _ h0
    · exact mayWait c (l := []) (n := 0) rfl _ h0

/-- The scratch buffers, as the launch hands them over. -/
theorem scr_eq (c : Dev nD) : (Pipeline.scopedRest (Ix := Unit) (Name := ℕ) (U := UU) (Lvl := ℕ) (Val := Elt F) spec0 c : sProp 𝕄) = Scr c := scopedRest0_eq c

/-- What a device starts from, out of the launch and the dealt protocol. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none]
  iintro ⟨Hh, Hl, Hc, -, HG⟩
  ihave Hh := (Entails.of_eq (unscopedRest0_eq (Ix := Unit) (Name := ℕ) (U := UU) (Lvl := ℕ) c (fun b => m ((c : Thread nD τ).loc b)))) $$ Hh
  icases Hh with ⟨H2, H3⟩
  imodintro
  isplitl
  · unfold start Hb
    rw [hbPt_K, hbPt_V]
    isplitl [Hl Hc HG]
    · isplitl [Hl]; · iexact Hl
      isplitl [Hc]; · iexact Hc
      iexact HG
    isplitl [H2]; · iexact H2
    iexact H3
  · iempintro

/-- What the body starts from, out of what the device starts from. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  show iprop(start m c ∗ Pipeline.prefHeld Pipeline.Prefetch.none c (fun _ => fullShare.right) (fun k => k.elim0) ∗ Pipeline.scopedRest spec0 c) ⊢ Φ₀ m c
  rw [scr_eq]
  unfold Φ₀
  iintro ⟨Hs, -, Hr⟩
  isplitl [Hs]; · iexact Hs
  iexact Hr

/-- What the body leaves, as the launch wants it back. -/
theorem phi1_exit (c : Dev nD) :
    (dats m ρ 0 c).Φ (Fin.last cfg0.N) ⊢ iprop((unscopedSems0 c ∗ Hb m c) ∗ Pipeline.ownSems0 osem c ∗ Pipeline.scopedRest cfg0.spec c) := by
  show Φ₁ m c ⊢ iprop((unscopedSems0 c ∗ Hb m c) ∗ oSems c ∗ Pipeline.scopedRest spec0 c)
  rw [scr_eq]; unfold Φ₁; exact BI.Entails.refl _

/-- What is read off a device at the end: its runtime's semaphores at zero and its codes unchanged. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg2) = KM m c ∧ s.mem ((c : Thread nD τ).loc main_arg3) = VM m c

/-- From what is left at the end, what the memory holds. -/
theorem read_end (c : Dev nD) (s' : Phys nD τ sig (Elt F)) :
    iprop((unscopedSems0 c ∗ Hb m c) ∗ emp ∗ SI s') ⊢ (|={Set.univ}=> iprop(⌜QY m c s'.mem⌝ ∗ SI s') : sProp 𝕄) := by
  unfold Hb
  rw [hbPt_K, hbPt_V]
  iintro ⟨⟨Hu, H2, H3⟩, -, HSI⟩
  ihave %h2 := (SI_pointsTo_agree (st := s')) $$ [HSI H2]
  · isplitl [HSI] <;> iassumption
  ihave %h3 := (SI_pointsTo_agree (st := s')) $$ [HSI H3]
  · isplitl [HSI] <;> iassumption
  imod (Pipeline.unscopedSems0_read (X := unscopedSems0 c) (c := c) fupd_intro s') $$ [Hu HSI] with ⟨%h, HSI⟩
  · isplitl [Hu] <;> iassumption
  imodintro
  isplitr
  · ipureintro
    exact ⟨h, funext fun i => h2 i (Finset.mem_univ i), funext fun i => h3 i (Finset.mem_univ i)⟩
  iexact HSI

/-- Each array is at what the windows leave there, and the codes are as they were. -/
def Done (r : PUnit × MemSt nD τ sig (Elt F)) : Prop :=
  ∀ c : Dev nD, (∀ w : Fin cfg0.W, r.2.mem ((cfg0.win w).arr.view.loc (c : Thread nD τ)) = (dats m ρ 0 c).arrAt w cfg0.N)
    ∧ r.2.mem ((c : Thread nD τ).loc main_arg2) = KM m c ∧ r.2.mem ((c : Thread nD τ).loc main_arg3) = VM m c

/-- Every execution of the four devices ends, each array at what the windows leave there, and every semaphore at zero. -/
theorem run_all : θ_run defs (onTc (τ := τ) (main (F := F))) (s₀ m ρ) (fun r => Done m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun c => (main_chain c).trans rfl)
    (hbody := fun c => (body_obligation m ρ c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => iprop(unscopedSems0 c ∗ Hb m c)) (Z := fun _ => iprop(emp))
    (hX := start_intro m ρ) (hin := phi0_intro m ρ) (hout := phi1_exit m ρ)
    (QY := QY m) (hY := read_end m)
    (hQ := fun _ h hs => ⟨fun c => ⟨(h c).1, (h c).2.2.2⟩, sem_eq_zero hs fun c => (h c).2.2.1⟩)

/-- The result array holds the result. -/
theorem out_array (c : Dev nD) : (dats m ρ 0 c).arrAt (3 : Fin 4) cfg0.N = OUT m c := by
  refine (dats m ρ 0 c).arrAt_eq_of_after_last (3 : Fin 4) t₀ (by decide +kernel) _ fun j => ?_
  blk_simp
  rfl

/-- Every execution of the four devices ends with each device's result, its arguments unchanged, every semaphore at zero. -/
theorem run_main : θ_run defs (onTc (τ := τ) (main (F := F))) ⟨m, fun _ => 0, ρ⟩ (fun r =>
    (∀ c : Dev nD, r.2.mem ((c.tc : Thread nD τ).loc main_v1) = OUT m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs _ _).mono (fun r h => ⟨fun c => ⟨((h.1 c).1 (3 : Fin 4)).trans (out_array m ρ c),
      ((h.1 c).1 (0 : Fin 4)).trans ((dats m ρ 0 c).arrAt_in (0 : Fin 4) rfl _),
      ((h.1 c).1 (1 : Fin 4)).trans ((dats m ρ 0 c).arrAt_in (1 : Fin 4) rfl _),
      (h.1 c).2.1, (h.1 c).2.2,
      ((h.1 c).1 (2 : Fin 4)).trans ((dats m ρ 0 c).arrAt_in (2 : Fin 4) rfl _)⟩, h.2⟩) (run_all m ρ)

end Cert.KernelIdeal.Run

end
-- ==== Proof.KFrame.lean ====
/- The kernel as compiled: its text is the idealized one's, but for the masked score, so its run is that one's. -/
module

public import proofs.«01_k».proof.Proof.Run
public import proofs.«01_k».proof.Defs
public import proofs.«01_k».proof.Proof.Gen.Kernel

@[expose] public section

set_option maxRecDepth 16384
set_option maxHeartbeats 4000000

noncomputable section

namespace Cert.KernelIdeal.Run

open Idealize.ShloMosaic Idealize.ShloMosaic.TcCoe Idealize.SL.Sem

/-- At the machine's float values the masked score is the constant the kernel has. -/
@[reducible] def namedBits : Named Bits where
  named _ _ {φ} b := FloatOps.ofBits φ b

/-- The two bodies are the same program. -/
theorem body_eq : (@Cert.Kernel.cc0__body Bits _ _) = (letI := namedBits; @Cert.KernelIdeal.cc0__body Bits _ _ _) := by rfl
/-- So are the two tables of kernels, without the staging of the windows -/
theorem defs0_eq : (Cert.Kernel.defs₀ (F := Bits)) = (letI := namedBits; Cert.KernelIdeal.defs₀ (F := Bits)) := by
  unfold Cert.Kernel.defs₀ Cert.KernelIdeal.defs₀
  refine congrArg _ ?_
  funext l a
  match l, a with
  | 0, (t, s) => exact congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun body_eq _) _) _) _) _) _) _) _) _) _) _) _) _) _) _) _) _) _) _) _) _) _) _) _) _) _) _) _) _) _) _) _) _) _) _) _) _) _) _) _
  | ⟨_ + 1, h⟩, _ => exact absurd h (Nat.not_lt.2 (Nat.le_add_left _ _))
/-- and with it. -/
theorem defs_eq : (Cert.Kernel.defs (F := Bits)) = (letI := namedBits; Cert.KernelIdeal.defs (F := Bits)) := by
  unfold Cert.Kernel.defs Cert.KernelIdeal.defs
  rw [defs0_eq]
  rfl

/-- The kernel as compiled ends with its arguments unchanged and every semaphore at zero. -/
theorem frame_kernel : Cert.quiescent_Kernel := fun m ρ _ => by
  letI := namedBits
  rw [defs_eq]
  exact (θ_run (Cert.KernelIdeal.defs (F := Bits)) _ _).mono (fun r h => ⟨fun c => (h.1 c).2, h.2⟩) (run_main (F := Bits) m ρ)

/-- And so does the idealized kernel. -/
theorem frame_kernelIdeal : Cert.quiescent_KernelIdeal := fun m ρ _ =>
  (θ_run (Cert.KernelIdeal.defs (F := Ideal)) _ _).mono (fun r h => ⟨fun c => (h.1 c).2, h.2⟩) (run_main (F := Ideal) m ρ)

end Cert.KernelIdeal.Run

end
-- ==== Proof.Claims.lean ====
/- The claims that need little: the reference's frame, and that the named constant is what its table says. -/
module

public import proofs.«01_k».proof.Defs
public import proofs.«01_k».proof.Proof.Gen.ReferenceIdeal.Run
public import Idealize.ShloMosaic.Lib.Quiescent

@[expose] public section

noncomputable section

namespace Cert.Proof

open Idealize.ShloMosaic Idealize.SL.Sem

/-- The reference terminates, keeps its arguments, and has no semaphore that could be left raised. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The mask constant of the kernel is read as −∞, which is what the table gives its name. -/
theorem preserves : Cert.preserves_Kernel_KernelIdeal :=
  IdealRules.named_const.statement Cert.KernelIdeal.κ "mask" .f32 0xCE6E6B28#32 ⊥ rfl

end Cert.Proof

end
-- ==== Proof.Softmax.lean ====
/- The mathematics of banded attention on extended reals: a softmax over all keys with the keys outside a band at minus
   infinity is the softmax over any window that contains the band. -/
module

public import Idealize.ShloMosaic.Lib.Pointwise
public import Idealize.ShloMosaic.Lib.WordCmp

@[expose] public section

noncomputable section

namespace Cert.Band

open Idealize.ShloMosaic

/-! ### Words and constants -/

/-- The word comparison `|a - b| ≤ 128` is the comparison of the numbers. -/
theorem band_word {a b : ℕ} (ha : a < 8192) (hb : b < 8192) :
    IntOp.cmpi .sle (IntOp.absi (IntOp.subi (BitVec.ofNat 32 a) (BitVec.ofNat 32 b))) 128#32
      = if b ≤ a + 128 ∧ a ≤ b + 128 then 1#1 else 0#1 := by
  have ea : (BitVec.ofNat 32 a).toInt = (a : Int) := WordCmp.toInt_ofNat_of_lt (by omega)
  have eb : (BitVec.ofNat 32 b).toInt = (b : Int) := WordCmp.toInt_ofNat_of_lt (by omega)
  have hs : (BitVec.ofNat 32 a - BitVec.ofNat 32 b).toInt = (a : Int) - b := by
    rw [BitVec.toInt_sub, ea, eb, Int.bmod_eq_of_le (by omega) (by omega)]
  have hk : (IntOp.absi (IntOp.subi (BitVec.ofNat 32 a) (BitVec.ofNat 32 b))).toInt = |(a : Int) - b| := by
    unfold IntOp.absi IntOp.subi
    by_cases hm : (BitVec.ofNat 32 a - BitVec.ofNat 32 b).msb = true
    · rw [if_pos hm]
      have hneg : (BitVec.ofNat 32 a - BitVec.ofNat 32 b).toInt < 0 := by simpa [BitVec.msb_eq_toInt] using hm
      rw [BitVec.toInt_neg, hs, Int.bmod_eq_of_le (by omega) (by omega)]
      rw [hs] at hneg
      rw [abs_of_neg hneg]
    · rw [if_neg hm]
      have hpos : ¬ (BitVec.ofNat 32 a - BitVec.ofNat 32 b).toInt < 0 := by simpa [BitVec.msb_eq_toInt] using hm
      rw [hs] at hpos ⊢
      rw [abs_of_nonneg (by omega)]
  rw [WordCmp.cmpi_sle_eq, hk]
  have e : (128#32 : BitVec 32).toInt = 128 := by decide
  rw [e]
  by_cases h : b ≤ a + 128 ∧ a ≤ b + 128
  · rw [if_pos h, decide_eq_true (by rw [abs_le]; omega)]; rfl
  · rw [if_neg h, decide_eq_false (by rw [abs_le]; omega)]; rfl

/-- The score scale, as a real. -/
def scale : ℝ := 11863283 / 2 ^ 27
/-- The word of −∞. -/
theorem ninf_f32 : Ideal.ofBits .f32 0xFF800000#32 = ⊥ := by simp [Ideal.ofBits, Ideal.ieee]
/-- The word of the reference's scale. -/
theorem scale_f32 : Ideal.ofBits .f32 0x3DB504F3#32 = (scale : EReal) := by
  simp [Ideal.ofBits, Ideal.ieee, scale, -EReal.coe_mul]; norm_num
/-- The word of the kernel's scale, which is a thirty-second of the reference's. -/
theorem scale32_f32 : Ideal.ofBits .f32 0x3B3504F3#32 = ((1 / 32 * scale : ℝ) : EReal) := by
  simp [Ideal.ofBits, Ideal.ieee, scale, -EReal.coe_mul]; norm_num
/-- The word of a thirty-second. -/
theorem recip32_f32 : Ideal.ofBits .f32 0x3D000000#32 = ((1 / 32 : ℝ) : EReal) := by
  simp [Ideal.ofBits, Ideal.ieee, -EReal.coe_mul]; norm_num
/-- The word of 32. -/
theorem thirtytwo_f32 : Ideal.ofBits .f32 0x42000000#32 = ((32 : ℝ) : EReal) := by
  simp [Ideal.ofBits, Ideal.ieee, -EReal.coe_mul]; norm_num

/-! ### Sums of extended reals -/

/-- A sum times a finite factor that is not negative. -/
theorem sum_mul_coe {ι : Type*} (s : Finset ι) (f : ι → EReal) {a : ℝ} (ha : 0 ≤ a) :
    (∑ i ∈ s, f i) * (a : EReal) = ∑ i ∈ s, f i * (a : EReal) := by
  classical
  induction s using Finset.induction_on with
  | empty => simp
  | insert i s hi ih =>
    rw [Finset.sum_insert hi, Finset.sum_insert hi, ← ih,
      EReal.right_distrib_of_nonneg_of_ne_top (by exact_mod_cast ha) (EReal.coe_ne_top a)]

/-- A finite extended real. -/
def Fin' (x : EReal) : Prop := ∃ r : ℝ, x = (r : EReal)

/-- A product of finite values is finite. -/
theorem Fin'.mul {x y : EReal} (hx : Fin' x) (hy : Fin' y) : Fin' (x * y) := by
  obtain ⟨a, rfl⟩ := hx; obtain ⟨b, rfl⟩ := hy
  exact ⟨a * b, (EReal.coe_mul a b).symm⟩

/-- A sum of finite values is finite. -/
theorem Fin'.sum {ι : Type*} (s : Finset ι) (f : ι → EReal) (h : ∀ i ∈ s, Fin' (f i)) : Fin' (∑ i ∈ s, f i) := by
  classical
  induction s using Finset.induction_on with
  | empty => exact ⟨0, by simp⟩
  | insert i s hi ih =>
    rw [Finset.sum_insert hi]
    obtain ⟨a, ha⟩ := h i (Finset.mem_insert_self i s)
    obtain ⟨b, hb⟩ := ih fun j hj => h j (Finset.mem_insert_of_mem hj)
    exact ⟨a + b, by rw [ha, hb, EReal.coe_add]⟩

/-- A folded maximum is a supremum. -/
theorem fold_max {ι : Type*} [Fintype ι] (f : ι → EReal) : Finset.univ.fold max ⊥ f = Finset.univ.sup f := rfl

/-! ### The softmax over a window -/

section Window
variable {N W : ℕ} (f : Fin N → EReal) (w : Fin W → Fin N)

/-- The maximum over all keys is the maximum over a window outside which every score is minus infinity. -/
theorem sup_window (hout : ∀ j, (∀ t, w t ≠ j) → f j = ⊥) :
    Finset.univ.sup f = Finset.univ.sup fun t => f (w t) := by
  refine le_antisymm (Finset.sup_le fun j _ => ?_) (Finset.sup_le fun t _ => Finset.le_sup (f := f) (Finset.mem_univ (w t)))
  by_cases h : ∃ t, w t = j
  · obtain ⟨t, rfl⟩ := h
    exact Finset.le_sup (f := fun t => f (w t)) (Finset.mem_univ t)
  · rw [hout j fun t e => h ⟨t, e⟩]; exact bot_le

/-- A sum over all keys is the sum over a window outside which every term is zero. -/
theorem sum_window (g : Fin N → EReal) (hw : Function.Injective w) (hout : ∀ j, (∀ t, w t ≠ j) → g j = 0) :
    ∑ j, g j = ∑ t, g (w t) := by
  rw [← Finset.sum_image (s := Finset.univ) (g := w) (f := g) (fun a _ b _ e => hw e)]
  symm
  refine Finset.sum_subset (Finset.subset_univ _) fun j _ hj => hout j fun t e => hj ?_
  exact Finset.mem_image.2 ⟨t, Finset.mem_univ t, e⟩

/-- The attention value over all keys, the codes scaled one by one, is the attention value over the window, scaled once. -/
theorem attend_window (hw : Function.Injective w) (hout : ∀ j, (∀ t, w t ≠ j) → f j = ⊥)
    (htop : ∀ j, f j ≠ ⊤) (j0 : Fin N) (hj0 : f j0 ≠ ⊥) (v : Fin N → ℝ) {a : ℝ} (ha : 0 ≤ a) :
    ∑ j, (v j : EReal) * (a : EReal) * Ideal.div (Ideal.exp (f j - Finset.univ.sup f)) (∑ k, Ideal.exp (f k - Finset.univ.sup f))
      = (∑ t, Ideal.div (Ideal.exp (f (w t) - Finset.univ.sup fun t => f (w t)))
          (∑ k, Ideal.exp (f (w k) - Finset.univ.sup fun t => f (w t))) * (v (w t) : EReal)) * (a : EReal) := by
  rw [← sup_window f w hout]
  set M := Finset.univ.sup f with hM
  have hMbot : M ≠ ⊥ := fun e => hj0 (le_bot_iff.1 (e ▸ Finset.le_sup (f := f) (Finset.mem_univ j0)))
  have hMtop : M ≠ ⊤ := by
    rw [← lt_top_iff_ne_top, hM, Finset.sup_lt_iff (by simp)]
    exact fun j _ => lt_top_iff_ne_top.2 (htop j)
  have hz : ∀ j, (∀ t, w t ≠ j) → Ideal.exp (f j - M) = 0 := by
    intro j hj
    rw [hout j hj, EReal.bot_sub]
    rfl
  rw [sum_window w (fun k => Ideal.exp (f k - M)) hw hz]
  set L := ∑ k, Ideal.exp (f (w k) - M) with hL
  have hnn : ∀ x, 0 ≤ Ideal.exp x := by
    intro x
    induction x with
    | bot => exact le_refl _
    | top => exact le_top
    | coe r => exact EReal.coe_nonneg.2 (Real.exp_pos r).le
  have hL0 : L ≠ 0 := by
    by_cases h : ∃ t, w t = j0
    · obtain ⟨t, ht⟩ := h
      have hle : Ideal.exp (f (w t) - M) ≤ L :=
        Finset.single_le_sum (f := fun k => Ideal.exp (f (w k) - M)) (fun k _ => hnn _) (Finset.mem_univ t)
      rw [ht] at hle
      lift f j0 to ℝ using ⟨htop j0, hj0⟩ with x
      lift M to ℝ using ⟨hMtop, hMbot⟩ with y
      refine ne_of_gt (lt_of_lt_of_le ?_ hle)
      rw [← EReal.coe_sub]
      exact EReal.coe_pos.2 (Real.exp_pos _)
    · exact absurd (hout j0 fun t e => h ⟨t, e⟩) hj0
  rw [sum_window w (fun j => (v j : EReal) * (a : EReal) * Ideal.div (Ideal.exp (f j - M)) L) hw
    fun j hj => by rw [hz j hj, Ideal.zero_div hL0, mul_zero], sum_mul_coe _ _ ha]
  refine Finset.sum_congr rfl fun t _ => ?_
  rw [mul_comm _ (Ideal.div _ _), mul_assoc]

end Window

end Cert.Band
-- ==== Proof.HeadVal.lean ====
/- One attention head of the kernel, read as a formula: all 32 stores into the context buffer are one function of a
   slice of the projected queries, a band mask, and a window of the key and value codes. -/
module

public import proofs.«01_k».proof.Proof.Vals
public import proofs.«01_k».proof.Proof.Softmax
public import Idealize.ShloMosaic.Lib.Pointwise

@[expose] public section

set_option maxRecDepth 16384

noncomputable section

namespace Cert.KernelIdeal.Run

open Cert.KernelIdeal Cert.KernelIdeal.Gen
open Idealize.ShloMosaic Idealize.ShloMosaic.TcCoe

section
variable {F : FTy → Type} [FloatOps F] [Named F]
variable (m : Mem (F := F)) (c : Dev nD)

/-- The scaled and masked scores of 256 queries against a window of 512 keys. -/
def scoresW (q : FVec F S256x128 .bf16) (k : FVec F S256x512 .f32) (kc : Vec F S512x128 .i8) : FVec F S256x512 .f32 :=
  addf (mulf (matmul dot_S256x128_S512x128_S256x512_1_1_0_0_n_n none q (sitofp .bf16 kc) (constant S256x512 .f32 0x00000000#32))
    (broadcast S256x512 (Scalar.ofBits .f32 0x3B3504F3#32))) k

/-- The exponentials of the scores less their row maximum. -/
def expW (s : FVec F S256x512 .f32) : FVec F S256x512 .f32 :=
  exp (subf s (broadcastTo S256x512 (shapeCast S256x1
    (multiReduction .maximumf [1] S256 s 0xFF800000#32 reduces_S256x512_S256 (.inl rfl) rfl) shapeCasts_S256_S256x1) broadcasts_S256x1_S256x512))

/-- Rows divided by their sums. -/
def normW (e : FVec F S256x512 .f32) : FVec F S256x512 .f32 :=
  divf e (broadcastTo S256x512 (shapeCast S256x1
    (multiReduction .add [1] S256 e 0x00000000#32 reduces_S256x512_S256 (.inl rfl) rfl) shapeCasts_S256_S256x1) broadcasts_S256x1_S256x512)

/-- The weighted sums of the value codes, scaled and rounded. -/
def mixW (p : FVec F S256x512 .f32) (vc : Vec F S512x128 .i8) : FVec F S256x128 .bf16 :=
  shapeCast S256x128 (truncf .bf16 (mulf (matmul dot_S256x512_S512x128_S256x128_1_0_0_1_n_n none (truncf .bf16 p bitsLt_bf16_f32)
    (sitofp .bf16 vc) (constant S256x128 .f32 0x00000000#32)) (broadcast S256x128 (Scalar.ofBits .f32 0x3D000000#32))) bitsLt_bf16_f32)
    shapeCasts_S256x128_S256x128

/-- One head on one block of queries. -/
def head (q : FVec F S256x128 .bf16) (k : FVec F S256x512 .f32) (kc vc : Vec F S512x128 .i8) : FVec F S256x128 .bf16 :=
  mixW (normW (expW (scoresW q k kc))) vc

/-- Query block `b` lies inside the projected queries, columns of head `h`. -/
theorem slices_qs (b h : ℕ) (hb : b < 4) (hh : h < 8) : S1024x1024.Slices ![256 * b, 128 * h] S256x128 := by
  refine ⟨rfl, Fin.forall_fin_two.2 ⟨?_, ?_⟩⟩
  · show 256 * b + 256 ≤ 1024; omega
  · show 128 * h + 128 ≤ 1024; omega

/-- The key window of query block `b` lies inside the gathered keys, columns of head `h`. -/
theorem inb_win (b h : ℕ) (hb : b < 4) (hh : h < 8) : ∀ a, (![256 * b - 128, 128 * h] : Fin 2 → Nat) a + S512x128.size a ≤ S1152x1024.size a := by
  refine Fin.forall_fin_two.2 ⟨?_, ?_⟩
  · show 256 * b - 128 + 512 ≤ 1152; omega
  · show 128 * h + 128 ≤ 1024; omega

/-- The queries of block `b`, head `h`. -/
def qW (b h : ℕ) (hb : b < 4) (hh : h < 8) : FVec F S256x128 .bf16 :=
  extractStridedSlice S256x128 ![256 * b, 128 * h] (w54 m c) (slices_qs b h hb hh)
/-- The mask of query block `b`. -/
def maskW (b : ℕ) : FVec F S256x512 .f32 := if b = 0 then w65 m c else w74 m c
/-- The key codes that query block `b` attends over, head `h`. -/
def kW (b h : ℕ) (hb : b < 4) (hh : h < 8) : Vec F S512x128 .i8 :=
  kbM.view.readAt (Elt F) (Rect.unit (s := S1152x1024) ![256 * b - 128, 128 * h] S512x128.size (inb_win b h hb hh)).toLoadRect (KB m c)
/-- The value codes that query block `b` attends over, head `h`. -/
def vW (b h : ℕ) (hb : b < 4) (hh : h < 8) : Vec F S512x128 .i8 :=
  vbM.view.readAt (Elt F) (Rect.unit (s := S1152x1024) ![256 * b - 128, 128 * h] S512x128.size (inb_win b h hb hh)).toLoadRect (VB m c)

/-- Every store into the context buffer is the one head function. -/
theorem hv_eq_head (b h : ℕ) (hb : b < 4) (hh : h < 8) :
    hv m c (8 * b + h) = head (qW m c b h hb hh) (maskW m c b) (kW m c b h hb hh) (vW m c b h hb hh) := by
  interval_cases b <;> interval_cases h <;> rfl

end

section Read
variable (m : Mem (F := Ideal)) (c : Dev nD)

/-- A score: the scaled product of the query row and the key row, plus the mask. -/
theorem scoresW_apply (q : FVec Ideal S256x128 .bf16) (k : FVec Ideal S256x512 .f32) (kc : Vec Ideal S512x128 .i8) (r : Fin 256) (t : Fin 512) :
    scoresW q k kc (ix2 r t) = (∑ d : Fin 128, q (ix2 r d) * (((kc (ix2 t d)).toInt : ℝ) : EReal)) * Ideal.ofBits .f32 0x3B3504F3#32 + k (ix2 r t) := by
  pointwise [scoresW, dot_S256x128_S512x128_S256x512_1_1_0_0_n_n]
  rfl

/-- An exponential, against the row's maximum. -/
theorem expW_apply (s : FVec Ideal S256x512 .f32) (r : Fin 256) (t : Fin 512) :
    expW s (ix2 r t) = Ideal.exp (s (ix2 r t) - Finset.univ.fold max ⊥ fun k : Fin 512 => s (ix2 r k)) := by
  pointwise [expW, Band.ninf_f32]

/-- A weight, against the row's sum. -/
theorem normW_apply (e : FVec Ideal S256x512 .f32) (r : Fin 256) (t : Fin 512) :
    normW e (ix2 r t) = Ideal.div (e (ix2 r t)) (∑ k : Fin 512, e (ix2 r k)) := by
  pointwise [normW]

/-- A weighted sum of value codes. -/
theorem mixW_apply (p : FVec Ideal S256x512 .f32) (vc : Vec Ideal S512x128 .i8) (r : Fin 256) (d : Fin 128) :
    mixW p vc (ix2 r d) = (∑ t : Fin 512, p (ix2 r t) * (((vc (ix2 t d)).toInt : ℝ) : EReal)) * Ideal.ofBits .f32 0x3D000000#32 := by
  pointwise [mixW, dot_S256x512_S512x128_S256x128_1_0_0_1_n_n]
  rfl

/-- The whole of a square matrix, as a rectangle of it, places every index at itself. -/
theorem Idx_unit (i : S1024x1024.Idx) :
    (Rect.unit (s := S1024x1024) ![0, 0] S1024x1024.size inb_S1024x1024_S1024x1024_0_0).toLoadRect.idx i = i := by
  refine funext (Fin.forall_fin_two.2 ⟨Fin.ext ?_, Fin.ext ?_⟩)
  · show 0 + 1 * (i 0).val = (i 0).val; omega
  · show 0 + 1 * (i 1).val = (i 1).val; omega

/-- A projected query. -/
theorem w54_apply (i j : Fin 1024) : w54 m c (ix2 i j) = ∑ k : Fin 1024, X m c (ix2 i k) * WQ m c (ix2 k j) := by
  have e1 : w49 m c = X m c := funext fun i => congrArg (X m c) (Idx_unit i)
  have e2 : w51 m c = WQ m c := funext fun i => congrArg (WQ m c) (Idx_unit i)
  pointwise [w54, k0_pay13, e1, e2, dot_S1024x1024_S1024x1024_S1024x1024_1_0_0_1_n_n]

/-- The queries of a block and head are a part of the projection. -/
theorem qW_apply (b h : ℕ) (hb : b < 4) (hh : h < 8) (r : Fin 256) (d : Fin 128) :
    qW m c b h hb hh (ix2 r d) = w54 m c (ix2 ⟨256 * b + r, by omega⟩ ⟨128 * h + d, by omega⟩) := by
  pointwise [qW]

/-- The window's keys of a head are a part of the gathered keys. -/
theorem kW_apply (b h : ℕ) (hb : b < 4) (hh : h < 8) (t : Fin 512) (d : Fin 128) :
    kW m c b h hb hh (ix2 t d) = KB m c (ix2 ⟨256 * b - 128 + t, by omega⟩ ⟨128 * h + d, by omega⟩) := by
  unfold kW
  show KB m c _ = _
  pointwise
  rfl

/-- The mask: zero where query and key are at most 128 apart, minus infinity elsewhere. -/
theorem maskW_apply (b : ℕ) (hb : b < 4) (r : Fin 256) (t : Fin 512) :
    maskW m c b (ix2 r t)
      = if 256 * b - 128 + t.val ≤ 256 * b + r.val + 128 ∧ 256 * b + r.val ≤ 256 * b - 128 + t.val + 128 then (0 : EReal) else ⊥ := by
  have hn : ∀ x : BitVec 32, (Named.named κ "mask" x : Ideal .f32) = ⊥ := fun x => rfl
  have key : ∀ o : ℕ, o ≤ 128 → Scalar.select (IntOp.cmpi .sle (IntOp.absi (IntOp.subi (IntOp.addi (BitVec.ofNat 32 r.val) (BitVec.ofNat 32 o))
      (BitVec.ofNat 32 t.val))) 128#32) (0 : EReal) ⊥ = if t.val ≤ r.val + o + 128 ∧ r.val + o ≤ t.val + 128 then 0 else ⊥ := by
    intro o ho
    have e : IntOp.addi (BitVec.ofNat 32 r.val) (BitVec.ofNat 32 o) = BitVec.ofNat 32 (r.val + o) := (BitVec.ofNat_add _ _).symm
    rw [e, Band.band_word (by omega) (by omega)]
    split <;> rfl
  unfold maskW
  split
  · have h := key 0 (by omega)
    pointwise [w65, k0_pay14, hn]
    refine h.trans (if_congr ?_ rfl rfl)
    subst_vars; omega
  · have h := key 128 (by omega)
    pointwise [w74, k0_pay15, w55, w56, hn]
    refine h.trans (if_congr ?_ rfl rfl)
    omega

/-- The window's values of a head are a part of the gathered values. -/
theorem vW_apply (b h : ℕ) (hb : b < 4) (hh : h < 8) (t : Fin 512) (d : Fin 128) :
    vW m c b h hb hh (ix2 t d) = VB m c (ix2 ⟨256 * b - 128 + t, by omega⟩ ⟨128 * h + d, by omega⟩) := by
  unfold vW
  show VB m c _ = _
  pointwise
  rfl

end Read

end Cert.KernelIdeal.Run
-- ==== Proof.OutVal.lean ====
/- The kernel's result read as a formula: the attention context of each device, its partial output, and the sum of the
   four partial outputs that the reduce-scatter and the all-gather assemble. -/
module

public import proofs.«01_k».proof.Proof.HeadVal

@[expose] public section

set_option maxRecDepth 16384

noncomputable section

namespace Cert.KernelIdeal.Run

open Cert.KernelIdeal Cert.KernelIdeal.Gen
open Idealize.ShloMosaic Idealize.ShloMosaic.TcCoe

section
variable {F : FTy → Type} [FloatOps F] [Named F]
variable (m : Mem (F := F)) (c : Dev nD)

/-- Row block `b` lies inside a square matrix. -/
theorem inb_rows (b : ℕ) (hb : b < 4) : ∀ a, (![256 * b, 0] : Fin 2 → Nat) a + S256x1024.size a ≤ S1024x1024.size a := by
  refine Fin.forall_fin_two.2 ⟨?_, ?_⟩
  · show 256 * b + 256 ≤ 1024; omega
  · show 0 + 1024 ≤ 1024; omega

/-- Row block `b` of the context times the output projection. -/
def partW (b : ℕ) (hb : b < 4) : FVec F S256x1024 .bf16 :=
  truncf .bf16 (matmul dot_S256x1024_S1024x1024_S256x1024_1_0_0_1_n_n none
    (cxM.view.readAt (Elt F) (Rect.unit (s := S1024x1024) ![256 * b, 0] S256x1024.size (inb_rows b hb)).toLoadRect (CTX m c))
    (shapeCast S1024x1024 (w290 m c) shapeCasts_S1024x1024_S1024x1024) (constant S256x1024 .f32 0x00000000#32)) bitsLt_bf16_f32

/-- The partial output block that is stored, by its formula. -/
theorem pblk_eq (b : ℕ) (hb : b < 4) : pblk m c b = shapeCast S256x1024 (partW m c b hb) shapeCasts_S256x1024_S256x1024 := by
  interval_cases b <;> rfl

/-- The partial output block that the owner keeps, by its formula. -/
theorem ownv_eq (b : ℕ) (hb : b < 4) : ownv m c b = shapeCast S1x256x1024 (partW m c b hb) shapeCasts_S256x1024_S1x256x1024 := by
  interval_cases b <;> rfl

/-- Slot `s` lies inside the four slots of the reduce-scatter. -/
theorem inb_slot (s : ℕ) (hs : s < 4) : ∀ a, (![s, 0, 0] : Fin 3 → Nat) a + S1x256x1024.size a ≤ S4x256x1024.size a := by
  intro a
  fin_cases a
  · show s + 1 ≤ 4; omega
  · show 0 + 256 ≤ 256; omega
  · show 0 + 1024 ≤ 1024; omega

/-- Slot `s` of the reduce-scatter, widened. -/
def slotW (s : ℕ) (hs : s < 4) : FVec F S256x1024 .f32 :=
  extf .f32 (shapeCast S256x1024 (rbM.view.readAt (Elt F) (Rect.unit (s := S4x256x1024) ![s, 0, 0] S1x256x1024.size (inb_slot s hs)).toLoadRect (RSB m c))
    shapeCasts_S1x256x1024_S256x1024) bitsLt_bf16_f32

/-- The four slots, summed. -/
def sumW : FVec F S256x1024 .f32 :=
  addf (addf (addf (slotW m c 0 (by decide)) (slotW m c 1 (by decide))) (slotW m c 2 (by decide))) (slotW m c 3 (by decide))

/-- The sum that the owner stores, by its formula. -/
theorem ACC_eq (b : ℕ) (hb : b < 4) : ACC m c b = sumW m c := by
  interval_cases b <;> rfl

/-- The rounded sum that is gathered, by its formula. -/
theorem AOb_eq (b : ℕ) (hb : b < 4) : AOb m c b = shapeCast S256x1024 (truncf .bf16 (sumW m c) bitsLt_bf16_f32) shapeCasts_S256x1024_S256x1024 := by
  interval_cases b <;> rfl

/-- Slot `s` lies inside the three slots of the all-gather. -/
theorem inb_gslot (s : ℕ) (hs : s < 3) : ∀ a, (![s, 0, 0] : Fin 3 → Nat) a + S1x256x1024.size a ≤ S3x256x1024.size a := by
  intro a
  fin_cases a
  · show s + 1 ≤ 3; omega
  · show 0 + 256 ≤ 256; omega
  · show 0 + 1024 ≤ 1024; omega

/-- A gathered block, widened, by its formula. -/
theorem GV_eq (s : ℕ) (hs : s < 3) : GV m c s = extf .f32 (shapeCast S256x1024
    (gbM.view.readAt (Elt F) (Rect.unit (s := S3x256x1024) ![s, 0, 0] S1x256x1024.size (inb_gslot s hs)).toLoadRect (AGB m c))
    shapeCasts_S1x256x1024_S256x1024) bitsLt_bf16_f32 := by
  interval_cases s <;> rfl

end

section Read
variable (m : Mem (F := Ideal)) (c : Dev nD)

/-- The score of row `r` of query block `b` against row `t` of its key window, head `h`. -/
def scoreK (b h : ℕ) (hb : b < 4) (hh : h < 8) (r : Fin 256) (t : Fin 512) : EReal :=
  (∑ d : Fin 128, w54 m c (ix2 ⟨256 * b + r.val, by omega⟩ ⟨128 * h + d.val, by omega⟩)
      * (((KB m c (ix2 ⟨256 * b - 128 + t.val, by omega⟩ ⟨128 * h + d.val, by omega⟩)).toInt : ℝ) : EReal)) * ((1 / 32 * Band.scale : ℝ) : EReal)
    + if 256 * b - 128 + t.val ≤ 256 * b + r.val + 128 ∧ 256 * b + r.val ≤ 256 * b - 128 + t.val + 128 then (0 : EReal) else ⊥

/-- What one head stores, as a formula. -/
theorem hv_apply (b h : ℕ) (hb : b < 4) (hh : h < 8) (r : Fin 256) (d : Fin 128) :
    hv m c (8 * b + h) (ix2 r d)
      = (∑ t, Ideal.div (Ideal.exp (scoreK m c b h hb hh r t - Finset.univ.sup (scoreK m c b h hb hh r)))
            (∑ k, Ideal.exp (scoreK m c b h hb hh r k - Finset.univ.sup (scoreK m c b h hb hh r)))
          * (((VB m c (ix2 ⟨256 * b - 128 + t.val, by omega⟩ ⟨128 * h + d.val, by omega⟩)).toInt : ℝ) : EReal)) * ((1 / 32 : ℝ) : EReal) := by
  have hs : ∀ t, scoresW (qW m c b h hb hh) (maskW m c b) (kW m c b h hb hh) (ix2 r t) = scoreK m c b h hb hh r t := by
    intro t
    rw [scoresW_apply, maskW_apply m c b hb, Band.scale32_f32]
    simp only [qW_apply, kW_apply]
    rfl
  rw [hv_eq_head m c b h hb hh, head, mixW_apply, Band.recip32_f32]
  simp only [normW_apply, expW_apply, hs, vW_apply]
  rfl

/-- The context at a row and a column. -/
theorem CTX_apply (b h : ℕ) (hb : b < 4) (hh : h < 8) (r : Fin 256) (d : Fin 128) :
    CTX m c (ix2 ⟨256 * b + r.val, by omega⟩ ⟨128 * h + d.val, by omega⟩) = hv m c (8 * b + h) (ix2 r d) := by
  have e1 : (256 * b + r.val) / 256 = b := by omega
  have e2 : (128 * h + d.val) / 128 = h := by omega
  have e3 : (256 * b + r.val) % 256 % 256 = r.val := by omega
  have e4 : (128 * h + d.val) % 128 % 128 = d.val := by omega
  show hv m c (8 * ((256 * b + r.val) / 256) + (128 * h + d.val) / 128) (nx2 256 128 ((256 * b + r.val) % 256) ((128 * h + d.val) % 128)) = _
  rw [e1, e2]
  exact congrArg (hv m c (8 * b + h)) (congrArg₂ ix2 (Fin.ext e3) (Fin.ext e4))

/-- A device's partial output. -/
def PART (i n : Fin 1024) : EReal := ∑ k : Fin 1024, CTX m c (ix2 i k) * WO m c (ix2 k n)

/-- A partial output block is rows of the device's output projection. -/
theorem partW_apply (b : ℕ) (hb : b < 4) (r : Fin 256) (n : Fin 1024) :
    partW m c b hb (ix2 r n) = PART m c ⟨256 * b + r.val, by omega⟩ n := by
  have e1 : w290 m c = WO m c := funext fun i => congrArg (WO m c) (Idx_unit i)
  have e2 : ∀ k : Fin 1024, cxM.view.readAt (Elt Ideal) (Rect.unit (s := S1024x1024) ![256 * b, 0] S256x1024.size (inb_rows b hb)).toLoadRect (CTX m c) (ix2 r k)
      = CTX m c (ix2 ⟨256 * b + r.val, by omega⟩ k) := by
    intro k
    show CTX m c _ = _
    pointwise
    rfl
  unfold partW
  generalize cxM.view.readAt (Elt Ideal) (Rect.unit (s := S1024x1024) ![256 * b, 0] S256x1024.size (inb_rows b hb)).toLoadRect (CTX m c) = y at e2 ⊢
  pointwise [e1, dot_S256x1024_S1024x1024_S256x1024_1_0_0_1_n_n]
  exact Finset.sum_congr rfl fun k _ => congrArg (· * _) (e2 k)

/-- The buffer of the partial output holds the device's output projection. -/
theorem PB_apply (i n : Fin 1024) : PB m c (ix2 i n) = PART m c i n := by
  show pblk m c (i.val / 256) (nx2 256 1024 (i.val % 256) n.val) = _
  rw [pblk_eq m c _ (by omega), show nx2 256 1024 (i.val % 256) n.val = ix2 (⟨i.val % 256, by omega⟩ : Fin 256) n from
    congrArg₂ ix2 (Fin.ext (by show i.val % 256 % 256 = i.val % 256; omega)) (Fin.ext (by show n.val % 1024 = n.val; omega))]
  pointwise [partW_apply]
  exact congrArg (PART m c · n) (Fin.ext (by show 256 * (i.val / 256) + i.val % 256 = i.val; omega))

/-- Slot `s` holds block `c` of device `s`'s partial output, whichever way it came there. -/
theorem RSB_apply (s : Fin 4) (r : Fin 256) (n : Fin 1024) :
    RSB m c (ix3 s r n) = PART m s ⟨256 * c.val + r.val, by have : c.val < 4 := c.isLt; omega⟩ n := by
  have hc : c.val < 4 := c.isLt
  show (if s.val = c.val then ownv m c c.val (nx3 1 256 1024 0 r.val n.val)
    else PB m (dv s.val) (nx2 1024 1024 (256 * c.val + r.val) n.val)) = _
  split
  · next h =>
    have e : s = c := Fin.ext h
    subst e
    rw [ownv_eq m s _ hc, show nx3 1 256 1024 0 r.val n.val = ix3 (0 : Fin 1) r n from
      congrArg₂ (fun a b => ix3 (0 : Fin 1) a b) (Fin.ext (by show r.val % 256 = r.val; omega)) (Fin.ext (by show n.val % 1024 = n.val; omega))]
    pointwise [partW_apply]
  · next h =>
    have e : dv s.val = s := Fin.ext (by show s.val % 4 = s.val; omega)
    rw [e, show nx2 1024 1024 (256 * c.val + r.val) n.val = ix2 (⟨256 * c.val + r.val, by omega⟩ : Fin 1024) n from
      congrArg₂ ix2 (Fin.ext (by show (256 * c.val + r.val) % 1024 = _; exact Nat.mod_eq_of_lt (by omega))) (Fin.ext (by show n.val % 1024 = n.val; omega))]
    exact PB_apply m s _ _

/-- A widened block, read at a row and a column. -/
theorem widen_apply (y : Vec Ideal S1x256x1024 .bf16) (r : Fin 256) (n : Fin 1024) :
    (extf .f32 (shapeCast S256x1024 y shapeCasts_S1x256x1024_S256x1024) bitsLt_bf16_f32 : FVec Ideal S256x1024 .f32) (ix2 r n) = y (ix3 0 r n) := by
  pointwise

/-- A slot read back is what lies in it. -/
theorem slotW_apply (s : ℕ) (hs : s < 4) (r : Fin 256) (n : Fin 1024) :
    slotW m c s hs (ix2 r n) = RSB m c (ix3 ⟨s, hs⟩ r n) := by
  have e : ∀ z : Fin 1, rbM.view.readAt (Elt Ideal) (Rect.unit (s := S4x256x1024) ![s, 0, 0] S1x256x1024.size (inb_slot s hs)).toLoadRect (RSB m c) (ix3 z r n)
      = RSB m c (ix3 ⟨s, hs⟩ r n) := by
    intro z
    show RSB m c _ = _
    pointwise
    rfl
  exact (widen_apply _ r n).trans (e 0)

/-- The sum of the slots is the sum over devices of their projections. -/
theorem sumW_apply (r : Fin 256) (n : Fin 1024) :
    sumW m c (ix2 r n) = ∑ s : Fin 4, PART m s ⟨256 * c.val + r.val, by have : c.val < 4 := c.isLt; omega⟩ n := by
  pointwise [sumW, slotW_apply, RSB_apply]
  rw [Fin.sum_univ_four]

/-- The kernel's result, on every device: the sum of the four partial outputs. -/
theorem OUT_apply (i n : Fin 1024) : OUT m c (ix2 i n) = ∑ s : Fin 4, PART m s i n := by
  have hc : c.val < 4 := c.isLt
  have ei : nx2 256 1024 (i.val % 256) n.val = ix2 (⟨i.val % 256, by omega⟩ : Fin 256) n :=
    congrArg₂ ix2 (Fin.ext (by show i.val % 256 % 256 = i.val % 256; omega)) (Fin.ext (by show n.val % 1024 = n.val; omega))
  have fin : ∀ c' : Dev nD, c'.val = i.val / 256 →
      sumW m c' (ix2 (⟨i.val % 256, by omega⟩ : Fin 256) n) = ∑ s : Fin 4, PART m s i n := by
    intro c' hc'
    rw [sumW_apply]
    refine Finset.sum_congr rfl fun s _ => congrArg (PART m s · n) (Fin.ext ?_)
    show 256 * c'.val + i.val % 256 = i.val
    omega
  show (if i.val / 256 = c.val then ACC m c c.val (nx2 256 1024 (i.val % 256) n.val)
    else GV m c ((i.val / 256 + 3 - c.val) % 4) (nx2 256 1024 (i.val % 256) n.val)) = _
  rw [ei]
  split
  · next h => rw [ACC_eq m c _ hc]; exact fin c h.symm
  · next h =>
    have hs : (i.val / 256 + 3 - c.val) % 4 < 3 := by omega
    generalize hgs : (i.val / 256 + 3 - c.val) % 4 = s at hs
    have hd : (c.val + s + 1) % 4 = i.val / 256 := by omega
    rw [GV_eq m c s hs]
    have e : ∀ z : Fin 1, gbM.view.readAt (Elt Ideal) (Rect.unit (s := S3x256x1024) ![s, 0, 0] S1x256x1024.size (inb_gslot s hs)).toLoadRect (AGB m c)
        (ix3 z ⟨i.val % 256, by omega⟩ n) = AGB m c (ix3 ⟨s, hs⟩ ⟨i.val % 256, by omega⟩ n) := by
      intro z
      show AGB m c _ = _
      pointwise
      rfl
    refine (widen_apply _ _ n).trans ((e 0).trans ?_)
    show AOb m (dv (c.val + s + 1)) (dv (c.val + s + 1)).val (nx2 256 1024 (i.val % 256) n.val) = _
    rw [ei, AOb_eq m _ _ (dv (c.val + s + 1)).isLt]
    pointwise
    exact fin _ hd

end Read

end Cert.KernelIdeal.Run
-- ==== Proof.RefVal.lean ====
/- The reference's result read as a formula: banded attention over all 4096 keys, head by head, then the output projection. -/
module

public import proofs.«01_k».proof.Proof.Gen.ReferenceIdeal.Run
public import proofs.«01_k».proof.Proof.Softmax
public import Idealize.ShloMosaic.Lib.Pointwise

@[expose] public section

set_option maxRecDepth 16384

noncomputable section

namespace Cert.ReferenceIdeal.Read

open Cert.ReferenceIdeal Cert.ReferenceIdeal.Gen Cert.ReferenceIdeal.Value
open Idealize.ShloMosaic Idealize.ShloMosaic.TcCoe

/-! ### The stages of the reference -/

/-- The band: query and key at most 128 apart. -/
def band : IVec S1024x4096 1 :=
  cmpi .sle (absi (subi (broadcastInDim S1024x4096 ![0, 1] bcast_S1024x1_S1024x4096_0_1 (broadcastInDim S1024x1 ![0] bcast_S1024_S1024x1_0 (iotaInDim S1024 32 0)))
    (broadcastInDim S1024x4096 ![0, 1] bcast_S1x4096_S1024x4096_0_1 (broadcastInDim S1x4096 ![1] bcast_S4096_S1x4096_1 (iotaInDim S4096 32 0)))))
    (broadcastInDim S1024x4096 ![] bcast_S_S1024x4096 (constantI S_ 32 128#32))

/-- Cached codes as numbers, 32 to the unit, split in heads. -/
def codes (a : IVec S4096x4096 8) : FVec Ideal S4096x32x128 .f32 :=
  shapeCast _ (Host.divf (sitofp .f32 (extsi 32 a natLt_8_32)) (broadcastInDim S4096x4096 ![] bcast_S_S4096x4096 (constant S_ .f32 0x42000000#32)))
    shapeCasts_S4096x4096_S4096x32x128

/-- The projected queries, split in heads. -/
def queries (x : FVec Ideal S1024x1024 .bf16) (wq : FVec Ideal S1024x4096 .bf16) : FVec Ideal S1024x32x128 .f32 :=
  shapeCast _ (Host.dotGeneral dot_S1024x1024_S1024x4096_S1024x4096_1_0_0_1_n_n none (extf .f32 x bitsLt_bf16_f32) (extf .f32 wq bitsLt_bf16_f32))
    shapeCasts_S1024x4096_S1024x32x128

/-- The scores, minus infinity outside the band. -/
def scores (q : FVec Ideal S1024x32x128 .f32) (k : FVec Ideal S4096x32x128 .f32) : FVec Ideal S32x1024x4096 .f32 :=
  select (broadcastInDim S32x1024x4096 ![0, 1, 2] bcast_S1x1024x4096_S32x1024x4096_0_1_2 (broadcastInDim S1x1024x4096 ![1, 2] bcast_S1024x4096_S1x1024x4096_1_2 band))
    (mulf (Host.dotGeneral dot_S1024x32x128_S4096x32x128_S32x1024x4096_2_2_0_0_1_1 none q k)
      (broadcastInDim S32x1024x4096 ![] bcast_S_S32x1024x4096 (constant S_ .f32 0x3DB504F3#32)))
    (broadcastInDim S32x1024x4096 ![] bcast_S_S32x1024x4096 (id (constant S_ .f32 0xFF800000#32)))

/-- The exponentials of the scores less their row maximum. -/
def exps (s : FVec Ideal S32x1024x4096 .f32) : FVec Ideal S32x1024x4096 .f32 :=
  Host.exp (subf s (broadcastInDim S32x1024x4096 ![0, 1, 2] bcast_S32x1024x1_S32x1024x4096_0_1_2
    (broadcastInDim S32x1024x1 ![0, 1] bcast_S32x1024_S32x1024x1_0_1
      (Host.reduce FloatOps.maximumf s (constant S_ .f32 0xFF800000#32) reducesTo_S32x1024x4096_S32x1024_d2 h_S_))))

/-- The rows that attend to some key. -/
def keep : IVec S1x1024x1 1 :=
  broadcastInDim S1x1024x1 ![1] bcast_S1024_S1x1024x1_1 (Host.reduce IntOp.ori band (constantI S_ 1 0#1) reducesTo_S1024x4096_S1024_d1 h_S_)

/-- The attention weights. -/
def weights (keep : IVec S1x1024x1 1) (e : FVec Ideal S32x1024x4096 .f32) : FVec Ideal S32x1024x4096 .f32 :=
  select (broadcastInDim S32x1024x4096 ![0, 1, 2] bcast_S1x1024x1_S32x1024x4096_0_1_2 keep)
    (Host.divf e (broadcastInDim S32x1024x4096 ![0, 1, 2] bcast_S32x1024x1_S32x1024x4096_0_1_2
      (select (broadcastInDim S32x1024x1 ![0, 1, 2] bcast_S1x1024x1_S32x1024x1_0_1_2 keep)
        (broadcastInDim S32x1024x1 ![0, 1] bcast_S32x1024_S32x1024x1_0_1
          (Host.reduceAdd e (constant S_ .f32 0x00000000#32) reducesTo_S32x1024x4096_S32x1024_d2 h_S_))
        (broadcastInDim S32x1024x1 ![] bcast_S_S32x1024x1 (id (constant S_ .f32 0x3F800000#32))))))
    (broadcastInDim S32x1024x4096 ![] bcast_S_S32x1024x4096 (id (constant S_ .f32 0x00000000#32)))

/-- The attention context, heads side by side. -/
def context (v : FVec Ideal S4096x32x128 .f32) (p : FVec Ideal S32x1024x4096 .f32) : FVec Ideal S1024x4096 .f32 :=
  shapeCast _ (transpose S1024x32x128 [2, 0, 1] (Host.dotGeneral dot_S4096x32x128_S32x1024x4096_S32x128x1024_0_2_2_1_1_0 none v p)
    transposes_S32x128x1024_S1024x32x128_2_0_1) shapeCasts_S1024x32x128_S1024x4096

/-- The output projection. -/
def project (o : FVec Ideal S1024x4096 .f32) (wo : FVec Ideal S4096x1024 .bf16) : FVec Ideal S1024x1024 .f32 :=
  Host.dotGeneral dot_S1024x4096_S4096x1024_S1024x1024_1_0_0_1_n_n none o (extf .f32 wo bitsLt_bf16_f32)

variable (m : (ℓ : Loc nD τ sig) → Buf (Elt Ideal) ℓ)

/-- The reference is its stages. -/
theorem res_eq (c : Dev nD) : res_out0 m c
    = project (context (codes (m ((c.tc : Thread nD τ).loc main_arg3)))
        (weights keep (exps (scores (queries (m ((c.tc : Thread nD τ).loc main_arg0)) (m ((c.tc : Thread nD τ).loc main_arg1)))
          (codes (m ((c.tc : Thread nD τ).loc main_arg2))))))) (m ((c.tc : Thread nD τ).loc main_arg4)) := rfl

/-! ### Each stage at an index -/

/-- The reference's mask is the band. -/
theorem band_apply (i : Fin 1024) (j : Fin 4096) :
    band (ix2 i j) = if j.val ≤ i.val + 128 ∧ i.val ≤ j.val + 128 then 1#1 else 0#1 := by
  pointwise [band]
  exact Band.band_word (by omega) (by omega)

/-- A decoded code of a head. -/
theorem codes_apply (a : IVec S4096x4096 8) (j : Fin 4096) (h : Fin 32) (d : Fin 128) :
    codes a (ix3 j h d) = (((a (ix2 j ⟨128 * h.val + d.val, by omega⟩)).toInt : ℝ) : EReal) * ((1 / 32 : ℝ) : EReal) := by
  have e : (FloatOps.sitofp .f32 (BitVec.signExtend 32 (a (ix2 j ⟨h.val * 128 + d.val, by omega⟩))) : Ideal .f32)
      = (((a (ix2 j ⟨128 * h.val + d.val, by omega⟩)).toInt : ℝ) : EReal) := by
    have e1 : h.val * 128 + d.val = 128 * h.val + d.val := by omega
    have e2 : ∀ x : BitVec 8, (BitVec.signExtend 32 x).toInt = x.toInt := fun x => BitVec.toInt_signExtend_of_le (by decide)
    simp only [e1]
    show (((BitVec.signExtend 32 _).toInt : ℝ) : EReal) = _
    rw [e2]
  pointwise [codes, Band.thirtytwo_f32]
  rw [e, Ideal.div_coe (by norm_num)]

/-- A query of a head is a column of the projection. -/
theorem queries_apply (x : FVec Ideal S1024x1024 .bf16) (wq : FVec Ideal S1024x4096 .bf16) (i : Fin 1024) (h : Fin 32) (d : Fin 128) :
    queries x wq (ix3 i h d) = ∑ k : Fin 1024, x (ix2 i k) * wq (ix2 k ⟨128 * h.val + d.val, by omega⟩) := by
  pointwise [queries, dot_S1024x1024_S1024x4096_S1024x4096_1_0_0_1_n_n, Nat.mul_comm h.val 128]

/-- A masked score. -/
theorem scores_apply (q : FVec Ideal S1024x32x128 .f32) (k : FVec Ideal S4096x32x128 .f32) (h : Fin 32) (i : Fin 1024) (j : Fin 4096) :
    scores q k (ix3 h i j) = if j.val ≤ i.val + 128 ∧ i.val ≤ j.val + 128
      then (∑ d : Fin 128, q (ix3 i h d) * k (ix3 j h d)) * (Band.scale : EReal) else ⊥ := by
  pointwise [scores, dot_S1024x32x128_S4096x32x128_S32x1024x4096_2_2_0_0_1_1, band_apply, Band.ninf_f32, Band.scale_f32]
  by_cases hb : j.val ≤ i.val + 128 ∧ i.val ≤ j.val + 128
  · rw [if_pos hb, if_pos hb]; rfl
  · rw [if_neg hb, if_neg hb]; exact Band.ninf_f32

/-- The exponential of a score less the row's largest one. -/
theorem exps_apply (s : FVec Ideal S32x1024x4096 .f32) (h : Fin 32) (i : Fin 1024) (j : Fin 4096) :
    exps s (ix3 h i j) = Ideal.exp (s (ix3 h i j) - Finset.univ.sup fun k : Fin 4096 => s (ix3 h i k)) := by
  pointwise [exps, Band.ninf_f32]
  rfl

/-- A folded disjunction with a true member is true. -/
theorem fold_ori {ι : Type} [DecidableEq ι] {s : Finset ι} (f : ι → BitVec 1) {i : ι} (hi : i ∈ s) (h : f i = 1#1) :
    s.fold IntOp.ori 0#1 f = 1#1 := by
  rw [← Finset.insert_erase hi, Finset.fold_insert (op := (IntOp.ori : BitVec 1 → BitVec 1 → BitVec 1)) (Finset.notMem_erase i s), h]
  generalize Finset.fold (IntOp.ori : BitVec 1 → BitVec 1 → BitVec 1) _ _ _ = x
  revert x; decide

/-- Every row has a key in the band. -/
theorem keep_apply (i : Fin 1024) : keep (ix3 0 i 0) = 1#1 := by
  pointwise [keep]
  exact fold_ori _ (Finset.mem_univ (⟨i.val, by omega⟩ : Fin 4096)) (by rw [band_apply, if_pos (by constructor <;> show i.val ≤ i.val + 128 <;> omega)])

/-- A softmax weight, where every row is kept. -/
theorem weights_apply (keep : IVec S1x1024x1 1) (hk : ∀ i : Fin 1024, keep (ix3 0 i 0) = 1#1)
    (e : FVec Ideal S32x1024x4096 .f32) (h : Fin 32) (i : Fin 1024) (j : Fin 4096) :
    weights keep e (ix3 h i j) = Ideal.div (e (ix3 h i j)) (∑ k : Fin 4096, e (ix3 h i k)) := by
  pointwise [weights, hk]
  done

/-- A column of the context is the weighted sum of a head's values. -/
theorem context_apply (v : FVec Ideal S4096x32x128 .f32) (p : FVec Ideal S32x1024x4096 .f32) (i : Fin 1024) (h : Fin 32) (d : Fin 128) :
    context v p (ix2 i ⟨128 * h.val + d.val, by omega⟩) = ∑ j : Fin 4096, v (ix3 j h d) * p (ix3 h i j) := by
  pointwise [context, dot_S4096x32x128_S32x1024x4096_S32x128x1024_0_2_2_1_1_0]

/-- The output projection. -/
theorem project_apply (o : FVec Ideal S1024x4096 .f32) (wo : FVec Ideal S4096x1024 .bf16) (i n : Fin 1024) :
    project o wo (ix2 i n) = ∑ k : Fin 4096, o (ix2 i k) * wo (ix2 k n) := by
  pointwise [project, dot_S1024x4096_S4096x1024_S1024x1024_1_0_0_1_n_n]

/-! ### The whole result -/

section Spec
variable (x : FVec Ideal S1024x1024 .bf16) (wq : FVec Ideal S1024x4096 .bf16) (k v : IVec S4096x4096 8) (wo : FVec Ideal S4096x1024 .bf16)

/-- Query `i`, column `n` of the projection. -/
def query (i : Fin 1024) (n : Fin 4096) : EReal := ∑ l : Fin 1024, x (ix2 i l) * wq (ix2 l n)

/-- Column `d` of head `h`. -/
def col (h : Fin 32) (d : Fin 128) : Fin 4096 := ⟨128 * h.val + d.val, by omega⟩

/-- The code of key or value `j`, column `n`. -/
def code (a : IVec S4096x4096 8) (j n : Fin 4096) : ℝ := ((a (ix2 j n)).toInt : ℝ)

/-- The score of query `i` against key `j` in head `h`. -/
def score (h : Fin 32) (i : Fin 1024) (j : Fin 4096) : EReal :=
  if j.val ≤ i.val + 128 ∧ i.val ≤ j.val + 128
  then (∑ d : Fin 128, query x wq i (col h d) * ((code k j (col h d) : EReal) * ((1 / 32 : ℝ) : EReal))) * (Band.scale : EReal) else ⊥

/-- The attention context of query `i`, head `h`, column `d`. -/
def attended (i : Fin 1024) (h : Fin 32) (d : Fin 128) : EReal :=
  ∑ j : Fin 4096, (code v j (col h d) : EReal) * ((1 / 32 : ℝ) : EReal)
    * Ideal.div (Ideal.exp (score x wq k h i j - Finset.univ.sup (score x wq k h i)))
        (∑ l : Fin 4096, Ideal.exp (score x wq k h i l - Finset.univ.sup (score x wq k h i)))

/-- Row `i`, column `n` of the result. -/
def result (i n : Fin 1024) : EReal :=
  ∑ l : Fin 4096, attended x wq k v i ⟨l.val / 128, by omega⟩ ⟨l.val % 128, by omega⟩ * wo (ix2 l n)

/-- The stages compute the formula. -/
theorem stages_apply (i n : Fin 1024) :
    project (context (codes v) (weights keep (exps (scores (queries x wq) (codes k))))) wo (ix2 i n) = result x wq k v wo i n := by
  rw [project_apply]
  refine Finset.sum_congr rfl fun l _ => congrArg (· * _) ?_
  have el : l = ⟨128 * (⟨l.val / 128, by omega⟩ : Fin 32).val + (⟨l.val % 128, by omega⟩ : Fin 128).val, by show 128 * (l.val / 128) + l.val % 128 < 4096; omega⟩ :=
    Fin.ext (Nat.div_add_mod l.val 128).symm
  have hs : ∀ (h : Fin 32) (j : Fin 4096), scores (queries x wq) (codes k) (ix3 h i j) = score x wq k h i j := by
    intro h j
    rw [scores_apply]
    simp only [queries_apply, codes_apply]
    rfl
  conv_lhs => rw [el]
  rw [context_apply]
  refine Finset.sum_congr rfl fun j _ => ?_
  rw [codes_apply, weights_apply keep keep_apply]
  simp only [exps_apply, hs]
  rfl

end Spec

end Cert.ReferenceIdeal.Read
-- ==== Proof.Algebraic.lean ====
/- The kernel's result is the reference's: every device's partial output is its heads' share of the reference's output
   projection, and each head's window holds every key that its queries attend to. -/
module

public import proofs.«01_k».proof.Defs
public import proofs.«01_k».proof.Proof.OutVal
public import proofs.«01_k».proof.Proof.RefVal
public import proofs.«01_k».proof.Proof.Run
public import Idealize.ShloMosaic.Lib.ReduceAll
public import Idealize.ShloMosaic.Lib.KernelVsHost

@[expose] public section

set_option maxRecDepth 16384

noncomputable section

namespace Cert.Proof

open Idealize.ShloMosaic Idealize.ShloMosaic.TcCoe Idealize.SL.Sem
open Cert.KernelIdeal.Run
open Cert.ReferenceIdeal.Read (query col code score attended result)

section Agree

variable (m : Mem (F := Ideal))
variable (x : FVec Ideal Cert.ReferenceIdeal.S1024x1024 .bf16) (wq : FVec Ideal Cert.ReferenceIdeal.S1024x4096 .bf16)
  (k v : IVec Cert.ReferenceIdeal.S4096x4096 8) (wo : FVec Ideal Cert.ReferenceIdeal.S4096x1024 .bf16)

/-- The devices' arguments are the blocks of the reference's. -/
structure Shares : Prop where
  x : ∀ c, X m c = x
  wq : ∀ c, WQ m c = Layout.block ⟨2, ![1024, 1024]⟩ ⟨2, ![1024, 4096]⟩ 1 4 c wq
  k : ∀ c, KM m c = Layout.block ⟨2, ![1024, 4096]⟩ ⟨2, ![4096, 4096]⟩ 0 4 c k
  v : ∀ c, VM m c = Layout.block ⟨2, ![1024, 4096]⟩ ⟨2, ![4096, 4096]⟩ 0 4 c v
  wo : ∀ c, WO m c = Layout.block ⟨2, ![1024, 1024]⟩ ⟨2, ![4096, 1024]⟩ 0 4 c wo

/-- The column of the whole that is column `n` of device `c`'s block. -/
def wide (c : Dev Cert.KernelIdeal.nD) (n : Fin 1024) : Fin 4096 := ⟨1024 * c.val + n.val, by have : c.val < 4 := c.isLt; omega⟩

variable {m x wq k v wo} (S : Shares m x wq k v wo) (c : Dev Cert.KernelIdeal.nD)
include S

/-- A projected query of the kernel is the reference's, at the device's column. -/
theorem w54_eq (i n : Fin 1024) : w54 m c (ix2 i n) = query x wq i (wide c n) := by
  rw [w54_apply, S.x, S.wq]
  refine Finset.sum_congr rfl fun l _ => congrArg (x (ix2 i l) * ·) (congrArg wq ?_)
  exact funext (Fin.forall_fin_two.2 ⟨Fin.ext rfl, Fin.ext (by show c.val * 1024 + n.val = 1024 * c.val + n.val; omega)⟩)

/-- A gathered key code is the reference's. -/
theorem KB_eq (j : Fin 1152) (n : Fin 1024) : KB m c (ix2 j n) = k (ix2 ⟨j.val, by omega⟩ (wide c n)) := by
  have hc : c.val < 4 := c.isLt
  show (if j.val < 1024 then KM m (dv 0) (nx2 1024 4096 j.val (1024 * c.val + n.val))
    else KM m (dv 1) (nx2 1024 4096 (j.val - 1024) (1024 * c.val + n.val))) = _
  rw [S.k, S.k]
  split
  · refine congrArg k (funext (Fin.forall_fin_two.2 ⟨Fin.ext ?_, Fin.ext ?_⟩))
    · show 0 * 1024 + j.val % 1024 = j.val; omega
    · show (1024 * c.val + n.val) % 4096 = 1024 * c.val + n.val; omega
  · refine congrArg k (funext (Fin.forall_fin_two.2 ⟨Fin.ext ?_, Fin.ext ?_⟩))
    · show 1 * 1024 + (j.val - 1024) % 1024 = j.val; omega
    · show (1024 * c.val + n.val) % 4096 = 1024 * c.val + n.val; omega

/-- A gathered value code is the reference's. -/
theorem VB_eq (j : Fin 1152) (n : Fin 1024) : VB m c (ix2 j n) = v (ix2 ⟨j.val, by omega⟩ (wide c n)) := by
  have hc : c.val < 4 := c.isLt
  show (if j.val < 1024 then VM m (dv 0) (nx2 1024 4096 j.val (1024 * c.val + n.val))
    else VM m (dv 1) (nx2 1024 4096 (j.val - 1024) (1024 * c.val + n.val))) = _
  rw [S.v, S.v]
  split
  · refine congrArg v (funext (Fin.forall_fin_two.2 ⟨Fin.ext ?_, Fin.ext ?_⟩))
    · show 0 * 1024 + j.val % 1024 = j.val; omega
    · show (1024 * c.val + n.val) % 4096 = 1024 * c.val + n.val; omega
  · refine congrArg v (funext (Fin.forall_fin_two.2 ⟨Fin.ext ?_, Fin.ext ?_⟩))
    · show 1 * 1024 + (j.val - 1024) % 1024 = j.val; omega
    · show (1024 * c.val + n.val) % 4096 = 1024 * c.val + n.val; omega

omit S in
/-- The head of the whole that is head `h` of device `c`. -/
def headOf (c : Dev Cert.KernelIdeal.nD) (h : ℕ) (hh : h < 8) : Fin 32 := ⟨8 * c.val + h, by have : c.val < 4 := c.isLt; omega⟩

omit S in
/-- Its columns are the device's columns. -/
theorem col_headOf (h : ℕ) (hh : h < 8) (d : Fin 128) : wide c ⟨128 * h + d.val, by omega⟩ = col (headOf c h hh) d :=
  Fin.ext (by show 1024 * c.val + (128 * h + d.val) = 128 * (8 * c.val + h) + d.val; omega)

omit S in
/-- Key `t` of the window of query block `b`. -/
def keyOf (b : ℕ) (hb : b < 4) (t : Fin 512) : Fin 4096 := ⟨256 * b - 128 + t.val, by omega⟩

/-- A score of the kernel is the reference's score against the window's key. -/
theorem scoreK_eq (b h : ℕ) (hb : b < 4) (hh : h < 8) (r : Fin 256) (t : Fin 512) :
    scoreK m c b h hb hh r t = score x wq k (headOf c h hh) ⟨256 * b + r.val, by omega⟩ (keyOf b hb t) := by
  unfold scoreK score
  simp only [w54_eq S, KB_eq S, col_headOf c h hh]
  show _ = if 256 * b - 128 + t.val ≤ 256 * b + r.val + 128 ∧ 256 * b + r.val ≤ 256 * b - 128 + t.val + 128 then _ else _
  split
  · rw [add_zero, EReal.coe_mul, ← mul_assoc, Band.sum_mul_coe _ _ (by norm_num)]
    refine congrArg (· * _) (Finset.sum_congr rfl fun d _ => ?_)
    rw [mul_assoc]
    rfl
  · exact EReal.add_bot _

omit S in
/-- The window holds every key that one of its queries attends to. -/
theorem score_out (b : ℕ) (hb : b < 4) (H : Fin 32) (r : Fin 256) (j : Fin 4096) (hj : ∀ t, keyOf b hb t ≠ j) :
    score x wq k H ⟨256 * b + r.val, by omega⟩ j = ⊥ := by
  unfold score
  refine if_neg fun hband => ?_
  have h1 : j.val ≤ 256 * b + r.val + 128 := hband.1
  have h2 : 256 * b + r.val ≤ j.val + 128 := hband.2
  have hr := r.isLt
  exact hj ⟨j.val - (256 * b - 128), by omega⟩ (Fin.ext (by show 256 * b - 128 + (j.val - (256 * b - 128)) = j.val; omega))

omit S in
/-- Finite inputs and projection make the scores in the band finite. -/
theorem score_fin (hx : ∀ i, Band.Fin' (x i)) (hw : ∀ i, Band.Fin' (wq i)) (H : Fin 32) (i : Fin 1024) (j : Fin 4096) :
    score x wq k H i j = ⊥ ∧ ¬ (j.val ≤ i.val + 128 ∧ i.val ≤ j.val + 128) ∨ Band.Fin' (score x wq k H i j) := by
  by_cases h : j.val ≤ i.val + 128 ∧ i.val ≤ j.val + 128
  · right
    unfold score
    rw [if_pos h]
    refine (Band.Fin'.sum _ _ fun d _ => ?_).mul ⟨_, rfl⟩
    refine Band.Fin'.mul (Band.Fin'.sum _ _ fun l _ => (hx _).mul (hw _)) (Band.Fin'.mul ⟨_, rfl⟩ ⟨_, rfl⟩)
  · exact .inl ⟨if_neg h, h⟩

/-- The kernel's context is the reference's, at the device's head. -/
theorem CTX_eq (hx : ∀ i, Band.Fin' (x i)) (hw : ∀ i, Band.Fin' (wq i)) (i : Fin 1024) (h : ℕ) (hh : h < 8) (d : Fin 128) :
    CTX m c (ix2 i ⟨128 * h + d.val, by omega⟩) = attended x wq k v i (headOf c h hh) d := by
  obtain ⟨b, hb, r, rfl⟩ : ∃ b : ℕ, ∃ hb : b < 4, ∃ r : Fin 256, i = ⟨256 * b + r.val, by omega⟩ :=
    ⟨i.val / 256, by omega, ⟨i.val % 256, by omega⟩, Fin.ext (by show i.val = 256 * (i.val / 256) + i.val % 256; omega)⟩
  rw [CTX_apply m c b h hb hh, hv_apply m c b h hb hh]
  simp only [VB_eq S, col_headOf c h hh]
  have es : scoreK m c b h hb hh r = fun t => score x wq k (headOf c h hh) ⟨256 * b + r.val, by omega⟩ (keyOf b hb t) :=
    funext fun t => scoreK_eq S c b h hb hh r t
  rw [es]
  have hf := score_fin (k := k) hx hw (headOf c h hh) ⟨256 * b + r.val, by omega⟩
  symm
  refine Band.attend_window (score x wq k (headOf c h hh) ⟨256 * b + r.val, by omega⟩) (keyOf b hb) ?_ (score_out b hb _ r) ?_
    (⟨256 * b + r.val, by omega⟩ : Fin 4096) ?_ (fun j => code v j (col (headOf c h hh) d)) (by norm_num)
  · intro t t' e
    have e' : 256 * b - 128 + t.val = 256 * b - 128 + t'.val := congrArg Fin.val e
    exact Fin.ext (by omega)
  · intro j
    rcases hf j with ⟨e, -⟩ | ⟨y, e⟩
    · rw [e]; exact bot_ne_top
    · rw [e]; exact EReal.coe_ne_top y
  · rcases hf ⟨256 * b + r.val, by omega⟩ with ⟨-, e⟩ | ⟨y, e⟩
    · exact absurd (by constructor <;> show 256 * b + r.val ≤ 256 * b + r.val + 128 <;> omega) e
    · rw [e]; exact EReal.coe_ne_bot y

/-- The four partial outputs add up to the reference's result. -/
theorem OUT_eq (hx : ∀ i, Band.Fin' (x i)) (hw : ∀ i, Band.Fin' (wq i)) (i n : Fin 1024) :
    OUT m c (ix2 i n) = result x wq k v wo i n := by
  rw [OUT_apply]
  unfold result
  rw [← Equiv.sum_comp (finProdFinEquiv (m := 4) (n := 1024)) (fun l : Fin 4096 =>
    attended x wq k v i ⟨l.val / 128, by omega⟩ ⟨l.val % 128, by omega⟩ * wo (ix2 l n)), Fintype.sum_prod_type]
  refine Finset.sum_congr rfl fun s _ => Finset.sum_congr rfl fun l _ => ?_
  have hl := l.isLt
  have hs := s.isLt
  have e0 : ((finProdFinEquiv (s, l) : Fin (4 * 1024)) : ℕ) = l.val + 1024 * s.val := rfl
  have e1 : CTX m s (ix2 i l) = attended x wq k v i (headOf s (l.val / 128) (by omega)) ⟨l.val % 128, by omega⟩ := by
    rw [← CTX_eq S s hx hw]
    exact congrArg (fun q => CTX m s (ix2 i q)) (Fin.ext (by show l.val = 128 * (l.val / 128) + l.val % 128; omega))
  rw [e1, S.wo]
  refine congrArg₂ (· * ·) (congrArg₂ (attended x wq k v i) (Fin.ext ?_) (Fin.ext ?_)) (congrArg wo (funext (Fin.forall_fin_two.2 ⟨Fin.ext ?_, Fin.ext rfl⟩)))
  · show 8 * s.val + l.val / 128 = ((finProdFinEquiv (s, l) : Fin (4 * 1024)) : ℕ) / 128
    rw [e0]; omega
  · show l.val % 128 = ((finProdFinEquiv (s, l) : Fin (4 * 1024)) : ℕ) % 128
    rw [e0]; omega
  · show s.val * 1024 + l.val = ((finProdFinEquiv (s, l) : Fin (4 * 1024)) : ℕ)
    rw [e0]; omega

end Agree

/-- An extended real of absolute value below infinity is finite. -/
theorem fin_of_abs {y : EReal} (h : FloatOps.cmpf (F := Ideal) (φ := .f32) .olt (FloatOps.hostAbsf (F := Ideal) (φ := .f32) y)
    (FloatOps.ofBits (F := Ideal) .f32 0x7F800000#32) = 1#1) : Band.Fin' y := by
  rw [← Ideal.xori_weird_eq_hostAbsf_olt_inf] at h
  change IntOp.xori (BitVec.ofBool (decide (y = ⊤ ∨ y = ⊥))) 1#1 = 1#1 at h
  by_cases hy : y = ⊤ ∨ y = ⊥
  · rw [decide_eq_true hy] at h
    exact absurd h (by decide)
  · push Not at hy
    lift y to ℝ using hy with z
    exact ⟨z, rfl⟩

/-- A scalar has one index. -/
instance : Subsingleton Cert.Pre_finite_KernelIdeal.S_.Idx := ⟨fun a b => funext fun i => i.elim0⟩

/-- What the precondition says of the arrays it reads. -/
theorem finite_apply [Cert.Pre_finite_KernelIdeal.Facts] (a b : FVec Ideal Cert.Pre_finite_KernelIdeal.S1024x1024 .bf16)
    (k v : IVec Cert.Pre_finite_KernelIdeal.S1024x4096 8) (w : FVec Ideal Cert.Pre_finite_KernelIdeal.S1024x1024 .bf16)
    (h : Cert.Pre_finite_KernelIdeal.fn (F := Ideal) a b k v w = fun _ => 1#1) :
    (∀ i, Band.Fin' (a i)) ∧ ∀ i, Band.Fin' (b i) := by
  have h0 := congrFun h ix0
  have h1 : ∀ p q : BitVec 1, IntOp.andi p q = 1#1 → p = 1#1 ∧ q = 1#1 := by decide
  obtain ⟨ha, hb⟩ := h1 _ _ h0
  exact ⟨fun i => fin_of_abs (Host.reduce_andi_all _ _ _ _ _ ha i), fun i => fin_of_abs (Host.reduce_andi_all _ _ _ _ _ hb i)⟩

/-- On finite inputs and projection, the idealized kernel and the reference compute the same result. -/
theorem algebraic [Cert.Pre_finite_KernelIdeal.Facts] : Cert.algebraic_KernelIdeal_ReferenceIdeal_pre_finite_KernelIdeal := by
  intro m g m' g' hpre hargs
  have S : Shares m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    ⟨fun c => (hargs c).1, fun c => (hargs c).2.1, fun c => (hargs c).2.2.1, fun c => (hargs c).2.2.2.1, fun c => (hargs c).2.2.2.2⟩
  have hfin := fun c => finite_apply _ _ _ _ _ (hpre c)
  have hx : ∀ i, Band.Fin' (m' (((0 : Dev Cert.ReferenceIdeal.nD).tc : Thread Cert.ReferenceIdeal.nD Cert.ReferenceIdeal.τ).loc Cert.ReferenceIdeal.main_arg0) i) := by
    intro i
    have := (hfin (dv 0)).1 i
    rwa [(hargs (dv 0)).1] at this
  have hw : ∀ i, Band.Fin' (m' (((0 : Dev Cert.ReferenceIdeal.nD).tc : Thread Cert.ReferenceIdeal.nD Cert.ReferenceIdeal.τ).loc Cert.ReferenceIdeal.main_arg1) i) := by
    intro i
    have hi1 : (i 1).val < 4096 := (i 1).isLt
    have := (hfin (dv ((i 1).val / 1024))).2 (nx2 1024 1024 (i 0).val ((i 1).val % 1024))
    rw [(hargs (dv ((i 1).val / 1024))).2.1] at this
    refine (congrArg (fun q => Band.Fin' (m' (((0 : Dev Cert.ReferenceIdeal.nD).tc : Thread Cert.ReferenceIdeal.nD Cert.ReferenceIdeal.τ).loc Cert.ReferenceIdeal.main_arg1) q)) ?_).mp this
    have hi0 : (i 0).val < 1024 := (i 0).isLt
    refine funext (Fin.forall_fin_two.2 ⟨Fin.ext ?_, Fin.ext ?_⟩)
    · show (i 0).val % 1024 = (i 0).val; omega
    · show (i 1).val / 1024 % 4 * 1024 + (i 1).val % 1024 % 1024 = (i 1).val; omega
  refine ⟨Cert.ReferenceIdeal.Value.res_out0 m' 0, ?_, ?_⟩
  · refine (θ_run (Cert.KernelIdeal.defs (F := Ideal)) _ _).mono (fun r h c => ⟨((h.1 c).1).trans ?_, (h.1 c).2⟩) (run_main (F := Ideal) m g)
    refine funext fun (j : Cert.KernelIdeal.S1024x1024.Idx) => ?_
    obtain ⟨i, n, rfl⟩ : ∃ i n : Fin 1024, j = ix2 i n := ⟨j 0, j 1, funext (Fin.forall_fin_two.2 ⟨rfl, rfl⟩)⟩
    refine (OUT_eq S c hx hw i n).trans ?_
    rw [Cert.ReferenceIdeal.Read.res_eq]
    exact (Cert.ReferenceIdeal.Read.stages_apply _ _ _ _ _ i n).symm
  · exact (θ_run (Cert.ReferenceIdeal.defs (F := Ideal)) _ _).mono (fun r h => h 0) (Cert.ReferenceIdeal.Value.run (F := Ideal) m' g')

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.KFrame
public import proofs.«01_k».proof.Proof.Claims
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Every claim: the frames hold of any input, so those under the precondition follow from them. -/
theorem claim : Cert.Claim :=
  ⟨Cert.Kernel.Gen.facts, Cert.KernelIdeal.Gen.facts, Cert.ReferenceIdeal.Gen.facts,
    Cert.Pre_finite_KernelIdeal.Gen.facts, Cert.Pre_finite_ReferenceIdeal.Gen.facts,
    Cert.KernelIdeal.Run.frame_kernel, Cert.KernelIdeal.Run.frame_kernelIdeal,
    fun m ρ _ => Cert.KernelIdeal.Run.frame_kernelIdeal m ρ trivial, frame_reference,
    fun m ρ _ => frame_reference m ρ trivial, preserves, algebraic⟩

end Cert.Proof

end
